-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_latent_scores [hPre_finite_latent_scores : Cert.Pre_finite_latent_scores.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_latent_scores.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).1 = (fun _ => 1#1)
    ∧ (Cert.Pre_finite_latent_scores.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.1 = (fun _ => 1#1)
    ∧ (Cert.Pre_finite_latent_scores.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_latent_scores [hPre_finite_latent_scores : Cert.Pre_finite_latent_scores.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_latent_scores.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).1 = (fun _ => 1#1)
    ∧ (Cert.Pre_finite_latent_scores.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.1 = (fun _ => 1#1)
    ∧ (Cert.Pre_finite_latent_scores.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite_latent_scores [hKernel4Ideal : Cert.Kernel4Ideal.Facts] [hPre_finite_latent_scores : Cert.Pre_finite_latent_scores.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_latent_scores m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite_latent_scores [hReference4Ideal : Cert.Reference4Ideal.Facts] [hPre_finite_latent_scores : Cert.Pre_finite_latent_scores.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_latent_scores m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal_pre_finite_latent_scores [hKernel4Ideal : Cert.Kernel4Ideal.Facts] [hReference4Ideal : Cert.Reference4Ideal.Facts] [hPre_finite_latent_scores : Cert.Pre_finite_latent_scores.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_latent_scores m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v20)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v41_0)) (v1 : (c : Dev Cert.Kernel5Ideal.nD) → Buf (Elt Ideal) ((c.tc : Thread Cert.Kernel5Ideal.nD Cert.Kernel5Ideal.τ).loc Cert.Kernel5Ideal.main_v41_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v41_0) = v0 c
          ∧ r.2.mem ((c.tc : Thread Cert.Kernel5Ideal.nD Cert.Kernel5Ideal.τ).loc Cert.Kernel5Ideal.main_v41_2) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_v18) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v37_1)) (v1 : (c : Dev Cert.Kernel6Ideal.nD) → Buf (Elt Ideal) ((c.tc : Thread Cert.Kernel6Ideal.nD Cert.Kernel6Ideal.τ).loc Cert.Kernel6Ideal.main_v37_2)) (v2 : (c : Dev Cert.Kernel6Ideal.nD) → Buf (Elt Ideal) ((c.tc : Thread Cert.Kernel6Ideal.nD Cert.Kernel6Ideal.τ).loc Cert.Kernel6Ideal.main_v37_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v37_1) = v0 c
          ∧ r.2.mem ((c.tc : Thread Cert.Kernel6Ideal.nD Cert.Kernel6Ideal.τ).loc Cert.Kernel6Ideal.main_v37_2) = v1 c
          ∧ r.2.mem ((c.tc : Thread Cert.Kernel6Ideal.nD Cert.Kernel6Ideal.τ).loc Cert.Kernel6Ideal.main_v37_3) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v98) = v0 c
          ∧ r.2.mem ((c.tc : Thread Cert.Reference6Ideal.nD Cert.Reference6Ideal.τ).loc Cert.Reference6Ideal.main_v99) = v1 c
          ∧ r.2.mem ((c.tc : Thread Cert.Reference6Ideal.nD Cert.Reference6Ideal.τ).loc Cert.Reference6Ideal.main_v101) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v11) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scores : Cert.Pre_finite_scores.Facts) (hPre_finite_latent_scores : Cert.Pre_finite_latent_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_latent_scores (hKernel4Ideal := hKernel4Ideal) (hPre_finite_latent_scores := hPre_finite_latent_scores)
    ∧ quiescent_Reference4Ideal (hReference4Ideal := hReference4Ideal)
    ∧ quiescent_Reference4Ideal_pre_finite_latent_scores (hReference4Ideal := hReference4Ideal) (hPre_finite_latent_scores := hPre_finite_latent_scores)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_latent_scores (hKernel4Ideal := hKernel4Ideal) (hReference4Ideal := hReference4Ideal) (hPre_finite_latent_scores := hPre_finite_latent_scores)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_latent_scores.lean ====
abbrev S16384x12x192 : Shape := ⟨3, ![16384, 12, 192]⟩
abbrev S16384x12x128 : Shape := ⟨3, ![16384, 12, 128]⟩
abbrev S2x256x12x192 : Shape := ⟨4, ![2, 256, 12, 192]⟩
abbrev S2x256x12x128 : Shape := ⟨4, ![2, 256, 12, 128]⟩
abbrev S16384x1536 : Shape := ⟨2, ![16384, 1536]⟩
abbrev S_ : Shape := ⟨0, ![]⟩

class Facts : Prop where
  bcast_S_S16384x12x192 : S_.BroadcastsInDim S16384x12x192 (![] : Fin 0 → Fin S16384x12x192.rank)
  reducesTo_S16384x12x192_S_d0_1_2 : S16384x12x192.ReducesTo [0, 1, 2] S_
  h_S_ : 0 < S_.numel
  bcast_S_S2x256x12x192 : S_.BroadcastsInDim S2x256x12x192 (![] : Fin 0 → Fin S2x256x12x192.rank)
  reducesTo_S2x256x12x192_S_d0_1_2_3 : S2x256x12x192.ReducesTo [0, 1, 2, 3] S_

variable [Facts]

def fn {F : FTy → Type} [FloatOps F] (main_arg0 : FVec F S16384x12x192 .f32) (main_arg1 : FVec F S16384x12x192 .f32) (main_arg2 : FVec F S16384x12x128 .f32) (main_arg3 : FVec F S2x256x12x192 .f32) (main_arg4 : FVec F S2x256x12x128 .f32) (main_arg5 : FVec F S16384x1536 .bf16) : IVec S_ 1 × IVec S_ 1 × IVec S_ 1 :=
  let main_v0 : FVec F S16384x12x192 .f32 := Host.absf main_arg0
  let main_cst : FVec F S_ .f32 := constant S_ .f32 0x7F800000#32
  let main_v1 : FVec F S16384x12x192 .f32 := broadcastInDim S16384x12x192 ![] bcast_S_S16384x12x192 main_cst
  let main_v2 : IVec S16384x12x192 1 := cmpf .olt main_v0 main_v1
  let main_c : IVec S_ 1 := constantI S_ 1 1#1
  let main_v3 : IVec S_ 1 := (fun x v => Host.reduce IntOp.andi x v reducesTo_S16384x12x192_S_d0_1_2 h_S_) main_v2 main_c
  let main_v4 : FVec F S16384x12x192 .f32 := Host.absf main_arg1
  let main_cst_0 : FVec F S_ .f32 := constant S_ .f32 0x7F800000#32
  let main_v5 : FVec F S16384x12x192 .f32 := broadcastInDim S16384x12x192 ![] bcast_S_S16384x12x192 main_cst_0
  let main_v6 : IVec S16384x12x192 1 := cmpf .olt main_v4 main_v5
  let main_c_1 : IVec S_ 1 := constantI S_ 1 1#1
  let main_v7 : IVec S_ 1 := (fun x v => Host.reduce IntOp.andi x v reducesTo_S16384x12x192_S_d0_1_2 h_S_) main_v6 main_c_1
  let main_v8 : FVec F S2x256x12x192 .f32 := Host.absf main_arg3
  let main_cst_2 : FVec F S_ .f32 := constant S_ .f32 0x7F800000#32
  let main_v9 : FVec F S2x256x12x192 .f32 := broadcastInDim S2x256x12x192 ![] bcast_S_S2x256x12x192 main_cst_2
  let main_v10 : IVec S2x256x12x192 1 := cmpf .olt main_v8 main_v9
  let main_c_3 : IVec S_ 1 := constantI S_ 1 1#1
  let main_v11 : IVec S_ 1 := (fun x v => Host.reduce IntOp.andi x v reducesTo_S2x256x12x192_S_d0_1_2_3 h_S_) main_v10 main_c_3
  (main_v3, main_v7, main_v11)
-- ==== Pre_finite_scores.lean ====
abbrev S16384x12x128 : Shape := ⟨3, ![16384, 12, 128]⟩
abbrev S16384x4x128 : Shape := ⟨3, ![16384, 4, 128]⟩
abbrev S2x256x4x128 : Shape := ⟨4, ![2, 256, 4, 128]⟩
abbrev S16384x1536 : Shape := ⟨2, ![16384, 1536]⟩
abbrev S_ : Shape := ⟨0, ![]⟩

class Facts : Prop where
  bcast_S_S16384x12x128 : S_.BroadcastsInDim S16384x12x128 (![] : Fin 0 → Fin S16384x12x128.rank)
  reducesTo_S16384x12x128_S_d0_1_2 : S16384x12x128.ReducesTo [0, 1, 2] S_
  h_S_ : 0 < S_.numel
  bcast_S_S16384x4x128 : S_.BroadcastsInDim S16384x4x128 (![] : Fin 0 → Fin S16384x4x128.rank)
  reducesTo_S16384x4x128_S_d0_1_2 : S16384x4x128.ReducesTo [0, 1, 2] S_
  bcast_S_S2x256x4x128 : S_.BroadcastsInDim S2x256x4x128 (![] : Fin 0 → Fin S2x256x4x128.rank)
  reducesTo_S2x256x4x128_S_d0_1_2_3 : S2x256x4x128.ReducesTo [0, 1, 2, 3] S_

variable [Facts]

def fn {F : FTy → Type} [FloatOps F] (main_arg0 : FVec F S16384x12x128 .f32) (main_arg1 : FVec F S16384x4x128 .f32) (main_arg2 : FVec F S16384x4x128 .f32) (main_arg3 : FVec F S2x256x4x128 .f32) (main_arg4 : FVec F S2x256x4x128 .f32) (main_arg5 : FVec F S16384x1536 .bf16) : IVec S_ 1 × IVec S_ 1 × IVec S_ 1 :=
  let main_v0 : FVec F S16384x12x128 .f32 := Host.absf main_arg0
  let main_cst : FVec F S_ .f32 := constant S_ .f32 0x7F800000#32
  let main_v1 : FVec F S16384x12x128 .f32 := broadcastInDim S16384x12x128 ![] bcast_S_S16384x12x128 main_cst
  let main_v2 : IVec S16384x12x128 1 := cmpf .olt main_v0 main_v1
  let main_c : IVec S_ 1 := constantI S_ 1 1#1
  let main_v3 : IVec S_ 1 := (fun x v => Host.reduce IntOp.andi x v reducesTo_S16384x12x128_S_d0_1_2 h_S_) main_v2 main_c
  let main_v4 : FVec F S16384x4x128 .f32 := Host.absf main_arg1
  let main_cst_0 : FVec F S_ .f32 := constant S_ .f32 0x7F800000#32
  let main_v5 : FVec F S16384x4x128 .f32 := broadcastInDim S16384x4x128 ![] bcast_S_S16384x4x128 main_cst_0
  let main_v6 : IVec S16384x4x128 1 := cmpf .olt main_v4 main_v5
  let main_c_1 : IVec S_ 1 := constantI S_ 1 1#1
  let main_v7 : IVec S_ 1 := (fun x v => Host.reduce IntOp.andi x v reducesTo_S16384x4x128_S_d0_1_2 h_S_) main_v6 main_c_1
  let main_v8 : FVec F S2x256x4x128 .f32 := Host.absf main_arg3
  let main_cst_2 : FVec F S_ .f32 := constant S_ .f32 0x7F800000#32
  let main_v9 : FVec F S2x256x4x128 .f32 := broadcastInDim S2x256x4x128 ![] bcast_S_S2x256x4x128 main_cst_2
  let main_v10 : IVec S2x256x4x128 1 := cmpf .olt main_v8 main_v9
  let main_c_3 : IVec S_ 1 := constantI S_ 1 1#1
  let main_v11 : IVec S_ 1 := (fun x v => Host.reduce IntOp.andi x v reducesTo_S2x256x4x128_S_d0_1_2_3 h_S_) main_v10 main_c_3
  (main_v3, main_v7, main_v11)
-- ==== Kernel.lean ====
abbrev S16384x12x128 : Shape := ⟨3, ![16384, 12, 128]⟩
abbrev S16384x4x128 : Shape := ⟨3, ![16384, 4, 128]⟩
abbrev S2x256x4x128 : Shape := ⟨4, ![2, 256, 4, 128]⟩
abbrev S16384x1536 : Shape := ⟨2, ![16384, 1536]⟩
abbrev S_ : Shape := ⟨0, ![]⟩
abbrev S512x512 : Shape := ⟨2, ![512, 512]⟩
abbrev S16384x512 : Shape := ⟨2, ![16384, 512]⟩
abbrev S256x384 : Shape := ⟨2, ![256, 384]⟩
abbrev S256x128 : Shape := ⟨2, ![256, 128]⟩
abbrev S4096x128 : Shape := ⟨2, ![4096, 128]⟩
abbrev S17x768x256 : Shape := ⟨3, ![17, 768, 256]⟩
abbrev S768x128 : Shape := ⟨2, ![768, 128]⟩
abbrev S768x256 : Shape := ⟨2, ![768, 256]⟩
abbrev S1x768x256 : Shape := ⟨3, ![1, 768, 256]⟩
abbrev S768 : Shape := ⟨1, ![768]⟩
abbrev S768x1 : Shape := ⟨2, ![768, 1]⟩

abbrev nBuf : Space → Nat
  | .hbm => 26
  | .vmem => 16
  | .smem => 0
  | _ => 0

abbrev bufTy : (tb : Table) → Fin (tcTables nBuf tb) → BufTy
  | .hbm, ⟨0, _⟩ => ⟨S16384x12x128, .f32⟩
  | .hbm, ⟨1, _⟩ => ⟨S16384x4x128, .f32⟩
  | .hbm, ⟨2, _⟩ => ⟨S16384x4x128, .f32⟩
  | .hbm, ⟨3, _⟩ => ⟨S2x256x4x128, .f32⟩
  | .hbm, ⟨4, _⟩ => ⟨S2x256x4x128, .f32⟩
  | .hbm, ⟨5, _⟩ => ⟨S16384x1536, .bf16⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16384x1536, .f32⟩
  | .hbm, ⟨14, _⟩ => ⟨S16384x1536, .f32⟩
  | .hbm, ⟨15, _⟩ => ⟨S16384x1536, .f32⟩
  | .hbm, ⟨16, _⟩ => ⟨S16384x1536, .bf16⟩
  | .hbm, ⟨17, _⟩ => ⟨S512x512, .f32⟩
  | .hbm, ⟨18, _⟩ => ⟨S512x512, .bf16⟩
  | .hbm, ⟨19, _⟩ => ⟨S512x512, .f32⟩
  | .hbm, ⟨20, _⟩ => ⟨S512x512, .bf16⟩
  | .hbm, ⟨21, _⟩ => ⟨S16384x512, .f32⟩
  | .hbm, ⟨22, _⟩ => ⟨S16384x512, .bf16⟩
  | .hbm, ⟨23, _⟩ => ⟨S16384x512, .f32⟩
  | .hbm, ⟨24, _⟩ => ⟨S16384x512, .bf16⟩
  | .hbm, ⟨25, _⟩ => ⟨S16384x1536, .bf16⟩
  | .local _ .vmem, ⟨0, _⟩ => ⟨S256x384, .bf16⟩
  | .local _ .vmem, ⟨1, _⟩ => ⟨S256x384, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S256x384, .bf16⟩
  | .local _ .vmem, ⟨11, _⟩ => ⟨S256x384, .bf16⟩
  | .local _ .vmem, ⟨12, _⟩ => ⟨S17x768x256, .f32⟩
  | .local _ .vmem, ⟨13, _⟩ => ⟨S768x128, .f32⟩
  | .local _ .vmem, ⟨14, _⟩ => ⟨S768x128, .f32⟩
  | .local _ .vmem, ⟨15, _⟩ => ⟨S768x128, .f32⟩
  | _, _ => ⟨S16384x12x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 16], ![false, false, false]⟩

@[reducible] def k0_t1_loop : Scf.Loop 32 :=
  let c0_i32 : BitVec 32 := 0#32
  let c2_i32 : BitVec 32 := 2#32
  let v25 : BitVec 32 := Scalar.addi c0_i32 c2_i32
  let c1_i32 : BitVec 32 := 1#32
  ⟨c0_i32, v25, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32 : BitVec 32 := 8#32
  let v81 : BitVec 32 := Scalar.muli arg14 c8_i32
  let c0_i32_54 : BitVec 32 := 0#32
  let v82 : BitVec 32 := Scalar.addi v81 c0_i32_54
  let c256_i32 : BitVec 32 := 256#32
  let v83 : BitVec 32 := Scalar.muli v82 c256_i32
  v83
def k0_off1 (k0_t1 : Fin k0_t1_loop.trips) (c0_i32_54 : BitVec 32) : Fin 2 → Nat :=
  let c0_i32 : BitVec 32 := 0#32
  let c1_i32 : BitVec 32 := 1#32
  let arg14 : BitVec 32 := Scf.iv c0_i32 c1_i32 k0_t1
  let c8_i32 : BitVec 32 := 8#32
  let v81 : BitVec 32 := Scalar.muli arg14 c8_i32
  let v82 : BitVec 32 := Scalar.addi v81 c0_i32_54
  let c256_i32 : BitVec 32 := 256#32
  let v83 : BitVec 32 := Scalar.muli v82 c256_i32
  let v84 : BitVec 32 := v83
  let v85 : Index := Scalar.indexCast v84
  let c0_55 : Index := 0#32
  ![v85.toNat, 0]
def k0_off2 (k0_t1 : Fin k0_t1_loop.trips) (c0_i32_54 : BitVec 32) : Fin 3 → Nat :=
  let c1_i32_57 : BitVec 32 := 1#32
  let c0_i32 : BitVec 32 := 0#32
  let c1_i32 : BitVec 32 := 1#32
  let arg14 : BitVec 32 := Scf.iv c0_i32 c1_i32 k0_t1
  let c8_i32 : BitVec 32 := 8#32
  let v81 : BitVec 32 := Scalar.muli arg14 c8_i32
  let v82 : BitVec 32 := Scalar.addi v81 c0_i32_54
  let v89 : BitVec 32 := Scalar.addi c1_i32_57 v82
  let v90 : Index := Scalar.indexCast v89
  let c0_58 : Index := 0#32
  let c0_59 : Index := 0#32
  ![v90.toNat, 0, 0]
def k0_mult2 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_64 : BitVec 32 := 8#32
  let v102 : BitVec 32 := Scalar.muli arg14 c8_i32_64
  let c1_i32_65 : BitVec 32 := 1#32
  let v103 : BitVec 32 := Scalar.addi v102 c1_i32_65
  let c256_i32_66 : BitVec 32 := 256#32
  let v104 : BitVec 32 := Scalar.muli v103 c256_i32_66
  v104
def k0_mult3 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_76 : BitVec 32 := 8#32
  let v123 : BitVec 32 := Scalar.muli arg14 c8_i32_76
  let c2_i32_77 : BitVec 32 := 2#32
  let v124 : BitVec 32 := Scalar.addi v123 c2_i32_77
  let c256_i32_78 : BitVec 32 := 256#32
  let v125 : BitVec 32 := Scalar.muli v124 c256_i32_78
  v125
def k0_mult4 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_88 : BitVec 32 := 8#32
  let v144 : BitVec 32 := Scalar.muli arg14 c8_i32_88
  let c3_i32 : BitVec 32 := 3#32
  let v145 : BitVec 32 := Scalar.addi v144 c3_i32
  let c256_i32_89 : BitVec 32 := 256#32
  let v146 : BitVec 32 := Scalar.muli v145 c256_i32_89
  v146
def k0_mult5 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_99 : BitVec 32 := 8#32
  let v165 : BitVec 32 := Scalar.muli arg14 c8_i32_99
  let c4_i32 : BitVec 32 := 4#32
  let v166 : BitVec 32 := Scalar.addi v165 c4_i32
  let c256_i32_100 : BitVec 32 := 256#32
  let v167 : BitVec 32 := Scalar.muli v166 c256_i32_100
  v167
def k0_mult6 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_110 : BitVec 32 := 8#32
  let v186 : BitVec 32 := Scalar.muli arg14 c8_i32_110
  let c5_i32 : BitVec 32 := 5#32
  let v187 : BitVec 32 := Scalar.addi v186 c5_i32
  let c256_i32_111 : BitVec 32 := 256#32
  let v188 : BitVec 32 := Scalar.muli v187 c256_i32_111
  v188
def k0_mult7 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_121 : BitVec 32 := 8#32
  let v207 : BitVec 32 := Scalar.muli arg14 c8_i32_121
  let c6_i32 : BitVec 32 := 6#32
  let v208 : BitVec 32 := Scalar.addi v207 c6_i32
  let c256_i32_122 : BitVec 32 := 256#32
  let v209 : BitVec 32 := Scalar.muli v208 c256_i32_122
  v209
def k0_mult8 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_132 : BitVec 32 := 8#32
  let v228 : BitVec 32 := Scalar.muli arg14 c8_i32_132
  let c7_i32 : BitVec 32 := 7#32
  let v229 : BitVec 32 := Scalar.addi v228 c7_i32
  let c256_i32_133 : BitVec 32 := 256#32
  let v230 : BitVec 32 := Scalar.muli v229 c256_i32_133
  v230
@[reducible] def k0_t2_loop : Scf.Loop 32 :=
  let c0_i32_39 : BitVec 32 := 0#32
  let c2_i32_40 : BitVec 32 := 2#32
  let v65 : BitVec 32 := Scalar.addi c0_i32_39 c2_i32_40
  let c1_i32_41 : BitVec 32 := 1#32
  ⟨c0_i32_39, v65, c1_i32_41⟩
def k0_off3 (k0_t2 : Fin k0_t2_loop.trips) (c0_i32_54 : BitVec 32) : Fin 3 → Nat :=
  let c1_i32_55 : BitVec 32 := 1#32
  let c0_i32_39 : BitVec 32 := 0#32
  let c1_i32_41 : BitVec 32 := 1#32
  let arg14 : BitVec 32 := Scf.iv c0_i32_39 c1_i32_41 k0_t2
  let c8_i32 : BitVec 32 := 8#32
  let v81 : BitVec 32 := Scalar.muli arg14 c8_i32
  let v82 : BitVec 32 := Scalar.addi v81 c0_i32_54
  let v83 : BitVec 32 := Scalar.addi c1_i32_55 v82
  let v84 : Index := Scalar.indexCast v83
  let c0_56 : Index := 0#32
  let c0_57 : Index := 0#32
  ![v84.toNat, 0, 0]
def k0_mult9 (k0_t2 : Fin k0_t2_loop.trips) : BitVec 32 :=
  let c0_i32_39 : BitVec 32 := 0#32
  let c1_i32_41 : BitVec 32 := 1#32
  let arg14 : BitVec 32 := Scf.iv c0_i32_39 c1_i32_41 k0_t2
  let c8_i32 : BitVec 32 := 8#32
  let v81 : BitVec 32 := Scalar.muli arg14 c8_i32
  let c0_i32_54 : BitVec 32 := 0#32
  let v82 : BitVec 32 := Scalar.addi v81 c0_i32_54
  let c256_i32 : BitVec 32 := 256#32
  let v104 : BitVec 32 := Scalar.muli v82 c256_i32
  v104
def k0_off4 (k0_t2 : Fin k0_t2_loop.trips) (c0_i32_54 : BitVec 32) : Fin 2 → Nat :=
  let c0_i32_39 : BitVec 32 := 0#32
  let c1_i32_41 : BitVec 32 := 1#32
  let arg14 : BitVec 32 := Scf.iv c0_i32_39 c1_i32_41 k0_t2
  let c8_i32 : BitVec 32 := 8#32
  let v81 : BitVec 32 := Scalar.muli arg14 c8_i32
  let v82 : BitVec 32 := Scalar.addi v81 c0_i32_54
  let c256_i32 : BitVec 32 := 256#32
  let v104 : BitVec 32 := Scalar.muli v82 c256_i32
  let v105 : BitVec 32 := v104
  let v106 : Index := Scalar.indexCast v105
  let c0_64 : Index := 0#32
  ![v106.toNat, 0]
def k0_mult10 (k0_t2 : Fin k0_t2_loop.trips) : BitVec 32 :=
  let c0_i32_39 : BitVec 32 := 0#32
  let c1_i32_41 : BitVec 32 := 1#32
  let arg14 : BitVec 32 := Scf.iv c0_i32_39 c1_i32_41 k0_t2
  let c8_i32_68 : BitVec 32 := 8#32
  let v114 : BitVec 32 := Scalar.muli arg14 c8_i32_68
  let c1_i32_69 : BitVec 32 := 1#32
  let v115 : BitVec 32 := Scalar.addi v114 c1_i32_69
  let c256_i32_79 : BitVec 32 := 256#32
  let v137 : BitVec 32 := Scalar.muli v115 c256_i32_79
  v137
def k0_mult11 (k0_t2 : Fin k0_t2_loop.trips) : BitVec 32 :=
  let c0_i32_39 : BitVec 32 := 0#32
  let c1_i32_41 : BitVec 32 := 1#32
  let arg14 : BitVec 32 := Scf.iv c0_i32_39 c1_i32_41 k0_t2
  let c8_i32_84 : BitVec 32 := 8#32
  let v147 : BitVec 32 := Scalar.muli arg14 c8_i32_84
  let c2_i32_85 : BitVec 32 := 2#32
  let v148 : BitVec 32 := Scalar.addi v147 c2_i32_85
  let c256_i32_95 : BitVec 32 := 256#32
  let v170 : BitVec 32 := Scalar.muli v148 c256_i32_95
  v170
def k0_mult12 (k0_t2 : Fin k0_t2_loop.trips) : BitVec 32 :=
  let c0_i32_39 : BitVec 32 := 0#32
  let c1_i32_41 : BitVec 32 := 1#32
  let arg14 : BitVec 32 := Scf.iv c0_i32_39 c1_i32_41 k0_t2
  let c8_i32_100 : BitVec 32 := 8#32
  let v180 : BitVec 32 := Scalar.muli arg14 c8_i32_100
  let c3_i32 : BitVec 32 := 3#32
  let v181 : BitVec 32 := Scalar.addi v180 c3_i32
  let c256_i32_110 : BitVec 32 := 256#32
  let v203 : BitVec 32 := Scalar.muli v181 c256_i32_110
  v203
def k0_mult13 (k0_t2 : Fin k0_t2_loop.trips) : BitVec 32 :=
  let c0_i32_39 : BitVec 32 := 0#32
  let c1_i32_41 : BitVec 32 := 1#32
  let arg14 : BitVec 32 := Scf.iv c0_i32_39 c1_i32_41 k0_t2
  let c8_i32_115 : BitVec 32 := 8#32
  let v213 : BitVec 32 := Scalar.muli arg14 c8_i32_115
  let c4_i32 : BitVec 32 := 4#32
  let v214 : BitVec 32 := Scalar.addi v213 c4_i32
  let c256_i32_125 : BitVec 32 := 256#32
  let v236 : BitVec 32 := Scalar.muli v214 c256_i32_125
  v236
def k0_mult14 (k0_t2 : Fin k0_t2_loop.trips) : BitVec 32 :=
  let c0_i32_39 : BitVec 32 := 0#32
  let c1_i32_41 : BitVec 32 := 1#32
  let arg14 : BitVec 32 := Scf.iv c0_i32_39 c1_i32_41 k0_t2
  let c8_i32_130 : BitVec 32 := 8#32
  let v246 : BitVec 32 := Scalar.muli arg14 c8_i32_130
  let c5_i32 : BitVec 32 := 5#32
  let v247 : BitVec 32 := Scalar.addi v246 c5_i32
  let c256_i32_140 : BitVec 32 := 256#32
  let v269 : BitVec 32 := Scalar.muli v247 c256_i32_140
  v269
def k0_mult15 (k0_t2 : Fin k0_t2_loop.trips) : BitVec 32 :=
  let c0_i32_39 : BitVec 32 := 0#32
  let c1_i32_41 : BitVec 32 := 1#32
  let arg14 : BitVec 32 := Scf.iv c0_i32_39 c1_i32_41 k0_t2
  let c8_i32_145 : BitVec 32 := 8#32
  let v279 : BitVec 32 := Scalar.muli arg14 c8_i32_145
  let c6_i32 : BitVec 32 := 6#32
  let v280 : BitVec 32 := Scalar.addi v279 c6_i32
  let c256_i32_155 : BitVec 32 := 256#32
  let v302 : BitVec 32 := Scalar.muli v280 c256_i32_155
  v302
def k0_mult16 (k0_t2 : Fin k0_t2_loop.trips) : BitVec 32 :=
  let c0_i32_39 : BitVec 32 := 0#32
  let c1_i32_41 : BitVec 32 := 1#32
  let arg14 : BitVec 32 := Scf.iv c0_i32_39 c1_i32_41 k0_t2
  let c8_i32_160 : BitVec 32 := 8#32
  let v312 : BitVec 32 := Scalar.muli arg14 c8_i32_160
  let c7_i32 : BitVec 32 := 7#32
  let v313 : BitVec 32 := Scalar.addi v312 c7_i32
  let c256_i32_170 : BitVec 32 := 256#32
  let v335 : BitVec 32 := Scalar.muli v313 c256_i32_170
  v335
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c32_i32 : BitVec 32 := 32#32
  let v1 : BitVec 32 := Scalar.addi c32_i32 v0
  let v2 : BitVec 32 := Scalar.addi v1 arg2
  let c0_i32 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![v0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c32_i32 : BitVec 32 := 32#32
  let v1 : BitVec 32 := Scalar.addi c32_i32 v0
  let v2 : BitVec 32 := Scalar.addi v1 arg2
  let c0_i32 : BitVec 32 := 0#32
  ![v2.toNat, arg1.toNat]

abbrev stage0_0 : Fin 2 → Memref sig .tc .vmem S256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S16384x12x128 : Shape := ⟨3, ![16384, 12, 128]⟩
abbrev S16384x4x128 : Shape := ⟨3, ![16384, 4, 128]⟩
abbrev S2x256x4x128 : Shape := ⟨4, ![2, 256, 4, 128]⟩
abbrev S16384x1536 : Shape := ⟨2, ![16384, 1536]⟩
abbrev S8192x12x128 : Shape := ⟨3, ![8192, 12, 128]⟩
abbrev S2x4096x4x3x128 : Shape := ⟨5, ![2, 4096, 4, 3, 128]⟩
abbrev S8192x4x128 : Shape := ⟨3, ![8192, 4, 128]⟩
abbrev S2x4096x4x128 : Shape := ⟨4, ![2, 4096, 4, 128]⟩
abbrev S2x4352x4x128 : Shape := ⟨4, ![2, 4352, 4, 128]⟩
abbrev S2x4x4352x4096x3 : Shape := ⟨5, ![2, 4, 4352, 4096, 3]⟩
abbrev S2x4x3x4096x4352 : Shape := ⟨5, ![2, 4, 3, 4096, 4352]⟩
abbrev S_ : Shape := ⟨0, ![]⟩
abbrev S2x4x3x4096 : Shape := ⟨4, ![2, 4, 3, 4096]⟩
abbrev S2x4x3x4096x1 : Shape := ⟨5, ![2, 4, 3, 4096, 1]⟩
abbrev S2x4x128x3x4096 : Shape := ⟨5, ![2, 4, 128, 3, 4096]⟩
abbrev S8192x1536 : Shape := ⟨2, ![8192, 1536]⟩

abbrev nBuf : Space → Nat
  | .hbm => 41
  | .vmem => 0
  | .smem => 0
  | _ => 0

abbrev bufTy : (tb : Table) → Fin (tcTables nBuf tb) → BufTy
  | .hbm, ⟨0, _⟩ => ⟨S16384x12x128, .f32⟩
  | .hbm, ⟨1, _⟩ => ⟨S16384x4x128, .f32⟩
  | .hbm, ⟨2, _⟩ => ⟨S16384x4x128, .f32⟩
  | .hbm, ⟨3, _⟩ => ⟨S2x256x4x128, .f32⟩
  | .hbm, ⟨4, _⟩ => ⟨S2x256x4x128, .f32⟩
  | .hbm, ⟨5, _⟩ => ⟨S16384x1536, .bf16⟩
  | .hbm, ⟨6, _⟩ => ⟨S8192x12x128, .f32⟩
  | .hbm, ⟨7, _⟩ => ⟨S2x4096x4x3x128, .f32⟩
  | .hbm, ⟨8, _⟩ => ⟨S8192x4x128, .f32⟩
  | .hbm, ⟨9, _⟩ => ⟨S2x4096x4x128, .f32⟩
  | .hbm, ⟨10, _⟩ => ⟨S2x4352x4x128, .f32⟩
  | .hbm, ⟨11, _⟩ => ⟨S8192x4x128, .f32⟩
  | .hbm, ⟨12, _⟩ => ⟨S2x4096x4x128, .f32⟩
  | .hbm, ⟨13, _⟩ => ⟨S2x4352x4x128, .f32⟩
  | .hbm, ⟨14, _⟩ => ⟨S2x4x4352x4096x3, .f32⟩
  | .hbm, ⟨15, _⟩ => ⟨S2x4x3x4096x4352, .f32⟩
  | .hbm, ⟨16, _⟩ => ⟨S_, .f32⟩
  | .hbm, ⟨17, _⟩ => ⟨S_, .f32⟩
  | .hbm, ⟨18, _⟩ => ⟨S2x4x3x4096x4352, .f32⟩
  | .hbm, ⟨19, _⟩ => ⟨S2x4x3x4096x4352, .f32⟩
  | .hbm, ⟨20, _⟩ => ⟨S_, .f32⟩
  | .hbm, ⟨21, _⟩ => ⟨S2x4x3x4096, .f32⟩
  | .hbm, ⟨22, _⟩ => ⟨S_, .f32⟩
  | .hbm, ⟨23, _⟩ => ⟨S2x4x3x4096, .f32⟩
  | .hbm, ⟨24, _⟩ => ⟨S2x4x3x4096, .f32⟩
  | .hbm, ⟨25, _⟩ => ⟨S2x4x3x4096x1, .f32⟩
  | .hbm, ⟨26, _⟩ => ⟨S2x4x3x4096x4352, .f32⟩
  | .hbm, ⟨27, _⟩ => ⟨S2x4x3x4096x4352, .f32⟩
  | .hbm, ⟨28, _⟩ => ⟨S2x4x3x4096x4352, .f32⟩
  | .hbm, ⟨29, _⟩ => ⟨S_, .f32⟩
  | .hbm, ⟨30, _⟩ => ⟨S2x4x3x4096, .f32⟩
  | .hbm, ⟨31, _⟩ => ⟨S2x4x3x4096x1, .f32⟩
  | .hbm, ⟨32, _⟩ => ⟨S2x4x3x4096x4352, .f32⟩
  | .hbm, ⟨33, _⟩ => ⟨S2x4x3x4096x4352, .f32⟩
  | .hbm, ⟨34, _⟩ => ⟨S2x4x128x3x4096, .f32⟩
  | .hbm, ⟨35, _⟩ => ⟨S2x4096x4x3x128, .f32⟩
  | .hbm, ⟨36, _⟩ => ⟨S16384x1536, .f32⟩
  | .hbm, ⟨37, _⟩ => ⟨S8192x1536, .f32⟩
  | .hbm, ⟨38, _⟩ => ⟨S8192x1536, .f32⟩
  | .hbm, ⟨39, _⟩ => ⟨S16384x1536, .f32⟩
  | .hbm, ⟨40, _⟩ => ⟨S16384x1536, .bf16⟩
  | _, _ => ⟨S16384x12x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel2.lean ====
abbrev S16384x4096 : Shape := ⟨2, ![16384, 4096]⟩
abbrev S8x24576 : Shape := ⟨2, ![8, 24576]⟩
abbrev S4096 : Shape := ⟨1, ![4096]⟩
abbrev S4096x8032 : Shape := ⟨2, ![4096, 8032]⟩
abbrev S8x6x4096 : Shape := ⟨3, ![8, 6, 4096]⟩
abbrev S4096x3072 : Shape := ⟨2, ![4096, 3072]⟩
abbrev S4096x1024 : Shape := ⟨2, ![4096, 1024]⟩
abbrev S4096x512 : Shape := ⟨2, ![4096, 512]⟩
abbrev S4096x1536 : Shape := ⟨2, ![4096, 1536]⟩
abbrev S4096x768 : Shape := ⟨2, ![4096, 768]⟩
abbrev S4096x64 : Shape := ⟨2, ![4096, 64]⟩
abbrev S4096x16 : Shape := ⟨2, ![4096, 16]⟩
abbrev S_ : Shape := ⟨0, ![]⟩
abbrev S4096x32 : Shape := ⟨2, ![4096, 32]⟩
abbrev S4096x128 : Shape := ⟨2, ![4096, 128]⟩
abbrev S4096x8192 : Shape := ⟨2, ![4096, 8192]⟩
abbrev S1x4096 : Shape := ⟨2, ![1, 4096]⟩
abbrev S16384x8192 : Shape := ⟨2, ![16384, 8192]⟩
abbrev S512x4096 : Shape := ⟨2, ![512, 4096]⟩
abbrev S1x6x4096 : Shape := ⟨3, ![1, 6, 4096]⟩
abbrev S512x1024 : Shape := ⟨2, ![512, 1024]⟩
abbrev S1x1x4096 : Shape := ⟨3, ![1, 1, 4096]⟩
abbrev S512 : Shape := ⟨1, ![512]⟩
abbrev S512x1 : Shape := ⟨2, ![512, 1]⟩

abbrev nBuf : Space → Nat
  | .hbm => 23
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S8x24576, .f32⟩
  | .hbm, ⟨2, _⟩ => ⟨S4096, .f32⟩
  | .hbm, ⟨3, _⟩ => ⟨S4096x8032, .f32⟩
  | .hbm, ⟨4, _⟩ => ⟨S8x6x4096, .f32⟩
  | .hbm, ⟨5, _⟩ => ⟨S4096x3072, .f32⟩
  | .hbm, ⟨6, _⟩ => ⟨S4096x1024, .f32⟩
  | .hbm, ⟨7, _⟩ => ⟨S4096x512, .f32⟩
  | .hbm, ⟨8, _⟩ => ⟨S4096x1536, .f32⟩
  | .hbm, ⟨9, _⟩ => ⟨S4096x768, .f32⟩
  | .hbm, ⟨10, _⟩ => ⟨S4096x64, .f32⟩
  | .hbm, ⟨11, _⟩ => ⟨S4096x16, .f32⟩
  | .hbm, ⟨12, _⟩ => ⟨S4096x16, .f32⟩
  | .hbm, ⟨13, _⟩ => ⟨S_, .f32⟩
  | .hbm, ⟨14, _⟩ => ⟨S4096x32, .f32⟩
  | .hbm, ⟨15, _⟩ => ⟨S_, .f32⟩
  | .hbm, ⟨16, _⟩ => ⟨S4096x128, .f32⟩
  | .hbm, ⟨17, _⟩ => ⟨S4096x512, .f32⟩
  | .hbm, ⟨18, _⟩ => ⟨S4096x512, .f32⟩
  | .hbm, ⟨19, _⟩ => ⟨S4096x8192, .f32⟩
  | .hbm, ⟨20, _⟩ => ⟨S4096x8192, .bf16⟩
  | .hbm, ⟨21, _⟩ => ⟨S1x4096, .f32⟩
  | .hbm, ⟨22, _⟩ => ⟨S16384x8192, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x6x4096, .f32⟩
  | .local _ .vmem, ⟨4, _⟩ => ⟨S1x6x4096, .f32⟩
  | .local _ .vmem, ⟨5, _⟩ => ⟨S4096x1024, .bf16⟩
  | .local _ .vmem, ⟨6, _⟩ => ⟨S4096x1024, .bf16⟩
  | .local _ .vmem, ⟨7, _⟩ => ⟨S512x1024, .f32⟩
  | .local _ .vmem, ⟨8, _⟩ => ⟨S512x1024, .f32⟩
  | .local _ .vmem, ⟨9, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S16384x4096 : Shape := ⟨2, ![16384, 4096]⟩
abbrev S8x24576 : Shape := ⟨2, ![8, 24576]⟩
abbrev S4096 : Shape := ⟨1, ![4096]⟩
abbrev S4096x8032 : Shape := ⟨2, ![4096, 8032]⟩
abbrev S8192x4096 : Shape := ⟨2, ![8192, 4096]⟩
abbrev S1x8192x4096 : Shape := ⟨3, ![1, 8192, 4096]⟩
abbrev S1x24576 : Shape := ⟨2, ![1, 24576]⟩
abbrev S_ : Shape := ⟨0, ![]⟩
abbrev S1x8192 : Shape := ⟨2, ![1, 8192]⟩
abbrev S1x8192x1 : Shape := ⟨3, ![1, 8192, 1]⟩
abbrev S1x1x4096 : Shape := ⟨3, ![1, 1, 4096]⟩
abbrev S1x4096 : Shape := ⟨2, ![1, 4096]⟩
abbrev S2x4096x4096 : Shape := ⟨3, ![2, 4096, 4096]⟩
abbrev S2x24576 : Shape := ⟨2, ![2, 24576]⟩
abbrev S2x4096 : Shape := ⟨2, ![2, 4096]⟩
abbrev S2x4096x1 : Shape := ⟨3, ![2, 4096, 1]⟩
abbrev S2x1x4096 : Shape := ⟨3, ![2, 1, 4096]⟩
abbrev S16384x8032 : Shape := ⟨2, ![16384, 8032]⟩
abbrev S16384x768 : Shape := ⟨2, ![16384, 768]⟩
abbrev S16384x512 : Shape := ⟨2, ![16384, 512]⟩
abbrev S16384x64 : Shape := ⟨2, ![16384, 64]⟩
abbrev S16384x1536 : Shape := ⟨2, ![16384, 1536]⟩
abbrev S16384x3072 : Shape := ⟨2, ![16384, 3072]⟩
abbrev S16384x1024 : Shape := ⟨2, ![16384, 1024]⟩
abbrev S16384x16 : Shape := ⟨2, ![16384, 16]⟩
abbrev S16384x160 : Shape := ⟨2, ![16384, 160]⟩
abbrev S16384x8192 : Shape := ⟨2, ![16384, 8192]⟩

abbrev nBuf : Space → Nat
  | .hbm => 81
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S8x24576, .f32⟩
  | .hbm, ⟨2, _⟩ => ⟨S4096, .f32⟩
  | .hbm, ⟨3, _⟩ => ⟨S4096x8032, .f32⟩
  | .hbm, ⟨4, _⟩ => ⟨S8192x4096, .f32⟩
  | .hbm, ⟨5, _⟩ => ⟨S1x8192x4096, .f32⟩
  | .hbm, ⟨6, _⟩ => ⟨S1x24576, .f32⟩
  | .hbm, ⟨7, _⟩ => ⟨S1x8192x4096, .f32⟩
  | .hbm, ⟨8, _⟩ => ⟨S_, .f32⟩
  | .hbm, ⟨9, _⟩ => ⟨S1x8192, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S1x8192x4096, .f32⟩
  | .hbm, ⟨19, _⟩ => ⟨S1x8192x4096, .f32⟩
  | .hbm, ⟨20, _⟩ => ⟨S1x1x4096, .f32⟩
  | .hbm, ⟨21, _⟩ => ⟨S1x8192x4096, .f32⟩
  | .hbm, ⟨22, _⟩ => ⟨S1x8192x4096, .f32⟩
  | .hbm, ⟨23, _⟩ => ⟨S1x4096, .f32⟩
  | .hbm, ⟨24, _⟩ => ⟨S1x1x4096, .f32⟩
  | .hbm, ⟨25, _⟩ => ⟨S_, .f32⟩
  | .hbm, ⟨26, _⟩ => ⟨S1x1x4096, .f32⟩
  | .hbm, ⟨27, _⟩ => ⟨S1x1x4096, .f32⟩
  | .hbm, ⟨28, _⟩ => ⟨S1x8192x4096, .f32⟩
  | .hbm, ⟨29, _⟩ => ⟨S1x8192x4096, .f32⟩
  | .hbm, ⟨30, _⟩ => ⟨S1x4096, .f32⟩
  | .hbm, ⟨31, _⟩ => ⟨S1x1x4096, .f32⟩
  | .hbm, ⟨32, _⟩ => ⟨S1x8192x4096, .f32⟩
  | .hbm, ⟨33, _⟩ => ⟨S1x8192x4096, .f32⟩
  | .hbm, ⟨34, _⟩ => ⟨S8192x4096, .f32⟩
  | .hbm, ⟨35, _⟩ => ⟨S8192x4096, .f32⟩
  | .hbm, ⟨36, _⟩ => ⟨S2x4096x4096, .f32⟩
  | .hbm, ⟨37, _⟩ => ⟨S2x24576, .f32⟩
  | .hbm, ⟨38, _⟩ => ⟨S2x4096x4096, .f32⟩
  | .hbm, ⟨39, _⟩ => ⟨S_, .f32⟩
  | .hbm, ⟨40, _⟩ => ⟨S2x4096, .f32⟩
  | .hbm, ⟨41, _⟩ => ⟨S2x4096x1, .f32⟩
  | .hbm, ⟨42, _⟩ => ⟨S_, .f32⟩
  | .hbm, ⟨43, _⟩ => ⟨S2x4096x1, .f32⟩
  | .hbm, ⟨44, _⟩ => ⟨S2x4096x1, .f32⟩
  | .hbm, ⟨45, _⟩ => ⟨S_, .f32⟩
  | .hbm, ⟨46, _⟩ => ⟨S2x4096x1, .f32⟩
  | .hbm, ⟨47, _⟩ => ⟨S2x4096x1, .f32⟩
  | .hbm, ⟨48, _⟩ => ⟨S2x4096x1, .f32⟩
  | .hbm, ⟨49, _⟩ => ⟨S2x4096x4096, .f32⟩
  | .hbm, ⟨50, _⟩ => ⟨S2x4096x4096, .f32⟩
  | .hbm, ⟨51, _⟩ => ⟨S1x1x4096, .f32⟩
  | .hbm, ⟨52, _⟩ => ⟨S2x4096x4096, .f32⟩
  | .hbm, ⟨53, _⟩ => ⟨S2x4096x4096, .f32⟩
  | .hbm, ⟨54, _⟩ => ⟨S2x4096, .f32⟩
  | .hbm, ⟨55, _⟩ => ⟨S2x1x4096, .f32⟩
  | .hbm, ⟨56, _⟩ => ⟨S_, .f32⟩
  | .hbm, ⟨57, _⟩ => ⟨S2x1x4096, .f32⟩
  | .hbm, ⟨58, _⟩ => ⟨S2x1x4096, .f32⟩
  | .hbm, ⟨59, _⟩ => ⟨S2x4096x4096, .f32⟩
  | .hbm, ⟨60, _⟩ => ⟨S2x4096x4096, .f32⟩
  | .hbm, ⟨61, _⟩ => ⟨S2x4096, .f32⟩
  | .hbm, ⟨62, _⟩ => ⟨S2x1x4096, .f32⟩
  | .hbm, ⟨63, _⟩ => ⟨S2x4096x4096, .f32⟩
  | .hbm, ⟨64, _⟩ => ⟨S2x4096x4096, .f32⟩
  | .hbm, ⟨65, _⟩ => ⟨S8192x4096, .f32⟩
  | .hbm, ⟨66, _⟩ => ⟨S16384x4096, .f32⟩
  | .hbm, ⟨67, _⟩ => ⟨S16384x8032, .f32⟩
  | .hbm, ⟨68, _⟩ => ⟨S16384x768, .f32⟩
  | .hbm, ⟨69, _⟩ => ⟨S16384x512, .f32⟩
  | .hbm, ⟨70, _⟩ => ⟨S16384x64, .f32⟩
  | .hbm, ⟨71, _⟩ => ⟨S16384x1536, .f32⟩
  | .hbm, ⟨72, _⟩ => ⟨S16384x512, .f32⟩
  | .hbm, ⟨73, _⟩ => ⟨S16384x512, .f32⟩
  | .hbm, ⟨74, _⟩ => ⟨S16384x3072, .f32⟩
  | .hbm, ⟨75, _⟩ => ⟨S16384x1024, .f32⟩
  | .hbm, ⟨76, _⟩ => ⟨S16384x16, .f32⟩
  | .hbm, ⟨77, _⟩ => ⟨S16384x16, .f32⟩
  | .hbm, ⟨78, _⟩ => ⟨S_, .f32⟩
  | .hbm, ⟨79, _⟩ => ⟨S16384x160, .f32⟩
  | .hbm, ⟨80, _⟩ => ⟨S16384x8192, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_7 : Ref sig .tc := ⟨.hbm, 78, rfl⟩
abbrev main_v66 : Ref sig .tc := ⟨.hbm, 79, rfl⟩
abbrev main_v67 : Ref sig .tc := ⟨.hbm, 80, rfl⟩

abbrev nD : Nat := 1
abbrev τ : Topo := Topo.v7x

variable {F : FTy → Type} [FloatOps F]
-- ==== Kernel3.lean ====
abbrev S16384x1536 : Shape := ⟨2, ![16384, 1536]⟩
abbrev S16384x1024 : Shape := ⟨2, ![16384, 1024]⟩
abbrev S16384x8192 : Shape := ⟨2, ![16384, 8192]⟩
abbrev S128 : Shape := ⟨1, ![128]⟩
abbrev S4096x4096 : Shape := ⟨2, ![4096, 4096]⟩
abbrev S16384x4096 : Shape := ⟨2, ![16384, 4096]⟩
abbrev S8x24576 : Shape := ⟨2, ![8, 24576]⟩
abbrev S8x6x4096 : Shape := ⟨3, ![8, 6, 4096]⟩
abbrev S1x128 : Shape := ⟨2, ![1, 128]⟩
abbrev S512x1536 : Shape := ⟨2, ![512, 1536]⟩
abbrev S512x1024 : Shape := ⟨2, ![512, 1024]⟩
abbrev S1536x1024 : Shape := ⟨2, ![1536, 1024]⟩
abbrev S1024x1024 : Shape := ⟨2, ![1024, 1024]⟩
abbrev S1x6x1024 : Shape := ⟨3, ![1, 6, 1024]⟩
abbrev S512x128 : Shape := ⟨2, ![512, 128]⟩
abbrev S512 : Shape := ⟨1, ![512]⟩
abbrev S512x1 : Shape := ⟨2, ![512, 1]⟩
abbrev S1x1x1024 : Shape := ⟨3, ![1, 1, 1024]⟩
abbrev S1x1024 : Shape := ⟨2, ![1, 1024]⟩

abbrev nBuf : Space → Nat
  | .hbm => 13
  | .vmem => 24
  | .smem => 0
  | _ => 0

abbrev bufTy : (tb : Table) → Fin (tcTables nBuf tb) → BufTy
  | .hbm, ⟨0, _⟩ => ⟨S16384x1536, .bf16⟩
  | .hbm, ⟨1, _⟩ => ⟨S16384x1536, .bf16⟩
  | .hbm, ⟨2, _⟩ => ⟨S16384x1024, .f32⟩
  | .hbm, ⟨3, _⟩ => ⟨S16384x1024, .f32⟩
  | .hbm, ⟨4, _⟩ => ⟨S16384x8192, .f32⟩
  | .hbm, ⟨5, _⟩ => ⟨S128, .f32⟩
  | .hbm, ⟨6, _⟩ => ⟨S4096x4096, .f32⟩
  | .hbm, ⟨7, _⟩ => ⟨S16384x4096, .f32⟩
  | .hbm, ⟨8, _⟩ => ⟨S8x24576, .f32⟩
  | .hbm, ⟨9, _⟩ => ⟨S4096x4096, .bf16⟩
  | .hbm, ⟨10, _⟩ => ⟨S8x6x4096, .f32⟩
  | .hbm, ⟨11, _⟩ => ⟨S1x128, .f32⟩
  | .hbm, ⟨12, _⟩ => ⟨S16384x4096, .f32⟩
  | .local _ .vmem, ⟨0, _⟩ => ⟨S512x1536, .bf16⟩
  | .local _ .vmem, ⟨1, _⟩ => ⟨S512x1536, .bf16⟩
  | .local _ .vmem, ⟨2, _⟩ => ⟨S512x1536, .bf16⟩
  | .local _ .vmem, ⟨3, _⟩ => ⟨S512x1536, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x128, .f32⟩
  | .local _ .vmem, ⟨11, _⟩ => ⟨S1536x1024, .bf16⟩
  | .local _ .vmem, ⟨12, _⟩ => ⟨S1536x1024, .bf16⟩
  | .local _ .vmem, ⟨13, _⟩ => ⟨S1536x1024, .bf16⟩
  | .local _ .vmem, ⟨14, _⟩ => ⟨S1536x1024, .bf16⟩
  | .local _ .vmem, ⟨15, _⟩ => ⟨S1024x1024, .bf16⟩
  | .local _ .vmem, ⟨16, _⟩ => ⟨S1024x1024, .bf16⟩
  | .local _ .vmem, ⟨17, _⟩ => ⟨S512x1024, .f32⟩
  | .local _ .vmem, ⟨18, _⟩ => ⟨S512x1024, .f32⟩
  | .local _ .vmem, ⟨19, _⟩ => ⟨S1x6x1024, .f32⟩
  | .local _ .vmem, ⟨20, _⟩ => ⟨S1x6x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  ![v20.toNat, c0_i32_7.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1536x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1536x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x6x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S16384x1536 : Shape := ⟨2, ![16384, 1536]⟩
abbrev S16384x1024 : Shape := ⟨2, ![16384, 1024]⟩
abbrev S16384x8192 : Shape := ⟨2, ![16384, 8192]⟩
abbrev S128 : Shape := ⟨1, ![128]⟩
abbrev S4096x4096 : Shape := ⟨2, ![4096, 4096]⟩
abbrev S16384x4096 : Shape := ⟨2, ![16384, 4096]⟩
abbrev S8x24576 : Shape := ⟨2, ![8, 24576]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S1x1x128 : Shape := ⟨3, ![1, 1, 128]⟩
abbrev S8192x4096 : Shape := ⟨2, ![8192, 4096]⟩
abbrev S1x8192x4096 : Shape := ⟨3, ![1, 8192, 4096]⟩
abbrev S1x24576 : Shape := ⟨2, ![1, 24576]⟩
abbrev S1x4096 : Shape := ⟨2, ![1, 4096]⟩
abbrev S1x1x4096 : Shape := ⟨3, ![1, 1, 4096]⟩
abbrev S2x4096x4096 : Shape := ⟨3, ![2, 4096, 4096]⟩
abbrev S2x24576 : Shape := ⟨2, ![2, 24576]⟩
abbrev S2x4096 : Shape := ⟨2, ![2, 4096]⟩
abbrev S2x1x4096 : Shape := ⟨3, ![2, 1, 4096]⟩

abbrev nBuf : Space → Nat
  | .hbm => 67
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S16384x1536, .bf16⟩
  | .hbm, ⟨2, _⟩ => ⟨S16384x1024, .f32⟩
  | .hbm, ⟨3, _⟩ => ⟨S16384x1024, .f32⟩
  | .hbm, ⟨4, _⟩ => ⟨S16384x8192, .f32⟩
  | .hbm, ⟨5, _⟩ => ⟨S128, .f32⟩
  | .hbm, ⟨6, _⟩ => ⟨S4096x4096, .f32⟩
  | .hbm, ⟨7, _⟩ => ⟨S16384x4096, .f32⟩
  | .hbm, ⟨8, _⟩ => ⟨S8x24576, .f32⟩
  | .hbm, ⟨9, _⟩ => ⟨S16384x1024, .f32⟩
  | .hbm, ⟨10, _⟩ => ⟨S16384x8x128, .f32⟩
  | .hbm, ⟨11, _⟩ => ⟨S16384x1024, .f32⟩
  | .hbm, ⟨12, _⟩ => ⟨S16384x8x128, .f32⟩
  | .hbm, ⟨13, _⟩ => ⟨S16384x8x128, .f32⟩
  | .hbm, ⟨14, _⟩ => ⟨S_, .f32⟩
  | .hbm, ⟨15, _⟩ => ⟨S16384x8, .f32⟩
  | .hbm, ⟨16, _⟩ => ⟨S16384x8x1, .f32⟩
  | .hbm, ⟨17, _⟩ => ⟨S_, .f32⟩
  | .hbm, ⟨18, _⟩ => ⟨S16384x8x1, .f32⟩
  | .hbm, ⟨19, _⟩ => ⟨S16384x8x1, .f32⟩
  | .hbm, ⟨20, _⟩ => ⟨S_, .f32⟩
  | .hbm, ⟨21, _⟩ => ⟨S16384x8x1, .f32⟩
  | .hbm, ⟨22, _⟩ => ⟨S16384x8x1, .f32⟩
  | .hbm, ⟨23, _⟩ => ⟨S16384x8x1, .f32⟩
  | .hbm, ⟨24, _⟩ => ⟨S16384x8x128, .f32⟩
  | .hbm, ⟨25, _⟩ => ⟨S16384x8x128, .f32⟩
  | .hbm, ⟨26, _⟩ => ⟨S1x1x128, .f32⟩
  | .hbm, ⟨27, _⟩ => ⟨S16384x8x128, .f32⟩
  | .hbm, ⟨28, _⟩ => ⟨S16384x8x128, .f32⟩
  | .hbm, ⟨29, _⟩ => ⟨S16384x8x128, .f32⟩
  | .hbm, ⟨30, _⟩ => ⟨S16384x8x128, .f32⟩
  | .hbm, ⟨31, _⟩ => ⟨S_, .f32⟩
  | .hbm, ⟨32, _⟩ => ⟨S16384x8x128, .f32⟩
  | .hbm, ⟨33, _⟩ => ⟨S16384x8x128, .f32⟩
  | .hbm, ⟨34, _⟩ => ⟨S_, .f32⟩
  | .hbm, ⟨35, _⟩ => ⟨S16384x8x128, .f32⟩
  | .hbm, ⟨36, _⟩ => ⟨S16384x8x128, .f32⟩
  | .hbm, ⟨37, _⟩ => ⟨S16384x8x128, .f32⟩
  | .hbm, ⟨38, _⟩ => ⟨S16384x8x128, .f32⟩
  | .hbm, ⟨39, _⟩ => ⟨S16384x1024, .f32⟩
  | .hbm, ⟨40, _⟩ => ⟨S16384x1536, .f32⟩
  | .hbm, ⟨41, _⟩ => ⟨S16384x1536, .f32⟩
  | .hbm, ⟨42, _⟩ => ⟨S16384x4096, .f32⟩
  | .hbm, ⟨43, _⟩ => ⟨S16384x4096, .f32⟩
  | .hbm, ⟨44, _⟩ => ⟨S8192x4096, .f32⟩
  | .hbm, ⟨45, _⟩ => ⟨S1x8192x4096, .f32⟩
  | .hbm, ⟨46, _⟩ => ⟨S1x24576, .f32⟩
  | .hbm, ⟨47, _⟩ => ⟨S8192x4096, .f32⟩
  | .hbm, ⟨48, _⟩ => ⟨S1x8192x4096, .f32⟩
  | .hbm, ⟨49, _⟩ => ⟨S1x4096, .f32⟩
  | .hbm, ⟨50, _⟩ => ⟨S1x1x4096, .f32⟩
  | .hbm, ⟨51, _⟩ => ⟨S1x8192x4096, .f32⟩
  | .hbm, ⟨52, _⟩ => ⟨S1x8192x4096, .f32⟩
  | .hbm, ⟨53, _⟩ => ⟨S1x8192x4096, .f32⟩
  | .hbm, ⟨54, _⟩ => ⟨S8192x4096, .f32⟩
  | .hbm, ⟨55, _⟩ => ⟨S8192x4096, .f32⟩
  | .hbm, ⟨56, _⟩ => ⟨S2x4096x4096, .f32⟩
  | .hbm, ⟨57, _⟩ => ⟨S2x24576, .f32⟩
  | .hbm, ⟨58, _⟩ => ⟨S8192x4096, .f32⟩
  | .hbm, ⟨59, _⟩ => ⟨S2x4096x4096, .f32⟩
  | .hbm, ⟨60, _⟩ => ⟨S2x4096, .f32⟩
  | .hbm, ⟨61, _⟩ => ⟨S2x1x4096, .f32⟩
  | .hbm, ⟨62, _⟩ => ⟨S2x4096x4096, .f32⟩
  | .hbm, ⟨63, _⟩ => ⟨S2x4096x4096, .f32⟩
  | .hbm, ⟨64, _⟩ => ⟨S2x4096x4096, .f32⟩
  | .hbm, ⟨65, _⟩ => ⟨S8192x4096, .f32⟩
  | .hbm, ⟨66, _⟩ => ⟨S16384x4096, .f32⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== Kernel4.lean ====
abbrev S16384x12x192 : Shape := ⟨3, ![16384, 12, 192]⟩
abbrev S16384x12x128 : Shape := ⟨3, ![16384, 12, 128]⟩
abbrev S2x256x12x192 : Shape := ⟨4, ![2, 256, 12, 192]⟩
abbrev S2x256x12x128 : Shape := ⟨4, ![2, 256, 12, 128]⟩
abbrev S16384x1536 : Shape := ⟨2, ![16384, 1536]⟩
abbrev S_ : Shape := ⟨0, ![]⟩
abbrev S16384x12x256 : Shape := ⟨3, ![16384, 12, 256]⟩
abbrev S16384x3072 : Shape := ⟨2, ![16384, 3072]⟩
abbrev S512x12x192 : Shape := ⟨3, ![512, 12, 192]⟩
abbrev S512x12x256 : Shape := ⟨3, ![512, 12, 256]⟩
abbrev S512x3072 : Shape := ⟨2, ![512, 3072]⟩
abbrev S512x1536 : Shape := ⟨2, ![512, 1536]⟩
abbrev S512x256 : Shape := ⟨2, ![512, 256]⟩
abbrev S256x256 : Shape := ⟨2, ![256, 256]⟩
abbrev S256x128 : Shape := ⟨2, ![256, 128]⟩
abbrev S4096x256 : Shape := ⟨2, ![4096, 256]⟩
abbrev S4096x128 : Shape := ⟨2, ![4096, 128]⟩
abbrev S512x128 : Shape := ⟨2, ![512, 128]⟩
abbrev S17x512x256 : Shape := ⟨3, ![17, 512, 256]⟩
abbrev S1x512x256 : Shape := ⟨3, ![1, 512, 256]⟩
abbrev S512 : Shape := ⟨1, ![512]⟩
abbrev S512x1 : Shape := ⟨2, ![512, 1]⟩

abbrev nBuf : Space → Nat
  | .hbm => 36
  | .vmem => 16
  | .smem => 0
  | _ => 0

abbrev bufTy : (tb : Table) → Fin (tcTables nBuf tb) → BufTy
  | .hbm, ⟨0, _⟩ => ⟨S16384x12x192, .f32⟩
  | .hbm, ⟨1, _⟩ => ⟨S16384x12x192, .f32⟩
  | .hbm, ⟨2, _⟩ => ⟨S16384x12x128, .f32⟩
  | .hbm, ⟨3, _⟩ => ⟨S2x256x12x192, .f32⟩
  | .hbm, ⟨4, _⟩ => ⟨S2x256x12x128, .f32⟩
  | .hbm, ⟨5, _⟩ => ⟨S16384x1536, .bf16⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .i32⟩
  | .hbm, ⟨14, _⟩ => ⟨S_, .f32⟩
  | .hbm, ⟨15, _⟩ => ⟨S16384x12x256, .f32⟩
  | .hbm, ⟨16, _⟩ => ⟨S16384x3072, .f32⟩
  | .hbm, ⟨17, _⟩ => ⟨S16384x3072, .f32⟩
  | .hbm, ⟨18, _⟩ => ⟨S16384x3072, .f32⟩
  | .hbm, ⟨19, _⟩ => ⟨S16384x3072, .bf16⟩
  | .hbm, ⟨20, _⟩ => ⟨S512x12x192, .f32⟩
  | .hbm, ⟨21, _⟩ => ⟨S_, .i32⟩
  | .hbm, ⟨22, _⟩ => ⟨S_, .f32⟩
  | .hbm, ⟨23, _⟩ => ⟨S512x12x256, .f32⟩
  | .hbm, ⟨24, _⟩ => ⟨S512x3072, .f32⟩
  | .hbm, ⟨25, _⟩ => ⟨S512x3072, .bf16⟩
  | .hbm, ⟨26, _⟩ => ⟨S512x1536, .f32⟩
  | .hbm, ⟨27, _⟩ => ⟨S512x1536, .bf16⟩
  | .hbm, ⟨28, _⟩ => ⟨S_, .i32⟩
  | .hbm, ⟨29, _⟩ => ⟨S_, .f32⟩
  | .hbm, ⟨30, _⟩ => ⟨S16384x12x256, .f32⟩
  | .hbm, ⟨31, _⟩ => ⟨S16384x3072, .f32⟩
  | .hbm, ⟨32, _⟩ => ⟨S16384x3072, .bf16⟩
  | .hbm, ⟨33, _⟩ => ⟨S16384x1536, .f32⟩
  | .hbm, ⟨34, _⟩ => ⟨S16384x1536, .bf16⟩
  | .hbm, ⟨35, _⟩ => ⟨S16384x1536, .bf16⟩
  | .local _ .vmem, ⟨0, _⟩ => ⟨S512x256, .bf16⟩
  | .local _ .vmem, ⟨1, _⟩ => ⟨S512x256, .bf16⟩
  | .local _ .vmem, ⟨2, _⟩ => ⟨S256x256, .bf16⟩
  | .local _ .vmem, ⟨3, _⟩ => ⟨S256x256, .bf16⟩
  | .local _ .vmem, ⟨4, _⟩ => ⟨S256x128, .bf16⟩
  | .local _ .vmem, ⟨5, _⟩ => ⟨S256x128, .bf16⟩
  | .local _ .vmem, ⟨6, _⟩ => ⟨S4096x256, .bf16⟩
  | .local _ .vmem, ⟨7, _⟩ => ⟨S4096x256, .bf16⟩
  | .local _ .vmem, ⟨8, _⟩ => ⟨S4096x128, .bf16⟩
  | .local _ .vmem, ⟨9, _⟩ => ⟨S4096x128, .bf16⟩
  | .local _ .vmem, ⟨10, _⟩ => ⟨S512x128, .bf16⟩
  | .local _ .vmem, ⟨11, _⟩ => ⟨S512x128, .bf16⟩
  | .local _ .vmem, ⟨12, _⟩ => ⟨S17x512x256, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S16384x12x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_call1_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_call2_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 12, 8], ![false, false, false]⟩

@[reducible] def k0_t1_loop : Scf.Loop 32 :=
  let c0_i32 : BitVec 32 := 0#32
  let c2_i32 : BitVec 32 := 2#32
  let v20 : BitVec 32 := Scalar.addi c0_i32 c2_i32
  let c1_i32 : BitVec 32 := 1#32
  ⟨c0_i32, v20, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32 : BitVec 32 := 8#32
  let v69 : BitVec 32 := Scalar.muli arg14 c8_i32
  let c0_i32_48 : BitVec 32 := 0#32
  let v70 : BitVec 32 := Scalar.addi v69 c0_i32_48
  let c256_i32 : BitVec 32 := 256#32
  let v71 : BitVec 32 := Scalar.muli v70 c256_i32
  v71
def k0_off1 (k0_t1 : Fin k0_t1_loop.trips) (c0_i32_48 : BitVec 32) : Fin 2 → Nat :=
  let c0_i32 : BitVec 32 := 0#32
  let c1_i32 : BitVec 32 := 1#32
  let arg14 : BitVec 32 := Scf.iv c0_i32 c1_i32 k0_t1
  let c8_i32 : BitVec 32 := 8#32
  let v69 : BitVec 32 := Scalar.muli arg14 c8_i32
  let v70 : BitVec 32 := Scalar.addi v69 c0_i32_48
  let c256_i32 : BitVec 32 := 256#32
  let v71 : BitVec 32 := Scalar.muli v70 c256_i32
  let v72 : BitVec 32 := v71
  let v73 : Index := Scalar.indexCast v72
  let c0_49 : Index := 0#32
  ![v73.toNat, 0]
def k0_off2 (k0_t1 : Fin k0_t1_loop.trips) (c0_i32_48 : BitVec 32) : Fin 3 → Nat :=
  let c1_i32_51 : BitVec 32 := 1#32
  let c0_i32 : BitVec 32 := 0#32
  let c1_i32 : BitVec 32 := 1#32
  let arg14 : BitVec 32 := Scf.iv c0_i32 c1_i32 k0_t1
  let c8_i32 : BitVec 32 := 8#32
  let v69 : BitVec 32 := Scalar.muli arg14 c8_i32
  let v70 : BitVec 32 := Scalar.addi v69 c0_i32_48
  let v77 : BitVec 32 := Scalar.addi c1_i32_51 v70
  let v78 : Index := Scalar.indexCast v77
  let c0_52 : Index := 0#32
  let c0_53 : Index := 0#32
  ![v78.toNat, 0, 0]
def k0_mult2 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_58 : BitVec 32 := 8#32
  let v90 : BitVec 32 := Scalar.muli arg14 c8_i32_58
  let c1_i32_59 : BitVec 32 := 1#32
  let v91 : BitVec 32 := Scalar.addi v90 c1_i32_59
  let c256_i32_60 : BitVec 32 := 256#32
  let v92 : BitVec 32 := Scalar.muli v91 c256_i32_60
  v92
def k0_mult3 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_70 : BitVec 32 := 8#32
  let v111 : BitVec 32 := Scalar.muli arg14 c8_i32_70
  let c2_i32_71 : BitVec 32 := 2#32
  let v112 : BitVec 32 := Scalar.addi v111 c2_i32_71
  let c256_i32_72 : BitVec 32 := 256#32
  let v113 : BitVec 32 := Scalar.muli v112 c256_i32_72
  v113
def k0_mult4 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_82 : BitVec 32 := 8#32
  let v132 : BitVec 32 := Scalar.muli arg14 c8_i32_82
  let c3_i32 : BitVec 32 := 3#32
  let v133 : BitVec 32 := Scalar.addi v132 c3_i32
  let c256_i32_83 : BitVec 32 := 256#32
  let v134 : BitVec 32 := Scalar.muli v133 c256_i32_83
  v134
def k0_mult5 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_93 : BitVec 32 := 8#32
  let v153 : BitVec 32 := Scalar.muli arg14 c8_i32_93
  let c4_i32 : BitVec 32 := 4#32
  let v154 : BitVec 32 := Scalar.addi v153 c4_i32
  let c256_i32_94 : BitVec 32 := 256#32
  let v155 : BitVec 32 := Scalar.muli v154 c256_i32_94
  v155
def k0_mult6 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_104 : BitVec 32 := 8#32
  let v174 : BitVec 32 := Scalar.muli arg14 c8_i32_104
  let c5_i32 : BitVec 32 := 5#32
  let v175 : BitVec 32 := Scalar.addi v174 c5_i32
  let c256_i32_105 : BitVec 32 := 256#32
  let v176 : BitVec 32 := Scalar.muli v175 c256_i32_105
  v176
def k0_mult7 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_115 : BitVec 32 := 8#32
  let v195 : BitVec 32 := Scalar.muli arg14 c8_i32_115
  let c6_i32 : BitVec 32 := 6#32
  let v196 : BitVec 32 := Scalar.addi v195 c6_i32
  let c256_i32_116 : BitVec 32 := 256#32
  let v197 : BitVec 32 := Scalar.muli v196 c256_i32_116
  v197
def k0_mult8 (k0_t1 : Fin k0_t1_loop.trips) : BitVec 32 :=
  let c0_i32 : BitVec 32 := 0#32
  let c1_i32 : BitVec 32 := 1#32
  let arg14 : BitVec 32 := Scf.iv c0_i32 c1_i32 k0_t1
  let c8_i32_126 : BitVec 32 := 8#32
  let v216 : BitVec 32 := Scalar.muli arg14 c8_i32_126
  let c7_i32 : BitVec 32 := 7#32
  let v217 : BitVec 32 := Scalar.addi v216 c7_i32
  let c256_i32_127 : BitVec 32 := 256#32
  let v218 : BitVec 32 := Scalar.muli v217 c256_i32_127
  v218
@[reducible] def k0_t2_loop : Scf.Loop 32 :=
  let c0_i32_37 : BitVec 32 := 0#32
  let c2_i32_38 : BitVec 32 := 2#32
  let v60 : BitVec 32 := Scalar.addi c0_i32_37 c2_i32_38
  let c1_i32_39 : BitVec 32 := 1#32
  ⟨c0_i32_37, v60, c1_i32_39⟩
def k0_off3 (k0_t2 : Fin k0_t2_loop.trips) (c0_i32_48 : BitVec 32) : Fin 3 → Nat :=
  let c1_i32_49 : BitVec 32 := 1#32
  let c0_i32_37 : BitVec 32 := 0#32
  let c1_i32_39 : BitVec 32 := 1#32
  let arg14 : BitVec 32 := Scf.iv c0_i32_37 c1_i32_39 k0_t2
  let c8_i32 : BitVec 32 := 8#32
  let v69 : BitVec 32 := Scalar.muli arg14 c8_i32
  let v70 : BitVec 32 := Scalar.addi v69 c0_i32_48
  let v71 : BitVec 32 := Scalar.addi c1_i32_49 v70
  let v72 : Index := Scalar.indexCast v71
  let c0_50 : Index := 0#32
  let c0_51 : Index := 0#32
  ![v72.toNat, 0, 0]
def k0_mult9 (k0_t2 : Fin k0_t2_loop.trips) : BitVec 32 :=
  let c0_i32_37 : BitVec 32 := 0#32
  let c1_i32_39 : BitVec 32 := 1#32
  let arg14 : BitVec 32 := Scf.iv c0_i32_37 c1_i32_39 k0_t2
  let c8_i32 : BitVec 32 := 8#32
  let v69 : BitVec 32 := Scalar.muli arg14 c8_i32
  let c0_i32_48 : BitVec 32 := 0#32
  let v70 : BitVec 32 := Scalar.addi v69 c0_i32_48
  let c256_i32 : BitVec 32 := 256#32
  let v92 : BitVec 32 := Scalar.muli v70 c256_i32
  v92
def k0_off4 (k0_t2 : Fin k0_t2_loop.trips) (c0_i32_48 : BitVec 32) : Fin 2 → Nat :=
  let c0_i32_37 : BitVec 32 := 0#32
  let c1_i32_39 : BitVec 32 := 1#32
  let arg14 : BitVec 32 := Scf.iv c0_i32_37 c1_i32_39 k0_t2
  let c8_i32 : BitVec 32 := 8#32
  let v69 : BitVec 32 := Scalar.muli arg14 c8_i32
  let v70 : BitVec 32 := Scalar.addi v69 c0_i32_48
  let c256_i32 : BitVec 32 := 256#32
  let v92 : BitVec 32 := Scalar.muli v70 c256_i32
  let v93 : BitVec 32 := v92
  let v94 : Index := Scalar.indexCast v93
  let c0_58 : Index := 0#32
  ![v94.toNat, 0]
def k0_mult10 (k0_t2 : Fin k0_t2_loop.trips) : BitVec 32 :=
  let c0_i32_37 : BitVec 32 := 0#32
  let c1_i32_39 : BitVec 32 := 1#32
  let arg14 : BitVec 32 := Scf.iv c0_i32_37 c1_i32_39 k0_t2
  let c8_i32_62 : BitVec 32 := 8#32
  let v102 : BitVec 32 := Scalar.muli arg14 c8_i32_62
  let c1_i32_63 : BitVec 32 := 1#32
  let v103 : BitVec 32 := Scalar.addi v102 c1_i32_63
  let c256_i32_73 : BitVec 32 := 256#32
  let v125 : BitVec 32 := Scalar.muli v103 c256_i32_73
  v125
def k0_mult11 (k0_t2 : Fin k0_t2_loop.trips) : BitVec 32 :=
  let c0_i32_37 : BitVec 32 := 0#32
  let c1_i32_39 : BitVec 32 := 1#32
  let arg14 : BitVec 32 := Scf.iv c0_i32_37 c1_i32_39 k0_t2
  let c8_i32_78 : BitVec 32 := 8#32
  let v135 : BitVec 32 := Scalar.muli arg14 c8_i32_78
  let c2_i32_79 : BitVec 32 := 2#32
  let v136 : BitVec 32 := Scalar.addi v135 c2_i32_79
  let c256_i32_89 : BitVec 32 := 256#32
  let v158 : BitVec 32 := Scalar.muli v136 c256_i32_89
  v158
def k0_mult12 (k0_t2 : Fin k0_t2_loop.trips) : BitVec 32 :=
  let c0_i32_37 : BitVec 32 := 0#32
  let c1_i32_39 : BitVec 32 := 1#32
  let arg14 : BitVec 32 := Scf.iv c0_i32_37 c1_i32_39 k0_t2
  let c8_i32_94 : BitVec 32 := 8#32
  let v168 : BitVec 32 := Scalar.muli arg14 c8_i32_94
  let c3_i32 : BitVec 32 := 3#32
  let v169 : BitVec 32 := Scalar.addi v168 c3_i32
  let c256_i32_104 : BitVec 32 := 256#32
  let v191 : BitVec 32 := Scalar.muli v169 c256_i32_104
  v191
def k0_mult13 (k0_t2 : Fin k0_t2_loop.trips) : BitVec 32 :=
  let c0_i32_37 : BitVec 32 := 0#32
  let c1_i32_39 : BitVec 32 := 1#32
  let arg14 : BitVec 32 := Scf.iv c0_i32_37 c1_i32_39 k0_t2
  let c8_i32_109 : BitVec 32 := 8#32
  let v201 : BitVec 32 := Scalar.muli arg14 c8_i32_109
  let c4_i32 : BitVec 32 := 4#32
  let v202 : BitVec 32 := Scalar.addi v201 c4_i32
  let c256_i32_119 : BitVec 32 := 256#32
  let v224 : BitVec 32 := Scalar.muli v202 c256_i32_119
  v224
def k0_mult14 (k0_t2 : Fin k0_t2_loop.trips) : BitVec 32 :=
  let c0_i32_37 : BitVec 32 := 0#32
  let c1_i32_39 : BitVec 32 := 1#32
  let arg14 : BitVec 32 := Scf.iv c0_i32_37 c1_i32_39 k0_t2
  let c8_i32_124 : BitVec 32 := 8#32
  let v234 : BitVec 32 := Scalar.muli arg14 c8_i32_124
  let c5_i32 : BitVec 32 := 5#32
  let v235 : BitVec 32 := Scalar.addi v234 c5_i32
  let c256_i32_134 : BitVec 32 := 256#32
  let v257 : BitVec 32 := Scalar.muli v235 c256_i32_134
  v257
def k0_mult15 (k0_t2 : Fin k0_t2_loop.trips) : BitVec 32 :=
  let c0_i32_37 : BitVec 32 := 0#32
  let c1_i32_39 : BitVec 32 := 1#32
  let arg14 : BitVec 32 := Scf.iv c0_i32_37 c1_i32_39 k0_t2
  let c8_i32_139 : BitVec 32 := 8#32
  let v267 : BitVec 32 := Scalar.muli arg14 c8_i32_139
  let c6_i32 : BitVec 32 := 6#32
  let v268 : BitVec 32 := Scalar.addi v267 c6_i32
  let c256_i32_149 : BitVec 32 := 256#32
  let v290 : BitVec 32 := Scalar.muli v268 c256_i32_149
  v290
def k0_mult16 (k0_t2 : Fin k0_t2_loop.trips) : BitVec 32 :=
  let c0_i32_37 : BitVec 32 := 0#32
  let c1_i32_39 : BitVec 32 := 1#32
  let arg14 : BitVec 32 := Scf.iv c0_i32_37 c1_i32_39 k0_t2
  let c8_i32_154 : BitVec 32 := 8#32
  let v300 : BitVec 32 := Scalar.muli arg14 c8_i32_154
  let c7_i32 : BitVec 32 := 7#32
  let v301 : BitVec 32 := Scalar.addi v300 c7_i32
  let c256_i32_164 : BitVec 32 := 256#32
  let v323 : BitVec 32 := Scalar.muli v301 c256_i32_164
  v323
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c16_i32 : BitVec 32 := 16#32
  let v1 : BitVec 32 := Scalar.addi c16_i32 v0
  let v2 : BitVec 32 := Scalar.addi v1 arg2
  let c0_i32 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![v0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c16_i32 : BitVec 32 := 16#32
  let v1 : BitVec 32 := Scalar.addi c16_i32 v0
  let v2 : BitVec 32 := Scalar.addi v1 arg2
  let c0_i32 : BitVec 32 := 0#32
  ![v2.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference4Ideal.lean ====
abbrev S16384x12x192 : Shape := ⟨3, ![16384, 12, 192]⟩
abbrev S16384x12x128 : Shape := ⟨3, ![16384, 12, 128]⟩
abbrev S2x256x12x192 : Shape := ⟨4, ![2, 256, 12, 192]⟩
abbrev S2x256x12x128 : Shape := ⟨4, ![2, 256, 12, 128]⟩
abbrev S16384x1536 : Shape := ⟨2, ![16384, 1536]⟩
abbrev S8192x12x192 : Shape := ⟨3, ![8192, 12, 192]⟩
abbrev S2x4096x12x1x192 : Shape := ⟨5, ![2, 4096, 12, 1, 192]⟩
abbrev S2x4096x12x192 : Shape := ⟨4, ![2, 4096, 12, 192]⟩
abbrev S2x4352x12x192 : Shape := ⟨4, ![2, 4352, 12, 192]⟩
abbrev S8192x12x128 : Shape := ⟨3, ![8192, 12, 128]⟩
abbrev S2x4096x12x128 : Shape := ⟨4, ![2, 4096, 12, 128]⟩
abbrev S2x4352x12x128 : Shape := ⟨4, ![2, 4352, 12, 128]⟩
abbrev S2x12x4352x4096x1 : Shape := ⟨5, ![2, 12, 4352, 4096, 1]⟩
abbrev S2x12x1x4096x4352 : Shape := ⟨5, ![2, 12, 1, 4096, 4352]⟩
abbrev S_ : Shape := ⟨0, ![]⟩
abbrev S2x12x1x4096 : Shape := ⟨4, ![2, 12, 1, 4096]⟩
abbrev S2x12x1x4096x1 : Shape := ⟨5, ![2, 12, 1, 4096, 1]⟩
abbrev S2x12x128x1x4096 : Shape := ⟨5, ![2, 12, 128, 1, 4096]⟩
abbrev S2x4096x12x1x128 : Shape := ⟨5, ![2, 4096, 12, 1, 128]⟩
abbrev S8192x1536 : Shape := ⟨2, ![8192, 1536]⟩

abbrev nBuf : Space → Nat
  | .hbm => 41
  | .vmem => 0
  | .smem => 0
  | _ => 0

abbrev bufTy : (tb : Table) → Fin (tcTables nBuf tb) → BufTy
  | .hbm, ⟨0, _⟩ => ⟨S16384x12x192, .f32⟩
  | .hbm, ⟨1, _⟩ => ⟨S16384x12x192, .f32⟩
  | .hbm, ⟨2, _⟩ => ⟨S16384x12x128, .f32⟩
  | .hbm, ⟨3, _⟩ => ⟨S2x256x12x192, .f32⟩
  | .hbm, ⟨4, _⟩ => ⟨S2x256x12x128, .f32⟩
  | .hbm, ⟨5, _⟩ => ⟨S16384x1536, .bf16⟩
  | .hbm, ⟨6, _⟩ => ⟨S8192x12x192, .f32⟩
  | .hbm, ⟨7, _⟩ => ⟨S2x4096x12x1x192, .f32⟩
  | .hbm, ⟨8, _⟩ => ⟨S8192x12x192, .f32⟩
  | .hbm, ⟨9, _⟩ => ⟨S2x4096x12x192, .f32⟩
  | .hbm, ⟨10, _⟩ => ⟨S2x4352x12x192, .f32⟩
  | .hbm, ⟨11, _⟩ => ⟨S8192x12x128, .f32⟩
  | .hbm, ⟨12, _⟩ => ⟨S2x4096x12x128, .f32⟩
  | .hbm, ⟨13, _⟩ => ⟨S2x4352x12x128, .f32⟩
  | .hbm, ⟨14, _⟩ => ⟨S2x12x4352x4096x1, .f32⟩
  | .hbm, ⟨15, _⟩ => ⟨S2x12x1x4096x4352, .f32⟩
  | .hbm, ⟨16, _⟩ => ⟨S_, .f32⟩
  | .hbm, ⟨17, _⟩ => ⟨S_, .f32⟩
  | .hbm, ⟨18, _⟩ => ⟨S2x12x1x4096x4352, .f32⟩
  | .hbm, ⟨19, _⟩ => ⟨S2x12x1x4096x4352, .f32⟩
  | .hbm, ⟨20, _⟩ => ⟨S_, .f32⟩
  | .hbm, ⟨21, _⟩ => ⟨S2x12x1x4096, .f32⟩
  | .hbm, ⟨22, _⟩ => ⟨S_, .f32⟩
  | .hbm, ⟨23, _⟩ => ⟨S2x12x1x4096, .f32⟩
  | .hbm, ⟨24, _⟩ => ⟨S2x12x1x4096, .f32⟩
  | .hbm, ⟨25, _⟩ => ⟨S2x12x1x4096x1, .f32⟩
  | .hbm, ⟨26, _⟩ => ⟨S2x12x1x4096x4352, .f32⟩
  | .hbm, ⟨27, _⟩ => ⟨S2x12x1x4096x4352, .f32⟩
  | .hbm, ⟨28, _⟩ => ⟨S2x12x1x4096x4352, .f32⟩
  | .hbm, ⟨29, _⟩ => ⟨S_, .f32⟩
  | .hbm, ⟨30, _⟩ => ⟨S2x12x1x4096, .f32⟩
  | .hbm, ⟨31, _⟩ => ⟨S2x12x1x4096x1, .f32⟩
  | .hbm, ⟨32, _⟩ => ⟨S2x12x1x4096x4352, .f32⟩
  | .hbm, ⟨33, _⟩ => ⟨S2x12x1x4096x4352, .f32⟩
  | .hbm, ⟨34, _⟩ => ⟨S2x12x128x1x4096, .f32⟩
  | .hbm, ⟨35, _⟩ => ⟨S2x4096x12x1x128, .f32⟩
  | .hbm, ⟨36, _⟩ => ⟨S16384x1536, .f32⟩
  | .hbm, ⟨37, _⟩ => ⟨S8192x1536, .f32⟩
  | .hbm, ⟨38, _⟩ => ⟨S8192x1536, .f32⟩
  | .hbm, ⟨39, _⟩ => ⟨S16384x1536, .f32⟩
  | .hbm, ⟨40, _⟩ => ⟨S16384x1536, .bf16⟩
  | _, _ => ⟨S16384x12x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel5.lean ====
abbrev S16384x8192 : Shape := ⟨2, ![16384, 8192]⟩
abbrev S512 : Shape := ⟨1, ![512]⟩
abbrev S512x3072 : Shape := ⟨2, ![512, 3072]⟩
abbrev S192 : Shape := ⟨1, ![192]⟩
abbrev S16 : Shape := ⟨1, ![16]⟩
abbrev S64 : Shape := ⟨1, ![64]⟩
abbrev S64x1 : Shape := ⟨2, ![64, 1]⟩
abbrev S1x16 : Shape := ⟨2, ![1, 16]⟩
abbrev S64x16 : Shape := ⟨2, ![64, 16]⟩
abbrev S64x1x16 : Shape := ⟨3, ![64, 1, 16]⟩
abbrev S64x64x16 : Shape := ⟨3, ![64, 64, 16]⟩
abbrev S4096x16 : Shape := ⟨2, ![4096, 16]⟩
abbrev S1x64x16 : Shape := ⟨3, ![1, 64, 16]⟩
abbrev S4096x64 : Shape := ⟨2, ![4096, 64]⟩
abbrev S_ : Shape := ⟨0, ![]⟩
abbrev S8192x64 : Shape := ⟨2, ![8192, 64]⟩
abbrev S16384x64 : Shape := ⟨2, ![16384, 64]⟩
abbrev S16384x128 : Shape := ⟨2, ![16384, 128]⟩
abbrev S512x12x256 : Shape := ⟨3, ![512, 12, 256]⟩
abbrev S512x12x128 : Shape := ⟨3, ![512, 12, 128]⟩
abbrev S512x1536 : Shape := ⟨2, ![512, 1536]⟩
abbrev S256 : Shape := ⟨1, ![256]⟩
abbrev S1x512 : Shape := ⟨2, ![1, 512]⟩
abbrev S1x256 : Shape := ⟨2, ![1, 256]⟩
abbrev S16384x512 : Shape := ⟨2, ![16384, 512]⟩
abbrev S16384x3072 : Shape := ⟨2, ![16384, 3072]⟩
abbrev S16384x1536 : Shape := ⟨2, ![16384, 1536]⟩
abbrev S512x512 : Shape := ⟨2, ![512, 512]⟩
abbrev S512x128 : Shape := ⟨2, ![512, 128]⟩
abbrev S512x1 : Shape := ⟨2, ![512, 1]⟩
abbrev S1x128 : Shape := ⟨2, ![1, 128]⟩

abbrev nBuf : Space → Nat
  | .hbm => 57
  | .vmem => 17
  | .smem => 0
  | _ => 0

abbrev bufTy : (tb : Table) → Fin (tcTables nBuf tb) → BufTy
  | .hbm, ⟨0, _⟩ => ⟨S16384x8192, .f32⟩
  | .hbm, ⟨1, _⟩ => ⟨S512, .f32⟩
  | .hbm, ⟨2, _⟩ => ⟨S512x3072, .f32⟩
  | .hbm, ⟨3, _⟩ => ⟨S192, .f32⟩
  | .hbm, ⟨4, _⟩ => ⟨S16, .f32⟩
  | .hbm, ⟨5, _⟩ => ⟨S64, .i32⟩
  | .hbm, ⟨6, _⟩ => ⟨S64, .f32⟩
  | .hbm, ⟨7, _⟩ => ⟨S64x1, .f32⟩
  | .hbm, ⟨8, _⟩ => ⟨S1x16, .f32⟩
  | .hbm, ⟨9, _⟩ => ⟨S64x16, .f32⟩
  | .hbm, ⟨10, _⟩ => ⟨S64x16, .f32⟩
  | .hbm, ⟨11, _⟩ => ⟨S64x16, .f32⟩
  | .hbm, ⟨12, _⟩ => ⟨S64x1x16, .f32⟩
  | .hbm, ⟨13, _⟩ => ⟨S64x64x16, .f32⟩
  | .hbm, ⟨14, _⟩ => ⟨S4096x16, .f32⟩
  | .hbm, ⟨15, _⟩ => ⟨S1x64x16, .f32⟩
  | .hbm, ⟨16, _⟩ => ⟨S64x64x16, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S4096x16, .f32⟩
  | .hbm, ⟨21, _⟩ => ⟨S4096x16, .f32⟩
  | .hbm, ⟨22, _⟩ => ⟨S4096x64, .f32⟩
  | .hbm, ⟨23, _⟩ => ⟨S4096x16, .f32⟩
  | .hbm, ⟨24, _⟩ => ⟨S4096x16, .f32⟩
  | .hbm, ⟨25, _⟩ => ⟨S4096x16, .f32⟩
  | .hbm, ⟨26, _⟩ => ⟨S4096x16, .f32⟩
  | .hbm, ⟨27, _⟩ => ⟨S4096x16, .f32⟩
  | .hbm, ⟨28, _⟩ => ⟨S4096x16, .f32⟩
  | .hbm, ⟨29, _⟩ => ⟨S4096x64, .f32⟩
  | .hbm, ⟨30, _⟩ => ⟨S_, .f32⟩
  | .hbm, ⟨31, _⟩ => ⟨S8192x64, .f32⟩
  | .hbm, ⟨32, _⟩ => ⟨S16384x64, .f32⟩
  | .hbm, ⟨33, _⟩ => ⟨S_, .f32⟩
  | .hbm, ⟨34, _⟩ => ⟨S8192x64, .f32⟩
  | .hbm, ⟨35, _⟩ => ⟨S16384x64, .f32⟩
  | .hbm, ⟨36, _⟩ => ⟨S_, .f32⟩
  | .hbm, ⟨37, _⟩ => ⟨S_, .f32⟩
  | .hbm, ⟨38, _⟩ => ⟨S16384x128, .f32⟩
  | .hbm, ⟨39, _⟩ => ⟨S_, .i32⟩
  | .hbm, ⟨40, _⟩ => ⟨S_, .f32⟩
  | .hbm, ⟨41, _⟩ => ⟨S16384x128, .f32⟩
  | .hbm, ⟨42, _⟩ => ⟨S512x12x256, .f32⟩
  | .hbm, ⟨43, _⟩ => ⟨S512x12x128, .f32⟩
  | .hbm, ⟨44, _⟩ => ⟨S512x1536, .f32⟩
  | .hbm, ⟨45, _⟩ => ⟨S512x12x128, .f32⟩
  | .hbm, ⟨46, _⟩ => ⟨S512x1536, .f32⟩
  | .hbm, ⟨47, _⟩ => ⟨S512x3072, .f32⟩
  | .hbm, ⟨48, _⟩ => ⟨S512x3072, .bf16⟩
  | .hbm, ⟨49, _⟩ => ⟨S_, .i32⟩
  | .hbm, ⟨50, _⟩ => ⟨S_, .f32⟩
  | .hbm, ⟨51, _⟩ => ⟨S256, .f32⟩
  | .hbm, ⟨52, _⟩ => ⟨S1x512, .f32⟩
  | .hbm, ⟨53, _⟩ => ⟨S1x256, .f32⟩
  | .hbm, ⟨54, _⟩ => ⟨S16384x512, .f32⟩
  | .hbm, ⟨55, _⟩ => ⟨S16384x3072, .bf16⟩
  | .hbm, ⟨56, _⟩ => ⟨S16384x1536, .bf16⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S1x512, .f32⟩
  | .local _ .vmem, ⟨5, _⟩ => ⟨S512x3072, .bf16⟩
  | .local _ .vmem, ⟨6, _⟩ => ⟨S1x256, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x512, .f32⟩
  | .local _ .vmem, ⟨12, _⟩ => ⟨S512x512, .f32⟩
  | .local _ .vmem, ⟨13, _⟩ => ⟨S512x3072, .bf16⟩
  | .local _ .vmem, ⟨14, _⟩ => ⟨S512x3072, .bf16⟩
  | .local _ .vmem, ⟨15, _⟩ => ⟨S512x1536, .bf16⟩
  | .local _ .vmem, ⟨16, _⟩ => ⟨S512x1536, .bf16⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_call0_v0 : Ref sig .tc := ⟨.hbm, 37, rfl⟩
abbrev main_v29 : Ref sig .tc := ⟨.hbm, 38, rfl⟩
abbrev main_c : Ref sig .tc := ⟨.hbm, 39, rfl⟩
abbrev main_call1_v0 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_3 : Ref sig .tc := ⟨.hbm, 49, rfl⟩
abbrev main_call2_v0 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41_0 : Ref sig .tc := ⟨.hbm, 54, rfl⟩
abbrev main_v41_1 : Ref sig .tc := ⟨.hbm, 55, rfl⟩
abbrev main_v41_2 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c54_i32 : BitVec 32 := 54#32
  let c0_i32 : BitVec 32 := 0#32
  ![arg0.toNat, c54_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S16384x8192 : Shape := ⟨2, ![16384, 8192]⟩
abbrev S512 : Shape := ⟨1, ![512]⟩
abbrev S512x3072 : Shape := ⟨2, ![512, 3072]⟩
abbrev S192 : Shape := ⟨1, ![192]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S16384x3072 : Shape := ⟨2, ![16384, 3072]⟩
abbrev S16384x12x256 : Shape := ⟨3, ![16384, 12, 256]⟩
abbrev S16384x12x128 : Shape := ⟨3, ![16384, 12, 128]⟩
abbrev S16384x1536 : Shape := ⟨2, ![16384, 1536]⟩

abbrev nBuf : Space → Nat
  | .hbm => 26
  | .vmem => 0
  | .smem => 0
  | _ => 0

abbrev bufTy : (tb : Table) → Fin (tcTables nBuf tb) → BufTy
  | .hbm, ⟨0, _⟩ => ⟨S16384x8192, .f32⟩
  | .hbm, ⟨1, _⟩ => ⟨S512, .f32⟩
  | .hbm, ⟨2, _⟩ => ⟨S512x3072, .f32⟩
  | .hbm, ⟨3, _⟩ => ⟨S192, .f32⟩
  | .hbm, ⟨4, _⟩ => ⟨S16384x512, .f32⟩
  | .hbm, ⟨5, _⟩ => ⟨S16384x512, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x512, .f32⟩
  | .hbm, ⟨17, _⟩ => ⟨S16384x512, .f32⟩
  | .hbm, ⟨18, _⟩ => ⟨S1x512, .f32⟩
  | .hbm, ⟨19, _⟩ => ⟨S16384x512, .f32⟩
  | .hbm, ⟨20, _⟩ => ⟨S16384x512, .f32⟩
  | .hbm, ⟨21, _⟩ => ⟨S16384x3072, .f32⟩
  | .hbm, ⟨22, _⟩ => ⟨S16384x12x256, .f32⟩
  | .hbm, ⟨23, _⟩ => ⟨S16384x12x128, .f32⟩
  | .hbm, ⟨24, _⟩ => ⟨S16384x1536, .f32⟩
  | .hbm, ⟨25, _⟩ => ⟨S16384x1536, .bf16⟩
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel6.lean ====
abbrev S16384x8192 : Shape := ⟨2, ![16384, 8192]⟩
abbrev S128 : Shape := ⟨1, ![128]⟩
abbrev S32 : Shape := ⟨1, ![32]⟩
abbrev S_ : Shape := ⟨0, ![]⟩
abbrev S64 : Shape := ⟨1, ![64]⟩
abbrev S64x1 : Shape := ⟨2, ![64, 1]⟩
abbrev S1x32 : Shape := ⟨2, ![1, 32]⟩
abbrev S64x32 : Shape := ⟨2, ![64, 32]⟩
abbrev S64x1x32 : Shape := ⟨3, ![64, 1, 32]⟩
abbrev S64x64x32 : Shape := ⟨3, ![64, 64, 32]⟩
abbrev S4096x32 : Shape := ⟨2, ![4096, 32]⟩
abbrev S1x64x32 : Shape := ⟨3, ![1, 64, 32]⟩
abbrev S4096x128 : Shape := ⟨2, ![4096, 128]⟩
abbrev S8192x128 : Shape := ⟨2, ![8192, 128]⟩
abbrev S16384x128 : Shape := ⟨2, ![16384, 128]⟩
abbrev S1x128 : Shape := ⟨2, ![1, 128]⟩
abbrev S16384x1536 : Shape := ⟨2, ![16384, 1536]⟩
abbrev S16384x512 : Shape := ⟨2, ![16384, 512]⟩
abbrev S512x1536 : Shape := ⟨2, ![512, 1536]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 48
  | .vmem => 20
  | .smem => 0
  | _ => 0

abbrev bufTy : (tb : Table) → Fin (tcTables nBuf tb) → BufTy
  | .hbm, ⟨0, _⟩ => ⟨S16384x8192, .f32⟩
  | .hbm, ⟨1, _⟩ => ⟨S128, .f32⟩
  | .hbm, ⟨2, _⟩ => ⟨S128, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S64, .i32⟩
  | .hbm, ⟨12, _⟩ => ⟨S64, .f32⟩
  | .hbm, ⟨13, _⟩ => ⟨S64x1, .f32⟩
  | .hbm, ⟨14, _⟩ => ⟨S1x32, .f32⟩
  | .hbm, ⟨15, _⟩ => ⟨S64x32, .f32⟩
  | .hbm, ⟨16, _⟩ => ⟨S64x32, .f32⟩
  | .hbm, ⟨17, _⟩ => ⟨S64x32, .f32⟩
  | .hbm, ⟨18, _⟩ => ⟨S64x1x32, .f32⟩
  | .hbm, ⟨19, _⟩ => ⟨S64x64x32, .f32⟩
  | .hbm, ⟨20, _⟩ => ⟨S4096x32, .f32⟩
  | .hbm, ⟨21, _⟩ => ⟨S1x64x32, .f32⟩
  | .hbm, ⟨22, _⟩ => ⟨S64x64x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x128, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S4096x32, .f32⟩
  | .hbm, ⟨34, _⟩ => ⟨S4096x32, .f32⟩
  | .hbm, ⟨35, _⟩ => ⟨S4096x128, .f32⟩
  | .hbm, ⟨36, _⟩ => ⟨S_, .f32⟩
  | .hbm, ⟨37, _⟩ => ⟨S8192x128, .f32⟩
  | .hbm, ⟨38, _⟩ => ⟨S16384x128, .f32⟩
  | .hbm, ⟨39, _⟩ => ⟨S_, .f32⟩
  | .hbm, ⟨40, _⟩ => ⟨S8192x128, .f32⟩
  | .hbm, ⟨41, _⟩ => ⟨S16384x128, .f32⟩
  | .hbm, ⟨42, _⟩ => ⟨S1x128, .f32⟩
  | .hbm, ⟨43, _⟩ => ⟨S1x128, .f32⟩
  | .hbm, ⟨44, _⟩ => ⟨S16384x1536, .bf16⟩
  | .hbm, ⟨45, _⟩ => ⟨S16384x512, .bf16⟩
  | .hbm, ⟨46, _⟩ => ⟨S16384x512, .f32⟩
  | .hbm, ⟨47, _⟩ => ⟨S16384x512, .bf16⟩
  | .local _ .vmem, ⟨0, _⟩ => ⟨S512x1536, .f32⟩
  | .local _ .vmem, ⟨1, _⟩ => ⟨S512x1536, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x128, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1536, .bf16⟩
  | .local _ .vmem, ⟨13, _⟩ => ⟨S512x1536, .bf16⟩
  | .local _ .vmem, ⟨14, _⟩ => ⟨S512x512, .bf16⟩
  | .local _ .vmem, ⟨15, _⟩ => ⟨S512x512, .bf16⟩
  | .local _ .vmem, ⟨16, _⟩ => ⟨S512x512, .f32⟩
  | .local _ .vmem, ⟨17, _⟩ => ⟨S512x512, .f32⟩
  | .local _ .vmem, ⟨18, _⟩ => ⟨S512x512, .bf16⟩
  | .local _ .vmem, ⟨19, _⟩ => ⟨S512x512, .bf16⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_1 : Ref sig .tc := ⟨.hbm, 36, rfl⟩
abbrev main_v31 : Ref sig .tc := ⟨.hbm, 37, rfl⟩
abbrev main_v32 : Ref sig .tc := ⟨.hbm, 38, rfl⟩
abbrev main_cst_2 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37_0 : Ref sig .tc := ⟨.hbm, 44, rfl⟩
abbrev main_v37_1 : Ref sig .tc := ⟨.hbm, 45, rfl⟩
abbrev main_v37_2 : Ref sig .tc := ⟨.hbm, 46, rfl⟩
abbrev main_v37_3 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_2 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S16384x8192 : Shape := ⟨2, ![16384, 8192]⟩
abbrev S128 : Shape := ⟨1, ![128]⟩
abbrev S16384x512 : Shape := ⟨2, ![16384, 512]⟩
abbrev S16384x4x128 : Shape := ⟨3, ![16384, 4, 128]⟩
abbrev S_ : Shape := ⟨0, ![]⟩
abbrev S16384x4 : Shape := ⟨2, ![16384, 4]⟩
abbrev S16384x4x1 : Shape := ⟨3, ![16384, 4, 1]⟩
abbrev S1x1x128 : Shape := ⟨3, ![1, 1, 128]⟩
abbrev S8192x4x128 : Shape := ⟨3, ![8192, 4, 128]⟩
abbrev S2x4096x4x128 : Shape := ⟨4, ![2, 4096, 4, 128]⟩
abbrev S64 : Shape := ⟨1, ![64]⟩
abbrev S64x1 : Shape := ⟨2, ![64, 1]⟩
abbrev S64x64 : Shape := ⟨2, ![64, 64]⟩
abbrev S4096 : Shape := ⟨1, ![4096]⟩
abbrev S1x64 : Shape := ⟨2, ![1, 64]⟩
abbrev S2x4096x4x64 : Shape := ⟨4, ![2, 4096, 4, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S2x4096x4x32 : Shape := ⟨4, ![2, 4096, 4, 32]⟩
abbrev S1x4096x1x32 : Shape := ⟨4, ![1, 4096, 1, 32]⟩

abbrev nBuf : Space → Nat
  | .hbm => 112
  | .vmem => 0
  | .smem => 0
  | _ => 0

abbrev bufTy : (tb : Table) → Fin (tcTables nBuf tb) → BufTy
  | .hbm, ⟨0, _⟩ => ⟨S16384x8192, .f32⟩
  | .hbm, ⟨1, _⟩ => ⟨S128, .f32⟩
  | .hbm, ⟨2, _⟩ => ⟨S128, .f32⟩
  | .hbm, ⟨3, _⟩ => ⟨S16384x512, .f32⟩
  | .hbm, ⟨4, _⟩ => ⟨S16384x4x128, .f32⟩
  | .hbm, ⟨5, _⟩ => ⟨S16384x4x128, .f32⟩
  | .hbm, ⟨6, _⟩ => ⟨S_, .f32⟩
  | .hbm, ⟨7, _⟩ => ⟨S16384x4, .f32⟩
  | .hbm, ⟨8, _⟩ => ⟨S16384x4x1, .f32⟩
  | .hbm, ⟨9, _⟩ => ⟨S_, .f32⟩
  | .hbm, ⟨10, _⟩ => ⟨S16384x4x1, .f32⟩
  | .hbm, ⟨11, _⟩ => ⟨S16384x4x1, .f32⟩
  | .hbm, ⟨12, _⟩ => ⟨S_, .f32⟩
  | .hbm, ⟨13, _⟩ => ⟨S16384x4x1, .f32⟩
  | .hbm, ⟨14, _⟩ => ⟨S16384x4x1, .f32⟩
  | .hbm, ⟨15, _⟩ => ⟨S16384x4x1, .f32⟩
  | .hbm, ⟨16, _⟩ => ⟨S16384x4x128, .f32⟩
  | .hbm, ⟨17, _⟩ => ⟨S16384x4x128, .f32⟩
  | .hbm, ⟨18, _⟩ => ⟨S1x1x128, .f32⟩
  | .hbm, ⟨19, _⟩ => ⟨S16384x4x128, .f32⟩
  | .hbm, ⟨20, _⟩ => ⟨S16384x4x128, .f32⟩
  | .hbm, ⟨21, _⟩ => ⟨S8192x4x128, .f32⟩
  | .hbm, ⟨22, _⟩ => ⟨S8192x4x128, .f32⟩
  | .hbm, ⟨23, _⟩ => ⟨S2x4096x4x128, .f32⟩
  | .hbm, ⟨24, _⟩ => ⟨S64, .i32⟩
  | .hbm, ⟨25, _⟩ => ⟨S64x1, .i32⟩
  | .hbm, ⟨26, _⟩ => ⟨S64x64, .i32⟩
  | .hbm, ⟨27, _⟩ => ⟨S4096, .i32⟩
  | .hbm, ⟨28, _⟩ => ⟨S64, .i32⟩
  | .hbm, ⟨29, _⟩ => ⟨S1x64, .i32⟩
  | .hbm, ⟨30, _⟩ => ⟨S64x64, .i32⟩
  | .hbm, ⟨31, _⟩ => ⟨S4096, .i32⟩
  | .hbm, ⟨32, _⟩ => ⟨S2x4096x4x64, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S4096, .f32⟩
  | .hbm, ⟨42, _⟩ => ⟨S4096x1, .f32⟩
  | .hbm, ⟨43, _⟩ => ⟨S1x32, .f32⟩
  | .hbm, ⟨44, _⟩ => ⟨S4096x32, .f32⟩
  | .hbm, ⟨45, _⟩ => ⟨S4096x32, .f32⟩
  | .hbm, ⟨46, _⟩ => ⟨S4096x32, .f32⟩
  | .hbm, ⟨47, _⟩ => ⟨S4096x32, .f32⟩
  | .hbm, ⟨48, _⟩ => ⟨S4096x1x32, .f32⟩
  | .hbm, ⟨49, _⟩ => ⟨S4096x32, .f32⟩
  | .hbm, ⟨50, _⟩ => ⟨S4096x1x32, .f32⟩
  | .hbm, ⟨51, _⟩ => ⟨S2x4096x4x32, .f32⟩
  | .hbm, ⟨52, _⟩ => ⟨S2x4096x4x32, .f32⟩
  | .hbm, ⟨53, _⟩ => ⟨S1x4096x1x32, .f32⟩
  | .hbm, ⟨54, _⟩ => ⟨S2x4096x4x32, .f32⟩
  | .hbm, ⟨55, _⟩ => ⟨S2x4096x4x32, .f32⟩
  | .hbm, ⟨56, _⟩ => ⟨S1x4096x1x32, .f32⟩
  | .hbm, ⟨57, _⟩ => ⟨S2x4096x4x32, .f32⟩
  | .hbm, ⟨58, _⟩ => ⟨S2x4096x4x32, .f32⟩
  | .hbm, ⟨59, _⟩ => ⟨S2x4096x4x32, .f32⟩
  | .hbm, ⟨60, _⟩ => ⟨S1x4096x1x32, .f32⟩
  | .hbm, ⟨61, _⟩ => ⟨S2x4096x4x32, .f32⟩
  | .hbm, ⟨62, _⟩ => ⟨S2x4096x4x32, .f32⟩
  | .hbm, ⟨63, _⟩ => ⟨S1x4096x1x32, .f32⟩
  | .hbm, ⟨64, _⟩ => ⟨S2x4096x4x32, .f32⟩
  | .hbm, ⟨65, _⟩ => ⟨S2x4096x4x32, .f32⟩
  | .hbm, ⟨66, _⟩ => ⟨S2x4096x4x32, .f32⟩
  | .hbm, ⟨67, _⟩ => ⟨S2x4096x4x64, .f32⟩
  | .hbm, ⟨68, _⟩ => ⟨S2x4096x4x64, .f32⟩
  | .hbm, ⟨69, _⟩ => ⟨S32, .f32⟩
  | .hbm, ⟨70, _⟩ => ⟨S32, .f32⟩
  | .hbm, ⟨71, _⟩ => ⟨S_, .f32⟩
  | .hbm, ⟨72, _⟩ => ⟨S32, .f32⟩
  | .hbm, ⟨73, _⟩ => ⟨S32, .f32⟩
  | .hbm, ⟨74, _⟩ => ⟨S_, .f32⟩
  | .hbm, ⟨75, _⟩ => ⟨S32, .f32⟩
  | .hbm, ⟨76, _⟩ => ⟨S32, .f32⟩
  | .hbm, ⟨77, _⟩ => ⟨S4096, .f32⟩
  | .hbm, ⟨78, _⟩ => ⟨S4096x1, .f32⟩
  | .hbm, ⟨79, _⟩ => ⟨S1x32, .f32⟩
  | .hbm, ⟨80, _⟩ => ⟨S4096x32, .f32⟩
  | .hbm, ⟨81, _⟩ => ⟨S4096x32, .f32⟩
  | .hbm, ⟨82, _⟩ => ⟨S4096x32, .f32⟩
  | .hbm, ⟨83, _⟩ => ⟨S4096x32, .f32⟩
  | .hbm, ⟨84, _⟩ => ⟨S4096x1x32, .f32⟩
  | .hbm, ⟨85, _⟩ => ⟨S4096x32, .f32⟩
  | .hbm, ⟨86, _⟩ => ⟨S4096x1x32, .f32⟩
  | .hbm, ⟨87, _⟩ => ⟨S2x4096x4x32, .f32⟩
  | .hbm, ⟨88, _⟩ => ⟨S2x4096x4x32, .f32⟩
  | .hbm, ⟨89, _⟩ => ⟨S1x4096x1x32, .f32⟩
  | .hbm, ⟨90, _⟩ => ⟨S2x4096x4x32, .f32⟩
  | .hbm, ⟨91, _⟩ => ⟨S2x4096x4x32, .f32⟩
  | .hbm, ⟨92, _⟩ => ⟨S1x4096x1x32, .f32⟩
  | .hbm, ⟨93, _⟩ => ⟨S2x4096x4x32, .f32⟩
  | .hbm, ⟨94, _⟩ => ⟨S2x4096x4x32, .f32⟩
  | .hbm, ⟨95, _⟩ => ⟨S2x4096x4x32, .f32⟩
  | .hbm, ⟨96, _⟩ => ⟨S1x4096x1x32, .f32⟩
  | .hbm, ⟨97, _⟩ => ⟨S2x4096x4x32, .f32⟩
  | .hbm, ⟨98, _⟩ => ⟨S2x4096x4x32, .f32⟩
  | .hbm, ⟨99, _⟩ => ⟨S1x4096x1x32, .f32⟩
  | .hbm, ⟨100, _⟩ => ⟨S2x4096x4x32, .f32⟩
  | .hbm, ⟨101, _⟩ => ⟨S2x4096x4x32, .f32⟩
  | .hbm, ⟨102, _⟩ => ⟨S2x4096x4x32, .f32⟩
  | .hbm, ⟨103, _⟩ => ⟨S2x4096x4x64, .f32⟩
  | .hbm, ⟨104, _⟩ => ⟨S2x4096x4x128, .f32⟩
  | .hbm, ⟨105, _⟩ => ⟨S8192x4x128, .f32⟩
  | .hbm, ⟨106, _⟩ => ⟨S16384x4x128, .f32⟩
  | .hbm, ⟨107, _⟩ => ⟨S16384x512, .f32⟩
  | .hbm, ⟨108, _⟩ => ⟨S16384x512, .bf16⟩
  | .hbm, ⟨109, _⟩ => ⟨S16384x512, .f32⟩
  | .hbm, ⟨110, _⟩ => ⟨S16384x512, .f32⟩
  | .hbm, ⟨111, _⟩ => ⟨S16384x512, .bf16⟩
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_cst_4 : Ref sig .tc := ⟨.hbm, 71, rfl⟩
abbrev main_v63 : Ref sig .tc := ⟨.hbm, 72, rfl⟩
abbrev main_v64 : Ref sig .tc := ⟨.hbm, 73, rfl⟩
abbrev main_cst_5 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩

abbrev nD : Nat := 1
abbrev τ : Topo := Topo.v7x

variable {F : FTy → Type} [FloatOps F]
-- ==== Kernel7.lean ====
abbrev S2x4096 : Shape := ⟨2, ![2, 4096]⟩
abbrev S4096 : Shape := ⟨1, ![4096]⟩
abbrev S2x4096x24576 : Shape := ⟨3, ![2, 4096, 24576]⟩
abbrev S2x24576 : Shape := ⟨2, ![2, 24576]⟩
abbrev S_ : Shape := ⟨0, ![]⟩
abbrev S8x4096 : Shape := ⟨2, ![8, 4096]⟩
abbrev S1 : Shape := ⟨1, ![1]⟩
abbrev S2x1x24576 : Shape := ⟨3, ![2, 1, 24576]⟩
abbrev S8x24576 : Shape := ⟨2, ![8, 24576]⟩
abbrev S1x4096x512 : Shape := ⟨3, ![1, 4096, 512]⟩
abbrev S1x1x512 : Shape := ⟨3, ![1, 1, 512]⟩
abbrev S8x512 : Shape := ⟨2, ![8, 512]⟩
abbrev S4096x512 : Shape := ⟨2, ![4096, 512]⟩
abbrev S1x512 : Shape := ⟨2, ![1, 512]⟩

abbrev nBuf : Space → Nat
  | .hbm => 14
  | .vmem => 7
  | .smem => 0
  | _ => 0

abbrev bufTy : (tb : Table) → Fin (tcTables nBuf tb) → BufTy
  | .hbm, ⟨0, _⟩ => ⟨S2x4096, .f32⟩
  | .hbm, ⟨1, _⟩ => ⟨S4096, .f32⟩
  | .hbm, ⟨2, _⟩ => ⟨S2x4096x24576, .f32⟩
  | .hbm, ⟨3, _⟩ => ⟨S2x24576, .f32⟩
  | .hbm, ⟨4, _⟩ => ⟨S_, .f32⟩
  | .hbm, ⟨5, _⟩ => ⟨S8x4096, .f32⟩
  | .hbm, ⟨6, _⟩ => ⟨S_, .i32⟩
  | .hbm, ⟨7, _⟩ => ⟨S1, .i32⟩
  | .hbm, ⟨8, _⟩ => ⟨S8x4096, .f32⟩
  | .hbm, ⟨9, _⟩ => ⟨S_, .i32⟩
  | .hbm, ⟨10, _⟩ => ⟨S1, .i32⟩
  | .hbm, ⟨11, _⟩ => ⟨S8x4096, .f32⟩
  | .hbm, ⟨12, _⟩ => ⟨S2x1x24576, .f32⟩
  | .hbm, ⟨13, _⟩ => ⟨S8x24576, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S8x512, .f32⟩
  | .local _ .vmem, ⟨6, _⟩ => ⟨S8x512, .f32⟩
  | _, _ => ⟨S2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S2x4096 : Shape := ⟨2, ![2, 4096]⟩
abbrev S4096 : Shape := ⟨1, ![4096]⟩
abbrev S2x4096x24576 : Shape := ⟨3, ![2, 4096, 24576]⟩
abbrev S2x24576 : Shape := ⟨2, ![2, 24576]⟩
abbrev S1x4096 : Shape := ⟨2, ![1, 4096]⟩
abbrev S_ : Shape := ⟨0, ![]⟩
abbrev S5x4096 : Shape := ⟨2, ![5, 4096]⟩
abbrev S8x4096 : Shape := ⟨2, ![8, 4096]⟩
abbrev S1x4096x24576 : Shape := ⟨3, ![1, 4096, 24576]⟩
abbrev S4096x24576 : Shape := ⟨2, ![4096, 24576]⟩
abbrev S8x24576 : Shape := ⟨2, ![8, 24576]⟩
abbrev S1x24576 : Shape := ⟨2, ![1, 24576]⟩
abbrev S24576 : Shape := ⟨1, ![24576]⟩

abbrev nBuf : Space → Nat
  | .hbm => 25
  | .vmem => 0
  | .smem => 0
  | _ => 0

abbrev bufTy : (tb : Table) → Fin (tcTables nBuf tb) → BufTy
  | .hbm, ⟨0, _⟩ => ⟨S2x4096, .f32⟩
  | .hbm, ⟨1, _⟩ => ⟨S4096, .f32⟩
  | .hbm, ⟨2, _⟩ => ⟨S2x4096x24576, .f32⟩
  | .hbm, ⟨3, _⟩ => ⟨S2x24576, .f32⟩
  | .hbm, ⟨4, _⟩ => ⟨S1x4096, .f32⟩
  | .hbm, ⟨5, _⟩ => ⟨S_, .f32⟩
  | .hbm, ⟨6, _⟩ => ⟨S5x4096, .f32⟩
  | .hbm, ⟨7, _⟩ => ⟨S8x4096, .f32⟩
  | .hbm, ⟨8, _⟩ => ⟨S8x4096, .f32⟩
  | .hbm, ⟨9, _⟩ => ⟨S8x4096, .f32⟩
  | .hbm, ⟨10, _⟩ => ⟨S_, .f32⟩
  | .hbm, ⟨11, _⟩ => ⟨S8x4096, .f32⟩
  | .hbm, ⟨12, _⟩ => ⟨S8x4096, .f32⟩
  | .hbm, ⟨13, _⟩ => ⟨S_, .f32⟩
  | .hbm, ⟨14, _⟩ => ⟨S8x4096, .f32⟩
  | .hbm, ⟨15, _⟩ => ⟨S8x4096, .f32⟩
  | .hbm, ⟨16, _⟩ => ⟨S8x4096, .f32⟩
  | .hbm, ⟨17, _⟩ => ⟨S1x4096x24576, .f32⟩
  | .hbm, ⟨18, _⟩ => ⟨S4096x24576, .f32⟩
  | .hbm, ⟨19, _⟩ => ⟨S8x24576, .f32⟩
  | .hbm, ⟨20, _⟩ => ⟨S1x24576, .f32⟩
  | .hbm, ⟨21, _⟩ => ⟨S24576, .f32⟩
  | .hbm, ⟨22, _⟩ => ⟨S1x24576, .f32⟩
  | .hbm, ⟨23, _⟩ => ⟨S8x24576, .f32⟩
  | .hbm, ⟨24, _⟩ => ⟨S8x24576, .f32⟩
  | _, _ => ⟨S2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩

abbrev nD : Nat := 1
abbrev τ : Topo := Topo.v7x

variable {F : FTy → Type} [FloatOps F]
-- ==== Proof.Attn.Chunks.lean ====
module

public import proofs.«01_k».proof.Proof.Gen.KernelIdeal.Skeleton
public import Idealize.ShloMosaic.Lib.Exec
public import Idealize.ShloMosaic.Lib.Tactic
public import Idealize.ShloMosaic.Lib.Pipeline.Kit

@[expose] public section

set_option maxRecDepth 8192

noncomputable section

/-! What the two passes of the attention block compute, chunk by chunk. -/

namespace Cert.KernelIdeal.Attn

open Cert.KernelIdeal Cert.KernelIdeal.Gen
open Idealize.ShloMosaic

variable {F : FTy → Type} [FloatOps F]

/-- A block of keys or values: block 0 is the context's, block `j + 1` the `j`-th 256 rows of the latent's. -/
def chunk (X0 : Vec F S256x128 .bf16) (X : Vec F S4096x128 .bf16) (j : ℕ) : Vec F S256x128 .bf16 :=
  if j = 0 then X0 else fun x => X fun a =>
    ⟨((![256 * (j - 1), 0] : Fin 2 → ℕ) a + (x a).val) % S4096x128.size a,
      Nat.mod_lt _ (by match a with | 0 => decide | 1 => decide)⟩

/-- The scores of block `j`. -/
def sc (Q : Vec F S768x128 .bf16) (X0 : Vec F S256x128 .bf16) (X : Vec F S4096x128 .bf16) (j : ℕ) :
    Vec F S1x768x256 .f32 := k0_pay10 Q (chunk X0 X j)

/-- The running lane maximum after `j` blocks. -/
def mx (Q : Vec F S768x128 .bf16) (X0 : Vec F S256x128 .bf16) (X : Vec F S4096x128 .bf16) : ℕ → Vec F S768x128 .f32
  | 0 => k0_pay58
  | j + 1 => k0_pay11 Q (chunk X0 X j) (mx Q X0 X j)

/-- The lane sums of the exponentials after `j` blocks, for scores `s` and row maximum `M`. -/
def lsum (M : Vec F S768x128 .f32) (s : ℕ → Vec F S1x768x256 .f32) : ℕ → Vec F S768x128 .f32
  | 0 => k0_pay67
  | j + 1 => k0_pay3 M (s j) (lsum M s j)

/-- The weighted sum of the values after `j` blocks. -/
def acc (M : Vec F S768x128 .f32) (s : ℕ → Vec F S1x768x256 .f32) (v : ℕ → Vec F S256x128 .bf16) : ℕ → Vec F S768x128 .f32
  | 0 => k0_pay68
  | j + 1 => k0_pay4 M (s j) (acc M s v j) (v j)

/-- All the scores, block by block, as the scratch holds them. -/
def scAll (Q : Vec F S768x128 .bf16) (X0 : Vec F S256x128 .bf16) (X : Vec F S4096x128 .bf16) : Vec F S17x768x256 .f32 :=
  fun y => sc Q X0 X (y 0).val fun a => match a with | 0 => ⟨0, by decide⟩ | 1 => y 1 | 2 => y 2

theorem off1_eq (k : Fin k0_t1_loop.trips) (u : Fin 8) :
    k0_off1 k (BitVec.ofNat 32 u.val) = ![256 * (8 * k.val + u.val), 0] := by
  revert u; revert k; decide +kernel

theorem off2_eq (k : Fin k0_t1_loop.trips) (u : Fin 8) :
    k0_off2 k (BitVec.ofNat 32 u.val) = ![1 + 8 * k.val + u.val, 0, 0] := by
  revert u; revert k; decide +kernel

theorem off3_eq (k : Fin k0_t2_loop.trips) (u : Fin 8) :
    k0_off3 k (BitVec.ofNat 32 u.val) = ![1 + 8 * k.val + u.val, 0, 0] := by
  revert u; revert k; decide +kernel

theorem off4_eq (k : Fin k0_t2_loop.trips) (u : Fin 8) :
    k0_off4 k (BitVec.ofNat 32 u.val) = ![256 * (8 * k.val + u.val), 0] := by
  revert u; revert k; decide +kernel

/-- A read of 256 rows of the latent keys or values is a block of them. -/
theorem readAt_chunk (v : View sig .tc .vmem S4096x128 .bf16) (f : v.ref.ty.shape.Idx → Elt F v.ref.ty.elt) (X0 : Vec F S256x128 .bf16) (off : Fin 2 → ℕ) (j : ℕ)
    (h : off = ![256 * j, 0]) (hj : j < 16) (inb) :
    v.readAt (Elt F) (Rect.unit (s := S4096x128) off S256x128.size inb).toLoadRect f
      = chunk X0 (v.read (Elt F) f) (j + 1) := by
  subst h
  funext x
  have h0 : (x 0).val < 256 := (x 0).isLt
  have h1 : (x 1).val < 128 := (x 1).isLt
  unfold chunk
  rw [if_neg (by omega), View.readAt_apply]
  congr 1
  funext a
  apply Fin.ext
  match a with
  | 0 => show 256 * j + 1 * (x 0).val = (256 * (j + 1 - 1) + (x 0).val) % 4096; omega
  | 1 => show 0 + 1 * (x 1).val = (0 + (x 1).val) % 128; omega

/-- The score slab agrees with block `j` on slot `j`. -/
theorem scAll_emb (Q : Vec F S768x128 .bf16) (X0 : Vec F S256x128 .bf16) (X : Vec F S4096x128 .bf16) (off : Fin 3 → ℕ) (j : ℕ)
    (h : off = ![j, 0, 0]) (inb) (x : S1x768x256.Idx) :
    scAll Q X0 X ((Rect.unit (s := S17x768x256) off S1x768x256.size inb).emb x) = sc Q X0 X j x := by
  subst h
  have h0 : (x 0).val < 1 := (x 0).isLt
  unfold scAll
  have e0 : ((Rect.unit (s := S17x768x256) ![j, 0, 0] S1x768x256.size inb).emb x 0).val = j := by
    show j + 1 * (x 0).val = j; omega
  rw [e0]
  congr 1
  funext a
  apply Fin.ext
  match a with
  | 0 => show 0 = (x 0).val; omega
  | 1 => show 0 + 1 * (x 1).val = _; omega
  | 2 => show 0 + 1 * (x 2).val = _; omega

/-- What slot `j` of a scratch that holds the scores reads. -/
theorem readAt_slot (v : View sig .tc .vmem S17x768x256 .f32) (f : v.ref.ty.shape.Idx → Elt F v.ref.ty.elt) (Q : Vec F S768x128 .bf16) (X0 : Vec F S256x128 .bf16)
    (X : Vec F S4096x128 .bf16) (off : Fin 3 → ℕ) (j : ℕ) (h : off = ![j, 0, 0]) (n : ℕ) (hj : j < n)
    (hf : ∀ y : S17x768x256.Idx, (y 0).val < n → v.read (Elt F) f y = scAll Q X0 X y) (inb) :
    v.readAt (Elt F) (Rect.unit (s := S17x768x256) off S1x768x256.size inb).toLoadRect f = sc Q X0 X j := by
  funext x
  rw [View.readAt_apply]
  refine (hf _ ?_).trans (scAll_emb Q X0 X off j h inb x)
  subst h
  have h0 : (x 0).val < 1 := (x 0).isLt
  show j + 1 * (x 0).val < n
  omega

/-- A scratch read after a write of the whole of it. -/
theorem read_top {s : Shape} {e : EltTy} (v : View sig .tc .vmem s e) (f : v.ref.ty.shape.Idx → Elt F v.ref.ty.elt) (off : Fin s.rank → ℕ)
    (h : off = fun _ => 0) (inb) (w : s.Idx → Elt F e) (L) :
    v.read (Elt F) (v.writes (Elt F) f (⟨Rect.unit (s := s) off s.size inb, w⟩ :: L)) = w := by
  subst h
  funext y
  refine View.read_writes_cons_hit v f (Rect.unit (s := s) (fun _ => 0) s.size inb) w L y y ?_
  funext a
  apply Fin.ext
  show 0 + 1 * (y a).val = _
  omega

/-- A load of the whole of a scratch reads its contents. -/
theorem readAt_full {s : Shape} {e : EltTy} (v : View sig .tc .vmem s e) (f : v.ref.ty.shape.Idx → Elt F v.ref.ty.elt) (off' : Fin s.rank → ℕ)
    (h' : off' = fun _ => 0) (inb') :
    v.readAt (Elt F) (Rect.unit (s := s) off' s.size inb').toLoadRect f = v.read (Elt F) f := by
  subst h'
  funext y
  rw [View.readAt_apply]
  congr 1
  funext a
  apply Fin.ext
  show 0 + 1 * (y a).val = _
  omega

/-- `read_top` for a load of the whole. -/
theorem readAt_top {s : Shape} {e : EltTy} (v : View sig .tc .vmem s e) (f : v.ref.ty.shape.Idx → Elt F v.ref.ty.elt) (off off' : Fin s.rank → ℕ)
    (h : off = fun _ => 0) (h' : off' = fun _ => 0) (inb inb') (w : s.Idx → Elt F e) (L) :
    v.readAt (Elt F) (Rect.unit (s := s) off' s.size inb').toLoadRect (v.writes (Elt F) f (⟨Rect.unit (s := s) off s.size inb, w⟩ :: L)) = w := by
  rw [readAt_full v _ off' h' inb', read_top v f off h inb w L]

/-- `readAt_top` where what lay below the write is not known. -/
theorem readCov_top {s : Shape} {e : EltTy} (v : View sig .tc .vmem s e) (off off' : Fin s.rank → ℕ)
    (h : off = fun _ => 0) (h' : off' = fun _ => 0) (inb inb') (w : s.Idx → Elt F e) (L) :
    v.readCov (⟨Rect.unit (s := s) off s.size inb, w⟩ :: L) (Rect.unit (s := s) off' s.size inb').toLoadRect = w := by
  unfold View.readCov
  exact readAt_top v _ off off' h h' inb inb' w L

/-- Adding eight slots to a scratch that holds the scores of the first `n` blocks. -/
theorem slots_step (v : View sig .tc .vmem S17x768x256 .f32) (f : v.ref.ty.shape.Idx → Elt F v.ref.ty.elt) (Q : Vec F S768x128 .bf16) (X0 : Vec F S256x128 .bf16)
    (X : Vec F S4096x128 .bf16) (n m : ℕ) (L : List (View.Piece (Elt F) S17x768x256 .f32))
    (hf : ∀ y : S17x768x256.Idx, (y 0).val < n → v.read (Elt F) f y = scAll Q X0 X y)
    (hL : ∀ p ∈ L, ∀ x : p.1.shape.Idx, p.2 x = scAll Q X0 X (p.1.emb x))
    (hc : ∀ y : S17x768x256.Idx, n ≤ (y 0).val → (y 0).val < m → ∃ p ∈ L, y ∈ p.1.set) :
    ∀ y : S17x768x256.Idx, (y 0).val < m → v.read (Elt F) (v.writes (Elt F) f L) y = scAll Q X0 X y := by
  intro y hy
  by_cases h : ∃ p ∈ L, y ∈ p.1.set
  · exact View.read_writes_apply_of_pieces v f _ L hL y h
  · have hn : (y 0).val < n := by
      by_contra hn
      exact h (hc y (by omega) hy)
    rw [← hf y hn]
    clear hc hL
    induction L with
    | nil => rfl
    | cons p L ih =>
      rw [View.read_writes_cons_miss v f p L y (fun hp => h ⟨p, List.mem_cons_self, hp⟩)]
      exact ih fun ⟨q, hq, hq'⟩ => h ⟨q, List.mem_cons_of_mem _ hq, hq'⟩

/-- Slot `j` of the scratch, as the set of its elements. -/
theorem mem_slot (off : Fin 3 → ℕ) (j : ℕ) (h : off = ![j, 0, 0]) (inb) (y : S17x768x256.Idx) (hy : (y 0).val = j) :
    y ∈ (Rect.unit (s := S17x768x256) off S1x768x256.size inb).set := by
  subst h
  rw [Rect.mem_set_unit]
  intro a
  match a with
  | 0 => exact ⟨by show j ≤ _; omega, by show _ < j + 1; omega⟩
  | 1 => exact ⟨Nat.zero_le _, by show (y 1).val < 0 + 768; have := (y 1).isLt; simpa using this⟩
  | 2 => exact ⟨Nat.zero_le _, by show (y 2).val < 0 + 256; have := (y 2).isLt; simpa using this⟩

theorem zero2 : (![0, 0] : Fin 2 → ℕ) = fun _ => 0 := by decide

/-- A slot of the scores, written from a block of keys. -/
theorem slot_written (v : View sig .tc .vmem S4096x128 .bf16) (f : v.ref.ty.shape.Idx → Elt F v.ref.ty.elt) (Q : Vec F S768x128 .bf16) (X0 : Vec F S256x128 .bf16)
    (k : Fin k0_t1_loop.trips) (u : Fin 8) (hk : k.val < 2) (inb inb') (x : S1x768x256.Idx) :
    k0_pay10 Q (v.readAt (Elt F) (Rect.unit (s := S4096x128) (k0_off1 k (BitVec.ofNat 32 u.val)) S256x128.size inb).toLoadRect f) x
      = scAll Q X0 (v.read (Elt F) f) ((Rect.unit (s := S17x768x256) (k0_off2 k (BitVec.ofNat 32 u.val)) S1x768x256.size inb').emb x) := by
  rw [scAll_emb Q X0 _ _ _ (off2_eq k u), readAt_chunk v f X0 _ _ (off1_eq k u) (by omega)]
  unfold sc
  rw [show 8 * k.val + u.val + 1 = 1 + 8 * k.val + u.val by omega]

/-- The running maximum, one block on. -/
theorem mx_written (v : View sig .tc .vmem S4096x128 .bf16) (f : v.ref.ty.shape.Idx → Elt F v.ref.ty.elt) (Q : Vec F S768x128 .bf16) (X0 : Vec F S256x128 .bf16)
    (k : Fin k0_t1_loop.trips) (u : Fin 8) (hk : k.val < 2) (inb) (w : Vec F S768x128 .f32)
    (hw : w = mx Q X0 (v.read (Elt F) f) (1 + 8 * k.val + u.val)) :
    k0_pay11 Q (v.readAt (Elt F) (Rect.unit (s := S4096x128) (k0_off1 k (BitVec.ofNat 32 u.val)) S256x128.size inb).toLoadRect f) w
      = mx Q X0 (v.read (Elt F) f) (1 + 8 * k.val + (u.val + 1)) := by
  rw [hw, readAt_chunk v f X0 _ _ (off1_eq k u) (by omega), show 8 * k.val + u.val + 1 = 1 + 8 * k.val + u.val by omega]
  rfl

theorem pay13_eq (Q : Vec F S768x128 .bf16) (a : Vec F S256x128 .bf16) : k0_pay13 Q a = k0_pay10 Q a := rfl

theorem pay16_eq (Q : Vec F S768x128 .bf16) (a : Vec F S256x128 .bf16) : k0_pay16 Q a = k0_pay10 Q a := rfl

theorem pay19_eq (Q : Vec F S768x128 .bf16) (a : Vec F S256x128 .bf16) : k0_pay19 (k0_pay18 Q a) = k0_pay10 Q a := rfl

theorem pay22_eq (Q : Vec F S768x128 .bf16) (a : Vec F S256x128 .bf16) : k0_pay22 Q a = k0_pay10 Q a := rfl

theorem pay25_eq (Q : Vec F S768x128 .bf16) (a : Vec F S256x128 .bf16) : k0_pay25 Q a = k0_pay10 Q a := rfl

theorem pay28_eq (Q : Vec F S768x128 .bf16) (a : Vec F S256x128 .bf16) : k0_pay28 Q a = k0_pay10 Q a := rfl

theorem pay64_eq (v0 v2 v4 a : Vec F S256x128 .bf16) : k0_pay64 v0 v2 v4 a = k0_pay10 (k0_pay57 v0 v2 v4) a := rfl

theorem pay60_eq (v0 v2 v4 a : Vec F S256x128 .bf16) : k0_pay60 v0 v2 v4 a = k0_pay10 (k0_pay57 v0 v2 v4) a := rfl

theorem pay14_eq (Q : Vec F S768x128 .bf16) (a : Vec F S256x128 .bf16) (w : Vec F S768x128 .f32) : k0_pay14 (k0_pay12 Q a) w = k0_pay11 Q a w := rfl

theorem pay17_eq (Q : Vec F S768x128 .bf16) (a : Vec F S256x128 .bf16) (w : Vec F S768x128 .f32) : k0_pay17 Q a w = k0_pay11 Q a w := rfl

theorem pay20_eq (Q : Vec F S768x128 .bf16) (a : Vec F S256x128 .bf16) (w : Vec F S768x128 .f32) : k0_pay20 (k0_pay18 Q a) w = k0_pay11 Q a w := rfl

theorem pay23_eq (Q : Vec F S768x128 .bf16) (a : Vec F S256x128 .bf16) (w : Vec F S768x128 .f32) : k0_pay23 Q a w = k0_pay11 Q a w := rfl

theorem pay26_eq (Q : Vec F S768x128 .bf16) (a : Vec F S256x128 .bf16) (w : Vec F S768x128 .f32) : k0_pay26 Q a w = k0_pay11 Q a w := rfl

theorem pay62_eq (Q : Vec F S768x128 .bf16) (a : Vec F S256x128 .bf16) (w : Vec F S768x128 .f32) : k0_pay62 (k0_pay29 Q a w) = k0_pay11 Q a w := rfl

theorem pay65_eq (v0 v2 v4 a : Vec F S256x128 .bf16) (w : Vec F S768x128 .f32) : k0_pay65 v0 v2 v4 a w = k0_pay11 (k0_pay57 v0 v2 v4) a w := rfl

theorem pay61_eq (v0 v2 v4 a : Vec F S256x128 .bf16) (w : Vec F S768x128 .f32) : k0_pay61 v0 v2 v4 a w = k0_pay11 (k0_pay57 v0 v2 v4) a w := rfl

theorem pay31_eq (M w : Vec F S768x128 .f32) (S : Vec F S1x768x256 .f32) : k0_pay31 M S w = k0_pay3 M S w := rfl

theorem pay34_eq (M w : Vec F S768x128 .f32) (S : Vec F S1x768x256 .f32) : k0_pay34 M S w = k0_pay3 M S w := rfl

theorem pay40_eq (M w : Vec F S768x128 .f32) (S : Vec F S1x768x256 .f32) : k0_pay40 (k0_pay37 M S) (k0_pay38 M S) w = k0_pay3 M S w := rfl

theorem pay44_eq (M w : Vec F S768x128 .f32) (S : Vec F S1x768x256 .f32) : k0_pay44 (k0_pay43 M S w) = k0_pay3 M S w := rfl

theorem pay47_eq (M w : Vec F S768x128 .f32) (S : Vec F S1x768x256 .f32) : k0_pay47 M S w = k0_pay3 M S w := rfl

theorem pay51_eq (M w : Vec F S768x128 .f32) (S : Vec F S1x768x256 .f32) : k0_pay51 M S w = k0_pay3 M S w := rfl

theorem pay55_eq (M w : Vec F S768x128 .f32) (S : Vec F S1x768x256 .f32) : k0_pay55 M S w = k0_pay3 M S w := rfl

theorem pay32_eq (M w : Vec F S768x128 .f32) (S : Vec F S1x768x256 .f32) (a : Vec F S256x128 .bf16) : k0_pay32 M S w a = k0_pay4 M S w a := rfl

theorem pay35_eq (M w : Vec F S768x128 .f32) (S : Vec F S1x768x256 .f32) (a : Vec F S256x128 .bf16) : k0_pay35 M S w a = k0_pay4 M S w a := rfl

theorem pay41_eq (M w : Vec F S768x128 .f32) (S : Vec F S1x768x256 .f32) (a : Vec F S256x128 .bf16) : k0_pay41 (k0_pay37 M S) (k0_pay38 M S) w a = k0_pay4 M S w a := rfl

theorem pay45_eq (M w : Vec F S768x128 .f32) (S : Vec F S1x768x256 .f32) (a : Vec F S256x128 .bf16) : k0_pay45 (k0_pay42 M S) w a = k0_pay4 M S w a := rfl

theorem pay49_eq (M w : Vec F S768x128 .f32) (S : Vec F S1x768x256 .f32) (a : Vec F S256x128 .bf16) : k0_pay49 w (k0_pay48 M S) a = k0_pay4 M S w a := rfl

theorem pay53_eq (M w : Vec F S768x128 .f32) (S : Vec F S1x768x256 .f32) (a : Vec F S256x128 .bf16) : k0_pay53 w (k0_pay52 M S a) = k0_pay4 M S w a := rfl

theorem pay56_eq (M w : Vec F S768x128 .f32) (S : Vec F S1x768x256 .f32) (a : Vec F S256x128 .bf16) : k0_pay56 M S w a = k0_pay4 M S w a := rfl

theorem pay70_eq (M w : Vec F S768x128 .f32) (S : Vec F S1x768x256 .f32) : k0_pay70 M S w = k0_pay3 (k0_pay66 M) S w := rfl

theorem pay71_eq (M w : Vec F S768x128 .f32) (S : Vec F S1x768x256 .f32) (a : Vec F S256x128 .bf16) : k0_pay1 (k0_pay71 M S w a) = k0_pay4 (k0_pay66 M) S w a := rfl

/-- The lane sums, one block on. -/
theorem lsum_written (v : View sig .tc .vmem S17x768x256 .f32) (f : v.ref.ty.shape.Idx → Elt F v.ref.ty.elt) (M : Vec F S768x128 .f32)
    (s : ℕ → Vec F S1x768x256 .f32)
    (hs : ∀ (off : Fin 3 → ℕ) (j : ℕ) (h : off = ![j, 0, 0]) (hj : j < 17) (inb),
      v.readAt (Elt F) (Rect.unit (s := S17x768x256) off S1x768x256.size inb).toLoadRect f = s j)
    (k : Fin k0_t2_loop.trips) (u : Fin 8) (hk : k.val < 2) (inb) (w : Vec F S768x128 .f32)
    (hw : w = lsum M s (1 + 8 * k.val + u.val)) :
    k0_pay3 M (v.readAt (Elt F) (Rect.unit (s := S17x768x256) (k0_off3 k (BitVec.ofNat 32 u.val)) S1x768x256.size inb).toLoadRect f) w
      = lsum M s (1 + 8 * k.val + (u.val + 1)) := by
  rw [hw, hs _ _ (off3_eq k u) (by omega)]
  rfl

/-- The weighted sum, one block on. -/
theorem acc_written (v : View sig .tc .vmem S17x768x256 .f32) (f : v.ref.ty.shape.Idx → Elt F v.ref.ty.elt) (M : Vec F S768x128 .f32)
    (s : ℕ → Vec F S1x768x256 .f32)
    (hs : ∀ (off : Fin 3 → ℕ) (j : ℕ) (h : off = ![j, 0, 0]) (hj : j < 17) (inb),
      v.readAt (Elt F) (Rect.unit (s := S17x768x256) off S1x768x256.size inb).toLoadRect f = s j)
    (v' : View sig .tc .vmem S4096x128 .bf16) (f' : v'.ref.ty.shape.Idx → Elt F v'.ref.ty.elt) (X0 : Vec F S256x128 .bf16)
    (k : Fin k0_t2_loop.trips) (u : Fin 8) (hk : k.val < 2) (inb inb') (w : Vec F S768x128 .f32)
    (hw : w = acc M s (chunk X0 (v'.read (Elt F) f')) (1 + 8 * k.val + u.val)) :
    k0_pay4 M (v.readAt (Elt F) (Rect.unit (s := S17x768x256) (k0_off3 k (BitVec.ofNat 32 u.val)) S1x768x256.size inb).toLoadRect f) w
        (v'.readAt (Elt F) (Rect.unit (s := S4096x128) (k0_off4 k (BitVec.ofNat 32 u.val)) S256x128.size inb').toLoadRect f')
      = acc M s (chunk X0 (v'.read (Elt F) f')) (1 + 8 * k.val + (u.val + 1)) := by
  rw [hw, hs _ _ (off3_eq k u) (by omega), readAt_chunk v' f' X0 _ _ (off4_eq k u) (by omega),
    show 8 * k.val + u.val + 1 = 1 + 8 * k.val + u.val by omega]
  rfl

end Cert.KernelIdeal.Attn

end
-- ==== Proof.Attn.Trip1.lean ====
module

public import proofs.«01_k».proof.Proof.Attn.Chunks

@[expose] public section

set_option maxRecDepth 8192
set_option maxHeartbeats 4000000

noncomputable section

/-! One trip of the pass that computes the scores. -/

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (𝒱 : Variants) (c : Dev nD) (bd : Option 𝒱.V)

/-- The pass over the keys after `k` trips: the scores of the first `1 + 8 k` blocks are in the slab, their running maximum in `arg11`. -/
def inv1 (arg6 : Memref sig .tc .vmem S4096x128 .bf16) (arg10 : Memref sig .tc .vmem S17x768x256 .f32) (arg11 : Memref sig .tc .vmem S768x128 .f32)
    (Q : Vec F S768x128 .bf16) (X0 : Vec F S256x128 .bf16) (X_arg6 : BufTy.Contents (Elt F) arg6.view.ty) (n : ℕ) : sProp 𝕄G :=
  iprop((arg6.view.loc (c : Thread nD τ) ↦[arg6.view.set]{fullShare} X_arg6) ∗
    (∃ g10, ∃ g11, (arg10.view.loc (c : Thread nD τ) ↦[arg10.view.set]{fullShare} g10) ∗
      (arg11.view.loc (c : Thread nD τ) ↦[arg11.view.set]{fullShare} g11) ∗
      ⌜(∀ y : S17x768x256.Idx, (y 0).val < 1 + 8 * n → arg10.view.read (Elt F) g10 y = scAll Q X0 (arg6.view.read (Elt F) X_arg6) y) ∧
        arg11.view.read (Elt F) g11 = mx Q X0 (arg6.view.read (Elt F) X_arg6) (1 + 8 * n)⌝))

theorem trip1 (i : grid0.Coords) (arg3 : Memref sig .tc .vmem S256x384 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S4096x128 .bf16) (harg6 : arg6.IsWhole) (arg7 : Memref sig .tc .vmem S4096x128 .bf16) (harg7 : arg7.IsWhole) (arg8 : Memref sig .tc .hbm S16384x1536 .bf16) (harg8 : arg8.IsWhole) (arg9 : Memref sig .tc .vmem S256x384 .bf16) (harg9 : arg9.IsWhole) (arg10 : Memref sig .tc .vmem S17x768x256 .f32) (harg10 : arg10.IsWhole) (arg11 : Memref sig .tc .vmem S768x128 .f32) (harg11 : arg11.IsWhole) (arg12 : Memref sig .tc .vmem S768x128 .f32) (harg12 : arg12.IsWhole) (arg13 : Memref sig .tc .vmem S768x128 .f32) (harg13 : arg13.IsWhole) (v0 v2 v4 : Vec F S256x128 .bf16)
    (X0 : Vec F S256x128 .bf16) (X_arg6 : BufTy.Contents (Elt F) arg6.view.ty) (k : Fin k0_t1_loop.trips) (E : Set ℕ) :
    inv1 c arg6 arg10 arg11 (k0_pay57 v0 v2 v4) X0 X_arg6 k.val
      ⊢ (wp frame (wpE (defs₀ (F := F)) 𝒱 (c : Thread nD τ) bd) E
        (k0_t1_body (F := F) i arg3 harg3 arg4 harg4 arg5 harg5 arg6 harg6 arg7 harg7 arg8 harg8 arg9 harg9 arg10 harg10 arg11 harg11 arg12 harg12 arg13 harg13 v0 v2 v4 k PUnit.unit)
        (fun _ => inv1 c arg6 arg10 arg11 (k0_pay57 v0 v2 v4) X0 X_arg6 (k.val + 1)) : sProp 𝕄G) := by
  have hk : k.val < 2 := Nat.lt_of_lt_of_le k.isLt k0_t1_abs.2.1
  unfold inv1 k0_t1_body
  iintro ⟨HR_arg6, %g10, %g11, HW_arg10, HW_arg11, %hg⟩
  sl_exec
  sl_step
  isplitl [HR_arg6]
  · iexact HR_arg6
  iexists _, _
  isplitl [HW_arg10]
  · iexact HW_arg10
  isplitl [HW_arg11]
  · iexact HW_arg11
  ipureintro
  obtain ⟨h10, h11⟩ := hg
  refine ⟨?_, ?_⟩
  · delta trip1.sl.r_1
    rw [pay64_eq, pay28_eq, pay25_eq, pay22_eq, pay19_eq, pay16_eq, pay13_eq]
    refine slots_step arg10.view g10 _ X0 _ _ _ _ h10 ?_ ?_
    · refine List.forall_mem_cons.2 ⟨fun x => slot_written arg6.view X_arg6 _ X0 k 7 hk (k0_off1_inb k 7) (k0_off2_inb k 7) x, List.forall_mem_cons.2 ⟨fun x => slot_written arg6.view X_arg6 _ X0 k 6 hk (k0_off1_inb k 6) (k0_off2_inb k 6) x, List.forall_mem_cons.2 ⟨fun x => slot_written arg6.view X_arg6 _ X0 k 5 hk (k0_off1_inb k 5) (k0_off2_inb k 5) x, List.forall_mem_cons.2 ⟨fun x => slot_written arg6.view X_arg6 _ X0 k 4 hk (k0_off1_inb k 4) (k0_off2_inb k 4) x, List.forall_mem_cons.2 ⟨fun x => slot_written arg6.view X_arg6 _ X0 k 3 hk (k0_off1_inb k 3) (k0_off2_inb k 3) x, List.forall_mem_cons.2 ⟨fun x => slot_written arg6.view X_arg6 _ X0 k 2 hk (k0_off1_inb k 2) (k0_off2_inb k 2) x, List.forall_mem_cons.2 ⟨fun x => slot_written arg6.view X_arg6 _ X0 k 1 hk (k0_off1_inb k 1) (k0_off2_inb k 1) x, List.forall_mem_cons.2 ⟨fun x => slot_written arg6.view X_arg6 _ X0 k 0 hk (k0_off1_inb k 0) (k0_off2_inb k 0) x, fun _ h => absurd h List.not_mem_nil⟩⟩⟩⟩⟩⟩⟩⟩
    · intro y h1 h2
      obtain h | h | h | h | h | h | h | h : (y 0).val = 1 + 8 * k.val + 0 ∨ (y 0).val = 1 + 8 * k.val + 1 ∨ (y 0).val = 1 + 8 * k.val + 2 ∨
        (y 0).val = 1 + 8 * k.val + 3 ∨ (y 0).val = 1 + 8 * k.val + 4 ∨ (y 0).val = 1 + 8 * k.val + 5 ∨ (y 0).val = 1 + 8 * k.val + 6 ∨
        (y 0).val = 1 + 8 * k.val + 7 := by omega
      · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
        exact mem_slot _ _ (off2_eq k 0) (k0_off2_inb k 0) y h
      · refine ⟨_, List.mem_cons_of_mem _ (List.mem_cons_of_mem _ (List.mem_cons_of_mem _ (List.mem_cons_of_mem _ (List.mem_cons_of_mem _ (List.mem_cons_of_mem _ (List.mem_cons_self)))))), ?_⟩
        exact mem_slot _ _ (off2_eq k 1) (k0_off2_inb k 1) y h
      · refine ⟨_, List.mem_cons_of_mem _ (List.mem_cons_of_mem _ (List.mem_cons_of_mem _ (List.mem_cons_of_mem _ (List.mem_cons_of_mem _ (List.mem_cons_self))))), ?_⟩
        exact mem_slot _ _ (off2_eq k 2) (k0_off2_inb k 2) y h
      · refine ⟨_, List.mem_cons_of_mem _ (List.mem_cons_of_mem _ (List.mem_cons_of_mem _ (List.mem_cons_of_mem _ (List.mem_cons_self)))), ?_⟩
        exact mem_slot _ _ (off2_eq k 3) (k0_off2_inb k 3) y h
      · refine ⟨_, List.mem_cons_of_mem _ (List.mem_cons_of_mem _ (List.mem_cons_of_mem _ (List.mem_cons_self))), ?_⟩
        exact mem_slot _ _ (off2_eq k 4) (k0_off2_inb k 4) y h
      · refine ⟨_, List.mem_cons_of_mem _ (List.mem_cons_of_mem _ (List.mem_cons_self)), ?_⟩
        exact mem_slot _ _ (off2_eq k 5) (k0_off2_inb k 5) y h
      · refine ⟨_, List.mem_cons_of_mem _ (List.mem_cons_self), ?_⟩
        exact mem_slot _ _ (off2_eq k 6) (k0_off2_inb k 6) y h
      · refine ⟨_, List.mem_cons_self, ?_⟩
        exact mem_slot _ _ (off2_eq k 7) (k0_off2_inb k 7) y h

  · rw [read_top _ _ _ zero2, show 1 + 8 * (k.val + 1) = 1 + 8 * k.val + (7 + 1) by omega]
    delta trip1.sl.v241 trip1.sl.HW_arg11_7
    rw [readCov_top _ _ _ zero2 zero2]
    delta trip1.sl.r_2 trip1.sl.v220 trip1.sl.HW_arg11_6
    rw [readCov_top _ _ _ zero2 zero2]
    delta trip1.sl.v199 trip1.sl.HW_arg11_5
    rw [readCov_top _ _ _ zero2 zero2]
    delta trip1.sl.v178 trip1.sl.HW_arg11_4
    rw [readCov_top _ _ _ zero2 zero2]
    delta trip1.sl.r_1 trip1.sl.v157 trip1.sl.HW_arg11_3
    rw [readCov_top _ _ _ zero2 zero2]
    delta trip1.sl.v136 trip1.sl.HW_arg11_2
    rw [readCov_top _ _ _ zero2 zero2]
    delta trip1.sl.r trip1.sl.v115 trip1.sl.HW_arg11_1
    rw [readCov_top _ _ _ zero2 zero2, pay65_eq, pay62_eq, pay26_eq, pay23_eq, pay20_eq, pay17_eq, pay14_eq]
    refine mx_written arg6.view X_arg6 _ X0 k 7 hk _ _ ?_
    refine mx_written arg6.view X_arg6 _ X0 k 6 hk _ _ ?_
    refine mx_written arg6.view X_arg6 _ X0 k 5 hk _ _ ?_
    refine mx_written arg6.view X_arg6 _ X0 k 4 hk _ _ ?_
    refine mx_written arg6.view X_arg6 _ X0 k 3 hk _ _ ?_
    refine mx_written arg6.view X_arg6 _ X0 k 2 hk _ _ ?_
    refine mx_written arg6.view X_arg6 _ X0 k 1 hk _ _ ?_
    refine mx_written arg6.view X_arg6 _ X0 k 0 hk _ _ ?_
    rw [readAt_full _ _ _ zero2]
    exact h11

end Cert.KernelIdeal.Attn

end
-- ==== Proof.Attn.Trip2.lean ====
module

public import proofs.«01_k».proof.Proof.Attn.Chunks

@[expose] public section

set_option maxRecDepth 8192
set_option maxHeartbeats 4000000

noncomputable section

/-! One trip of the pass that weights the values. -/

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (𝒱 : Variants) (c : Dev nD) (bd : Option 𝒱.V)

/-- The pass over the values after `k` trips: the lane sums and the weighted sum of the first `1 + 8 k` blocks. -/
def inv2 (arg7 : Memref sig .tc .vmem S4096x128 .bf16) (arg10 : Memref sig .tc .vmem S17x768x256 .f32) (arg12 : Memref sig .tc .vmem S768x128 .f32)
    (arg13 : Memref sig .tc .vmem S768x128 .f32) (M : Vec F S768x128 .f32) (s : ℕ → Vec F S1x768x256 .f32) (X0 : Vec F S256x128 .bf16)
    (X_arg7 : BufTy.Contents (Elt F) arg7.view.ty) (X_arg10 : BufTy.Contents (Elt F) arg10.view.ty) (n : ℕ) : sProp 𝕄G :=
  iprop((arg7.view.loc (c : Thread nD τ) ↦[arg7.view.set]{fullShare} X_arg7) ∗
    (arg10.view.loc (c : Thread nD τ) ↦[arg10.view.set]{fullShare} X_arg10) ∗
    (∃ g12, ∃ g13, (arg12.view.loc (c : Thread nD τ) ↦[arg12.view.set]{fullShare} g12) ∗
      (arg13.view.loc (c : Thread nD τ) ↦[arg13.view.set]{fullShare} g13) ∗
      ⌜arg12.view.read (Elt F) g12 = lsum M s (1 + 8 * n) ∧
        arg13.view.read (Elt F) g13 = acc M s (chunk X0 (arg7.view.read (Elt F) X_arg7)) (1 + 8 * n)⌝))

theorem trip2 (i : grid0.Coords) (arg3 : Memref sig .tc .vmem S256x384 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S4096x128 .bf16) (harg6 : arg6.IsWhole) (arg7 : Memref sig .tc .vmem S4096x128 .bf16) (harg7 : arg7.IsWhole) (arg8 : Memref sig .tc .hbm S16384x1536 .bf16) (harg8 : arg8.IsWhole) (arg9 : Memref sig .tc .vmem S256x384 .bf16) (harg9 : arg9.IsWhole) (arg10 : Memref sig .tc .vmem S17x768x256 .f32) (harg10 : arg10.IsWhole) (arg11 : Memref sig .tc .vmem S768x128 .f32) (harg11 : arg11.IsWhole) (arg12 : Memref sig .tc .vmem S768x128 .f32) (harg12 : arg12.IsWhole) (arg13 : Memref sig .tc .vmem S768x128 .f32) (harg13 : arg13.IsWhole) (v30 : FVec F S768x128 .f32)
    (s : ℕ → Vec F S1x768x256 .f32) (X0 : Vec F S256x128 .bf16) (X_arg7 : BufTy.Contents (Elt F) arg7.view.ty)
    (X_arg10 : BufTy.Contents (Elt F) arg10.view.ty)
    (hs : ∀ (off : Fin 3 → ℕ) (j : ℕ) (h : off = ![j, 0, 0]) (hj : j < 17) (inb),
      arg10.view.readAt (Elt F) (Rect.unit (s := S17x768x256) off S1x768x256.size inb).toLoadRect X_arg10 = s j)
    (k : Fin k0_t2_loop.trips) (E : Set ℕ) :
    inv2 c arg7 arg10 arg12 arg13 v30 s X0 X_arg7 X_arg10 k.val
      ⊢ (wp frame (wpE (defs₀ (F := F)) 𝒱 (c : Thread nD τ) bd) E
        (k0_t2_body (F := F) i arg3 harg3 arg4 harg4 arg5 harg5 arg6 harg6 arg7 harg7 arg8 harg8 arg9 harg9 arg10 harg10 arg11 harg11 arg12 harg12 arg13 harg13 v30 k PUnit.unit)
        (fun _ => inv2 c arg7 arg10 arg12 arg13 v30 s X0 X_arg7 X_arg10 (k.val + 1)) : sProp 𝕄G) := by
  have hk : k.val < 2 := Nat.lt_of_lt_of_le k.isLt k0_t2_abs.2.1
  unfold inv2 k0_t2_body
  iintro ⟨HR_arg7, HR_arg10, %g12, %g13, HW_arg12, HW_arg13, %hg⟩
  sl_exec
  sl_step
  isplitl [HR_arg7]
  · iexact HR_arg7
  isplitl [HR_arg10]
  · iexact HR_arg10
  iexists _, _
  isplitl [HW_arg12]
  · iexact HW_arg12
  isplitl [HW_arg13]
  · iexact HW_arg13
  ipureintro
  obtain ⟨h12, h13⟩ := hg
  refine ⟨?_, ?_⟩
  · rw [read_top _ _ _ zero2, show 1 + 8 * (k.val + 1) = 1 + 8 * k.val + (7 + 1) by omega]
    delta  trip2.sl.v325 trip2.sl.HW_arg12_7
    rw [readCov_top _ _ _ zero2 zero2]
    delta  trip2.sl.v292 trip2.sl.HW_arg12_6
    rw [readCov_top _ _ _ zero2 zero2]
    delta  trip2.sl.v259 trip2.sl.HW_arg12_5
    rw [readCov_top _ _ _ zero2 zero2]
    delta  trip2.sl.v226 trip2.sl.HW_arg12_4
    rw [readCov_top _ _ _ zero2 zero2]
    delta trip2.sl.r_3 trip2.sl.v193 trip2.sl.HW_arg12_3
    rw [readCov_top _ _ _ zero2 zero2]
    delta  trip2.sl.v160 trip2.sl.HW_arg12_2
    rw [readCov_top _ _ _ zero2 zero2]
    delta  trip2.sl.v127 trip2.sl.HW_arg12_1
    rw [readCov_top _ _ _ zero2 zero2]
    delta trip2.sl.r trip2.sl.r_1
    rw [pay55_eq, pay51_eq, pay47_eq, pay44_eq, pay40_eq, pay34_eq, pay31_eq]
    refine lsum_written arg10.view X_arg10 _ s hs k 7 hk _ _ ?_
    refine lsum_written arg10.view X_arg10 _ s hs k 6 hk _ _ ?_
    refine lsum_written arg10.view X_arg10 _ s hs k 5 hk _ _ ?_
    refine lsum_written arg10.view X_arg10 _ s hs k 4 hk _ _ ?_
    refine lsum_written arg10.view X_arg10 _ s hs k 3 hk _ _ ?_
    refine lsum_written arg10.view X_arg10 _ s hs k 2 hk _ _ ?_
    refine lsum_written arg10.view X_arg10 _ s hs k 1 hk _ _ ?_
    refine lsum_written arg10.view X_arg10 _ s hs k 0 hk _ _ ?_
    rw [readAt_full _ _ _ zero2]
    exact h12
  · rw [read_top _ _ _ zero2, show 1 + 8 * (k.val + 1) = 1 + 8 * k.val + (7 + 1) by omega]
    delta  trip2.sl.v333 trip2.sl.HW_arg13_7
    rw [readCov_top _ _ _ zero2 zero2]
    delta  trip2.sl.v300 trip2.sl.HW_arg13_6
    rw [readCov_top _ _ _ zero2 zero2]
    delta  trip2.sl.v267 trip2.sl.HW_arg13_5
    rw [readCov_top _ _ _ zero2 zero2]
    delta  trip2.sl.v234 trip2.sl.HW_arg13_4
    rw [readCov_top _ _ _ zero2 zero2]
    delta  trip2.sl.v201 trip2.sl.HW_arg13_3
    rw [readCov_top _ _ _ zero2 zero2]
    delta  trip2.sl.v168 trip2.sl.HW_arg13_2
    rw [readCov_top _ _ _ zero2 zero2]
    delta  trip2.sl.v135 trip2.sl.HW_arg13_1
    rw [readCov_top _ _ _ zero2 zero2]
    delta trip2.sl.r trip2.sl.r_1 trip2.sl.r_2 trip2.sl.r_4 trip2.sl.r_5
    rw [pay56_eq, pay53_eq, pay49_eq, pay45_eq, pay41_eq, pay35_eq, pay32_eq]
    refine acc_written arg10.view X_arg10 _ s hs arg7.view X_arg7 X0 k 7 hk _ _ _ ?_
    refine acc_written arg10.view X_arg10 _ s hs arg7.view X_arg7 X0 k 6 hk _ _ _ ?_
    refine acc_written arg10.view X_arg10 _ s hs arg7.view X_arg7 X0 k 5 hk _ _ _ ?_
    refine acc_written arg10.view X_arg10 _ s hs arg7.view X_arg7 X0 k 4 hk _ _ _ ?_
    refine acc_written arg10.view X_arg10 _ s hs arg7.view X_arg7 X0 k 3 hk _ _ _ ?_
    refine acc_written arg10.view X_arg10 _ s hs arg7.view X_arg7 X0 k 2 hk _ _ _ ?_
    refine acc_written arg10.view X_arg10 _ s hs arg7.view X_arg7 X0 k 1 hk _ _ _ ?_
    refine acc_written arg10.view X_arg10 _ s hs arg7.view X_arg7 X0 k 0 hk _ _ _ ?_
    rw [readAt_full _ _ _ zero2]
    exact h13

end Cert.KernelIdeal.Attn

end
-- ==== Proof.Attn.Body.lean ====
module

public import proofs.«01_k».proof.Proof.Attn.Trip1
public import proofs.«01_k».proof.Proof.Attn.Trip2
public import Idealize.ShloMosaic.Lib.Pipeline.Value

@[expose] public section

set_option maxRecDepth 8192
set_option maxHeartbeats 4000000

noncomputable section

/-! The attention block of one grid point, as one function of its five input blocks. -/

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The three query heads of a group, one under the other. -/
def qOf (x0 : Vec F S256x384 .bf16) : Vec F S768x128 .bf16 :=
  k0_pay57 (View.ld x0 (Rect.unit (s := S256x384) ![0, 0] S256x128.size inb_S256x384_S256x128_0_0))
    (View.ld x0 (Rect.unit (s := S256x384) ![0, 128] S256x128.size inb_S256x384_S256x128_0_128))
    (View.ld x0 (Rect.unit (s := S256x384) ![0, 256] S256x128.size inb_S256x384_S256x128_0_256))

/-- The row maximum of all the scores, on every lane. -/
def mxOf (x0 : Vec F S256x384 .bf16) (x1 : Vec F S256x128 .bf16) (x3 : Vec F S4096x128 .bf16) : Vec F S768x128 .f32 :=
  k0_pay66 (mx (qOf x0) x1 x3 17)

/-- The lane sums of the exponentials over all the blocks. -/
def lsOf (x0 : Vec F S256x384 .bf16) (x1 : Vec F S256x128 .bf16) (x3 : Vec F S4096x128 .bf16) : Vec F S768x128 .f32 :=
  lsum (mxOf x0 x1 x3) (sc (qOf x0) x1 x3) 17

/-- The weighted sum of the values over all the blocks. -/
def accOf (x0 : Vec F S256x384 .bf16) (x1 : Vec F S256x128 .bf16) (x2 : Vec F S256x128 .bf16) (x3 x4 : Vec F S4096x128 .bf16) : Vec F S768x128 .f32 :=
  acc (mxOf x0 x1 x3) (sc (qOf x0) x1 x3) (chunk x2 x4) 17

/-- The output block: the three heads side by side. -/
def outOf (x0 : Vec F S256x384 .bf16) (x1 : Vec F S256x128 .bf16) (x2 : Vec F S256x128 .bf16) (x3 x4 : Vec F S4096x128 .bf16) : Vec F S256x384 .bf16 :=
  View.canon (Val := Elt F) (s := S256x384) (e := .bf16)
    [⟨Rect.unit (s := S256x384) ![0, 256] S256x128.size inb_S256x384_S256x128_0_256, k0_pay8 (accOf x0 x1 x2 x3 x4) (lsOf x0 x1 x3)⟩,
     ⟨Rect.unit (s := S256x384) ![0, 128] S256x128.size inb_S256x384_S256x128_0_128, k0_pay7 (accOf x0 x1 x2 x3 x4) (lsOf x0 x1 x3)⟩,
     ⟨Rect.unit (s := S256x384) ![0, 0] S256x128.size inb_S256x384_S256x128_0_0, k0_pay6 (accOf x0 x1 x2 x3 x4) (lsOf x0 x1 x3)⟩]

theorem ld_of {s : Shape} {e : EltTy} {mr : Memref sig .tc .vmem s e} (h : mr.IsWhole) (x : s.Idx → Elt F e) (r : Rect s) :
    mr.view.readAt (Elt F) r.toLoadRect (h.unread x) = View.ld x r := by
  funext y
  rw [View.readAt_apply, h.read_unread]

theorem out_cover (y : S256x384.Idx) (w0 w1 w2 : Vec F S256x128 .bf16) :
    ∃ p ∈ ([⟨Rect.unit (s := S256x384) ![0, 256] S256x128.size inb_S256x384_S256x128_0_256, w2⟩,
     ⟨Rect.unit (s := S256x384) ![0, 128] S256x128.size inb_S256x384_S256x128_0_128, w1⟩,
     ⟨Rect.unit (s := S256x384) ![0, 0] S256x128.size inb_S256x384_S256x128_0_0, w0⟩] : List (View.Piece (Elt F) S256x384 .bf16)), y ∈ p.1.set := by
  have h0 : (y 0).val < 256 := (y 0).isLt
  have h1 : (y 1).val < 384 := (y 1).isLt
  by_cases ha : (y 1).val < 128
  · refine ⟨_, List.mem_cons_of_mem _ (List.mem_cons_of_mem _ List.mem_cons_self), ?_⟩
    rw [Rect.mem_set_unit]
    intro a
    match a with
    | 0 => exact ⟨Nat.zero_le _, by show (y 0).val < 0 + 256; omega⟩
    | 1 => exact ⟨by show 0 ≤ (y 1).val; omega, by show (y 1).val < 0 + 128; omega⟩
  by_cases hb : (y 1).val < 256
  · refine ⟨_, List.mem_cons_of_mem _ List.mem_cons_self, ?_⟩
    rw [Rect.mem_set_unit]
    intro a
    match a with
    | 0 => exact ⟨Nat.zero_le _, by show (y 0).val < 0 + 256; omega⟩
    | 1 => exact ⟨by show 128 ≤ (y 1).val; omega, by show (y 1).val < 128 + 128; omega⟩
  · refine ⟨_, List.mem_cons_self, ?_⟩
    rw [Rect.mem_set_unit]
    intro a
    match a with
    | 0 => exact ⟨Nat.zero_le _, by show (y 0).val < 0 + 256; omega⟩
    | 1 => exact ⟨by show 256 ≤ (y 1).val; omega, by show (y 1).val < 256 + 128; omega⟩

theorem body_run (c : Dev nD) (i : grid0.Coords) (arg3 : Memref sig .tc .vmem S256x384 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S4096x128 .bf16) (harg6 : arg6.IsWhole) (arg7 : Memref sig .tc .vmem S4096x128 .bf16) (harg7 : arg7.IsWhole) (arg9 : Memref sig .tc .vmem S256x384 .bf16) (harg9 : arg9.IsWhole) (arg10 : Memref sig .tc .vmem S17x768x256 .f32) (harg10 : arg10.IsWhole) (arg11 : Memref sig .tc .vmem S768x128 .f32) (harg11 : arg11.IsWhole) (arg12 : Memref sig .tc .vmem S768x128 .f32) (harg12 : arg12.IsWhole) (arg13 : Memref sig .tc .vmem S768x128 .f32) (harg13 : arg13.IsWhole)
    (x0 : Vec F S256x384 .bf16) (x1 : Vec F S256x128 .bf16) (x2 : Vec F S256x128 .bf16) (x3 : Vec F S4096x128 .bf16) (x4 : Vec F S4096x128 .bf16) :
      ∀ (E : Set ℕ) (K : PUnit → sProp 𝕄G),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg9 fullShare (outOf x0 x1 x2 x3 x4) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_gqa_attn_lat i arg3 harg3 arg4 harg4 arg5 harg5 arg6 harg6 arg7 harg7 (Memref.whole main_arg5) (Memref.isWhole_whole _) arg9 harg9 arg10 harg10 arg11 harg11 arg12 harg12 arg13 harg13) K := by
    intro E K
    simp only [cc0_gqa_attn_lat_eq_skeleton]; unfold cc0_gqa_attn_lat_skel
    simp only [k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec
    have hq : k0_pay57 (arg3.view.readAt (Elt F) (Rect.unit (s := S256x384) ![0, 0] S256x128.size inb_S256x384_S256x128_0_0).toLoadRect (harg3.unread x0)) (arg3.view.readAt (Elt F) (Rect.unit (s := S256x384) ![0, 128] S256x128.size inb_S256x384_S256x128_0_128).toLoadRect (harg3.unread x0)) (arg3.view.readAt (Elt F) (Rect.unit (s := S256x384) ![0, 256] S256x128.size inb_S256x384_S256x128_0_256).toLoadRect (harg3.unread x0)) = qOf x0 := by
      unfold qOf
      rw [ld_of harg3, ld_of harg3, ld_of harg3]
    sl_for (fun n _ => inv1 c arg6 arg10 arg11 (qOf x0) x1 (harg6.unread x3) n) $$ [H3 HS0 HS1]
    case region =>
      intro k a
      have e := trip1 Variants.none c none i arg3 harg3 arg4 harg4 arg5 harg5 arg6 harg6 arg7 harg7 (Memref.whole main_arg5) (Memref.isWhole_whole _) arg9 harg9 arg10 harg10 arg11 harg11 arg12 harg12 arg13 harg13 (arg3.view.readAt (Elt F) (Rect.unit (s := S256x384) ![0, 0] S256x128.size inb_S256x384_S256x128_0_0).toLoadRect (harg3.unread x0)) (arg3.view.readAt (Elt F) (Rect.unit (s := S256x384) ![0, 128] S256x128.size inb_S256x384_S256x128_0_128).toLoadRect (harg3.unread x0)) (arg3.view.readAt (Elt F) (Rect.unit (s := S256x384) ![0, 256] S256x128.size inb_S256x384_S256x128_0_256).toLoadRect (harg3.unread x0)) x1 (harg6.unread x3) k E
      rw [hq] at e
      exact e
    · unfold inv1
      isplitl [H3]
      · iexact H3
      iexists _, _
      isplitl [HS0]
      · iexact HS0
      isplitl [HS1]
      · iexact HS1
      ipureintro
      rw [hf3]
      refine ⟨?_, ?_⟩
      · refine slots_step arg10.view fs0 _ x1 _ 0 _ _ (fun y h => absurd h (Nat.not_lt_zero _)) ?_ ?_
        · refine List.forall_mem_cons.2 ⟨fun x => ?_, fun _ h => absurd h List.not_mem_nil⟩
          refine Eq.trans ?_ (scAll_emb (qOf x0) x1 x3 ![0, 0, 0] 0 rfl inb_S17x768x256_S1x768x256_0_0_0 x).symm
          show k0_pay60 _ _ _ _ x = _
          rw [pay60_eq, hq, readAt_full _ _ _ zero2, hf1]
          rfl
        · intro y h1 h2
          refine ⟨_, List.mem_cons_self, ?_⟩
          exact mem_slot ![0, 0, 0] 0 rfl inb_S17x768x256_S1x768x256_0_0_0 y (by omega)
      · delta body_run.sl.HS1_2
        rw [read_top _ _ _ zero2]
        delta body_run.sl.v17 body_run.sl.HS1_1
        rw [readCov_top _ _ _ zero2 zero2, pay61_eq, hq, readAt_full _ _ _ zero2, hf1]
        rfl
    iintro %a HI
    unfold inv1
    icases HI with ⟨H3, %g10, %g11, HS0, HS1, %hg⟩
    sl_exec
    have htr : Scf.trips k0_t1_loop.lb k0_t1_loop.ub k0_t1_loop.st = 2 := by decide
    have htr2 : Scf.trips k0_t2_loop.lb k0_t2_loop.ub k0_t2_loop.st = 2 := by decide
    rw [htr, hf3] at hg
    obtain ⟨h10, h11⟩ := hg
    have hv26 : arg11.view.readAt (Elt F) (Rect.unit (s := S768x128) ![0, 0] S768x128.size inb_S768x128_S768x128_0_0).toLoadRect g11
        = mx (qOf x0) x1 x3 17 := by rw [readAt_full _ _ _ zero2]; exact h11
    have hM : body_run.sl.r_1 c arg11 g11 = mxOf x0 x1 x3 := by
      delta body_run.sl.r_1 body_run.sl.r
      unfold mxOf
      rw [hv26]
    rw [hM]
    have hs : ∀ (off : Fin 3 → ℕ) (j : ℕ) (h : off = ![j, 0, 0]) (hj : j < 17) (inb),
        arg10.view.readAt (Elt F) (Rect.unit (s := S17x768x256) off S1x768x256.size inb).toLoadRect g10 = sc (qOf x0) x1 x3 j :=
      fun off j h hj inb => readAt_slot arg10.view g10 (qOf x0) x1 x3 off j h 17 hj h10 inb
    sl_for (fun n _ => inv2 c arg7 arg10 arg12 arg13 (mxOf x0 x1 x3) (sc (qOf x0) x1 x3) x2 (harg7.unread x4) g10 n) $$ [H4 HS0 HS2 HS3]
    case region =>
      intro k a
      exact trip2 Variants.none c none i arg3 harg3 arg4 harg4 arg5 harg5 arg6 harg6 arg7 harg7 (Memref.whole main_arg5) (Memref.isWhole_whole _) arg9 harg9 arg10 harg10 arg11 harg11 arg12 harg12 arg13 harg13 (mxOf x0 x1 x3) (sc (qOf x0) x1 x3) x2 (harg7.unread x4) g10 hs k E
    · unfold inv2
      isplitl [H4]
      · iexact H4
      isplitl [HS0]
      · iexact HS0
      iexists _, _
      isplitl [HS2]
      · iexact HS2
      isplitl [HS3]
      · iexact HS3
      ipureintro
      rw [hf4]
      refine ⟨?_, ?_⟩
      · delta body_run.sl.HS2_2 body_run.sl.r
        rw [read_top _ _ _ zero2]
        delta body_run.sl.v48 body_run.sl.HS2_1
        rw [readCov_top _ _ _ zero2 zero2, pay70_eq, hv26, hs _ 0 rfl (by omega)]
        rfl
      · delta body_run.sl.HS3_2
        rw [read_top _ _ _ zero2]
        delta body_run.sl.r_2 body_run.sl.r body_run.sl.v56 body_run.sl.HS3_1
        rw [readCov_top _ _ _ zero2 zero2, pay71_eq, hv26, hs _ 0 rfl (by omega), readAt_full _ _ _ zero2, hf2]
        rfl
    iintro %a HI
    unfold inv2
    icases HI with ⟨H4, HS0, %g12, %g13, HS2, HS3, %hg⟩
    rw [htr2, hf4] at hg
    obtain ⟨h12, h13⟩ := hg
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      rw [readAt_full _ _ _ zero2, readAt_full _ _ _ zero2, h12, h13]
      exact View.read_writes_eq_canon _ _ _ (fun y => out_cover y _ _ _)
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Attn

end
-- ==== Proof.Attn.Run.lean ====
module

public import proofs.«01_k».proof.Proof.Attn.Body
public import proofs.«01_k».proof.Proof.Gen.KernelIdeal.Frame
public import Idealize.ShloMosaic.Lib.Claim

@[expose] public section

-- membership in a rectangle of production extents (`View.cover_of_tiled`): the elaborator's structural look
-- recurses once per coordinate of the long axes
set_option maxRecDepth 16384

noncomputable section

/-! The attention call's run: the proof data of its pipeline, the body at every grid point, and the launch. -/

namespace Cert.KernelIdeal.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Each window's current staging memref at point `t`, spelled as the pipeline passes it (`bodyAt0`), and its wholeness. -/
abbrev ms0_0 (t : Fin cfg0.N) : Memref sig .tc .vmem S256x384 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x384 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S17x768x256 .f32 := Memref.whole cc0_scratch0
abbrev scM0_1 : Memref sig .tc .vmem S768x128 .f32 := Memref.whole cc0_scratch1
abbrev scM0_2 : Memref sig .tc .vmem S768x128 .f32 := Memref.whole cc0_scratch2
abbrev scM0_3 : Memref sig .tc .vmem S768x128 .f32 := Memref.whole cc0_scratch3

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outOf (iblk m c 0 t) (iblk m c 1 t) (iblk m c 2 t) (iblk m c 3 t) (iblk m c 4 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outOf (iblk m c 0 t) (iblk m c 1 t) (iblk m c 2 t) (iblk m c 3 t) (iblk m c 4 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
  iapply ((body_run c (grid0.coords t) _ _ _ _ _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! The run and the frame. -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Attn

end
-- ==== Proof.KFrame.Frame.lean ====
module

public import proofs.«01_k».proof.Proof.Gen.Kernel.Frame
public import proofs.«01_k».proof.Proof.Gen.Kernel.Skeleton
public import proofs.«01_k».proof.Proof.Gen.Kernel.Loops
public import Idealize.ShloMosaic.Lib.Claim

@[expose] public section

-- membership in a rectangle of production extents (`View.cover_of_tiled`): the elaborator's structural look
-- recurses once per coordinate of the long axes
set_option maxRecDepth 16384

noncomputable section

/-! The frame of the kernel as written: its pipeline's proof data with the output forgotten, the body's triple, and the launch. -/

namespace Cert.Kernel.Frame

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-- Each window's current staging memref at point `t`, spelled as the pipeline passes it (`bodyAt0`), and its wholeness. -/
abbrev ms0_0 (t : Fin cfg0.N) : Memref sig .tc .vmem S256x384 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x384 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S17x768x256 .f32 := Memref.whole cc0_scratch0
abbrev scM0_1 : Memref sig .tc .vmem S768x128 .f32 := Memref.whole cc0_scratch1
abbrev scM0_2 : Memref sig .tc .vmem S768x128 .f32 := Memref.whole cc0_scratch2
abbrev scM0_3 : Memref sig .tc .vmem S768x128 .f32 := Memref.whole cc0_scratch3

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

-- (the run's proof term is large: checking it walks past the default budget)
set_option maxHeartbeats 1000000 in

theorem kernelRun0_A (c : Dev nD) (i : grid0.Coords) (arg3 : Memref sig .tc .vmem S256x384 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S4096x128 .bf16) (harg6 : arg6.IsWhole) (arg7 : Memref sig .tc .vmem S4096x128 .bf16) (harg7 : arg7.IsWhole) (arg9 : Memref sig .tc .vmem S256x384 .bf16) (harg9 : arg9.IsWhole) (arg10 : Memref sig .tc .vmem S17x768x256 .f32) (harg10 : arg10.IsWhole) (arg11 : Memref sig .tc .vmem S768x128 .f32) (harg11 : arg11.IsWhole) (arg12 : Memref sig .tc .vmem S768x128 .f32) (harg12 : arg12.IsWhole) (arg13 : Memref sig .tc .vmem S768x128 .f32) (harg13 : arg13.IsWhole)
    (x0 : Vec F S256x384 .bf16) (x1 : Vec F S256x128 .bf16) (x2 : Vec F S256x128 .bf16) (x3 : Vec F S4096x128 .bf16) (x4 : Vec F S4096x128 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_gqa_attn_lat i arg3 harg3 arg4 harg4 arg5 harg5 arg6 harg6 arg7 harg7 (Memref.whole main_arg5) (Memref.isWhole_whole _) arg9 harg9 arg10 harg10 arg11 harg11 arg12 harg12 arg13 harg13) K := by
    intro E K
    simp only [cc0_gqa_attn_lat_eq_skeleton]; unfold cc0_gqa_attn_lat_skel
    simp only [k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

/-! ## The pipeline's proof data -/

def forgets0 : Fin 6 → Bool := fun w => w.val == 5

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Frame

end
-- ==== Proof.Vals.Block.lean ====
module

public import proofs.«01_k».proof.Proof.Attn.Chunks
public import Idealize.ShloMosaic.Lib.Pointwise

@[expose] public section

set_option maxRecDepth 16384

noncomputable section

/-! The two passes of the attention block over the extended reals, read element by element. -/

namespace Cert.KernelIdeal.Vals

open Cert.KernelIdeal Cert.KernelIdeal.Gen Cert.KernelIdeal.Attn
open Idealize.ShloMosaic

variable (Q : Vec Ideal S768x128 .bf16) (X0 : Vec Ideal S256x128 .bf16) (X : Vec Ideal S4096x128 .bf16)

/-- The score of query row `R` and key `x` of block `j`. -/
def s (R : Fin 768) (j : ℕ) (x : Fin 256) : EReal := ∑ e : Fin 128, Q (ix2 R e) * chunk X0 X j (ix2 x e)

theorem sc_apply (j : ℕ) (R : Fin 768) (x : Fin 256) : sc Q X0 X j (ix3 0 R x) = s Q X0 X R j x := by
  pointwise [sc, s, k0_pay10, k0_pay9]

theorem ofBits_bot : Ideal.ofBits .f32 0xFF800000#32 = ⊥ := by
  simp [Ideal.ofBits, Ideal.ieee]

theorem mx_apply (n : ℕ) (R : Fin 768) (l : Fin 128) :
    mx Q X0 X n (ix2 R l) = (Finset.range n).sup fun j =>
      max (s Q X0 X R j ⟨l.val, by omega⟩) (s Q X0 X R j ⟨128 + l.val, by omega⟩) := by
  induction n with
  | zero => pointwise [mx, k0_pay58]; exact ofBits_bot
  | succ n ih =>
    rw [Finset.range_add_one, Finset.sup_insert, ← ih]
    pointwise [mx, k0_pay11, k0_pay9, s]
    rw [max_assoc, max_comm]

theorem pay66_apply (V : Vec Ideal S768x128 .f32) (R : Fin 768) (l : Fin 128) :
    k0_pay66 V (ix2 R l) = Finset.univ.sup fun l' : Fin 128 => (V (ix2 R l') : EReal) := by
  pointwise [k0_pay66]
  rw [ofBits_bot]
  rfl

/-- The exponential of a score less the row's maximum. -/
def p (M : Vec Ideal S768x128 .f32) (R : Fin 768) (j : ℕ) (x : Fin 256) : EReal :=
  Ideal.exp2 (s Q X0 X R j x - M (ix2 R 0))

theorem pay2_apply (M : Vec Ideal S768x128 .f32) (hM : ∀ R l, M (ix2 R l) = M (ix2 R 0)) (j : ℕ) (R : Fin 768) (x : Fin 256) :
    k0_pay2 M (sc Q X0 X j) (ix2 R x) = p Q X0 X M R j x := by
  pointwise [k0_pay2, p]
  split
  · next h =>
    rw [hM, sc_apply]; rfl
  · next h =>
    rw [hM, sc_apply]
    have e : (⟨128 + (x.val - 128), by omega⟩ : Fin 256) = x := Fin.ext (by show 128 + (x.val - 128) = x.val; omega)
    rw [e]; rfl

theorem lsum_apply (M : Vec Ideal S768x128 .f32) (hM : ∀ R l, M (ix2 R l) = M (ix2 R 0)) (n : ℕ) (R : Fin 768) (l : Fin 128) :
    lsum M (sc Q X0 X) n (ix2 R l) = ∑ j ∈ Finset.range n,
      (p Q X0 X M R j ⟨l.val, by omega⟩ + p Q X0 X M R j ⟨128 + l.val, by omega⟩) := by
  induction n with
  | zero => pointwise [lsum, k0_pay67]; exact (Finset.sum_range_zero _).symm
  | succ n ih =>
    rw [Finset.sum_range_succ, ← ih, ← pay2_apply Q X0 X M hM, ← pay2_apply Q X0 X M hM]
    pointwise [lsum, k0_pay3]
    rw [add_assoc]

theorem acc_apply (M : Vec Ideal S768x128 .f32) (hM : ∀ R l, M (ix2 R l) = M (ix2 R 0)) (v : ℕ → Vec Ideal S256x128 .bf16)
    (n : ℕ) (R : Fin 768) (d : Fin 128) :
    acc M (sc Q X0 X) v n (ix2 R d) = ∑ j ∈ Finset.range n, ∑ x : Fin 256, p Q X0 X M R j x * v j (ix2 x d) := by
  induction n with
  | zero => pointwise [acc, k0_pay68]; exact (Finset.sum_range_zero _).symm
  | succ n ih =>
    rw [Finset.sum_range_succ, ← ih]
    simp only [← pay2_apply Q X0 X M hM]
    pointwise [acc, k0_pay4]

theorem pay5_apply (A L : Vec Ideal S768x128 .f32) (R : Fin 768) (d : Fin 128) :
    k0_pay5 A L (ix2 R d) = Ideal.div (A (ix2 R d)) (∑ l : Fin 128, L (ix2 R l)) := by
  pointwise [k0_pay5]

/-- The largest score of row `R`, as the kernel leaves it in every lane. -/
def M : Vec Ideal S768x128 .f32 := k0_pay66 (mx Q X0 X 17)

theorem M_lane (R : Fin 768) (l : Fin 128) : M Q X0 X (ix2 R l) = M Q X0 X (ix2 R 0) := by
  unfold M; rw [pay66_apply, pay66_apply]

/-- Every score of the row is at most the row's maximum. -/
theorem le_M (R : Fin 768) (j : ℕ) (hj : j < 17) (x : Fin 256) : s Q X0 X R j x ≤ M Q X0 X (ix2 R 0) := by
  unfold M; rw [pay66_apply]
  by_cases h : x.val < 128
  · refine le_trans ?_ (Finset.le_sup (Finset.mem_univ (⟨x.val, h⟩ : Fin 128)))
    rw [mx_apply]
    exact le_trans (le_max_left _ _) (Finset.le_sup (f := fun j => max (s Q X0 X R j ⟨x.val, _⟩) (s Q X0 X R j ⟨128 + x.val, by omega⟩)) (Finset.mem_range.2 hj))
  · refine le_trans ?_ (Finset.le_sup (Finset.mem_univ (⟨x.val - 128, by omega⟩ : Fin 128)))
    rw [mx_apply]
    have e : x = (⟨128 + (x.val - 128), by omega⟩ : Fin 256) := Fin.ext (by show x.val = 128 + (x.val - 128); omega)
    refine le_trans ?_ (Finset.le_sup (f := fun j => max (s Q X0 X R j ⟨x.val - 128, by omega⟩) (s Q X0 X R j ⟨128 + (x.val - 128), by omega⟩)) (Finset.mem_range.2 hj))
    exact le_trans (le_of_eq (congrArg _ e)) (le_max_right _ _)

/-- A bound of every score of the row bounds the row's maximum. -/
theorem M_le (R : Fin 768) (b : EReal) (h : ∀ j < 17, ∀ x, s Q X0 X R j x ≤ b) : M Q X0 X (ix2 R 0) ≤ b := by
  unfold M; rw [pay66_apply]
  refine Finset.sup_le fun l _ => ?_
  rw [mx_apply]
  exact Finset.sup_le fun j hj => max_le (h j (Finset.mem_range.1 hj) _) (h j (Finset.mem_range.1 hj) _)

/-- One element of the attention block: the weighted sum of the values over the sum of the weights, block by block of the keys. -/
theorem block_apply (v : ℕ → Vec Ideal S256x128 .bf16) (R : Fin 768) (d : Fin 128) :
    k0_pay5 (acc (M Q X0 X) (sc Q X0 X) v 17) (lsum (M Q X0 X) (sc Q X0 X) 17) (ix2 R d)
      = Ideal.div (∑ j ∈ Finset.range 17, ∑ x : Fin 256, p Q X0 X (M Q X0 X) R j x * v j (ix2 x d))
          (∑ j ∈ Finset.range 17, ∑ x : Fin 256, p Q X0 X (M Q X0 X) R j x) := by
  rw [pay5_apply, acc_apply Q X0 X _ (M_lane Q X0 X)]
  congr 1
  simp only [lsum_apply Q X0 X _ (M_lane Q X0 X)]
  rw [Finset.sum_comm]
  refine Finset.sum_congr rfl fun j _ => ?_
  rw [Finset.sum_add_distrib]
  exact (Fin.sum_univ_add (a := 128) (b := 128) fun x => p Q X0 X (M Q X0 X) R j x).symm

end Cert.KernelIdeal.Vals

end
-- ==== Proof.Vals.Row.lean ====
module

public import Idealize.ShloMosaic.PureOps.Ideal
public import Mathlib.Analysis.SpecialFunctions.Pow.Real

@[expose] public section

noncomputable section

/-! One row of the attention over the extended reals: the kernel's two passes, with powers of two and one division at
the end, are the softmax of the scaled scores applied to the values. -/

namespace Cert.Row

open Idealize.ShloMosaic

variable {ι : Type} [Fintype ι]

/-- A sum of real numbers is a real number. -/
theorem coe_sum (f : ι → ℝ) : ((∑ i, f i : ℝ) : EReal) = ∑ i, (f i : EReal) := by
  classical
  refine Finset.induction_on (motive := fun t => ((∑ i ∈ t, f i : ℝ) : EReal) = ∑ i ∈ t, (f i : EReal)) Finset.univ (by simp) ?_
  intro a t ha ih
  rw [Finset.sum_insert ha, Finset.sum_insert ha, EReal.coe_add, ih]

/-- A real factor that is not negative goes into a sum of extended reals. -/
theorem sum_mul (f : ι → EReal) (r : ℝ) (hr : 0 ≤ r) : (∑ i, f i) * (r : EReal) = ∑ i, f i * (r : EReal) := by
  classical
  refine Finset.induction_on (motive := fun t => (∑ i ∈ t, f i) * (r : EReal) = ∑ i ∈ t, f i * (r : EReal)) Finset.univ (by simp) ?_
  intro a t ha ih
  rw [Finset.sum_insert ha, Finset.sum_insert ha, ← ih]
  exact EReal.right_distrib_of_nonneg_of_ne_top (by exact_mod_cast hr) (EReal.coe_ne_top r) _ _

/-- The scale that the kernel multiplies the queries by. -/
def c : ℝ := (1 : ℝ) / (Real.sqrt 128 * Real.log 2)

theorem sqrt_pos : 0 < Real.sqrt 128 := Real.sqrt_pos.2 (by norm_num)
theorem log_pos : 0 < Real.log 2 := Real.log_pos (by norm_num)
theorem c_pos : 0 < c := div_pos one_pos (mul_pos sqrt_pos log_pos)

/-- A power of two of the kernel's score is the exponential of the reference's. -/
theorem exp2_eq (a b : ℝ) :
    Ideal.exp2 (((c * a : ℝ) : EReal) - ((c * b : ℝ) : EReal))
      = ((Real.exp ((a - b) / Real.sqrt 128) : ℝ) : EReal) := by
  rw [← EReal.coe_sub, Ideal.exp2_coe]
  congr 1
  show (2 : ℝ) ^ (c * a - c * b) = _
  rw [Real.rpow_def_of_pos (by norm_num)]
  congr 1
  unfold c
  have h1 := sqrt_pos.ne'
  have h2 := log_pos.ne'
  field_simp

/-- The reference's weight before it is divided by the sum. -/
theorem exp_eq (a b : ℝ) :
    Ideal.exp (Ideal.div (a : EReal) ((Real.sqrt 128 : ℝ) : EReal) - Ideal.div (b : EReal) ((Real.sqrt 128 : ℝ) : EReal))
      = ((Real.exp ((a - b) / Real.sqrt 128) : ℝ) : EReal) := by
  have h1 := sqrt_pos.ne'
  have h : ∀ x : ℝ, Ideal.div (x : EReal) ((Real.sqrt 128 : ℝ) : EReal) = ((x / Real.sqrt 128 : ℝ) : EReal) := by
    intro x
    unfold Ideal.div
    rw [if_neg (by exact_mod_cast h1), ← EReal.coe_inv, ← EReal.coe_mul, div_eq_mul_inv]
  rw [h, h, ← EReal.coe_sub, Ideal.exp_coe, sub_div]

/-- The row: `z` the products of the query with the keys, `w` a column of the values, `M` and `M'` the kernel's and the
reference's maximum of the scaled scores. -/
theorem row [Nonempty ι] (z : ι → ℝ) (w : ι → EReal) (M M' : EReal)
    (hM : ∀ i, ((c * z i : ℝ) : EReal) ≤ M) (hM1 : ∀ b, (∀ i, ((c * z i : ℝ) : EReal) ≤ b) → M ≤ b)
    (hM' : ∀ i, Ideal.div (z i : EReal) ((Real.sqrt 128 : ℝ) : EReal) ≤ M')
    (hM1' : ∀ b, (∀ i, Ideal.div (z i : EReal) ((Real.sqrt 128 : ℝ) : EReal) ≤ b) → M' ≤ b) :
    Ideal.div (∑ i, Ideal.exp2 (((c * z i : ℝ) : EReal) - M) * w i) (∑ i, Ideal.exp2 (((c * z i : ℝ) : EReal) - M))
      = ∑ i, w i * Ideal.div (Ideal.exp (Ideal.div (z i : EReal) ((Real.sqrt 128 : ℝ) : EReal) - M'))
          (∑ i, Ideal.exp (Ideal.div (z i : EReal) ((Real.sqrt 128 : ℝ) : EReal) - M')) := by
  obtain ⟨i0, h0⟩ := Finite.exists_max z
  have h1 := sqrt_pos.ne'
  have hd : ∀ x : ℝ, Ideal.div (x : EReal) ((Real.sqrt 128 : ℝ) : EReal) = ((x / Real.sqrt 128 : ℝ) : EReal) := by
    intro x
    unfold Ideal.div
    rw [if_neg (by exact_mod_cast h1), ← EReal.coe_inv, ← EReal.coe_mul, div_eq_mul_inv]
  have e1 : M = ((c * z i0 : ℝ) : EReal) :=
    le_antisymm (hM1 _ fun i => by exact_mod_cast mul_le_mul_of_nonneg_left (h0 i) c_pos.le) (hM i0)
  have e2 : M' = Ideal.div (z i0 : EReal) ((Real.sqrt 128 : ℝ) : EReal) :=
    le_antisymm (hM1' _ fun i => by
      rw [hd, hd]; exact_mod_cast div_le_div_of_nonneg_right (h0 i) sqrt_pos.le) (hM' i0)
  subst e1 e2
  simp only [exp2_eq, exp_eq]
  rw [← coe_sum]
  have hL : 0 < ∑ i, Real.exp ((z i - z i0) / Real.sqrt 128) :=
    Finset.sum_pos (fun i _ => Real.exp_pos _) Finset.univ_nonempty
  generalize (∑ i, Real.exp ((z i - z i0) / Real.sqrt 128)) = L at hL
  have hdL : ∀ x : EReal, Ideal.div x (L : EReal) = x * ((L⁻¹ : ℝ) : EReal) := by
    intro x
    unfold Ideal.div
    rw [if_neg (by exact_mod_cast hL.ne'), ← EReal.coe_inv]
  simp only [hdL]
  rw [sum_mul _ _ (inv_nonneg.2 hL.le)]
  refine Finset.sum_congr rfl fun i _ => ?_
  rw [mul_comm (w i), mul_assoc, mul_assoc, mul_comm (w i)]

end Cert.Row

end
-- ==== Proof.Vals.Out.lean ====
module

public import proofs.«01_k».proof.Proof.Vals.Block
public import proofs.«01_k».proof.Proof.Vals.Row
public import proofs.«01_k».proof.Proof.Attn.Body

@[expose] public section

set_option maxRecDepth 16384

noncomputable section

/-! The output block of one grid point is the softmax attention of its query block, element by element. -/

namespace Cert.KernelIdeal.Vals

open Cert.KernelIdeal Cert.KernelIdeal.Gen Cert.KernelIdeal.Attn
open Idealize.ShloMosaic

theorem qOf_apply (x0 : Vec Ideal S256x384 .bf16) (g : Fin 3) (a : Fin 256) (e : Fin 128) :
    qOf x0 (ix2 ⟨256 * g.val + a.val, by omega⟩ e) = x0 (ix2 a ⟨128 * g.val + e.val, by omega⟩) := by
  fin_cases g
  · pointwise [qOf, k0_pay57]
  · pointwise [qOf, k0_pay57]
  · pointwise [qOf, k0_pay57]
    rw [dif_neg (by omega), dif_neg (by omega)]
    exact congrArg₂ (fun r c => x0 (ix2 r c)) (Fin.ext (by show 512 + a.val - 256 - 256 = a.val; omega)) rfl

theorem outOf_apply (x0 : Vec Ideal S256x384 .bf16) (x1 x2 : Vec Ideal S256x128 .bf16) (x3 x4 : Vec Ideal S4096x128 .bf16)
    (g : Fin 3) (a : Fin 256) (d : Fin 128) :
    outOf x0 x1 x2 x3 x4 (ix2 a ⟨128 * g.val + d.val, by omega⟩)
      = k0_pay5 (accOf x0 x1 x2 x3 x4) (lsOf x0 x1 x3) (ix2 ⟨256 * g.val + a.val, by omega⟩ d) := by
  let G : Vec Ideal S256x384 .bf16 := fun y =>
    k0_pay5 (accOf x0 x1 x2 x3 x4) (lsOf x0 x1 x3)
      (ix2 ⟨256 * ((y 1).val / 128) + (y 0).val, by have := (y 1).isLt; have := (y 0).isLt; simp at *; omega⟩ ⟨(y 1).val % 128, Nat.mod_lt _ (by decide)⟩)
  have h : ∀ y, outOf x0 x1 x2 x3 x4 y = G y := by
    intro y
    unfold outOf
    refine View.canon_apply_of_pieces G _ ?_ y (out_cover y _ _ _)
    refine List.forall_mem_cons.2 ⟨fun x => ?_, List.forall_mem_cons.2 ⟨fun x => ?_, List.forall_mem_cons.2 ⟨fun x => ?_, fun _ h => absurd h List.not_mem_nil⟩⟩⟩
    · obtain ⟨r, e, rfl⟩ : ∃ (r : Fin 256) (e : Fin 128), x = ix2 r e := by idx_vars x; exact ⟨_, _, rfl⟩
      pointwise [k0_pay8, G]
      refine congrArg₂ (fun r c => k0_pay5 (accOf x0 x1 x2 x3 x4) (lsOf x0 x1 x3) (ix2 r c)) (Fin.ext ?_) (Fin.ext ?_)
      · show 512 + r.val = 256 * ((256 + 1 * e.val) / 128) + (0 + 1 * r.val); omega
      · show e.val = (256 + 1 * e.val) % 128; omega
    · obtain ⟨r, e, rfl⟩ : ∃ (r : Fin 256) (e : Fin 128), x = ix2 r e := by idx_vars x; exact ⟨_, _, rfl⟩
      pointwise [k0_pay7, G]
      refine congrArg₂ (fun r c => k0_pay5 (accOf x0 x1 x2 x3 x4) (lsOf x0 x1 x3) (ix2 r c)) (Fin.ext ?_) (Fin.ext ?_)
      · show 256 + r.val = 256 * ((128 + 1 * e.val) / 128) + (0 + 1 * r.val); omega
      · show e.val = (128 + 1 * e.val) % 128; omega
    · obtain ⟨r, e, rfl⟩ : ∃ (r : Fin 256) (e : Fin 128), x = ix2 r e := by idx_vars x; exact ⟨_, _, rfl⟩
      pointwise [k0_pay6, G]
      refine congrArg₂ (fun r c => k0_pay5 (accOf x0 x1 x2 x3 x4) (lsOf x0 x1 x3) (ix2 r c)) (Fin.ext ?_) (Fin.ext ?_)
      · show r.val = 256 * ((0 + 1 * e.val) / 128) + (0 + 1 * r.val); omega
      · show e.val = (0 + 1 * e.val) % 128; omega
  rw [h]
  pointwise [G]
  refine congrArg₂ (fun r c => k0_pay5 (accOf x0 x1 x2 x3 x4) (lsOf x0 x1 x3) (ix2 r c)) (Fin.ext ?_) (Fin.ext ?_)
  · show 256 * ((128 * g.val + d.val) / 128) + a.val = 256 * g.val + a.val; omega
  · show (128 * g.val + d.val) % 128 = d.val; omega

/-- A sum over the seventeen blocks of 256 keys is the sum over the 4352 keys. -/
theorem sum_blocks (f : ℕ → Fin 256 → EReal) (F : Fin 4352 → EReal)
    (h : ∀ (j : Fin 17) (x : Fin 256), f j.val x = F ⟨256 * j.val + x.val, by omega⟩) :
    ∑ j ∈ Finset.range 17, ∑ x, f j x = ∑ n, F n := by
  rw [Finset.sum_range, ← Fintype.sum_prod_type' (f := fun (j : Fin 17) (x : Fin 256) => f j.val x)]
  let e : Fin 17 × Fin 256 ≃ Fin 4352 :=
    { toFun := fun y => ⟨256 * y.1.val + y.2.val, by omega⟩
      invFun := fun n => (⟨n.val / 256, by omega⟩, ⟨n.val % 256, Nat.mod_lt _ (by decide)⟩)
      left_inv := fun y => Prod.ext (Fin.ext (by show (256 * y.1.val + y.2.val) / 256 = y.1.val; omega))
        (Fin.ext (by show (256 * y.1.val + y.2.val) % 256 = y.2.val; omega))
      right_inv := fun n => Fin.ext (by show 256 * (n.val / 256) + n.val % 256 = n.val; omega) }
  exact Fintype.sum_equiv e _ _ fun y => h y.1 y.2

/-- One element of the output block, where the query row and the keys are real numbers: the softmax of the row's scores, over all
the keys, applied to the values. -/
theorem out_row (x0 : Vec Ideal S256x384 .bf16) (x1 x2 : Vec Ideal S256x128 .bf16) (x3 x4 : Vec Ideal S4096x128 .bf16)
    (g : Fin 3) (a : Fin 256) (d : Fin 128) (q : Fin 128 → ℝ) (k : Fin 4352 → Fin 128 → ℝ) (w : Fin 4352 → EReal) (M' : EReal)
    (hq : ∀ e : Fin 128, x0 (ix2 a ⟨128 * g.val + e.val, by omega⟩) = ((q e * Row.c : ℝ) : EReal))
    (hk : ∀ (j : Fin 17) (x : Fin 256) (e : Fin 128), chunk x1 x3 j.val (ix2 x e) = (k ⟨256 * j.val + x.val, by omega⟩ e : EReal))
    (hw : ∀ (j : Fin 17) (x : Fin 256), chunk x2 x4 j.val (ix2 x d) = w ⟨256 * j.val + x.val, by omega⟩)
    (hM' : ∀ n, Ideal.div ((∑ e, q e * k n e : ℝ) : EReal) ((Real.sqrt 128 : ℝ) : EReal) ≤ M')
    (hM1' : ∀ b, (∀ n, Ideal.div ((∑ e, q e * k n e : ℝ) : EReal) ((Real.sqrt 128 : ℝ) : EReal) ≤ b) → M' ≤ b) :
    outOf x0 x1 x2 x3 x4 (ix2 a ⟨128 * g.val + d.val, by omega⟩)
      = ∑ n, w n * Ideal.div (Ideal.exp (Ideal.div ((∑ e, q e * k n e : ℝ) : EReal) ((Real.sqrt 128 : ℝ) : EReal) - M'))
          (∑ n, Ideal.exp (Ideal.div ((∑ e, q e * k n e : ℝ) : EReal) ((Real.sqrt 128 : ℝ) : EReal) - M')) := by
  rw [outOf_apply]
  have hs : ∀ (j : Fin 17) (x : Fin 256), s (qOf x0) x1 x3 ⟨256 * g.val + a.val, by omega⟩ j.val x
      = ((Row.c * ∑ e, q e * k ⟨256 * j.val + x.val, by omega⟩ e : ℝ) : EReal) := by
    intro j x
    unfold s
    rw [Finset.mul_sum, Row.coe_sum]
    refine Finset.sum_congr rfl fun e _ => ?_
    rw [qOf_apply, hq, hk, ← EReal.coe_mul]
    congr 1; ring
  have hn : ∀ n : Fin 4352, ∃ (j : Fin 17) (x : Fin 256), n = ⟨256 * j.val + x.val, by omega⟩ := fun n =>
    ⟨⟨n.val / 256, by omega⟩, ⟨n.val % 256, Nat.mod_lt _ (by decide)⟩, Fin.ext (by show n.val = 256 * (n.val / 256) + n.val % 256; omega)⟩
  refine (block_apply (qOf x0) x1 x3 (chunk x2 x4) ⟨256 * g.val + a.val, by omega⟩ d).trans ?_
  rw [← Row.row (ι := Fin 4352) (fun n => ∑ e, q e * k n e) w (M (qOf x0) x1 x3 (ix2 ⟨256 * g.val + a.val, by omega⟩ 0)) M' ?_ ?_ hM' hM1']
  · refine congrArg₂ Ideal.div (sum_blocks _ _ fun j x => ?_) (sum_blocks _ _ fun j x => ?_)
    · unfold p
      rw [hs, hw]
    · unfold p
      rw [hs]
  · intro n
    obtain ⟨j, x, rfl⟩ := hn n
    rw [← hs]
    exact le_M _ _ _ _ _ j.isLt _
  · intro b hb
    refine M_le _ _ _ _ b fun j hj x => ?_
    exact (hs ⟨j, hj⟩ x).trans_le (hb _)

end Cert.KernelIdeal.Vals

end
-- ==== Proof.Vals.Entry.lean ====
module

public import proofs.«01_k».proof.Proof.Vals.Out
public import proofs.«01_k».proof.Proof.Attn.Run
public import Idealize.ShloMosaic.Lib.Claim
public import Idealize.ShloMosaic.Lib.Pipeline.ValueKit

@[expose] public section

set_option maxRecDepth 16384

noncomputable section

/-! The arrays that the attention call reads, as the host leaves them, and the blocks of them at a grid point. -/

namespace Cert.KernelIdeal.Vals

open Cert.KernelIdeal Cert.KernelIdeal.Gen Cert.KernelIdeal.Attn
open Idealize.ShloMosaic Idealize.ShloMosaic.TcCoe

variable (m : (ℓ : Loc nD τ sig) → Buf (Elt Ideal) ℓ) (c : Dev nD)

/-- The arguments, as arrays. -/
def aQ : Vec Ideal S16384x12x128 .f32 := m ((c.tc : Thread nD τ).loc main_arg0)
def aK : Vec Ideal S16384x4x128 .f32 := m ((c.tc : Thread nD τ).loc main_arg1)
def aV : Vec Ideal S16384x4x128 .f32 := m ((c.tc : Thread nD τ).loc main_arg2)
def aCK : Vec Ideal S2x256x4x128 .f32 := m ((c.tc : Thread nD τ).loc main_arg3)
def aCV : Vec Ideal S2x256x4x128 .f32 := m ((c.tc : Thread nD τ).loc main_arg4)

/-- The scale, as the host computes it. -/
def scale : EReal :=
  Ideal.div (Ideal.ofBits .f32 0x3F800000#32) (Ideal.sqrt (Ideal.ofBits .f32 0x43000000#32) * Ideal.log (Ideal.ofBits .f32 0x40000000#32))

theorem scale_eq : scale = ((Row.c : ℝ) : EReal) := by
  have h1 : Ideal.ofBits .f32 0x3F800000#32 = ((1 : ℝ) : EReal) := by
    simp [Ideal.ofBits, Ideal.ieee]
    rw [← EReal.coe_mul]
    norm_num
  have h2 : Ideal.ofBits .f32 0x43000000#32 = ((128 : ℝ) : EReal) := by
    simp [Ideal.ofBits, Ideal.ieee]
    rw [← EReal.coe_mul]
    norm_num
  have h3 : Ideal.ofBits .f32 0x40000000#32 = ((2 : ℝ) : EReal) := by
    simp [Ideal.ofBits, Ideal.ieee]
    rw [← EReal.coe_mul]
    norm_num
  have h4 : (Real.sqrt 128 * Real.log 2) ≠ 0 := (mul_pos Row.sqrt_pos Row.log_pos).ne'
  unfold scale
  rw [h1, h2, h3, Ideal.sqrt_coe, Ideal.log_coe, if_neg (by norm_num), if_neg (by norm_num), ← EReal.coe_mul]
  unfold Ideal.div
  rw [if_neg (by exact_mod_cast h4), ← EReal.coe_inv, ← EReal.coe_mul]
  unfold Row.c
  rw [one_mul, one_div]

theorem entry_q (i : S16384x1536.Idx) :
    (V m c main_v7 : Vec Ideal S16384x1536 .bf16) i
      = (aQ m c (ix3 (i 0) ⟨(i 1).val / 128, by have : (i 1).val < 1536 := (i 1).isLt; omega⟩ ⟨(i 1).val % 128, Nat.mod_lt _ (by decide)⟩) : EReal) * scale := by
  show V m c main_v7 i = _
  entry_read
  pointwise [aQ, scale]
  try rfl

theorem entry_ck (i : S512x512.Idx) :
    (V m c main_v9 : Vec Ideal S512x512 .bf16) i
      = aCK m c (ix4 ⟨(i 0).val / 256, by have : (i 0).val < 512 := (i 0).isLt; omega⟩ ⟨(i 0).val % 256, Nat.mod_lt _ (by decide)⟩
         ⟨(i 1).val / 128, by have : (i 1).val < 512 := (i 1).isLt; omega⟩ ⟨(i 1).val % 128, Nat.mod_lt _ (by decide)⟩) := by
  show V m c main_v9 i = _
  entry_read
  pointwise [aCK]
  try rfl

theorem entry_cv (i : S512x512.Idx) :
    (V m c main_v11 : Vec Ideal S512x512 .bf16) i
      = aCV m c (ix4 ⟨(i 0).val / 256, by have : (i 0).val < 512 := (i 0).isLt; omega⟩ ⟨(i 0).val % 256, Nat.mod_lt _ (by decide)⟩
         ⟨(i 1).val / 128, by have : (i 1).val < 512 := (i 1).isLt; omega⟩ ⟨(i 1).val % 128, Nat.mod_lt _ (by decide)⟩) := by
  show V m c main_v11 i = _
  entry_read
  pointwise [aCV]
  try rfl

theorem entry_k (i : S16384x512.Idx) :
    (V m c main_v13 : Vec Ideal S16384x512 .bf16) i
      = aK m c (ix3 (i 0) ⟨(i 1).val / 128, by have : (i 1).val < 512 := (i 1).isLt; omega⟩ ⟨(i 1).val % 128, Nat.mod_lt _ (by decide)⟩) := by
  show V m c main_v13 i = _
  entry_read
  pointwise [aK]
  try rfl

theorem entry_v (i : S16384x512.Idx) :
    (V m c main_v15 : Vec Ideal S16384x512 .bf16) i
      = aV m c (ix3 (i 0) ⟨(i 1).val / 128, by have : (i 1).val < 512 := (i 1).isLt; omega⟩ ⟨(i 1).val % 128, Nat.mod_lt _ (by decide)⟩) := by
  show V m c main_v15 i = _
  entry_read
  pointwise [aV]
  try rfl

theorem entry_o : V m c main_v16 = m ((c.tc : Thread nD τ).loc main_arg5) := by
  entry_read
  rfl

/-! The blocks at a grid point: their rows and columns in the arrays. -/

theorem idx0 : ∀ t : Fin cfg0.N, win0_0.index t = ![32 + 16 * (grid0.coords t 0).val + (grid0.coords t 2).val, (grid0.coords t 1).val] := by
  decide +kernel
theorem idx1 : ∀ t : Fin cfg0.N, win0_1.index t = ![(grid0.coords t 0).val, (grid0.coords t 1).val] := by
  decide +kernel
theorem idx2 : ∀ t : Fin cfg0.N, win0_2.index t = ![(grid0.coords t 0).val, (grid0.coords t 1).val] := by
  decide +kernel
theorem idx3 : ∀ t : Fin cfg0.N, win0_3.index t = ![2 + (grid0.coords t 0).val, (grid0.coords t 1).val] := by
  decide +kernel
theorem idx4 : ∀ t : Fin cfg0.N, win0_4.index t = ![2 + (grid0.coords t 0).val, (grid0.coords t 1).val] := by
  decide +kernel
theorem idx5 : ∀ t : Fin cfg0.N, win0_5.index t = ![32 + 16 * (grid0.coords t 0).val + (grid0.coords t 2).val, (grid0.coords t 1).val] := by
  decide +kernel

theorem iblk_q (t : Fin cfg0.N) (y : S256x384.Idx) : ∃ i : S16384x1536.Idx,
    (i 0).val = (32 + 16 * (grid0.coords t 0).val + (grid0.coords t 2).val) * 256 + (y 0).val ∧
    (i 1).val = (grid0.coords t 1).val * 384 + (y 1).val ∧ iblk m c 0 t y = V m c main_v7 i := by
  refine ⟨(win0_0.blk t).view.emb y, ?_, ?_, rfl⟩
  · blk_simp [idx0]
  · blk_simp [idx0]

theorem iblk_ck (t : Fin cfg0.N) (y : S256x128.Idx) : ∃ i : S512x512.Idx,
    (i 0).val = (grid0.coords t 0).val * 256 + (y 0).val ∧
    (i 1).val = (grid0.coords t 1).val * 128 + (y 1).val ∧ iblk m c 1 t y = V m c main_v9 i := by
  refine ⟨(win0_1.blk t).view.emb y, ?_, ?_, rfl⟩
  · blk_simp [idx1]
  · blk_simp [idx1]

theorem iblk_cv (t : Fin cfg0.N) (y : S256x128.Idx) : ∃ i : S512x512.Idx,
    (i 0).val = (grid0.coords t 0).val * 256 + (y 0).val ∧
    (i 1).val = (grid0.coords t 1).val * 128 + (y 1).val ∧ iblk m c 2 t y = V m c main_v11 i := by
  refine ⟨(win0_2.blk t).view.emb y, ?_, ?_, rfl⟩
  · blk_simp [idx2]
  · blk_simp [idx2]

theorem iblk_k (t : Fin cfg0.N) (y : S4096x128.Idx) : ∃ i : S16384x512.Idx,
    (i 0).val = (2 + (grid0.coords t 0).val) * 4096 + (y 0).val ∧
    (i 1).val = (grid0.coords t 1).val * 128 + (y 1).val ∧ iblk m c 3 t y = V m c main_v13 i := by
  refine ⟨(win0_3.blk t).view.emb y, ?_, ?_, rfl⟩
  · blk_simp [idx3]
  · blk_simp [idx3]

theorem iblk_v (t : Fin cfg0.N) (y : S4096x128.Idx) : ∃ i : S16384x512.Idx,
    (i 0).val = (2 + (grid0.coords t 0).val) * 4096 + (y 0).val ∧
    (i 1).val = (grid0.coords t 1).val * 128 + (y 1).val ∧ iblk m c 4 t y = V m c main_v15 i := by
  refine ⟨(win0_4.blk t).view.emb y, ?_, ?_, rfl⟩
  · blk_simp [idx4]
  · blk_simp [idx4]

end Cert.KernelIdeal.Vals

end
-- ==== Proof.Vals.Spec.lean ====
module

public import Idealize.ShloMosaic.PureOps.Ideal
public import Idealize.ShloMosaic.Lib.Pointwise
public import proofs.«01_k».proof.Proof.Vals.Row

@[expose] public section

set_option maxRecDepth 16384

noncomputable section

/-! The attention of a query over the context and the latent keys, over the extended reals. -/

namespace Cert.Spec

open Idealize.ShloMosaic

variable (Q : FVec Ideal ⟨3, ![16384, 12, 128]⟩ .f32) (K V : FVec Ideal ⟨3, ![16384, 4, 128]⟩ .f32)
  (CK CV : FVec Ideal ⟨4, ![2, 256, 4, 128]⟩ .f32) (b : Fin 2) (h : Fin 4) (g : Fin 3) (i : Fin 4096)

/-- Row `n` of the 4352 keys (or values) of image `b` and head `h`: the context's 256, then the latent's 4096. -/
def row (n : Fin 4352) (e : Fin 128) : EReal :=
  if hn : n.val < 256 then CK (ix4 b ⟨n.val, hn⟩ h e) else K (ix3 ⟨8192 + (b.val * 4096 + (n.val - 256)), by omega⟩ h e)

/-- The scaled score of a query and key `n`. -/
def score (n : Fin 4352) : EReal :=
  Ideal.div (∑ e : Fin 128, row K CK b h n e * (Q (ix3 ⟨8192 + (b.val * 4096 + i.val), by omega⟩ ⟨h.val * 3 + g.val, by omega⟩ e) : EReal))
    ((Real.sqrt 128 : ℝ) : EReal)

/-- The exponential of a score less the largest. -/
def weight (n : Fin 4352) : EReal :=
  Ideal.exp (score Q K CK b h g i n - Finset.univ.sup fun n => score Q K CK b h g i n)

/-- The softmax of the scores, applied to the values. -/
def att (d : Fin 128) : EReal :=
  ∑ n : Fin 4352, row V CV b h n d * Ideal.div (weight Q K CK b h g i n) (∑ n : Fin 4352, weight Q K CK b h g i n)

end Cert.Spec

end
-- ==== Proof.Vals.Array.lean ====
module

public import proofs.«01_k».proof.Proof.Vals.Entry
public import proofs.«01_k».proof.Proof.Vals.Spec

@[expose] public section

set_option maxRecDepth 16384

noncomputable section

/-! The array the attention call leaves: the attention on the latent rows, the old contents on the others. -/

namespace Cert.KernelIdeal.Vals

open Cert.KernelIdeal Cert.KernelIdeal.Gen Cert.KernelIdeal.Attn
open Idealize.ShloMosaic Idealize.ShloMosaic.TcCoe

variable (m : (ℓ : Loc nD τ sig) → Buf (Elt Ideal) ℓ) (c : Dev nD)

/-- The image, the head and the query block of a grid point. -/
def pb (t : Fin cfg0.N) : Fin 2 := ⟨(grid0.coords t 0).val, (grid0.coords t 0).isLt⟩
def ph (t : Fin cfg0.N) : Fin 4 := ⟨(grid0.coords t 1).val, (grid0.coords t 1).isLt⟩
def pi (t : Fin cfg0.N) : Fin 16 := ⟨(grid0.coords t 2).val, (grid0.coords t 2).isLt⟩

theorem blk_q (t : Fin cfg0.N) (a : Fin 256) (g : Fin 3) (e : Fin 128) :
    (iblk m c 0 t : Vec Ideal S256x384 .bf16) (ix2 a ⟨128 * g.val + e.val, by omega⟩)
      = (aQ m c (ix3 ⟨8192 + ((pb t).val * 4096 + ((pi t).val * 256 + a.val)), by omega⟩ ⟨(ph t).val * 3 + g.val, by omega⟩ e) : EReal) * scale := by
  obtain ⟨i, h0, h1, hi⟩ := iblk_q m c t (ix2 a ⟨128 * g.val + e.val, by omega⟩)
  have h0' : (i 0).val = (32 + 16 * (pb t).val + (pi t).val) * 256 + a.val := h0
  have h1' : (i 1).val = (ph t).val * 384 + (128 * g.val + e.val) := h1
  refine hi.trans ((entry_q m c i).trans ?_)
  congr 2
  refine congr (congrArg₂ ix3 (Fin.ext ?_) (Fin.ext ?_)) (Fin.ext ?_)
  · show (i 0).val = _; rw [h0']; show _ = 8192 + ((pb t).val * 4096 + ((pi t).val * 256 + a.val)); omega
  · show (i 1).val / 128 = (ph t).val * 3 + g.val; omega
  · show (i 1).val % 128 = e.val; omega

theorem chunk_k (t : Fin cfg0.N) (j : Fin 17) (x : Fin 256) (e : Fin 128) :
    chunk (iblk m c 1 t : Vec Ideal S256x128 .bf16) (iblk m c 3 t : Vec Ideal S4096x128 .bf16) j.val (ix2 x e)
      = Spec.row (aK m c) (aCK m c) (pb t) (ph t) ⟨256 * j.val + x.val, by omega⟩ e := by
  unfold chunk Spec.row
  by_cases hj : j.val = 0
  · rw [if_pos hj, dif_pos (by show 256 * j.val + x.val < 256; omega)]
    obtain ⟨i, h0, h1, hi⟩ := iblk_ck m c t (ix2 x e)
    have h0' : (i 0).val = (pb t).val * 256 + x.val := h0
    have h1' : (i 1).val = (ph t).val * 128 + e.val := h1
    refine hi.trans ((entry_ck m c i).trans ?_)
    refine congrArg (aCK m c) (congr (congr (congrArg₂ ix4 (Fin.ext ?_) (Fin.ext ?_)) (Fin.ext ?_)) (Fin.ext ?_))
    · show (i 0).val / 256 = (pb t).val; omega
    · show (i 0).val % 256 = 256 * j.val + x.val; omega
    · show (i 1).val / 128 = (ph t).val; omega
    · show (i 1).val % 128 = e.val; omega
  · rw [if_neg hj, dif_neg (by show ¬ 256 * j.val + x.val < 256; omega)]
    obtain ⟨i, h0, h1, hi⟩ := iblk_k m c t (fun a => ⟨((![256 * (j.val - 1), 0] : Fin 2 → ℕ) a + (ix2 x e a).val) % S4096x128.size a,
      Nat.mod_lt _ (by match a with | 0 => decide | 1 => decide)⟩)
    have h0' : (i 0).val = (2 + (pb t).val) * 4096 + (256 * (j.val - 1) + x.val) % 4096 := h0
    have h1' : (i 1).val = (ph t).val * 128 + (0 + e.val) % 128 := h1
    refine hi.trans ((entry_k m c i).trans ?_)
    refine congrArg (aK m c) (congr (congrArg₂ ix3 (Fin.ext ?_) (Fin.ext ?_)) (Fin.ext ?_))
    · show (i 0).val = 8192 + ((pb t).val * 4096 + (256 * j.val + x.val - 256)); omega
    · show (i 1).val / 128 = (ph t).val; omega
    · show (i 1).val % 128 = e.val; omega

theorem chunk_v (t : Fin cfg0.N) (j : Fin 17) (x : Fin 256) (e : Fin 128) :
    chunk (iblk m c 2 t : Vec Ideal S256x128 .bf16) (iblk m c 4 t : Vec Ideal S4096x128 .bf16) j.val (ix2 x e)
      = Spec.row (aV m c) (aCV m c) (pb t) (ph t) ⟨256 * j.val + x.val, by omega⟩ e := by
  unfold chunk Spec.row
  by_cases hj : j.val = 0
  · rw [if_pos hj, dif_pos (by show 256 * j.val + x.val < 256; omega)]
    obtain ⟨i, h0, h1, hi⟩ := iblk_cv m c t (ix2 x e)
    have h0' : (i 0).val = (pb t).val * 256 + x.val := h0
    have h1' : (i 1).val = (ph t).val * 128 + e.val := h1
    refine hi.trans ((entry_cv m c i).trans ?_)
    refine congrArg (aCV m c) (congr (congr (congrArg₂ ix4 (Fin.ext ?_) (Fin.ext ?_)) (Fin.ext ?_)) (Fin.ext ?_))
    · show (i 0).val / 256 = (pb t).val; omega
    · show (i 0).val % 256 = 256 * j.val + x.val; omega
    · show (i 1).val / 128 = (ph t).val; omega
    · show (i 1).val % 128 = e.val; omega
  · rw [if_neg hj, dif_neg (by show ¬ 256 * j.val + x.val < 256; omega)]
    obtain ⟨i, h0, h1, hi⟩ := iblk_v m c t (fun a => ⟨((![256 * (j.val - 1), 0] : Fin 2 → ℕ) a + (ix2 x e a).val) % S4096x128.size a,
      Nat.mod_lt _ (by match a with | 0 => decide | 1 => decide)⟩)
    have h0' : (i 0).val = (2 + (pb t).val) * 4096 + (256 * (j.val - 1) + x.val) % 4096 := h0
    have h1' : (i 1).val = (ph t).val * 128 + (0 + e.val) % 128 := h1
    refine hi.trans ((entry_v m c i).trans ?_)
    refine congrArg (aV m c) (congr (congrArg₂ ix3 (Fin.ext ?_) (Fin.ext ?_)) (Fin.ext ?_))
    · show (i 0).val = 8192 + ((pb t).val * 4096 + (256 * j.val + x.val - 256)); omega
    · show (i 1).val / 128 = (ph t).val; omega
    · show (i 1).val % 128 = e.val; omega

/-- The queries and the keys are real numbers. -/
def AllReal : Prop := (∀ i, ∃ r : ℝ, (aQ m c i : EReal) = r) ∧ (∀ i, ∃ r : ℝ, (aK m c i : EReal) = r) ∧ (∀ i, ∃ r : ℝ, (aCK m c i : EReal) = r)

theorem row_real (hf : AllReal m c) (b : Fin 2) (h : Fin 4) (n : Fin 4352) (e : Fin 128) : ∃ r : ℝ, Spec.row (aK m c) (aCK m c) b h n e = r := by
  unfold Spec.row
  split
  · exact hf.2.2 _
  · exact hf.2.1 _

/-- The output block of a grid point is the attention of its queries. -/
theorem out_point (hf : AllReal m c) (t : Fin cfg0.N) (a : Fin 256) (g : Fin 3) (d : Fin 128) :
    outOf (iblk m c 0 t : Vec Ideal S256x384 .bf16) (iblk m c 1 t : Vec Ideal S256x128 .bf16) (iblk m c 2 t : Vec Ideal S256x128 .bf16)
        (iblk m c 3 t : Vec Ideal S4096x128 .bf16) (iblk m c 4 t : Vec Ideal S4096x128 .bf16) (ix2 a ⟨128 * g.val + d.val, by omega⟩)
      = Spec.att (aQ m c) (aK m c) (aV m c) (aCK m c) (aCV m c) (pb t) (ph t) g ⟨(pi t).val * 256 + a.val, by omega⟩ d := by
  choose q hq using fun e : Fin 128 => hf.1 (ix3 ⟨8192 + ((pb t).val * 4096 + ((pi t).val * 256 + a.val)), by omega⟩ ⟨(ph t).val * 3 + g.val, by omega⟩ e)
  choose k hk using fun (n : Fin 4352) (e : Fin 128) => row_real m c hf (pb t) (ph t) n e
  have hs : ∀ n, Spec.score (aQ m c) (aK m c) (aCK m c) (pb t) (ph t) g ⟨(pi t).val * 256 + a.val, by omega⟩ n
      = Ideal.div ((∑ e, q e * k n e : ℝ) : EReal) ((Real.sqrt 128 : ℝ) : EReal) := by
    intro n
    unfold Spec.score
    rw [Row.coe_sum]
    refine congrArg (Ideal.div · _) (Finset.sum_congr rfl fun e _ => ?_)
    rw [hk, hq, ← EReal.coe_mul, mul_comm]
  rw [out_row _ _ _ _ _ g a d q k (fun n => Spec.row (aV m c) (aCV m c) (pb t) (ph t) n d)
    (Finset.univ.sup fun n => Spec.score (aQ m c) (aK m c) (aCK m c) (pb t) (ph t) g ⟨(pi t).val * 256 + a.val, by omega⟩ n)
    (fun e => by rw [blk_q, hq, scale_eq, ← EReal.coe_mul]) (fun j x e => by rw [chunk_k, hk]) (fun j x => chunk_v m c t j x d)
    (fun n => by rw [← hs]; exact Finset.le_sup (f := fun n => Spec.score (aQ m c) (aK m c) (aCK m c) (pb t) (ph t) g ⟨(pi t).val * 256 + a.val, by omega⟩ n) (Finset.mem_univ n))
    (fun b hb => Finset.sup_le fun n _ => by rw [hs]; exact hb n)]
  unfold Spec.att Spec.weight
  simp only [← hs]

/-- The attention, by its place in the array. -/
def attArr : Vec Ideal S16384x1536 .bf16 := fun i =>
  Spec.att (aQ m c) (aK m c) (aV m c) (aCK m c) (aCV m c)
    ⟨((i 0).val - 8192) / 4096, by have : (i 0).val < 16384 := (i 0).isLt; omega⟩
    ⟨(i 1).val / 384, by have : (i 1).val < 1536 := (i 1).isLt; omega⟩
    ⟨(i 1).val / 128 % 3, Nat.mod_lt _ (by decide)⟩
    ⟨((i 0).val - 8192) % 4096, Nat.mod_lt _ (by decide)⟩
    ⟨(i 1).val % 128, Nat.mod_lt _ (by decide)⟩

theorem att_congr {b b' : Fin 2} {h h' : Fin 4} {g g' : Fin 3} {i i' : Fin 4096} {d d' : Fin 128} (e1 : b.val = b'.val) (e2 : h.val = h'.val)
    (e3 : g.val = g'.val) (e4 : i.val = i'.val) (e5 : d.val = d'.val) :
    Spec.att (aQ m c) (aK m c) (aV m c) (aCK m c) (aCV m c) b h g i d = Spec.att (aQ m c) (aK m c) (aV m c) (aCK m c) (aCV m c) b' h' g' i' d' := by
  obtain rfl := Fin.ext e1; obtain rfl := Fin.ext e2; obtain rfl := Fin.ext e3; obtain rfl := Fin.ext e4; obtain rfl := Fin.ext e5
  rfl

theorem out_block (hf : AllReal m c) (t : Fin cfg0.N) (y : S256x384.Idx) (i : S16384x1536.Idx)
    (h0 : (i 0).val = (32 + 16 * (pb t).val + (pi t).val) * 256 + (y 0).val) (h1 : (i 1).val = (ph t).val * 384 + (y 1).val) :
    outOf (iblk m c 0 t : Vec Ideal S256x384 .bf16) (iblk m c 1 t : Vec Ideal S256x128 .bf16) (iblk m c 2 t : Vec Ideal S256x128 .bf16)
        (iblk m c 3 t : Vec Ideal S4096x128 .bf16) (iblk m c 4 t : Vec Ideal S4096x128 .bf16) y = attArr m c i := by
  have y0 : (y 0).val < 256 := (y 0).isLt
  have y1 : (y 1).val < 384 := (y 1).isLt
  have ey : y = ix2 (⟨(y 0).val, y0⟩ : Fin 256) (⟨128 * (⟨(y 1).val / 128, by omega⟩ : Fin 3).val + (⟨(y 1).val % 128, Nat.mod_lt _ (by decide)⟩ : Fin 128).val, by show 128 * ((y 1).val / 128) + (y 1).val % 128 < 384; omega⟩ : Fin 384) := by
    funext a
    apply Fin.ext
    match a with
    | 0 => rfl
    | 1 => show (y 1).val = 128 * ((y 1).val / 128) + (y 1).val % 128; omega
  rw [ey, out_point m c hf]
  unfold attArr
  refine att_congr m c ?_ ?_ ?_ ?_ ?_
  · show (pb t).val = ((i 0).val - 8192) / 4096; omega
  · show (ph t).val = (i 1).val / 384; omega
  · show (y 1).val / 128 = (i 1).val / 128 % 3; omega
  · show (pi t).val * 256 + (y 0).val = ((i 0).val - 8192) % 4096; omega
  · show (y 1).val % 128 = (i 1).val % 128; omega

/-- The array after the run. -/
theorem final (hf : AllReal m c) : (dats m 0 c).arrAt 5 cfg0.N
    = fun i => if 32 ≤ ((i 0 : ℕ)) / 256 then attArr m c i else V m c main_v16 i := by
  refine (dats m 0 c).arrAt_eq_of_coversWhere 5 (attArr m c) (fun β => 32 ≤ β (0 : Fin _)) (by decide +kernel) (fun t hf' y => ?_) (fun j => Iff.rfl)
  rw [after0_5]
  refine out_block m c hf t y ((win0_5.blk t).view.emb y) ?_ ?_
  · blk_simp [idx5]; rfl
  · blk_simp [idx5]; rfl

end Cert.KernelIdeal.Vals

end
-- ==== Proof.Vals.Pre.lean ====
module

public import proofs.«01_k».proof.Proof.Vals.Array
public import proofs.«01_k».proof.Defs
public import Idealize.ShloMosaic.Lib.ReduceAll
public import Idealize.ShloMosaic.Lib.IdealHost

@[expose] public section

set_option maxRecDepth 16384

noncomputable section

/-! What the precondition says: every query and every key is a real number. -/

namespace Cert.Pre_finite_scores.Shapes

open Idealize.ShloMosaic

/-- The shape relations the predicate states. -/
instance facts : Cert.Pre_finite_scores.Facts where
  bcast_S_S16384x12x128 := by decide
  reducesTo_S16384x12x128_S_d0_1_2 := by decide
  h_S_ := by decide
  bcast_S_S16384x4x128 := by decide
  reducesTo_S16384x4x128_S_d0_1_2 := by decide
  bcast_S_S2x256x4x128 := by decide
  reducesTo_S2x256x4x128_S_d0_1_2_3 := by decide

instance : Subsingleton S_.Idx := ⟨fun a b => funext fun i => i.elim0⟩

theorem ofBits_top : Ideal.ofBits .f32 0x7F800000#32 = ⊤ := by
  simp [Ideal.ofBits, Ideal.ieee]

/-- A number whose size is below infinity is real. -/
theorem real_of_lt (x : EReal) (h : Ideal.cmp .olt (max x (-x)) ⊤ = 1#1) : ∃ r : ℝ, x = r := by
  induction x with
  | bot => simp [Ideal.cmp] at h
  | top => simp [Ideal.cmp] at h
  | coe r => exact ⟨r, rfl⟩

/-- One conjunct of the predicate, read at an index. -/
theorem real_of_all {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant S_ .f32 0x7F800000#32))) (constantI S_ 1 1#1) hr hu = fun _ => 1#1)
    (i : s.Idx) : ∃ r : ℝ, (x i : EReal) = r := by
  have e := Host.reduce_andi_all _ _ hr hu (Shape.Idx.first hu) (congrFun h _) i
  have e' : Ideal.cmp .olt (max (x i : EReal) (-(x i : EReal))) (broadcastInDim s ![] hb (constant S_ .f32 0x7F800000#32 : FVec Ideal S_ .f32) i) = 1#1 := e
  rw [ValueIdx.broadcastInDim_scalar_apply] at e'
  have e'' : Ideal.cmp .olt (max (x i : EReal) (-(x i : EReal))) (Ideal.ofBits .f32 0x7F800000#32) = 1#1 := e'
  rw [ofBits_top] at e''
  exact real_of_lt _ e''

end Cert.Pre_finite_scores.Shapes

namespace Cert.KernelIdeal.Vals

open Cert.KernelIdeal Cert.KernelIdeal.Gen
open Idealize.ShloMosaic Idealize.ShloMosaic.TcCoe
open Cert.Pre_finite_scores.Shapes

theorem allReal (m : (ℓ : Loc nD τ sig) → Buf (Elt Ideal) ℓ) (hp : Cert.Pre_KernelIdeal_finite_scores m) (c : Dev nD) : AllReal m c := by
  obtain ⟨h0, h1, h2⟩ := hp c
  dsimp only [Cert.Pre_finite_scores.fn] at h0 h1 h2
  exact ⟨real_of_all (aQ m c) _ _ _ h0, real_of_all (aK m c) _ _ _ h1, real_of_all (aCK m c) _ _ _ h2⟩

end Cert.KernelIdeal.Vals

end
-- ==== Proof.Vals.Reference.lean ====
module

public import proofs.«01_k».proof.Proof.Gen.ReferenceIdeal.Run
public import Idealize.ShloMosaic.Lib.Pointwise
public import Idealize.ShloMosaic.Lib.Claim
public import Idealize.ShloMosaic.Lib.IdealHost

@[expose] public section

set_option maxRecDepth 16384

noncomputable section

/-! The reference's result, element by element. -/

namespace Cert.ReferenceIdeal.Vals

open Cert.ReferenceIdeal Cert.ReferenceIdeal.Gen Cert.ReferenceIdeal.Value
open Idealize.ShloMosaic Idealize.ShloMosaic.TcCoe

variable (m : (ℓ : Loc nD τ sig) → Buf (Elt Ideal) ℓ) (c : Dev nD)

/-- The context keys and the latent keys, one after the other. -/
def keys : FVec Ideal S2x4352x4x128 .f32 :=
  concatenate S2x4352x4x128 1 [⟨S2x256x4x128, (m ((c.tc : Thread nD τ).loc main_arg3))⟩, ⟨S2x4096x4x128, (shapeCast _ (extractStridedSlice S8192x4x128 ![8192, 0, 0] (m ((c.tc : Thread nD τ).loc main_arg1)) slices_S16384x4x128_S8192x4x128_8192_0_0) shapeCasts_S8192x4x128_S2x4096x4x128)⟩] concatenates_S2x256x4x128_S2x4096x4x128_S2x4352x4x128_d1

/-- The context values and the latent values, one after the other. -/
def vals : FVec Ideal S2x4352x4x128 .f32 :=
  concatenate S2x4352x4x128 1 [⟨S2x256x4x128, (m ((c.tc : Thread nD τ).loc main_arg4))⟩, ⟨S2x4096x4x128, (shapeCast _ (extractStridedSlice S8192x4x128 ![8192, 0, 0] (m ((c.tc : Thread nD τ).loc main_arg2)) slices_S16384x4x128_S8192x4x128_8192_0_0) shapeCasts_S8192x4x128_S2x4096x4x128)⟩] concatenates_S2x256x4x128_S2x4096x4x128_S2x4352x4x128_d1

/-- The scaled scores. -/
def scores : FVec Ideal S2x4x3x4096x4352 .f32 :=
  Host.divf (transpose S2x4x3x4096x4352 [0, 1, 4, 3, 2] (Host.dotGeneral (φ₁ := .f32) (φ₂ := .f32) dot_S2x4352x4x128_S2x4096x4x3x128_S2x4x4352x4096x3_3_4_1_13_02_02 none (keys m c) (shapeCast _ (extractStridedSlice S8192x12x128 ![8192, 0, 0] (m ((c.tc : Thread nD τ).loc main_arg0)) slices_S16384x12x128_S8192x12x128_8192_0_0) shapeCasts_S8192x12x128_S2x4096x4x3x128)) transposes_S2x4x4352x4096x3_S2x4x3x4096x4352_0_1_4_3_2) (broadcastInDim S2x4x3x4096x4352 ![] bcast_S_S2x4x3x4096x4352 (Host.sqrt (constant S_ .f32 0x43000000#32)))

/-- The largest score of every row. -/
def rowMax : FVec Ideal S2x4x3x4096 .f32 :=
  maximumf (broadcastInDim S2x4x3x4096 ![] bcast_S_S2x4x3x4096 (constant S_ .f32 0xFF800000#32)) (Host.reduce FloatOps.maximumf (scores m c) (constant S_ .f32 0xFF800000#32) reducesTo_S2x4x3x4096x4352_S2x4x3x4096_d4 h_S_)

/-- The exponentials of the scores less the row maximum. -/
def weights : FVec Ideal S2x4x3x4096x4352 .f32 :=
  Host.exp (subf (scores m c) (broadcastInDim S2x4x3x4096x4352 ![0, 1, 2, 3, 4] bcast_S2x4x3x4096x1_S2x4x3x4096x4352_0_1_2_3_4 (broadcastInDim S2x4x3x4096x1 ![0, 1, 2, 3] bcast_S2x4x3x4096_S2x4x3x4096x1_0_1_2_3 (rowMax m c))))

/-- The sum of the exponentials of every row. -/
def total : FVec Ideal S2x4x3x4096 .f32 :=
  Host.reduceAdd (weights m c) (constant S_ .f32 0x00000000#32) reducesTo_S2x4x3x4096x4352_S2x4x3x4096_d4 h_S_

/-- The weighted sum of the values. -/
def attn : FVec Ideal S2x4096x4x3x128 .f32 :=
  transpose S2x4096x4x3x128 [0, 4, 1, 3, 2] (Host.dotGeneral (φ₁ := .f32) (φ₂ := .f32) dot_S2x4352x4x128_S2x4x3x4096x4352_S2x4x128x3x4096_1_4_3_23_02_01 none (vals m c) (Host.divf (weights m c) (broadcastInDim S2x4x3x4096x4352 ![0, 1, 2, 3, 4] bcast_S2x4x3x4096x1_S2x4x3x4096x4352_0_1_2_3_4 (broadcastInDim S2x4x3x4096x1 ![0, 1, 2, 3] bcast_S2x4x3x4096_S2x4x3x4096x1_0_1_2_3 (total m c))))) transposes_S2x4x128x3x4096_S2x4096x4x3x128_0_4_1_3_2

theorem res_eq : res_main_v30 m c = truncf .bf16 (concatenate S16384x1536 0 [⟨S8192x1536, (extractStridedSlice S8192x1536 ![0, 0] (extf .f32 (m ((c.tc : Thread nD τ).loc main_arg5)) bitsLt_bf16_f32) slices_S16384x1536_S8192x1536_0_0)⟩, ⟨S8192x1536, (shapeCast _ (attn m c) shapeCasts_S2x4096x4x3x128_S8192x1536)⟩] concatenates_S8192x1536_S8192x1536_S16384x1536_d0) bitsLt_bf16_f32 := by
  unfold res_main_v30 attn total weights rowMax scores vals keys; rfl

variable (b : Fin 2) (h : Fin 4) (g : Fin 3) (i : Fin 4096)

theorem ofBits_bot : Ideal.ofBits .f32 0xFF800000#32 = ⊥ := by
  simp [Ideal.ofBits, Ideal.ieee]

theorem ofBits_128 : Ideal.ofBits .f32 0x43000000#32 = ((128 : ℝ) : EReal) := by
  simp [Ideal.ofBits, Ideal.ieee]
  rw [← EReal.coe_mul]
  norm_num

theorem fold_max {ι : Type} (t : Finset ι) (f : ι → EReal) : t.fold max ⊥ f = t.sup f := rfl

theorem keys_apply (n : Fin 4352) (e : Fin 128) : keys m c (ix4 b n h e)
    = if hn : n.val < 256 then (m ((c.tc : Thread nD τ).loc main_arg3) : Vec Ideal S2x256x4x128 .f32) (ix4 b ⟨n.val, hn⟩ h e)
      else (m ((c.tc : Thread nD τ).loc main_arg1) : Vec Ideal S16384x4x128 .f32) (ix3 ⟨8192 + (b.val * 4096 + (n.val - 256)), by omega⟩ h e) := by
  pointwise [keys]

theorem vals_apply (n : Fin 4352) (e : Fin 128) : vals m c (ix4 b n h e)
    = if hn : n.val < 256 then (m ((c.tc : Thread nD τ).loc main_arg4) : Vec Ideal S2x256x4x128 .f32) (ix4 b ⟨n.val, hn⟩ h e)
      else (m ((c.tc : Thread nD τ).loc main_arg2) : Vec Ideal S16384x4x128 .f32) (ix3 ⟨8192 + (b.val * 4096 + (n.val - 256)), by omega⟩ h e) := by
  pointwise [vals]

theorem scores_apply (n : Fin 4352) : scores m c (ix5 b h g i n)
    = Ideal.div (∑ e : Fin 128, keys m c (ix4 b n h e) *
        (m ((c.tc : Thread nD τ).loc main_arg0) : Vec Ideal S16384x12x128 .f32) (ix3 ⟨8192 + (b.val * 4096 + i.val), by omega⟩ ⟨h.val * 3 + g.val, by omega⟩ e))
        ((Real.sqrt 128 : ℝ) : EReal) := by
  pointwise [scores]
  rw [ofBits_128, Ideal.sqrt_coe, if_neg (by norm_num)]

/-- A maximum over the last of five axes. -/
theorem reduce_max {n0 n1 n2 n3 n4 : ℕ} (x : FVec Ideal ⟨5, ![n0, n1, n2, n3, n4]⟩ .f32)
    (hr : Shape.ReducesTo ⟨5, ![n0, n1, n2, n3, n4]⟩ [4] ⟨4, ![n0, n1, n2, n3]⟩) (hu : 0 < S_.numel)
    (i0 : Fin n0) (i1 : Fin n1) (i2 : Fin n2) (i3 : Fin n3) :
    Host.reduce FloatOps.maximumf x (constant S_ .f32 0xFF800000#32) hr hu (ix4 i0 i1 i2 i3)
      = Finset.univ.sup fun n : Fin n4 => (x (ix5 i0 i1 i2 i3 n) : EReal) := by
  pointwise []
  rw [ofBits_bot, fold_max]

theorem reduce_apply : Host.reduce FloatOps.maximumf (scores m c) (constant S_ .f32 0xFF800000#32) reducesTo_S2x4x3x4096x4352_S2x4x3x4096_d4 h_S_ (ix4 b h g i)
      = Finset.univ.sup fun n : Fin 4352 => (scores m c (ix5 b h g i n) : EReal) :=
  reduce_max _ _ _ _ _ _ _

theorem max_apply {t : Shape} (x y : FVec Ideal t .f32) (j : t.Idx) : maximumf x y j = max (x j : EReal) (y j) := rfl

theorem splat_apply {t : Shape} (v : BitVec 32) (hb : S_.BroadcastsInDim t ![]) (j : t.Idx) :
    broadcastInDim t ![] hb (constant S_ .f32 v : FVec Ideal S_ .f32) j = Ideal.ofBits .f32 v := by
  rw [ValueIdx.broadcastInDim_scalar_apply]
  rfl

theorem rowMax_apply : rowMax m c (ix4 b h g i) = Finset.univ.sup fun n : Fin 4352 => (scores m c (ix5 b h g i n) : EReal) := by
  unfold rowMax
  rw [max_apply, splat_apply, reduce_apply, ofBits_bot]
  exact max_eq_right bot_le

theorem weights_apply (n : Fin 4352) : weights m c (ix5 b h g i n) = Ideal.exp (scores m c (ix5 b h g i n) - rowMax m c (ix4 b h g i)) := by
  pointwise [weights]

theorem total_apply : total m c (ix4 b h g i) = ∑ n : Fin 4352, weights m c (ix5 b h g i n) := by
  pointwise [total]

theorem attn_apply (d : Fin 128) : attn m c (ix5 b i h g d)
    = ∑ n : Fin 4352, vals m c (ix4 b n h d) * Ideal.div (weights m c (ix5 b h g i n)) (total m c (ix4 b h g i)) := by
  pointwise [attn]

theorem res_top (r : Fin 16384) (hr : r.val < 8192) (cc : Fin 1536) :
    res_main_v30 m c (ix2 r cc) = m ((c.tc : Thread nD τ).loc main_arg5) (ix2 r cc) := by
  rw [res_eq]
  pointwise []
  rw [dif_pos hr]

theorem res_bot (d : Fin 128) :
    res_main_v30 m c (ix2 ⟨8192 + 4096 * b.val + i.val, by omega⟩ ⟨384 * h.val + 128 * g.val + d.val, by omega⟩) = attn m c (ix5 b i h g d) := by
  rw [res_eq]
  pointwise []
  rw [dif_neg (by omega)]
  exact congrArg₂ (fun b i => attn m c (ix5 b i h g d)) (Fin.ext (by show (8192 + 4096 * b.val + i.val - 8192) / 4096 = b.val; omega))
    (Fin.ext (by show (8192 + 4096 * b.val + i.val - 8192) % 4096 = i.val; omega))

end Cert.ReferenceIdeal.Vals

end
-- ==== Proof.Vals.Final.lean ====
module

public import proofs.«01_k».proof.Proof.Vals.Pre
public import proofs.«01_k».proof.Proof.Vals.Reference
public import proofs.«01_k».proof.Proof.Attn.Run
public import Idealize.ShloMosaic.Lib.Claim

@[expose] public section

set_option maxRecDepth 16384

noncomputable section

/-! The kernel and the reference leave the same array. -/

namespace Cert.Same

open Idealize.ShloMosaic Idealize.ShloMosaic.TcCoe Idealize.SL.Sem
open Cert.KernelIdeal.Vals

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The result: the attention on the latent rows, the array given on the context's. -/
def result (c : Dev Cert.KernelIdeal.nD) : Vec Ideal Cert.KernelIdeal.S16384x1536 .bf16 :=
  fun i => if 32 ≤ ((i 0 : ℕ)) / 256 then attArr m c i else m ((c.tc : Thread Cert.KernelIdeal.nD Cert.KernelIdeal.τ).loc Cert.KernelIdeal.main_arg5) i

section Reference
open Cert.ReferenceIdeal.Vals

variable (c : Dev Cert.ReferenceIdeal.nD) (b : Fin 2) (h : Fin 4) (g : Fin 3) (i : Fin 4096)

abbrev rQ : FVec Ideal ⟨3, ![16384, 12, 128]⟩ .f32 := m' ((c.tc : Thread Cert.ReferenceIdeal.nD Cert.ReferenceIdeal.τ).loc Cert.ReferenceIdeal.main_arg0)
abbrev rK : FVec Ideal ⟨3, ![16384, 4, 128]⟩ .f32 := m' ((c.tc : Thread Cert.ReferenceIdeal.nD Cert.ReferenceIdeal.τ).loc Cert.ReferenceIdeal.main_arg1)
abbrev rV : FVec Ideal ⟨3, ![16384, 4, 128]⟩ .f32 := m' ((c.tc : Thread Cert.ReferenceIdeal.nD Cert.ReferenceIdeal.τ).loc Cert.ReferenceIdeal.main_arg2)
abbrev rCK : FVec Ideal ⟨4, ![2, 256, 4, 128]⟩ .f32 := m' ((c.tc : Thread Cert.ReferenceIdeal.nD Cert.ReferenceIdeal.τ).loc Cert.ReferenceIdeal.main_arg3)
abbrev rCV : FVec Ideal ⟨4, ![2, 256, 4, 128]⟩ .f32 := m' ((c.tc : Thread Cert.ReferenceIdeal.nD Cert.ReferenceIdeal.τ).loc Cert.ReferenceIdeal.main_arg4)

theorem keys_row (n : Fin 4352) (e : Fin 128) : (keys m' c (ix4 b n h e) : EReal) = Spec.row (rK m' c) (rCK m' c) b h n e := keys_apply m' c b h n e

theorem vals_row (n : Fin 4352) (e : Fin 128) : (vals m' c (ix4 b n h e) : EReal) = Spec.row (rV m' c) (rCV m' c) b h n e := vals_apply m' c b h n e

theorem scores_row (n : Fin 4352) : (scores m' c (ix5 b h g i n) : EReal) = Spec.score (rQ m' c) (rK m' c) (rCK m' c) b h g i n := by
  refine (scores_apply m' c b h g i n).trans ?_
  unfold Spec.score
  refine congrArg (Ideal.div · _) (Finset.sum_congr rfl fun e _ => ?_)
  rw [keys_row]

theorem weights_row (n : Fin 4352) : (weights m' c (ix5 b h g i n) : EReal) = Spec.weight (rQ m' c) (rK m' c) (rCK m' c) b h g i n := by
  refine (weights_apply m' c b h g i n).trans ?_
  unfold Spec.weight
  rw [rowMax_apply, scores_row]
  refine congrArg (fun z => Ideal.exp (_ - z)) (Finset.sup_congr rfl fun n _ => ?_)
  exact scores_row m' c b h g i n

theorem attn_row (d : Fin 128) : (attn m' c (ix5 b i h g d) : EReal) = Spec.att (rQ m' c) (rK m' c) (rV m' c) (rCK m' c) (rCV m' c) b h g i d := by
  refine (attn_apply m' c b h g i d).trans ?_
  unfold Spec.att
  refine Finset.sum_congr rfl fun n _ => ?_
  rw [vals_row, weights_row, total_apply]
  refine congrArg (fun z => _ * Ideal.div _ z) (Finset.sum_congr rfl fun n _ => ?_)
  exact weights_row m' c b h g i n

end Reference

/-- The reference's array is the result. -/
theorem reference_result (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v30 m' c = result m c := by
  funext i
  have i0 : (i 0).val < 16384 := (i 0).isLt
  have i1 : (i 1).val < 1536 := (i 1).isLt
  unfold result
  by_cases hi : 32 ≤ (i 0).val / 256
  · rw [if_pos hi]
    have ei : i = ix2 (⟨8192 + 4096 * (⟨((i 0).val - 8192) / 4096, by omega⟩ : Fin 2).val + (⟨((i 0).val - 8192) % 4096, Nat.mod_lt _ (by decide)⟩ : Fin 4096).val,
          by show 8192 + 4096 * (((i 0).val - 8192) / 4096) + ((i 0).val - 8192) % 4096 < 16384; omega⟩ : Fin 16384)
        (⟨384 * (⟨(i 1).val / 384, by omega⟩ : Fin 4).val + 128 * (⟨(i 1).val / 128 % 3, Nat.mod_lt _ (by decide)⟩ : Fin 3).val
            + (⟨(i 1).val % 128, Nat.mod_lt _ (by decide)⟩ : Fin 128).val,
          by show 384 * ((i 1).val / 384) + 128 * ((i 1).val / 128 % 3) + (i 1).val % 128 < 1536; omega⟩ : Fin 1536) := by
      funext a
      apply Fin.ext
      match a with
      | 0 => show (i 0).val = 8192 + 4096 * (((i 0).val - 8192) / 4096) + ((i 0).val - 8192) % 4096; omega
      | 1 => show (i 1).val = 384 * ((i 1).val / 384) + 128 * ((i 1).val / 128 % 3) + (i 1).val % 128; omega
    refine (congrArg (Cert.ReferenceIdeal.Value.res_main_v30 m' c) ei).trans ?_
    refine (Cert.ReferenceIdeal.Vals.res_bot m' c _ _ _ _ _).trans ((attn_row m' c _ _ _ _ _).trans ?_)
    have e0 : rQ m' c = aQ m c := h0
    have e1 : rK m' c = aK m c := h1
    have e2 : rV m' c = aV m c := h2
    have e3 : rCK m' c = aCK m c := h3
    have e4 : rCV m' c = aCV m c := h4
    rw [e0, e1, e2, e3, e4]
    rfl
  · rw [if_neg hi]
    have ei : i = ix2 (⟨(i 0).val, i0⟩ : Fin 16384) (⟨(i 1).val, i1⟩ : Fin 1536) := by
      funext a
      match a with
      | 0 => rfl
      | 1 => rfl
    refine (congrArg (Cert.ReferenceIdeal.Value.res_main_v30 m' c) ei).trans ?_
    refine (Cert.ReferenceIdeal.Vals.res_top m' c ⟨(i 0).val, i0⟩ (by show (i 0).val < 8192; omega) ⟨(i 1).val, i1⟩).trans ?_
    rw [← ei]
    exact congrFun h5 i

open Cert.KernelIdeal Cert.KernelIdeal.Gen in
/-- The kernel runs to the result. -/
theorem kernel_result (g : Dev Cert.KernelIdeal.nD → PrngReg) (hp : ∀ c, AllReal m c) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v16) = result m c) := by
  refine (θ_run Cert.KernelIdeal.defs _ _).mono (fun r h c => ?_) (Cert.KernelIdeal.Attn.run_main m g)
  refine ((h c).1 5).trans ((final m c (hp c)).trans ?_)
  funext i
  unfold result
  rw [entry_o]

theorem algebraic : Cert.algebraic_KernelIdeal_ReferenceIdeal_pre_finite_scores := by
  intro m g m' g' hp hm
  refine ⟨fun c => result m c, ?_, ?_⟩
  · exact (θ_run Cert.KernelIdeal.defs _ _).mono (fun r h c => ⟨h.1 c, h.2 c⟩)
      (θ_run_and (kernel_result m g (allReal m hp)) (Cert.KernelIdeal.Attn.unchanged m g))
  · refine (θ_run Cert.ReferenceIdeal.defs _ _).mono (fun r h c => ⟨(h c).1.trans ?_, (h c).2⟩) (Cert.ReferenceIdeal.Value.run (F := Ideal) m' g')
    obtain ⟨h0, h1, h2, h3, h4, h5⟩ := hm c
    exact reference_result m m' c h0 h1 h2 h3 h4 h5

end Cert.Same

end
-- ==== Proof.Proj.Case.lean ====
module

public import proofs.«01_k».proof.Proof.Gen.Kernel2Ideal.Frame
public import Idealize.ShloMosaic.Lib.Pipeline.Value
public import Idealize.ShloMosaic.Lib.Tactic

@[expose] public section

set_option maxRecDepth 16384

noncomputable section

/-! What the body of the projection leaves in its two buffers, on the first column block of a row block and on the others. -/

namespace Cert.Kernel2Ideal.Vals

open Cert.Kernel2Ideal Cert.Kernel2Ideal.Gen
open Idealize.ShloMosaic Idealize.ShloMosaic.TcCoe

variable {F : FTy → Type} [FloatOps F]

theorem hz : (![0, 0] : Fin 2 → Nat) = fun _ => 0 := funext fun a => by fin_cases a <;> rfl

/-- The row of the modulations that scales. -/
abbrev scaleRow (x2 : Vec F S1x6x4096 .f32) : Vec F S1x1x4096 .f32 :=
  View.ld x2 (Rect.unit (s := S1x6x4096) ![0, 1, 0] S1x1x4096.size inb_S1x6x4096_S1x1x4096_0_1_0)

/-- The row of the modulations that shifts. -/
abbrev shiftRow (x2 : Vec F S1x6x4096 .f32) : Vec F S1x1x4096 .f32 :=
  View.ld x2 (Rect.unit (s := S1x6x4096) ![0, 0, 0] S1x1x4096.size inb_S1x6x4096_S1x1x4096_0_0_0)

theorem sout_A (c : Dev nD) (i : grid0.Coords) (a2 : Memref sig .tc .vmem S512x4096 .f32) (h2 : a2.IsWhole) (a3 : Memref sig .tc .vmem S1x4096 .f32) (h3 : a3.IsWhole)
    (a4 : Memref sig .tc .vmem S1x6x4096 .f32) (h4 : a4.IsWhole) (a5 : Memref sig .tc .vmem S4096x1024 .bf16) (h5 : a5.IsWhole)
    (a6 : Memref sig .tc .vmem S512x1024 .f32) (h6 : a6.IsWhole) (a7 : Memref sig .tc .vmem S512x4096 .bf16) (h7 : a7.IsWhole) (hc : cond0_0 i)
    (x0 : Vec F S512x4096 .f32) (x1 : Vec F S1x4096 .f32) (x2 : Vec F S1x6x4096 .f32) (x3 : Vec F S4096x1024 .bf16) :
    sout0_A_0 c i a2 h2 a3 h3 a4 h4 a5 h5 a6 h6 a7 h7 hc x0 x1 x2 x3 = k0_pay1 x0 x1 (scaleRow x2) (shiftRow x2) := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_cons_unit_zero (S := S512x4096) hz]
  simp only [View.readAt_eq_ld, h2.read_unread, h3.read_unread, h4.read_unread, View.ld_unit_zero (S := S512x4096) hz, View.ld_unit_zero (S := S1x4096) hz]

theorem out_A (c : Dev nD) (i : grid0.Coords) (a2 : Memref sig .tc .vmem S512x4096 .f32) (h2 : a2.IsWhole) (a3 : Memref sig .tc .vmem S1x4096 .f32) (h3 : a3.IsWhole)
    (a4 : Memref sig .tc .vmem S1x6x4096 .f32) (h4 : a4.IsWhole) (a5 : Memref sig .tc .vmem S4096x1024 .bf16) (h5 : a5.IsWhole)
    (a6 : Memref sig .tc .vmem S512x1024 .f32) (h6 : a6.IsWhole) (a7 : Memref sig .tc .vmem S512x4096 .bf16) (h7 : a7.IsWhole) (hc : cond0_0 i)
    (x0 : Vec F S512x4096 .f32) (x1 : Vec F S1x4096 .f32) (x2 : Vec F S1x6x4096 .f32) (x3 : Vec F S4096x1024 .bf16) :
    out0_A_4 c i a2 h2 a3 h3 a4 h4 a5 h5 a6 h6 a7 h7 hc x0 x1 x2 x3 = k0_pay2 (k0_pay1 x0 x1 (scaleRow x2) (shiftRow x2)) x3 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_cons_unit_zero (S := S512x1024) hz, View.readCov_unit_zero (S := S512x4096) _ hz]
  simp only [View.readAt_eq_ld, h2.read_unread, h3.read_unread, h4.read_unread, h5.read_unread, View.ld_unit_zero (S := S512x4096) hz, View.ld_unit_zero (S := S1x4096) hz,
    View.ld_unit_zero (S := S4096x1024) hz]

theorem sout_B (c : Dev nD) (i : grid0.Coords) (a2 : Memref sig .tc .vmem S512x4096 .f32) (h2 : a2.IsWhole) (a3 : Memref sig .tc .vmem S1x4096 .f32) (h3 : a3.IsWhole)
    (a4 : Memref sig .tc .vmem S1x6x4096 .f32) (h4 : a4.IsWhole) (a5 : Memref sig .tc .vmem S4096x1024 .bf16) (h5 : a5.IsWhole)
    (a6 : Memref sig .tc .vmem S512x1024 .f32) (h6 : a6.IsWhole) (a7 : Memref sig .tc .vmem S512x4096 .bf16) (h7 : a7.IsWhole) (hc : ¬cond0_0 i)
    (x0 : Vec F S512x4096 .f32) (x1 : Vec F S1x4096 .f32) (x2 : Vec F S1x6x4096 .f32) (x3 : Vec F S4096x1024 .bf16) (xs0 : Vec F S512x4096 .bf16) :
    sout0_B_0 c i a2 h2 a3 h3 a4 h4 a5 h5 a6 h6 a7 h7 hc x0 x1 x2 x3 xs0 = xs0 := by
  unfold sout0_B_0
  first
    | rfl
    | (unfold kernelRun0_B
       dsimp only
       simp only [View.writes_nil, h7.read_unread])

theorem out_B (c : Dev nD) (i : grid0.Coords) (a2 : Memref sig .tc .vmem S512x4096 .f32) (h2 : a2.IsWhole) (a3 : Memref sig .tc .vmem S1x4096 .f32) (h3 : a3.IsWhole)
    (a4 : Memref sig .tc .vmem S1x6x4096 .f32) (h4 : a4.IsWhole) (a5 : Memref sig .tc .vmem S4096x1024 .bf16) (h5 : a5.IsWhole)
    (a6 : Memref sig .tc .vmem S512x1024 .f32) (h6 : a6.IsWhole) (a7 : Memref sig .tc .vmem S512x4096 .bf16) (h7 : a7.IsWhole) (hc : ¬cond0_0 i)
    (x0 : Vec F S512x4096 .f32) (x1 : Vec F S1x4096 .f32) (x2 : Vec F S1x6x4096 .f32) (x3 : Vec F S4096x1024 .bf16) (xs0 : Vec F S512x4096 .bf16) :
    out0_B_4 c i a2 h2 a3 h3 a4 h4 a5 h5 a6 h6 a7 h7 hc x0 x1 x2 x3 xs0 = k0_pay2 xs0 x3 := by
  unfold out0_B_4
  rw [View.read_writes_eq_canon _ _ _ (cover0_B_4 c i a2 h2 a3 h3 a4 h4 a5 h5 a6 h6 a7 h7 hc x0 x1 x2 x3 xs0)]
  unfold kernelRun0_B
  dsimp only
  try sl_unfold_words
  rw [View.canon_unit_zero hz]
  simp only [View.readAt_eq_ld, h7.read_unread, h5.read_unread, View.ld_unit_zero (S := S512x4096) hz, View.ld_unit_zero (S := S4096x1024) hz]

end Cert.Kernel2Ideal.Vals

end
-- ==== Proof.Proj.Spec.lean ====
module

public import Idealize.ShloMosaic.Lib.Pointwise

@[expose] public section

set_option maxRecDepth 16384

noncomputable section

/-! The projection's mathematics: normalised rows, scaled and shifted by their group's modulations, times a weight whose column
groups are put in another order. -/

namespace Cert.Proj

open Idealize.ShloMosaic

/-- An element of a normalised, scaled and shifted row. -/
def normed (x : Fin 4096 → EReal) (g sc sh : EReal) (e : Fin 4096) : EReal :=
  x e * Ideal.rsqrt (Ideal.div (∑ k : Fin 4096, x k * x k) (Ideal.ofBits .f32 0x45800000#32) + Ideal.ofBits .f32 0x358637BD#32) * g
    * (Ideal.ofBits .f32 0x3F800000#32 + sc) + sh

/-- The weight's element that the arranged weight holds in column `j`; zero in the columns between. -/
def arranged (w : Fin 8032 → EReal) (j : Fin 8192) : EReal :=
  if h0 : j.val < 3072 then w ⟨3904 + j.val, by omega⟩
  else if h1 : j.val < 4096 then w ⟨6976 + (j.val - 3072), by omega⟩
  else if h2 : j.val < 4608 then w ⟨768 + (j.val - 4096), by omega⟩
  else if h3 : j.val < 6144 then w ⟨1344 + (j.val - 4608), by omega⟩
  else if h4 : j.val < 6912 then w ⟨j.val - 6144, by omega⟩
  else if h5 : j.val < 6976 then w ⟨1280 + (j.val - 6912), by omega⟩
  else if h6 : j.val < 6992 then w ⟨8000 + (j.val - 6976), by omega⟩
  else if h7 : j.val < 7008 then w ⟨8016 + (j.val - 6992), by omega⟩
  else if h8 : j.val < 7168 then 0
  else if h9 : j.val < 7680 then w ⟨2880 + (j.val - 7168), by omega⟩
  else w ⟨3392 + (j.val - 7680), by omega⟩

/-- The row of the modulations that a row of the input takes: the context's, or its own image's. -/
def group (R : Fin 16384) : Fin 8 := ⟨if R.val < 8192 then 0 else 1 + (R.val - 8192) / 4096, by split <;> omega⟩

/-- An element of the modulated rows. -/
def row (x : Vec Ideal ⟨2, ![16384, 4096]⟩ .f32) (md : Vec Ideal ⟨2, ![8, 24576]⟩ .f32) (g : Vec Ideal ⟨1, ![4096]⟩ .f32) (R : Fin 16384) (e : Fin 4096) : EReal :=
  normed (fun k => x (ix2 R k)) (g (ix1 e)) (md (ix2 (group R) ⟨4096 + e.val, by omega⟩)) (md (ix2 (group R) ⟨e.val, by omega⟩)) e

/-- An element of the projection. -/
def out (x : Vec Ideal ⟨2, ![16384, 4096]⟩ .f32) (md : Vec Ideal ⟨2, ![8, 24576]⟩ .f32) (g : Vec Ideal ⟨1, ![4096]⟩ .f32) (w : Vec Ideal ⟨2, ![4096, 8032]⟩ .f32)
    (R : Fin 16384) (j : Fin 8192) : EReal :=
  ∑ e : Fin 4096, row x md g R e * arranged (fun k => w (ix2 e k)) j

/-- Arranging the weight's columns arranges the product's. -/
theorem sum_arranged {n : ℕ} (h : Fin n → EReal) (w : Fin n → Fin 8032 → EReal) (j : Fin 8192) :
    ∑ e, h e * arranged (w e) j = arranged (fun k => ∑ e, h e * w e k) j := by
  unfold arranged
  by_cases a0 : j.val < 3072
  · simp only [dif_pos a0]
  simp only [dif_neg a0]
  by_cases a1 : j.val < 4096
  · simp only [dif_pos a1]
  simp only [dif_neg a1]
  by_cases a2 : j.val < 4608
  · simp only [dif_pos a2]
  simp only [dif_neg a2]
  by_cases a3 : j.val < 6144
  · simp only [dif_pos a3]
  simp only [dif_neg a3]
  by_cases a4 : j.val < 6912
  · simp only [dif_pos a4]
  simp only [dif_neg a4]
  by_cases a5 : j.val < 6976
  · simp only [dif_pos a5]
  simp only [dif_neg a5]
  by_cases a6 : j.val < 6992
  · simp only [dif_pos a6]
  simp only [dif_neg a6]
  by_cases a7 : j.val < 7008
  · simp only [dif_pos a7]
  simp only [dif_neg a7]
  by_cases a8 : j.val < 7168
  · simp only [dif_pos a8, mul_zero, Finset.sum_const_zero]
  simp only [dif_neg a8]
  by_cases a9 : j.val < 7680
  · simp only [dif_pos a9]
  simp only [dif_neg a9]

end Cert.Proj

end
-- ==== Proof.Proj.Pay.lean ====
module

public import proofs.«01_k».proof.Proof.Gen.Kernel2Ideal.Skeleton
public import proofs.«01_k».proof.Proof.Proj.Spec

@[expose] public section

set_option maxRecDepth 16384

noncomputable section

/-! The two stored values of the projection over the extended reals, read element by element. -/

namespace Cert.Kernel2Ideal.Vals

open Cert.Kernel2Ideal Cert.Kernel2Ideal.Gen
open Idealize.ShloMosaic Cert.Proj

theorem pay1_apply (x : Vec Ideal S512x4096 .f32) (g : Vec Ideal S1x4096 .f32) (sc sh : Vec Ideal S1x1x4096 .f32) (r : Fin 512) (e : Fin 4096) :
    k0_pay1 x g sc sh (ix2 r e) = normed (fun k => x (ix2 r k)) (g (ix2 0 e)) (sc (ix3 0 0 e)) (sh (ix3 0 0 e)) e := by
  pointwise [k0_pay1, normed]

theorem pay2_apply (h : Vec Ideal S512x4096 .bf16) (w : Vec Ideal S4096x1024 .bf16) (r : Fin 512) (j : Fin 1024) :
    k0_pay2 h w (ix2 r j) = ∑ e : Fin 4096, (h (ix2 r e) : EReal) * w (ix2 e j) := by
  pointwise [k0_pay2]

end Cert.Kernel2Ideal.Vals

end
-- ==== Proof.Proj.Entry.lean ====
module

public import proofs.«01_k».proof.Proof.Gen.Kernel2Ideal.Frame
public import proofs.«01_k».proof.Proof.Proj.Spec
public import Idealize.ShloMosaic.Lib.Claim
public import Idealize.ShloMosaic.Lib.Pipeline.ValueKit

@[expose] public section

set_option maxRecDepth 16384

noncomputable section

/-! The arrays that the projection reads, as the host leaves them, and the blocks of them at a grid point. -/

namespace Cert.Kernel2Ideal.Vals

open Cert.Kernel2Ideal Cert.Kernel2Ideal.Gen
open Idealize.ShloMosaic Idealize.ShloMosaic.TcCoe Cert.Proj

variable (m : (ℓ : Loc nD τ sig) → Buf (Elt Ideal) ℓ) (c : Dev nD)

/-- The arguments, as arrays. -/
def aX : Vec Ideal S16384x4096 .f32 := m ((c.tc : Thread nD τ).loc main_arg0)
def aM : Vec Ideal S8x24576 .f32 := m ((c.tc : Thread nD τ).loc main_arg1)
def aG : Vec Ideal S4096 .f32 := m ((c.tc : Thread nD τ).loc main_arg2)
def aW : Vec Ideal S4096x8032 .f32 := m ((c.tc : Thread nD τ).loc main_arg3)

theorem entry_x : V m c main_arg0 = aX m c := V_main_arg0 m c

theorem entry_m (b : Fin 8) (k : Fin 6) (e : Fin 4096) :
    (V m c main_v0 : Vec Ideal S8x6x4096 .f32) (ix3 b k e) = aM m c (ix2 b ⟨k.val * 4096 + e.val, by omega⟩) := by
  show V m c main_v0 (ix3 b k e) = _
  entry_read
  pointwise [aM]
  try rfl

theorem entry_g (e : Fin 4096) : (V m c main_v15 : Vec Ideal S1x4096 .f32) (ix2 0 e) = aG m c (ix1 e) := by
  show V m c main_v15 (ix2 0 e) = _
  entry_read
  pointwise [aG]
  try rfl

/-- The weight's column groups in the order the call reads them, zero columns between. -/
def arr (w : Vec Ideal S4096x8032 .f32) : Vec Ideal S4096x8192 .f32 :=
  concatenate S4096x8192 1 [⟨S4096x3072, extractStridedSlice S4096x3072 ![0, 3904] w slices_S4096x8032_S4096x3072_0_3904⟩,
    ⟨S4096x1024, extractStridedSlice S4096x1024 ![0, 6976] w slices_S4096x8032_S4096x1024_0_6976⟩,
    ⟨S4096x512, extractStridedSlice S4096x512 ![0, 768] w slices_S4096x8032_S4096x512_0_768⟩,
    ⟨S4096x1536, extractStridedSlice S4096x1536 ![0, 1344] w slices_S4096x8032_S4096x1536_0_1344⟩,
    ⟨S4096x768, extractStridedSlice S4096x768 ![0, 0] w slices_S4096x8032_S4096x768_0_0⟩,
    ⟨S4096x64, extractStridedSlice S4096x64 ![0, 1280] w slices_S4096x8032_S4096x64_0_1280⟩,
    ⟨S4096x16, extractStridedSlice S4096x16 ![0, 8000] w slices_S4096x8032_S4096x16_0_8000⟩,
    ⟨S4096x16, extractStridedSlice S4096x16 ![0, 8016] w slices_S4096x8032_S4096x16_0_8016⟩,
    ⟨S4096x32, broadcastInDim S4096x32 ![] bcast_S_S4096x32 (constant (F := Ideal) S_ .f32 0x00000000#32)⟩,
    ⟨S4096x128, broadcastInDim S4096x128 ![] bcast_S_S4096x128 (constant (F := Ideal) S_ .f32 0x00000000#32)⟩,
    ⟨S4096x512, extractStridedSlice S4096x512 ![0, 2880] w slices_S4096x8032_S4096x512_0_2880⟩,
    ⟨S4096x512, extractStridedSlice S4096x512 ![0, 3392] w slices_S4096x8032_S4096x512_0_3392⟩]
    concatenates_S4096x3072_S4096x1024_S4096x512_S4096x1536_S4096x768_S4096x64_S4096x16_S4096x16_S4096x32_S4096x128_S4096x512_S4096x512_S4096x8192_d1

set_option maxHeartbeats 1000000 in
theorem arr_apply (w : Vec Ideal S4096x8032 .f32) (e : Fin 4096) (j : Fin 8192) : arr w (ix2 e j) = arranged (fun k => w (ix2 e k)) j := by
  pointwise [arr, arranged]
  by_cases a0 : j.val < 3072
  · rw [dif_pos (show j.val < 3072 by omega), dif_pos a0]
  rw [dif_neg (show ¬ j.val < 3072 by omega), dif_neg a0]
  by_cases a1 : j.val < 4096
  · rw [dif_pos (show j.val - 3072 < 1024 by omega), dif_pos a1]
    try exact congrArg (fun k => w (ix2 e k)) (Fin.ext (by dsimp only; omega))
  rw [dif_neg (show ¬ j.val - 3072 < 1024 by omega), dif_neg a1]
  by_cases a2 : j.val < 4608
  · rw [dif_pos (show j.val - 3072 - 1024 < 512 by omega), dif_pos a2]
    try exact congrArg (fun k => w (ix2 e k)) (Fin.ext (by dsimp only; omega))
  rw [dif_neg (show ¬ j.val - 3072 - 1024 < 512 by omega), dif_neg a2]
  by_cases a3 : j.val < 6144
  · rw [dif_pos (show j.val - 3072 - 1024 - 512 < 1536 by omega), dif_pos a3]
    try exact congrArg (fun k => w (ix2 e k)) (Fin.ext (by dsimp only; omega))
  rw [dif_neg (show ¬ j.val - 3072 - 1024 - 512 < 1536 by omega), dif_neg a3]
  by_cases a4 : j.val < 6912
  · rw [dif_pos (show j.val - 3072 - 1024 - 512 - 1536 < 768 by omega), dif_pos a4]
    try exact congrArg (fun k => w (ix2 e k)) (Fin.ext (by dsimp only; omega))
  rw [dif_neg (show ¬ j.val - 3072 - 1024 - 512 - 1536 < 768 by omega), dif_neg a4]
  by_cases a5 : j.val < 6976
  · rw [dif_pos (show j.val - 3072 - 1024 - 512 - 1536 - 768 < 64 by omega), dif_pos a5]
    try exact congrArg (fun k => w (ix2 e k)) (Fin.ext (by dsimp only; omega))
  rw [dif_neg (show ¬ j.val - 3072 - 1024 - 512 - 1536 - 768 < 64 by omega), dif_neg a5]
  by_cases a6 : j.val < 6992
  · rw [dif_pos (show j.val - 3072 - 1024 - 512 - 1536 - 768 - 64 < 16 by omega), dif_pos a6]
    try exact congrArg (fun k => w (ix2 e k)) (Fin.ext (by dsimp only; omega))
  rw [dif_neg (show ¬ j.val - 3072 - 1024 - 512 - 1536 - 768 - 64 < 16 by omega), dif_neg a6]
  by_cases a7 : j.val < 7008
  · rw [dif_pos (show j.val - 3072 - 1024 - 512 - 1536 - 768 - 64 - 16 < 16 by omega), dif_pos a7]
    try exact congrArg (fun k => w (ix2 e k)) (Fin.ext (by dsimp only; omega))
  rw [dif_neg (show ¬ j.val - 3072 - 1024 - 512 - 1536 - 768 - 64 - 16 < 16 by omega), dif_neg a7]
  by_cases a8 : j.val < 7040
  · rw [dif_pos (show j.val - 3072 - 1024 - 512 - 1536 - 768 - 64 - 16 - 16 < 32 by omega), dif_pos (show j.val < 7168 by omega)]
  rw [dif_neg (show ¬ j.val - 3072 - 1024 - 512 - 1536 - 768 - 64 - 16 - 16 < 32 by omega)]
  by_cases a9 : j.val < 7168
  · rw [dif_pos (show j.val - 3072 - 1024 - 512 - 1536 - 768 - 64 - 16 - 16 - 32 < 128 by omega), dif_pos a9]
  rw [dif_neg (show ¬ j.val - 3072 - 1024 - 512 - 1536 - 768 - 64 - 16 - 16 - 32 < 128 by omega), dif_neg a9]
  by_cases a10 : j.val < 7680
  · rw [dif_pos (show j.val - 3072 - 1024 - 512 - 1536 - 768 - 64 - 16 - 16 - 32 - 128 < 512 by omega), dif_pos a10]
    try exact congrArg (fun k => w (ix2 e k)) (Fin.ext (by dsimp only; omega))
  rw [dif_neg (show ¬ j.val - 3072 - 1024 - 512 - 1536 - 768 - 64 - 16 - 16 - 32 - 128 < 512 by omega), dif_neg a10]
  exact congrArg (fun k => w (ix2 e k)) (Fin.ext (by dsimp only; omega))

theorem entry_arr : (V m c main_v14 : Vec Ideal S4096x8192 .bf16) = (truncf .bf16 (arr (aW m c)) bitsLt_bf16_f32 : FVec Ideal S4096x8192 .bf16) := by
  rfl

theorem entry_w (e : Fin 4096) (j : Fin 8192) :
    (V m c main_v14 : Vec Ideal S4096x8192 .bf16) (ix2 e j) = arranged (fun k => aW m c (ix2 e k)) j :=
  (congrFun (entry_arr m c) (ix2 e j)).trans (arr_apply (aW m c) e j)

/-! The blocks at a grid point: their rows and columns in the arrays. -/

theorem idx0 : ∀ t : Fin cfg0.N, win0_0.index t = ![t.val / 8, 0] := by
  decide +kernel
theorem idx1 : ∀ t : Fin cfg0.N, win0_1.index t = ![0, 0] := by
  decide +kernel
theorem idx2 : ∀ t : Fin cfg0.N, win0_2.index t = ![if t.val / 8 < 16 then 0 else 1 + (t.val / 8 - 16) / 8, 0, 0] := by
  decide +kernel
theorem idx3 : ∀ t : Fin cfg0.N, win0_3.index t = ![0, t.val % 8] := by
  decide +kernel

theorem iblk_x (t : Fin cfg0.N) (y : S512x4096.Idx) : ∃ i : S16384x4096.Idx,
    (i 0).val = t.val / 8 * 512 + (y 0).val ∧ (i 1).val = (y 1).val ∧ iblk m c 0 t y = V m c main_arg0 i := by
  refine ⟨(win0_0.blk t).view.emb y, ?_, ?_, rfl⟩
  · blk_simp [idx0]
  · blk_simp [idx0]

theorem iblk_g (t : Fin cfg0.N) (y : S1x4096.Idx) : ∃ i : S1x4096.Idx,
    (i 0).val = (y 0).val ∧ (i 1).val = (y 1).val ∧ iblk m c 1 t y = V m c main_v15 i := by
  refine ⟨(win0_1.blk t).view.emb y, ?_, ?_, rfl⟩
  · blk_simp [idx1]
  · blk_simp [idx1]

theorem iblk_m (t : Fin cfg0.N) (y : S1x6x4096.Idx) : ∃ i : S8x6x4096.Idx,
    (i 0).val = (if t.val / 8 < 16 then 0 else 1 + (t.val / 8 - 16) / 8) + (y 0).val ∧ (i 1).val = (y 1).val ∧ (i 2).val = (y 2).val
      ∧ iblk m c 2 t y = V m c main_v0 i := by
  refine ⟨(win0_2.blk t).view.emb y, ?_, ?_, ?_, rfl⟩
  · blk_simp [idx2]
  · blk_simp [idx2]
  · blk_simp [idx2]

theorem iblk_w (t : Fin cfg0.N) (y : S4096x1024.Idx) : ∃ i : S4096x8192.Idx,
    (i 0).val = (y 0).val ∧ (i 1).val = t.val % 8 * 1024 + (y 1).val ∧ iblk m c 3 t y = V m c main_v14 i := by
  refine ⟨(win0_3.blk t).view.emb y, ?_, ?_, rfl⟩
  · blk_simp [idx3]
  · blk_simp [idx3]

end Cert.Kernel2Ideal.Vals

end
-- ==== Proof.Proj.Sweep.lean ====
module

public import proofs.«01_k».proof.Proof.Proj.Case
public import proofs.«01_k».proof.Proof.Proj.Pay
public import proofs.«01_k».proof.Proof.Proj.Entry
public import proofs.«01_k».proof.Proof.Gen.Kernel2Ideal.Value

@[expose] public section

set_option maxRecDepth 16384

noncomputable section

/-! The scratch holds the modulated rows of the point's row block, so the output block is their product with the point's columns. -/

namespace Cert.Kernel2Ideal.Vals

open Cert.Kernel2Ideal Cert.Kernel2Ideal.Gen
open Idealize.ShloMosaic Idealize.ShloMosaic.TcCoe Idealize.SL.Sem Cert.Proj

variable (m : (ℓ : Loc nD τ sig) → Buf (Elt Ideal) ℓ) (c : Dev nD)

theorem lt_N (t : Fin cfg0.N) : t.val < 256 := by
  have h := t.isLt
  have hN : cfg0.N = 256 := N_0
  omega

/-- The row of the input at row `r` of the row block of point `n`. -/
def rowOf (n : ℕ) (hn : n < 256) (r : Fin 512) : Fin 16384 := ⟨n / 8 * 512 + r.val, by omega⟩

theorem ix3_eq {a b d : ℕ} (i : Shape.Idx ⟨3, ![a, b, d]⟩) (x : Fin a) (y : Fin b) (z : Fin d) (h0 : (i 0).val = x.val) (h1 : (i 1).val = y.val)
    (h2 : (i 2).val = z.val) : i = ix3 x y z := by
  funext k
  match k with
  | 0 => exact Fin.ext h0
  | 1 => exact Fin.ext h1
  | 2 => exact Fin.ext h2

theorem ix2_eq {a b : ℕ} (i : Shape.Idx ⟨2, ![a, b]⟩) (x : Fin a) (y : Fin b) (h0 : (i 0).val = x.val) (h1 : (i 1).val = y.val) : i = ix2 x y := by
  funext k
  match k with
  | 0 => exact Fin.ext h0
  | 1 => exact Fin.ext h1

theorem blk_x (t : Fin cfg0.N) (r : Fin 512) (e : Fin 4096) :
    (iblk m c 0 t : Vec Ideal S512x4096 .f32) (ix2 r e) = aX m c (ix2 (rowOf t.val (lt_N t) r) e) := by
  obtain ⟨i, h0, h1, hi⟩ := iblk_x m c t (ix2 r e)
  refine hi.trans ((congrFun (entry_x m c) i).trans (congrArg (aX m c) (ix2_eq i _ _ h0 h1)))

theorem blk_g (t : Fin cfg0.N) (e : Fin 4096) : (iblk m c 1 t : Vec Ideal S1x4096 .f32) (ix2 0 e) = aG m c (ix1 e) := by
  obtain ⟨i, h0, h1, hi⟩ := iblk_g m c t (ix2 0 e)
  exact hi.trans ((congrArg (V m c main_v15) (ix2_eq i 0 e h0 h1)).trans (entry_g m c e))

theorem blk_m (t : Fin cfg0.N) (r : Fin 512) (k : Fin 6) (e : Fin 4096) :
    (iblk m c 2 t : Vec Ideal S1x6x4096 .f32) (ix3 0 k e) = aM m c (ix2 (group (rowOf t.val (lt_N t) r)) ⟨k.val * 4096 + e.val, by omega⟩) := by
  obtain ⟨i, h0, h1, h2, hi⟩ := iblk_m m c t (ix3 0 k e)
  have hg : (i 0).val = (group (rowOf t.val (lt_N t) r)).val := by
    refine h0.trans ?_
    have ht := lt_N t
    show (if t.val / 8 < 16 then 0 else 1 + (t.val / 8 - 16) / 8) + 0
      = if t.val / 8 * 512 + r.val < 8192 then 0 else 1 + (t.val / 8 * 512 + r.val - 8192) / 4096
    by_cases h : t.val / 8 < 16
    · rw [if_pos h, if_pos (by omega)]
    · rw [if_neg h, if_neg (by omega)]
      omega
  exact hi.trans ((congrArg (V m c main_v0) (ix3_eq i _ k e hg h1 h2)).trans (entry_m m c _ k e))

theorem blk_w (t : Fin cfg0.N) (e : Fin 4096) (j : Fin 1024) :
    (iblk m c 3 t : Vec Ideal S4096x1024 .bf16) (ix2 e j) = arranged (fun k => aW m c (ix2 e k)) ⟨t.val % 8 * 1024 + j.val, by omega⟩ := by
  obtain ⟨i, h0, h1, hi⟩ := iblk_w m c t (ix2 e j)
  exact hi.trans ((congrArg (V m c main_v14) (ix2_eq i e ⟨t.val % 8 * 1024 + j.val, by omega⟩ h0 h1)).trans (entry_w m c e _))

theorem scaleRow_apply (x2 : Vec Ideal S1x6x4096 .f32) (e : Fin 4096) : scaleRow x2 (ix3 0 0 e) = x2 (ix3 0 1 e) := by
  show x2 _ = x2 _
  refine congrArg x2 (ix3_eq _ _ _ _ rfl rfl ?_)
  first
    | exact Nat.zero_add _
    | (show 0 + 1 * e.val = e.val; omega)
    | simp [Rect.unit, Rect.idx]

theorem shiftRow_apply (x2 : Vec Ideal S1x6x4096 .f32) (e : Fin 4096) : shiftRow x2 (ix3 0 0 e) = x2 (ix3 0 0 e) := by
  show x2 _ = x2 _
  refine congrArg x2 (ix3_eq _ _ _ _ rfl rfl ?_)
  first
    | exact Nat.zero_add _
    | (show 0 + 1 * e.val = e.val; omega)
    | simp [Rect.unit, Rect.idx]

/-- What the first column block of a row block stores in the scratch. -/
theorem stored (t : Fin cfg0.N) (r : Fin 512) (e : Fin 4096) :
    k0_pay1 (iblk m c 0 t : Vec Ideal S512x4096 .f32) (iblk m c 1 t : Vec Ideal S1x4096 .f32) (scaleRow (iblk m c 2 t : Vec Ideal S1x6x4096 .f32))
        (shiftRow (iblk m c 2 t : Vec Ideal S1x6x4096 .f32)) (ix2 r e)
      = row (aX m c) (aM m c) (aG m c) (rowOf t.val (lt_N t) r) e := by
  rw [pay1_apply, scaleRow_apply, shiftRow_apply, blk_g, blk_m m c t r 1 e, blk_m m c t r 0 e]
  unfold row
  have hx : (fun k => (iblk m c 0 t : Vec Ideal S512x4096 .f32) (ix2 r k)) = fun k => aX m c (ix2 (rowOf t.val (lt_N t) r) k) :=
    funext fun k => blk_x m c t r k
  rw [hx]
  have h1 : (⟨(1 : Fin 6).val * 4096 + e.val, by omega⟩ : Fin 24576) = ⟨4096 + e.val, by omega⟩ := Fin.ext (by show 1 * 4096 + e.val = 4096 + e.val; omega)
  have h0 : (⟨(0 : Fin 6).val * 4096 + e.val, by omega⟩ : Fin 24576) = ⟨e.val, by omega⟩ := Fin.ext (by show 0 * 4096 + e.val = e.val; omega)
  rw [h1, h0]

theorem scratch (n : ℕ) : ∀ (hn : n < cfg0.N) (r : Fin 512) (e : Fin 4096),
    ((outsAt0 m c n hn).2 : Vec Ideal S512x4096 .bf16) (ix2 r e) = row (aX m c) (aM m c) (aG m c) (rowOf n (lt_N ⟨n, hn⟩) r) e := by
  induction n with
  | zero =>
    intro hn r e
    rw [outsAt0_A m c ⟨0, hn⟩ rfl]
    dsimp only
    rw [sout_A]
    exact stored m c ⟨0, hn⟩ r e
  | succ n ih =>
    intro hn r e
    by_cases h0 : (n + 1) % 8 = 0
    · rw [outsAt0_A m c ⟨n + 1, hn⟩ h0]
      dsimp only
      rw [sout_A]
      exact stored m c ⟨n + 1, hn⟩ r e
    · rw [outsAt0_B m c ⟨n + 1, hn⟩ h0]
      dsimp only
      rw [sout_B]
      refine (ih (Nat.lt_of_succ_lt hn) r e).trans ?_
      refine congrArg (fun R => row (aX m c) (aM m c) (aG m c) R e) (Fin.ext ?_)
      show n / 8 * 512 + r.val = (n + 1) / 8 * 512 + r.val
      omega

theorem block (t : Fin cfg0.N) (r : Fin 512) (j : Fin 1024) :
    ((outsAt0 m c t.val t.isLt).1 : Vec Ideal S512x1024 .f32) (ix2 r j)
      = out (aX m c) (aM m c) (aG m c) (aW m c) (rowOf t.val (lt_N t) r) ⟨t.val % 8 * 1024 + j.val, by omega⟩ := by
  have hs := scratch m c t.val t.isLt r
  unfold out
  by_cases h0 : t.val % 8 = 0
  · rw [outsAt0_A m c t h0] at hs ⊢
    dsimp only at hs ⊢
    rw [sout_A] at hs
    rw [out_A, pay2_apply]
    refine Finset.sum_congr rfl fun e _ => ?_
    rw [hs e, blk_w]
  · rw [outsAt0_B m c t h0] at hs ⊢
    dsimp only at hs ⊢
    rw [sout_B] at hs
    rw [out_B, pay2_apply]
    refine Finset.sum_congr rfl fun e _ => ?_
    rw [hs e, blk_w]

/-- The array the call leaves. -/
theorem G4_apply (i : S16384x8192.Idx) : (Value.G4 m c : Vec Ideal S16384x8192 .f32) i = out (aX m c) (aM m c) (aG m c) (aW m c) (i 0) (i 1) := by
  have i0 : (i 0).val < 16384 := (i 0).isLt
  have i1 : (i 1).val < 8192 := (i 1).isLt
  have hp : Value.pt4Of i = 8 * ((i 0).val / 512) + (i 1).val / 1024 := by
    unfold Value.pt4Of Value.run4Of
    simp
  have hN : cfg0.N = 256 := N_0
  have ht : Value.pt4Of i < cfg0.N := by omega
  unfold Value.G4
  rw [dif_pos ht, ← Value.outsAt0_sweep m c (Value.pt4Of i) ht]
  have e := block m c ⟨Value.pt4Of i, ht⟩ ⟨(i 0).val % 512, Nat.mod_lt _ (by decide)⟩ ⟨(i 1).val % 1024, Nat.mod_lt _ (by decide)⟩
  refine Eq.trans (congrArg _ (ix2_eq _ _ _ ?_ ?_)) (e.trans (congrArg₂ (out _ _ _ _) (Fin.ext ?_) (Fin.ext ?_)))
  · rfl
  · rfl
  · show Value.pt4Of i / 8 * 512 + (i 0).val % 512 = (i 0).val
    omega
  · show Value.pt4Of i % 8 * 1024 + (i 1).val % 1024 = (i 1).val
    omega

end Cert.Kernel2Ideal.Vals

end
-- ==== Proof.Proj.Reference.lean ====
module

public import proofs.«01_k».proof.Proof.Gen.Reference2Ideal.Run
public import proofs.«01_k».proof.Proof.Proj.Spec
public import Idealize.ShloMosaic.Lib.Claim
public import Idealize.ShloMosaic.Lib.IdealHost

@[expose] public section

set_option maxRecDepth 16384

noncomputable section

/-! The projection's reference, element by element. -/

namespace Cert.Reference2Ideal.Vals

open Cert.Reference2Ideal Cert.Reference2Ideal.Gen Cert.Reference2Ideal.Value
open Idealize.ShloMosaic Idealize.ShloMosaic.TcCoe Cert.Proj

variable (m : (ℓ : Loc nD τ sig) → Buf (Elt Ideal) ℓ) (c : Dev nD)

/-- The modulated context rows. -/
def ctx : FVec Ideal S1x8192x4096 .f32 :=
  (addf (mulf (mulf (mulf (shapeCast _ (extractStridedSlice S8192x4096 ![0, 0] (m ((c.tc : Thread nD τ).loc main_arg0)) slices_S16384x4096_S8192x4096_0_0) shapeCasts_S8192x4096_S1x8192x4096) (broadcastInDim S1x8192x4096 ![0, 1, 2] bcast_S1x8192x1_S1x8192x4096_0_1_2 (Host.rsqrt (addf (Host.divf (broadcastInDim S1x8192x1 ![0, 1] bcast_S1x8192_S1x8192x1_0_1 (Host.reduceAdd (mulf (shapeCast _ (extractStridedSlice S8192x4096 ![0, 0] (m ((c.tc : Thread nD τ).loc main_arg0)) slices_S16384x4096_S8192x4096_0_0) shapeCasts_S8192x4096_S1x8192x4096) (shapeCast _ (extractStridedSlice S8192x4096 ![0, 0] (m ((c.tc : Thread nD τ).loc main_arg0)) slices_S16384x4096_S8192x4096_0_0) shapeCasts_S8192x4096_S1x8192x4096)) (constant S_ .f32 0x00000000#32) reducesTo_S1x8192x4096_S1x8192_d2 h_S_)) (broadcastInDim S1x8192x1 ![] bcast_S_S1x8192x1 (constant S_ .f32 0x45800000#32))) (broadcastInDim S1x8192x1 ![] bcast_S_S1x8192x1 (constant S_ .f32 0x358637BD#32)))))) (broadcastInDim S1x8192x4096 ![0, 1, 2] bcast_S1x1x4096_S1x8192x4096_0_1_2 (broadcastInDim S1x1x4096 ![2] bcast_S4096_S1x1x4096_2 (m ((c.tc : Thread nD τ).loc main_arg2))))) (broadcastInDim S1x8192x4096 ![0, 1, 2] bcast_S1x1x4096_S1x8192x4096_0_1_2 (addf (broadcastInDim S1x1x4096 ![] bcast_S_S1x1x4096 (constant S_ .f32 0x3F800000#32)) (broadcastInDim S1x1x4096 ![0, 2] bcast_S1x4096_S1x1x4096_0_2 (extractStridedSlice S1x4096 ![0, 4096] (extractStridedSlice S1x24576 ![0, 0] (m ((c.tc : Thread nD τ).loc main_arg1)) slices_S8x24576_S1x24576_0_0) slices_S1x24576_S1x4096_0_4096))))) (broadcastInDim S1x8192x4096 ![0, 1, 2] bcast_S1x1x4096_S1x8192x4096_0_1_2 (broadcastInDim S1x1x4096 ![0, 2] bcast_S1x4096_S1x1x4096_0_2 (extractStridedSlice S1x4096 ![0, 0] (extractStridedSlice S1x24576 ![0, 0] (m ((c.tc : Thread nD τ).loc main_arg1)) slices_S8x24576_S1x24576_0_0) slices_S1x24576_S1x4096_0_0))))

/-- The modulated latent rows. -/
def lat : FVec Ideal S2x4096x4096 .f32 :=
  (addf (mulf (mulf (mulf (shapeCast _ (extractStridedSlice S8192x4096 ![8192, 0] (m ((c.tc : Thread nD τ).loc main_arg0)) slices_S16384x4096_S8192x4096_8192_0) shapeCasts_S8192x4096_S2x4096x4096) (broadcastInDim S2x4096x4096 ![0, 1, 2] bcast_S2x4096x1_S2x4096x4096_0_1_2 (Host.rsqrt (addf (Host.divf (broadcastInDim S2x4096x1 ![0, 1] bcast_S2x4096_S2x4096x1_0_1 (Host.reduceAdd (mulf (shapeCast _ (extractStridedSlice S8192x4096 ![8192, 0] (m ((c.tc : Thread nD τ).loc main_arg0)) slices_S16384x4096_S8192x4096_8192_0) shapeCasts_S8192x4096_S2x4096x4096) (shapeCast _ (extractStridedSlice S8192x4096 ![8192, 0] (m ((c.tc : Thread nD τ).loc main_arg0)) slices_S16384x4096_S8192x4096_8192_0) shapeCasts_S8192x4096_S2x4096x4096)) (constant S_ .f32 0x00000000#32) reducesTo_S2x4096x4096_S2x4096_d2 h_S_)) (broadcastInDim S2x4096x1 ![] bcast_S_S2x4096x1 (constant S_ .f32 0x45800000#32))) (broadcastInDim S2x4096x1 ![] bcast_S_S2x4096x1 (constant S_ .f32 0x358637BD#32)))))) (broadcastInDim S2x4096x4096 ![0, 1, 2] bcast_S1x1x4096_S2x4096x4096_0_1_2 (broadcastInDim S1x1x4096 ![2] bcast_S4096_S1x1x4096_2 (m ((c.tc : Thread nD τ).loc main_arg2))))) (broadcastInDim S2x4096x4096 ![0, 1, 2] bcast_S2x1x4096_S2x4096x4096_0_1_2 (addf (broadcastInDim S2x1x4096 ![] bcast_S_S2x1x4096 (constant S_ .f32 0x3F800000#32)) (broadcastInDim S2x1x4096 ![0, 2] bcast_S2x4096_S2x1x4096_0_2 (extractStridedSlice S2x4096 ![0, 4096] (extractStridedSlice S2x24576 ![1, 0] (m ((c.tc : Thread nD τ).loc main_arg1)) slices_S8x24576_S2x24576_1_0) slices_S2x24576_S2x4096_0_4096))))) (broadcastInDim S2x4096x4096 ![0, 1, 2] bcast_S2x1x4096_S2x4096x4096_0_1_2 (broadcastInDim S2x1x4096 ![0, 2] bcast_S2x4096_S2x1x4096_0_2 (extractStridedSlice S2x4096 ![0, 0] (extractStridedSlice S2x24576 ![1, 0] (m ((c.tc : Thread nD τ).loc main_arg1)) slices_S8x24576_S2x24576_1_0) slices_S2x24576_S2x4096_0_0))))

/-- All the modulated rows. -/
def rows : FVec Ideal S16384x4096 .f32 :=
  (concatenate S16384x4096 0 [⟨S8192x4096, (shapeCast _ (ctx m c) shapeCasts_S1x8192x4096_S8192x4096)⟩, ⟨S8192x4096, (shapeCast _ (lat m c) shapeCasts_S2x4096x4096_S8192x4096)⟩] concatenates_S8192x4096_S8192x4096_S16384x4096_d0)

/-- The rows times the weight. -/
def prod : FVec Ideal S16384x8032 .f32 :=
  (Host.dotGeneral (φ₁ := .f32) (φ₂ := .f32) dot_S16384x4096_S4096x8032_S16384x8032_1_0_0_1_n_n none (rows m c) (m ((c.tc : Thread nD τ).loc main_arg3)))

/-- The product's column groups in the order the call writes them, zero columns between. -/
def put (D : FVec Ideal S16384x8032 .f32) : FVec Ideal S16384x8192 .f32 :=
    (concatenate S16384x8192 1 [⟨S16384x3072, ((extractStridedSlice S16384x3072 ![0, 3904] D slices_S16384x8032_S16384x3072_0_3904) : (⟨S16384x3072, .f32⟩ : BufTy).Contents (Elt Ideal))⟩, ⟨S16384x1024, ((extractStridedSlice S16384x1024 ![0, 6976] D slices_S16384x8032_S16384x1024_0_6976) : (⟨S16384x1024, .f32⟩ : BufTy).Contents (Elt Ideal))⟩, ⟨S16384x512, ((extractStridedSlice S16384x512 ![0, 768] D slices_S16384x8032_S16384x512_0_768) : (⟨S16384x512, .f32⟩ : BufTy).Contents (Elt Ideal))⟩, ⟨S16384x1536, ((extractStridedSlice S16384x1536 ![0, 1344] D slices_S16384x8032_S16384x1536_0_1344) : (⟨S16384x1536, .f32⟩ : BufTy).Contents (Elt Ideal))⟩, ⟨S16384x768, ((extractStridedSlice S16384x768 ![0, 0] D slices_S16384x8032_S16384x768_0_0) : (⟨S16384x768, .f32⟩ : BufTy).Contents (Elt Ideal))⟩, ⟨S16384x64, ((extractStridedSlice S16384x64 ![0, 1280] D slices_S16384x8032_S16384x64_0_1280) : (⟨S16384x64, .f32⟩ : BufTy).Contents (Elt Ideal))⟩, ⟨S16384x16, ((extractStridedSlice S16384x16 ![0, 8000] D slices_S16384x8032_S16384x16_0_8000) : (⟨S16384x16, .f32⟩ : BufTy).Contents (Elt Ideal))⟩, ⟨S16384x16, ((extractStridedSlice S16384x16 ![0, 8016] D slices_S16384x8032_S16384x16_0_8016) : (⟨S16384x16, .f32⟩ : BufTy).Contents (Elt Ideal))⟩, ⟨S16384x160, ((broadcastInDim S16384x160 ![] bcast_S_S16384x160 (constant (F := Ideal) S_ .f32 0x00000000#32)) : (⟨S16384x160, .f32⟩ : BufTy).Contents (Elt Ideal))⟩, ⟨S16384x512, ((extractStridedSlice S16384x512 ![0, 2880] D slices_S16384x8032_S16384x512_0_2880) : (⟨S16384x512, .f32⟩ : BufTy).Contents (Elt Ideal))⟩, ⟨S16384x512, ((extractStridedSlice S16384x512 ![0, 3392] D slices_S16384x8032_S16384x512_0_3392) : (⟨S16384x512, .f32⟩ : BufTy).Contents (Elt Ideal))⟩] concatenates_S16384x3072_S16384x1024_S16384x512_S16384x1536_S16384x768_S16384x64_S16384x16_S16384x16_S16384x160_S16384x512_S16384x512_S16384x8192_d1 : (⟨S16384x8192, .f32⟩ : BufTy).Contents (Elt Ideal))

theorem res_eq : res_main_v67 m c = put (prod m c) := by
  unfold res_main_v67 put prod rows ctx lat; rfl

set_option maxHeartbeats 1000000 in
theorem put_apply (D : FVec Ideal S16384x8032 .f32) (R : Fin 16384) (j : Fin 8192) : put D (ix2 R j) = arranged (fun k => D (ix2 R k)) j := by
  pointwise [put, arranged]
  by_cases a0 : j.val < 3072
  · rw [dif_pos (show j.val < 3072 by omega), dif_pos a0]
  rw [dif_neg (show ¬ j.val < 3072 by omega), dif_neg a0]
  by_cases a1 : j.val < 4096
  · rw [dif_pos (show j.val - 3072 < 1024 by omega), dif_pos a1]
    try exact congrArg (fun k => D (ix2 R k)) (Fin.ext (by dsimp only; omega))
  rw [dif_neg (show ¬ j.val - 3072 < 1024 by omega), dif_neg a1]
  by_cases a2 : j.val < 4608
  · rw [dif_pos (show j.val - 3072 - 1024 < 512 by omega), dif_pos a2]
    try exact congrArg (fun k => D (ix2 R k)) (Fin.ext (by dsimp only; omega))
  rw [dif_neg (show ¬ j.val - 3072 - 1024 < 512 by omega), dif_neg a2]
  by_cases a3 : j.val < 6144
  · rw [dif_pos (show j.val - 3072 - 1024 - 512 < 1536 by omega), dif_pos a3]
    try exact congrArg (fun k => D (ix2 R k)) (Fin.ext (by dsimp only; omega))
  rw [dif_neg (show ¬ j.val - 3072 - 1024 - 512 < 1536 by omega), dif_neg a3]
  by_cases a4 : j.val < 6912
  · rw [dif_pos (show j.val - 3072 - 1024 - 512 - 1536 < 768 by omega), dif_pos a4]
    try exact congrArg (fun k => D (ix2 R k)) (Fin.ext (by dsimp only; omega))
  rw [dif_neg (show ¬ j.val - 3072 - 1024 - 512 - 1536 < 768 by omega), dif_neg a4]
  by_cases a5 : j.val < 6976
  · rw [dif_pos (show j.val - 3072 - 1024 - 512 - 1536 - 768 < 64 by omega), dif_pos a5]
    try exact congrArg (fun k => D (ix2 R k)) (Fin.ext (by dsimp only; omega))
  rw [dif_neg (show ¬ j.val - 3072 - 1024 - 512 - 1536 - 768 < 64 by omega), dif_neg a5]
  by_cases a6 : j.val < 6992
  · rw [dif_pos (show j.val - 3072 - 1024 - 512 - 1536 - 768 - 64 < 16 by omega), dif_pos a6]
    try exact congrArg (fun k => D (ix2 R k)) (Fin.ext (by dsimp only; omega))
  rw [dif_neg (show ¬ j.val - 3072 - 1024 - 512 - 1536 - 768 - 64 < 16 by omega), dif_neg a6]
  by_cases a7 : j.val < 7008
  · rw [dif_pos (show j.val - 3072 - 1024 - 512 - 1536 - 768 - 64 - 16 < 16 by omega), dif_pos a7]
    try exact congrArg (fun k => D (ix2 R k)) (Fin.ext (by dsimp only; omega))
  rw [dif_neg (show ¬ j.val - 3072 - 1024 - 512 - 1536 - 768 - 64 - 16 < 16 by omega), dif_neg a7]
  by_cases a8 : j.val < 7168
  · rw [dif_pos (show j.val - 3072 - 1024 - 512 - 1536 - 768 - 64 - 16 - 16 < 160 by omega), dif_pos a8]
  rw [dif_neg (show ¬ j.val - 3072 - 1024 - 512 - 1536 - 768 - 64 - 16 - 16 < 160 by omega), dif_neg a8]
  by_cases a9 : j.val < 7680
  · rw [dif_pos (show j.val - 3072 - 1024 - 512 - 1536 - 768 - 64 - 16 - 16 - 160 < 512 by omega), dif_pos a9]
    try exact congrArg (fun k => D (ix2 R k)) (Fin.ext (by dsimp only; omega))
  rw [dif_neg (show ¬ j.val - 3072 - 1024 - 512 - 1536 - 768 - 64 - 16 - 16 - 160 < 512 by omega), dif_neg a9]
  exact congrArg (fun k => D (ix2 R k)) (Fin.ext (by dsimp only; omega))

theorem prod_apply (R : Fin 16384) (k : Fin 8032) : prod m c (ix2 R k)
    = ∑ e : Fin 4096, (rows m c (ix2 R e) : EReal) * (m ((c.tc : Thread nD τ).loc main_arg3) : Vec Ideal S4096x8032 .f32) (ix2 e k) := by
  pointwise [prod]

theorem ctx_apply (r : Fin 8192) (e : Fin 4096) : ctx m c (ix3 0 r e)
    = normed (fun k => (m ((c.tc : Thread nD τ).loc main_arg0) : Vec Ideal S16384x4096 .f32) (ix2 ⟨r.val, by omega⟩ k))
        ((m ((c.tc : Thread nD τ).loc main_arg2) : Vec Ideal S4096 .f32) (ix1 e))
        ((m ((c.tc : Thread nD τ).loc main_arg1) : Vec Ideal S8x24576 .f32) (ix2 0 ⟨4096 + e.val, by omega⟩))
        ((m ((c.tc : Thread nD τ).loc main_arg1) : Vec Ideal S8x24576 .f32) (ix2 0 ⟨e.val, by omega⟩)) e := by
  pointwise [ctx, normed]

theorem lat_apply (b : Fin 2) (r : Fin 4096) (e : Fin 4096) : lat m c (ix3 b r e)
    = normed (fun k => (m ((c.tc : Thread nD τ).loc main_arg0) : Vec Ideal S16384x4096 .f32) (ix2 ⟨8192 + (b.val * 4096 + r.val), by omega⟩ k))
        ((m ((c.tc : Thread nD τ).loc main_arg2) : Vec Ideal S4096 .f32) (ix1 e))
        ((m ((c.tc : Thread nD τ).loc main_arg1) : Vec Ideal S8x24576 .f32) (ix2 ⟨1 + b.val, by omega⟩ ⟨4096 + e.val, by omega⟩))
        ((m ((c.tc : Thread nD τ).loc main_arg1) : Vec Ideal S8x24576 .f32) (ix2 ⟨1 + b.val, by omega⟩ ⟨e.val, by omega⟩)) e := by
  pointwise [lat, normed]

theorem rows_apply (R : Fin 16384) (e : Fin 4096) : rows m c (ix2 R e)
    = if h : R.val < 8192 then ctx m c (ix3 0 ⟨R.val, h⟩ e)
      else lat m c (ix3 ⟨(R.val - 8192) / 4096, by omega⟩ ⟨(R.val - 8192) % 4096, Nat.mod_lt _ (by decide)⟩ e) := by
  pointwise [rows]

theorem rows_row (R : Fin 16384) (e : Fin 4096) : (rows m c (ix2 R e) : EReal)
    = row (m ((c.tc : Thread nD τ).loc main_arg0)) (m ((c.tc : Thread nD τ).loc main_arg1)) (m ((c.tc : Thread nD τ).loc main_arg2)) R e := by
  rw [rows_apply]
  unfold row
  by_cases h : R.val < 8192
  · rw [dif_pos h, ctx_apply]
    have hg : group R = 0 := Fin.ext (by unfold group; simp only [if_pos h]; rfl)
    rw [hg]
  · rw [dif_neg h, lat_apply]
    have hg : group R = ⟨1 + (R.val - 8192) / 4096, by omega⟩ := Fin.ext (by unfold group; simp only [if_neg h])
    have hr : (⟨8192 + ((R.val - 8192) / 4096 * 4096 + (R.val - 8192) % 4096), by omega⟩ : Fin 16384) = R := Fin.ext (by dsimp only; omega)
    rw [hg]
    dsimp only
    rw [hr]

theorem res_apply (R : Fin 16384) (j : Fin 8192) : res_main_v67 m c (ix2 R j)
    = out (m ((c.tc : Thread nD τ).loc main_arg0)) (m ((c.tc : Thread nD τ).loc main_arg1)) (m ((c.tc : Thread nD τ).loc main_arg2)) (m ((c.tc : Thread nD τ).loc main_arg3)) R j := by
  rw [res_eq, put_apply]
  unfold out
  rw [sum_arranged]
  refine congrArg (fun f => arranged f j) (funext fun k => ?_)
  rw [prod_apply]
  refine Finset.sum_congr rfl fun e _ => ?_
  rw [rows_row]

end Cert.Reference2Ideal.Vals

end
-- ==== Proof.Proj.Final.lean ====
module

public import proofs.«01_k».proof.Defs
public import proofs.«01_k».proof.Proof.Proj.Sweep
public import proofs.«01_k».proof.Proof.Proj.Reference

@[expose] public section

set_option maxRecDepth 16384

noncomputable section

/-! The projection and its reference leave the same array. -/

namespace Cert.Proj

open Idealize.ShloMosaic Idealize.ShloMosaic.TcCoe Idealize.SL.Sem
open Cert.Kernel2Ideal.Vals

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ)

theorem reference_result (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) :
    Cert.Reference2Ideal.Value.res_main_v67 m' c = Cert.Kernel2Ideal.Value.G4 m c := by
  have e0 : (m' ((c.tc : Thread Cert.Reference2Ideal.nD Cert.Reference2Ideal.τ).loc Cert.Reference2Ideal.main_arg0) : Vec Ideal ⟨2, ![16384, 4096]⟩ .f32) = aX m c := h0
  have e1 : (m' ((c.tc : Thread Cert.Reference2Ideal.nD Cert.Reference2Ideal.τ).loc Cert.Reference2Ideal.main_arg1) : Vec Ideal ⟨2, ![8, 24576]⟩ .f32) = aM m c := h1
  have e2 : (m' ((c.tc : Thread Cert.Reference2Ideal.nD Cert.Reference2Ideal.τ).loc Cert.Reference2Ideal.main_arg2) : Vec Ideal ⟨1, ![4096]⟩ .f32) = aG m c := h2
  have e3 : (m' ((c.tc : Thread Cert.Reference2Ideal.nD Cert.Reference2Ideal.τ).loc Cert.Reference2Ideal.main_arg3) : Vec Ideal ⟨2, ![4096, 8032]⟩ .f32) = aW m c := h3
  funext i
  refine (congrArg (Cert.Reference2Ideal.Value.res_main_v67 m' c) (ix2_eq i (i 0) (i 1) rfl rfl)).trans ?_
  refine (Cert.Reference2Ideal.Vals.res_apply m' c (i 0) (i 1)).trans ?_
  rw [e0, e1, e2, e3]
  exact (G4_apply m c i).symm

theorem algebraic : Cert.algebraic_Kernel2Ideal_Reference2Ideal := by
  intro m g m' g' _ hm
  refine ⟨fun c => Cert.Kernel2Ideal.Value.G4 m c, Cert.Kernel2Ideal.Value.run m g, ?_⟩
  refine (θ_run Cert.Reference2Ideal.defs _ _).mono (fun r h c => ⟨(h c).1.trans ?_, (h c).2⟩) (Cert.Reference2Ideal.Value.run (F := Ideal) m' g')
  obtain ⟨h0, h1, h2, h3⟩ := hm c
  exact reference_result m m' c h0 h1 h2 h3

end Cert.Proj

end
-- ==== Proof.OutP.Spec.lean ====
module

public import Idealize.ShloMosaic.Lib.Pointwise

@[expose] public section

set_option maxRecDepth 16384

noncomputable section

/-! The output projection's mathematics: the heads of the gated delta rule normalised and gated, put behind the two attentions'
outputs, times the weight, gated and added to the input. -/

namespace Cert.OutP

open Idealize.ShloMosaic

/-- An element of one head: the sum of the two directions, normalised over the head and gated. -/
def head (f b z g : Fin 128 → EReal) (e : Fin 128) : EReal :=
  (f e + b e) * Ideal.rsqrt (Ideal.div (∑ k : Fin 128, (f k + b k) * (f k + b k)) (Ideal.ofBits .f32 0x43000000#32) + Ideal.ofBits .f32 0x358637BD#32) * g e
    * (z e * Ideal.logistic (z e))

/-- The place of element `k` in the head that holds element `e`. -/
def inHead (e : Fin 1024) (k : Fin 128) : Fin 1024 := ⟨e.val / 128 * 128 + k.val, by omega⟩

/-- An element of a row of heads. -/
def heads (f b z : Fin 1024 → EReal) (g : Fin 128 → EReal) (e : Fin 1024) : EReal :=
  head (fun k => f (inHead e k)) (fun k => b (inHead e k)) (fun k => z (inHead e k)) g ⟨e.val % 128, Nat.mod_lt _ (by decide)⟩

/-- The row of the modulations that a row of the input takes: the context's, or its own image's. -/
def group (R : Fin 16384) : Fin 8 := ⟨if R.val < 8192 then 0 else 1 + (R.val - 8192) / 4096, by split <;> omega⟩

/-- An element of the heads' array. -/
def od (f b : Vec Ideal ⟨2, ![16384, 1024]⟩ .f32) (u : Vec Ideal ⟨2, ![16384, 8192]⟩ .f32) (g : Vec Ideal ⟨1, ![128]⟩ .f32) (R : Fin 16384) (e : Fin 1024) : EReal :=
  heads (fun k => f (ix2 R k)) (fun k => b (ix2 R k)) (fun k => u (ix2 R ⟨3072 + k.val, by omega⟩)) (fun k => g (ix1 k)) e

/-- An element of the product, its sum in the three parts. -/
def mix (om og : Vec Ideal ⟨2, ![16384, 1536]⟩ .bf16) (f b : Vec Ideal ⟨2, ![16384, 1024]⟩ .f32) (u : Vec Ideal ⟨2, ![16384, 8192]⟩ .f32)
    (g : Vec Ideal ⟨1, ![128]⟩ .f32) (w : Vec Ideal ⟨2, ![4096, 4096]⟩ .f32) (R : Fin 16384) (j : Fin 4096) : EReal :=
  ((∑ e : Fin 1536, (om (ix2 R e) : EReal) * w (ix2 ⟨e.val, by omega⟩ j)) + ∑ e : Fin 1536, (og (ix2 R e) : EReal) * w (ix2 ⟨1536 + e.val, by omega⟩ j))
    + ∑ e : Fin 1024, od f b u g R e * w (ix2 ⟨3072 + e.val, by omega⟩ j)

/-- An element of the result. -/
def out (om og : Vec Ideal ⟨2, ![16384, 1536]⟩ .bf16) (f b : Vec Ideal ⟨2, ![16384, 1024]⟩ .f32) (u : Vec Ideal ⟨2, ![16384, 8192]⟩ .f32)
    (g : Vec Ideal ⟨1, ![128]⟩ .f32) (w : Vec Ideal ⟨2, ![4096, 4096]⟩ .f32) (x : Vec Ideal ⟨2, ![16384, 4096]⟩ .f32) (md : Vec Ideal ⟨2, ![8, 24576]⟩ .f32)
    (R : Fin 16384) (j : Fin 4096) : EReal :=
  x (ix2 R j) + md (ix2 (group R) ⟨8192 + j.val, by omega⟩) * mix om og f b u g w R j

/-- A sum over the joined columns in its three parts. -/
theorem sum_parts {a b d n : ℕ} (hn : n = a + b + d) (h : Fin n → EReal) :
    ∑ e : Fin n, h e = ((∑ e : Fin a, h ⟨e.val, by omega⟩) + ∑ e : Fin b, h ⟨a + e.val, by omega⟩) + ∑ e : Fin d, h ⟨a + b + e.val, by omega⟩ := by
  subst hn
  rw [Fin.sum_univ_add, Fin.sum_univ_add]
  rfl

end Cert.OutP

end
-- ==== Proof.OutP.Pay.lean ====
module

public import proofs.«01_k».proof.Proof.Gen.Kernel3Ideal.Skeleton
public import proofs.«01_k».proof.Proof.OutP.Spec

@[expose] public section

set_option maxRecDepth 16384

noncomputable section

/-! The stored values of the output projection over the extended reals, read element by element. -/

namespace Cert.Kernel3Ideal.Vals

open Cert.Kernel3Ideal Cert.Kernel3Ideal.Gen
open Idealize.ShloMosaic Cert.OutP

theorem head0_apply (z f b : Vec Ideal S512x128 .f32) (g : Vec Ideal S1x128 .f32) (r : Fin 512) (e : Fin 128) :
    (k0_pay3 z f b g) (ix2 r e) = head (fun k => f (ix2 r k)) (fun k => b (ix2 r k)) (fun k => z (ix2 r k)) (fun k => g (ix2 0 k)) e := by
  pointwise [k0_pay3, head]

theorem head1_apply (z f b : Vec Ideal S512x128 .f32) (g : Vec Ideal S1x128 .f32) (r : Fin 512) (e : Fin 128) :
    (k0_pay7 z (k0_pay4 f b) (k0_pay5 g) (k0_pay6 f b)) (ix2 r e) = head (fun k => f (ix2 r k)) (fun k => b (ix2 r k)) (fun k => z (ix2 r k)) (fun k => g (ix2 0 k)) e := by
  pointwise [k0_pay7, k0_pay4, k0_pay5, k0_pay6, head]

theorem head2_apply (z f b : Vec Ideal S512x128 .f32) (g : Vec Ideal S1x128 .f32) (r : Fin 512) (e : Fin 128) :
    (k0_pay8 z f b g) (ix2 r e) = head (fun k => f (ix2 r k)) (fun k => b (ix2 r k)) (fun k => z (ix2 r k)) (fun k => g (ix2 0 k)) e := by
  pointwise [k0_pay8, head]

theorem head3_apply (z f b : Vec Ideal S512x128 .f32) (g : Vec Ideal S1x128 .f32) (r : Fin 512) (e : Fin 128) :
    (k0_pay9 z f b g) (ix2 r e) = head (fun k => f (ix2 r k)) (fun k => b (ix2 r k)) (fun k => z (ix2 r k)) (fun k => g (ix2 0 k)) e := by
  pointwise [k0_pay9, head]

theorem head4_apply (z f b : Vec Ideal S512x128 .f32) (g : Vec Ideal S1x128 .f32) (r : Fin 512) (e : Fin 128) :
    (k0_pay13 z (k0_pay10 f b) (k0_pay11 g) (k0_pay12 f b)) (ix2 r e) = head (fun k => f (ix2 r k)) (fun k => b (ix2 r k)) (fun k => z (ix2 r k)) (fun k => g (ix2 0 k)) e := by
  pointwise [k0_pay13, k0_pay10, k0_pay11, k0_pay12, head]

theorem head5_apply (z f b : Vec Ideal S512x128 .f32) (g : Vec Ideal S1x128 .f32) (r : Fin 512) (e : Fin 128) :
    (k0_pay14 z f b g) (ix2 r e) = head (fun k => f (ix2 r k)) (fun k => b (ix2 r k)) (fun k => z (ix2 r k)) (fun k => g (ix2 0 k)) e := by
  pointwise [k0_pay14, head]

theorem head6_apply (z f b : Vec Ideal S512x128 .f32) (g : Vec Ideal S1x128 .f32) (r : Fin 512) (e : Fin 128) :
    (k0_pay15 z f b g) (ix2 r e) = head (fun k => f (ix2 r k)) (fun k => b (ix2 r k)) (fun k => z (ix2 r k)) (fun k => g (ix2 0 k)) e := by
  pointwise [k0_pay15, head]

theorem head7_apply (z f b : Vec Ideal S512x128 .f32) (g : Vec Ideal S1x128 .f32) (r : Fin 512) (e : Fin 128) :
    (k0_pay1 z (k0_pay16 g) (k0_pay17 f b)) (ix2 r e) = head (fun k => f (ix2 r k)) (fun k => b (ix2 r k)) (fun k => z (ix2 r k)) (fun k => g (ix2 0 k)) e := by
  pointwise [k0_pay1, k0_pay16, k0_pay17, head]

theorem out_apply (om : Vec Ideal S512x1536 .bf16) (wm : Vec Ideal S1536x1024 .bf16) (og : Vec Ideal S512x1536 .bf16) (wg : Vec Ideal S1536x1024 .bf16)
    (od : Vec Ideal S512x1024 .bf16) (wd : Vec Ideal S1024x1024 .bf16) (x : Vec Ideal S512x1024 .f32) (gt : Vec Ideal S1x1x1024 .f32) (r : Fin 512) (j : Fin 1024) :
    k0_pay2 om wm og wg od wd x gt (ix2 r j) = (x (ix2 r j) : EReal) + gt (ix3 0 0 j) *
      (((∑ e : Fin 1536, (om (ix2 r e) : EReal) * wm (ix2 e j)) + ∑ e : Fin 1536, (og (ix2 r e) : EReal) * wg (ix2 e j))
        + ∑ e : Fin 1024, (od (ix2 r e) : EReal) * wd (ix2 e j)) := by
  pointwise [k0_pay2]

end Cert.Kernel3Ideal.Vals

end
-- ==== Proof.OutP.Case.lean ====
module

public import proofs.«01_k».proof.Proof.Gen.Kernel3Ideal.Frame
public import proofs.«01_k».proof.Proof.OutP.Pay
public import Idealize.ShloMosaic.Lib.Pipeline.Value
public import Idealize.ShloMosaic.Lib.Tactic

@[expose] public section

set_option maxRecDepth 16384

noncomputable section

/-! What the body of the output projection leaves in its two buffers, on the first column block of a row block and on the others. -/

namespace Cert.Kernel3Ideal.Vals

open Cert.Kernel3Ideal Cert.Kernel3Ideal.Gen
open Idealize.ShloMosaic Idealize.ShloMosaic.TcCoe Cert.OutP

theorem hz : (![0, 0] : Fin 2 → Nat) = fun _ => 0 := funext fun a => by fin_cases a <;> rfl

/-- The row of the modulations that gates. -/
abbrev gateRow (x10 : Vec Ideal S1x6x1024 .f32) : Vec Ideal S1x1x1024 .f32 :=
  View.ld x10 (Rect.unit (s := S1x6x1024) ![0, 2, 0] S1x1x1024.size inb_S1x6x1024_S1x1x1024_0_2_0)

/-- The heads of a row block. -/
def block (f b z : Vec Ideal S512x1024 .f32) (g : Vec Ideal S1x128 .f32) : Vec Ideal S512x1024 .bf16 :=
  fun y => heads (fun k => f (ix2 (y 0) k)) (fun k => b (ix2 (y 0) k)) (fun k => z (ix2 (y 0) k)) (fun k => g (ix2 0 k)) (y 1)

theorem ix2_eta {a b : ℕ} (i : Shape.Idx ⟨2, ![a, b]⟩) : i = ix2 (i 0) (i 1) := by
  funext k
  match k with
  | 0 => rfl
  | 1 => rfl

theorem ld_cols (X : Vec Ideal S512x1024 .f32) (o : ℕ) (inb : ∀ a, (![0, o] : Fin 2 → ℕ) a + S512x128.size a ≤ S512x1024.size a) (ho : o + 128 ≤ 1024)
    (r : Fin 512) (k : Fin 128) : View.ld X (Rect.unit (s := S512x1024) ![0, o] S512x128.size inb) (ix2 r k) = X (ix2 r ⟨o + k.val, by omega⟩) := by
  refine congrArg X (funext fun a => ?_)
  match a with
  | 0 => exact Fin.ext (by show 0 + 1 * r.val = r.val; omega)
  | 1 => exact Fin.ext (by show o + 1 * k.val = o + k.val; omega)

theorem head_congr {f f' b b' z z' : Fin 128 → EReal} (hf : ∀ k, f k = f' k) (hb : ∀ k, b k = b' k) (hz : ∀ k, z k = z' k) (g : Fin 128 → EReal) (e : Fin 128) :
    head f b z g e = head f' b' z' g e := by
  rw [show f = f' from funext hf, show b = b' from funext hb, show z = z' from funext hz]

theorem block_cols (f b z : Vec Ideal S512x1024 .f32) (g : Vec Ideal S1x128 .f32) (h : ℕ) (hh : h < 8)
    (inb : ∀ a, (![0, 128 * h] : Fin 2 → ℕ) a + S512x128.size a ≤ S512x1024.size a) (r : Fin 512) (e : Fin 128) :
    head (fun k => View.ld f (Rect.unit (s := S512x1024) ![0, 128 * h] S512x128.size inb) (ix2 r k))
        (fun k => View.ld b (Rect.unit (s := S512x1024) ![0, 128 * h] S512x128.size inb) (ix2 r k))
        (fun k => View.ld z (Rect.unit (s := S512x1024) ![0, 128 * h] S512x128.size inb) (ix2 r k)) (fun k => g (ix2 0 k)) e
      = block f b z g ((Rect.unit (s := S512x1024) ![0, 128 * h] S512x128.size inb).emb (ix2 r e)) := by
  have ee : (Rect.unit (s := S512x1024) ![0, 128 * h] S512x128.size inb).emb (ix2 r e) = ix2 r (⟨128 * h + e.val, by omega⟩ : Fin 1024) := by
    funext a
    match a with
    | 0 => exact Fin.ext (by show 0 + 1 * r.val = r.val; omega)
    | 1 => exact Fin.ext (by show 128 * h + 1 * e.val = 128 * h + e.val; omega)
  rw [ee]
  show _ = heads (fun k => f (ix2 r k)) (fun k => b (ix2 r k)) (fun k => z (ix2 r k)) (fun k => g (ix2 0 k)) (⟨128 * h + e.val, by omega⟩ : Fin 1024)
  unfold heads
  have hk : ∀ k : Fin 128, inHead ⟨128 * h + e.val, by omega⟩ k = ⟨128 * h + k.val, by omega⟩ := fun k =>
    Fin.ext (by show (128 * h + e.val) / 128 * 128 + k.val = 128 * h + k.val; omega)
  have he : (⟨(128 * h + e.val) % 128, Nat.mod_lt _ (by decide)⟩ : Fin 128) = e := Fin.ext (by show (128 * h + e.val) % 128 = e.val; omega)
  simp only [hk]
  rw [he]
  exact head_congr (fun k => ld_cols f _ inb (by omega) r k) (fun k => ld_cols b _ inb (by omega) r k) (fun k => ld_cols z _ inb (by omega) r k) _ _

theorem pieces_A (c : Dev nD) (i : grid0.Coords) (a2 : Memref sig .tc .vmem S512x1536 .bf16) (h2 : a2.IsWhole) (a3 : Memref sig .tc .vmem S512x1536 .bf16) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S1x128 .f32) (h7 : a7.IsWhole) (a8 : Memref sig .tc .vmem S1536x1024 .bf16) (h8 : a8.IsWhole) (a9 : Memref sig .tc .vmem S1536x1024 .bf16) (h9 : a9.IsWhole) (a10 : Memref sig .tc .vmem S1024x1024 .bf16) (h10 : a10.IsWhole) (a11 : Memref sig .tc .vmem S512x1024 .f32) (h11 : a11.IsWhole) (a12 : Memref sig .tc .vmem S1x6x1024 .f32) (h12 : a12.IsWhole) (a13 : Memref sig .tc .vmem S512x1024 .f32) (h13 : a13.IsWhole) (a14 : Memref sig .tc .vmem S512x1024 .bf16) (h14 : a14.IsWhole) (hc : cond0_0 i)
    (x0 : Vec Ideal S512x1536 .bf16) (x1 : Vec Ideal S512x1536 .bf16) (x2 : Vec Ideal S512x1024 .f32) (x3 : Vec Ideal S512x1024 .f32) (x4 : Vec Ideal S512x1024 .f32) (x5 : Vec Ideal S1x128 .f32) (x6 : Vec Ideal S1536x1024 .bf16) (x7 : Vec Ideal S1536x1024 .bf16) (x8 : Vec Ideal S1024x1024 .bf16) (x9 : Vec Ideal S512x1024 .f32) (x10 : Vec Ideal S1x6x1024 .f32) :
    ∀ p ∈ (kernelRun0_A c i a2 h2 a3 h3 a4 h4 a5 h5 a6 h6 a7 h7 a8 h8 a9 h9 a10 h10 a11 h11 a12 h12 a13 h13 a14 h14 hc x0 x1 x2 x3 x4 x5 x6 x7 x8 x9 x10).2.1, ∀ y, p.2 y = block x2 x3 x4 x5 (p.1.emb y) := by
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S1x128) hz]
  simp only [List.forall_mem_cons]
  refine ⟨?_, ?_, ?_, ?_, ?_, ?_, ?_, ?_, fun p hp => absurd hp List.not_mem_nil⟩
  · intro y
    refine (congrArg _ (ix2_eta y)).trans ((head7_apply _ _ _ _ (y 0) (y 1)).trans ((block_cols x2 x3 x4 x5 7 (by decide) inb_S512x1024_S512x128_0_896 (y 0) (y 1)).trans ?_))
    exact congrArg (fun q => block x2 x3 x4 x5 ((Rect.unit (s := S512x1024) ![0, 896] S512x128.size inb_S512x1024_S512x128_0_896).emb q)) (ix2_eta y).symm
  · intro y
    refine (congrArg _ (ix2_eta y)).trans ((head6_apply _ _ _ _ (y 0) (y 1)).trans ((block_cols x2 x3 x4 x5 6 (by decide) inb_S512x1024_S512x128_0_768 (y 0) (y 1)).trans ?_))
    exact congrArg (fun q => block x2 x3 x4 x5 ((Rect.unit (s := S512x1024) ![0, 768] S512x128.size inb_S512x1024_S512x128_0_768).emb q)) (ix2_eta y).symm
  · intro y
    refine (congrArg _ (ix2_eta y)).trans ((head5_apply _ _ _ _ (y 0) (y 1)).trans ((block_cols x2 x3 x4 x5 5 (by decide) inb_S512x1024_S512x128_0_640 (y 0) (y 1)).trans ?_))
    exact congrArg (fun q => block x2 x3 x4 x5 ((Rect.unit (s := S512x1024) ![0, 640] S512x128.size inb_S512x1024_S512x128_0_640).emb q)) (ix2_eta y).symm
  · intro y
    refine (congrArg _ (ix2_eta y)).trans ((head4_apply _ _ _ _ (y 0) (y 1)).trans ((block_cols x2 x3 x4 x5 4 (by decide) inb_S512x1024_S512x128_0_512 (y 0) (y 1)).trans ?_))
    exact congrArg (fun q => block x2 x3 x4 x5 ((Rect.unit (s := S512x1024) ![0, 512] S512x128.size inb_S512x1024_S512x128_0_512).emb q)) (ix2_eta y).symm
  · intro y
    refine (congrArg _ (ix2_eta y)).trans ((head3_apply _ _ _ _ (y 0) (y 1)).trans ((block_cols x2 x3 x4 x5 3 (by decide) inb_S512x1024_S512x128_0_384 (y 0) (y 1)).trans ?_))
    exact congrArg (fun q => block x2 x3 x4 x5 ((Rect.unit (s := S512x1024) ![0, 384] S512x128.size inb_S512x1024_S512x128_0_384).emb q)) (ix2_eta y).symm
  · intro y
    refine (congrArg _ (ix2_eta y)).trans ((head2_apply _ _ _ _ (y 0) (y 1)).trans ((block_cols x2 x3 x4 x5 2 (by decide) inb_S512x1024_S512x128_0_256 (y 0) (y 1)).trans ?_))
    exact congrArg (fun q => block x2 x3 x4 x5 ((Rect.unit (s := S512x1024) ![0, 256] S512x128.size inb_S512x1024_S512x128_0_256).emb q)) (ix2_eta y).symm
  · intro y
    refine (congrArg _ (ix2_eta y)).trans ((head1_apply _ _ _ _ (y 0) (y 1)).trans ((block_cols x2 x3 x4 x5 1 (by decide) inb_S512x1024_S512x128_0_128 (y 0) (y 1)).trans ?_))
    exact congrArg (fun q => block x2 x3 x4 x5 ((Rect.unit (s := S512x1024) ![0, 128] S512x128.size inb_S512x1024_S512x128_0_128).emb q)) (ix2_eta y).symm
  · intro y
    refine (congrArg _ (ix2_eta y)).trans ((head0_apply _ _ _ _ (y 0) (y 1)).trans ((block_cols x2 x3 x4 x5 0 (by decide) inb_S512x1024_S512x128_0_0 (y 0) (y 1)).trans ?_))
    exact congrArg (fun q => block x2 x3 x4 x5 ((Rect.unit (s := S512x1024) ![0, 0] S512x128.size inb_S512x1024_S512x128_0_0).emb q)) (ix2_eta y).symm

theorem canon_A (c : Dev nD) (i : grid0.Coords) (a2 : Memref sig .tc .vmem S512x1536 .bf16) (h2 : a2.IsWhole) (a3 : Memref sig .tc .vmem S512x1536 .bf16) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S1x128 .f32) (h7 : a7.IsWhole) (a8 : Memref sig .tc .vmem S1536x1024 .bf16) (h8 : a8.IsWhole) (a9 : Memref sig .tc .vmem S1536x1024 .bf16) (h9 : a9.IsWhole) (a10 : Memref sig .tc .vmem S1024x1024 .bf16) (h10 : a10.IsWhole) (a11 : Memref sig .tc .vmem S512x1024 .f32) (h11 : a11.IsWhole) (a12 : Memref sig .tc .vmem S1x6x1024 .f32) (h12 : a12.IsWhole) (a13 : Memref sig .tc .vmem S512x1024 .f32) (h13 : a13.IsWhole) (a14 : Memref sig .tc .vmem S512x1024 .bf16) (h14 : a14.IsWhole) (hc : cond0_0 i)
    (x0 : Vec Ideal S512x1536 .bf16) (x1 : Vec Ideal S512x1536 .bf16) (x2 : Vec Ideal S512x1024 .f32) (x3 : Vec Ideal S512x1024 .f32) (x4 : Vec Ideal S512x1024 .f32) (x5 : Vec Ideal S1x128 .f32) (x6 : Vec Ideal S1536x1024 .bf16) (x7 : Vec Ideal S1536x1024 .bf16) (x8 : Vec Ideal S1024x1024 .bf16) (x9 : Vec Ideal S512x1024 .f32) (x10 : Vec Ideal S1x6x1024 .f32) :
    View.canon (kernelRun0_A c i a2 h2 a3 h3 a4 h4 a5 h5 a6 h6 a7 h7 a8 h8 a9 h9 a10 h10 a11 h11 a12 h12 a13 h13 a14 h14 hc x0 x1 x2 x3 x4 x5 x6 x7 x8 x9 x10).2.1 = block x2 x3 x4 x5 :=
  funext fun y => View.canon_apply_of_pieces _ _ (pieces_A c i a2 h2 a3 h3 a4 h4 a5 h5 a6 h6 a7 h7 a8 h8 a9 h9 a10 h10 a11 h11 a12 h12 a13 h13 a14 h14 hc x0 x1 x2 x3 x4 x5 x6 x7 x8 x9 x10) y (scover0_A_0 c i a2 h2 a3 h3 a4 h4 a5 h5 a6 h6 a7 h7 a8 h8 a9 h9 a10 h10 a11 h11 a12 h12 a13 h13 a14 h14 hc x0 x1 x2 x3 x4 x5 x6 x7 x8 x9 x10 y)

theorem sout_A (c : Dev nD) (i : grid0.Coords) (a2 : Memref sig .tc .vmem S512x1536 .bf16) (h2 : a2.IsWhole) (a3 : Memref sig .tc .vmem S512x1536 .bf16) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S1x128 .f32) (h7 : a7.IsWhole) (a8 : Memref sig .tc .vmem S1536x1024 .bf16) (h8 : a8.IsWhole) (a9 : Memref sig .tc .vmem S1536x1024 .bf16) (h9 : a9.IsWhole) (a10 : Memref sig .tc .vmem S1024x1024 .bf16) (h10 : a10.IsWhole) (a11 : Memref sig .tc .vmem S512x1024 .f32) (h11 : a11.IsWhole) (a12 : Memref sig .tc .vmem S1x6x1024 .f32) (h12 : a12.IsWhole) (a13 : Memref sig .tc .vmem S512x1024 .f32) (h13 : a13.IsWhole) (a14 : Memref sig .tc .vmem S512x1024 .bf16) (h14 : a14.IsWhole) (hc : cond0_0 i)
    (x0 : Vec Ideal S512x1536 .bf16) (x1 : Vec Ideal S512x1536 .bf16) (x2 : Vec Ideal S512x1024 .f32) (x3 : Vec Ideal S512x1024 .f32) (x4 : Vec Ideal S512x1024 .f32) (x5 : Vec Ideal S1x128 .f32) (x6 : Vec Ideal S1536x1024 .bf16) (x7 : Vec Ideal S1536x1024 .bf16) (x8 : Vec Ideal S1024x1024 .bf16) (x9 : Vec Ideal S512x1024 .f32) (x10 : Vec Ideal S1x6x1024 .f32) :
    sout0_A_0 c i a2 h2 a3 h3 a4 h4 a5 h5 a6 h6 a7 h7 a8 h8 a9 h9 a10 h10 a11 h11 a12 h12 a13 h13 a14 h14 hc x0 x1 x2 x3 x4 x5 x6 x7 x8 x9 x10 = block x2 x3 x4 x5 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 hc x0 x1 x2 x3 x4 x5 x6 x7 x8 x9 x10), canon_A]

theorem out_A (c : Dev nD) (i : grid0.Coords) (a2 : Memref sig .tc .vmem S512x1536 .bf16) (h2 : a2.IsWhole) (a3 : Memref sig .tc .vmem S512x1536 .bf16) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S1x128 .f32) (h7 : a7.IsWhole) (a8 : Memref sig .tc .vmem S1536x1024 .bf16) (h8 : a8.IsWhole) (a9 : Memref sig .tc .vmem S1536x1024 .bf16) (h9 : a9.IsWhole) (a10 : Memref sig .tc .vmem S1024x1024 .bf16) (h10 : a10.IsWhole) (a11 : Memref sig .tc .vmem S512x1024 .f32) (h11 : a11.IsWhole) (a12 : Memref sig .tc .vmem S1x6x1024 .f32) (h12 : a12.IsWhole) (a13 : Memref sig .tc .vmem S512x1024 .f32) (h13 : a13.IsWhole) (a14 : Memref sig .tc .vmem S512x1024 .bf16) (h14 : a14.IsWhole) (hc : cond0_0 i)
    (x0 : Vec Ideal S512x1536 .bf16) (x1 : Vec Ideal S512x1536 .bf16) (x2 : Vec Ideal S512x1024 .f32) (x3 : Vec Ideal S512x1024 .f32) (x4 : Vec Ideal S512x1024 .f32) (x5 : Vec Ideal S1x128 .f32) (x6 : Vec Ideal S1536x1024 .bf16) (x7 : Vec Ideal S1536x1024 .bf16) (x8 : Vec Ideal S1024x1024 .bf16) (x9 : Vec Ideal S512x1024 .f32) (x10 : Vec Ideal S1x6x1024 .f32) :
    out0_A_11 c i a2 h2 a3 h3 a4 h4 a5 h5 a6 h6 a7 h7 a8 h8 a9 h9 a10 h10 a11 h11 a12 h12 a13 h13 a14 h14 hc x0 x1 x2 x3 x4 x5 x6 x7 x8 x9 x10 = k0_pay2 x0 x6 x1 x7 (block x2 x3 x4 x5) x8 x9 (gateRow x10) := by
  have hl : a14.view.readCov (kernelRun0_A c i a2 h2 a3 h3 a4 h4 a5 h5 a6 h6 a7 h7 a8 h8 a9 h9 a10 h10 a11 h11 a12 h12 a13 h13 a14 h14 hc x0 x1 x2 x3 x4 x5 x6 x7 x8 x9 x10).2.1 (Rect.unit (s := S512x1024) ![0, 0] S512x1024.size inb_S512x1024_S512x1024_0_0).toLoadRect = block x2 x3 x4 x5 := by
    rw [View.readCov_eq_canon_ld _ _ _ (scover0_A_0 c i a2 h2 a3 h3 a4 h4 a5 h5 a6 h6 a7 h7 a8 h8 a9 h9 a10 h10 a11 h11 a12 h12 a13 h13 a14 h14 hc x0 x1 x2 x3 x4 x5 x6 x7 x8 x9 x10), canon_A, View.ld_unit_zero (S := S512x1024) hz]
  unfold out0_A_11
  rw [View.read_writes_eq_canon _ _ _ (cover0_A_11 c i a2 h2 a3 h3 a4 h4 a5 h5 a6 h6 a7 h7 a8 h8 a9 h9 a10 h10 a11 h11 a12 h12 a13 h13 a14 h14 hc x0 x1 x2 x3 x4 x5 x6 x7 x8 x9 x10)]
  unfold kernelRun0_A
  dsimp only
  sl_unfold_words
  rw [View.canon_cons_unit_zero (S := S512x1024) hz]
  refine (congrArg (fun od => k0_pay2 _ _ _ _ od _ _ _) hl).trans ?_
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S512x1536) hz, View.ld_unit_zero (S := S1536x1024) hz, View.ld_unit_zero (S := S1024x1024) hz, View.ld_unit_zero (S := S512x1024) hz, View.ld_unit_zero (S := S1x128) hz]

theorem sout_B (c : Dev nD) (i : grid0.Coords) (a2 : Memref sig .tc .vmem S512x1536 .bf16) (h2 : a2.IsWhole) (a3 : Memref sig .tc .vmem S512x1536 .bf16) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S1x128 .f32) (h7 : a7.IsWhole) (a8 : Memref sig .tc .vmem S1536x1024 .bf16) (h8 : a8.IsWhole) (a9 : Memref sig .tc .vmem S1536x1024 .bf16) (h9 : a9.IsWhole) (a10 : Memref sig .tc .vmem S1024x1024 .bf16) (h10 : a10.IsWhole) (a11 : Memref sig .tc .vmem S512x1024 .f32) (h11 : a11.IsWhole) (a12 : Memref sig .tc .vmem S1x6x1024 .f32) (h12 : a12.IsWhole) (a13 : Memref sig .tc .vmem S512x1024 .f32) (h13 : a13.IsWhole) (a14 : Memref sig .tc .vmem S512x1024 .bf16) (h14 : a14.IsWhole) (hc : ¬cond0_0 i)
    (x0 : Vec Ideal S512x1536 .bf16) (x1 : Vec Ideal S512x1536 .bf16) (x2 : Vec Ideal S512x1024 .f32) (x3 : Vec Ideal S512x1024 .f32) (x4 : Vec Ideal S512x1024 .f32) (x5 : Vec Ideal S1x128 .f32) (x6 : Vec Ideal S1536x1024 .bf16) (x7 : Vec Ideal S1536x1024 .bf16) (x8 : Vec Ideal S1024x1024 .bf16) (x9 : Vec Ideal S512x1024 .f32) (x10 : Vec Ideal S1x6x1024 .f32) (xs0 : Vec Ideal S512x1024 .bf16) :
    sout0_B_0 c i a2 h2 a3 h3 a4 h4 a5 h5 a6 h6 a7 h7 a8 h8 a9 h9 a10 h10 a11 h11 a12 h12 a13 h13 a14 h14 hc x0 x1 x2 x3 x4 x5 x6 x7 x8 x9 x10 xs0 = xs0 := by
  unfold sout0_B_0
  first
    | rfl
    | (unfold kernelRun0_B
       dsimp only
       simp only [View.writes_nil, h14.read_unread])

theorem out_B (c : Dev nD) (i : grid0.Coords) (a2 : Memref sig .tc .vmem S512x1536 .bf16) (h2 : a2.IsWhole) (a3 : Memref sig .tc .vmem S512x1536 .bf16) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S1x128 .f32) (h7 : a7.IsWhole) (a8 : Memref sig .tc .vmem S1536x1024 .bf16) (h8 : a8.IsWhole) (a9 : Memref sig .tc .vmem S1536x1024 .bf16) (h9 : a9.IsWhole) (a10 : Memref sig .tc .vmem S1024x1024 .bf16) (h10 : a10.IsWhole) (a11 : Memref sig .tc .vmem S512x1024 .f32) (h11 : a11.IsWhole) (a12 : Memref sig .tc .vmem S1x6x1024 .f32) (h12 : a12.IsWhole) (a13 : Memref sig .tc .vmem S512x1024 .f32) (h13 : a13.IsWhole) (a14 : Memref sig .tc .vmem S512x1024 .bf16) (h14 : a14.IsWhole) (hc : ¬cond0_0 i)
    (x0 : Vec Ideal S512x1536 .bf16) (x1 : Vec Ideal S512x1536 .bf16) (x2 : Vec Ideal S512x1024 .f32) (x3 : Vec Ideal S512x1024 .f32) (x4 : Vec Ideal S512x1024 .f32) (x5 : Vec Ideal S1x128 .f32) (x6 : Vec Ideal S1536x1024 .bf16) (x7 : Vec Ideal S1536x1024 .bf16) (x8 : Vec Ideal S1024x1024 .bf16) (x9 : Vec Ideal S512x1024 .f32) (x10 : Vec Ideal S1x6x1024 .f32) (xs0 : Vec Ideal S512x1024 .bf16) :
    out0_B_11 c i a2 h2 a3 h3 a4 h4 a5 h5 a6 h6 a7 h7 a8 h8 a9 h9 a10 h10 a11 h11 a12 h12 a13 h13 a14 h14 hc x0 x1 x2 x3 x4 x5 x6 x7 x8 x9 x10 xs0 = k0_pay2 x0 x6 x1 x7 xs0 x8 x9 (gateRow x10) := by
  unfold out0_B_11
  rw [View.read_writes_eq_canon _ _ _ (cover0_B_11 c i a2 h2 a3 h3 a4 h4 a5 h5 a6 h6 a7 h7 a8 h8 a9 h9 a10 h10 a11 h11 a12 h12 a13 h13 a14 h14 hc x0 x1 x2 x3 x4 x5 x6 x7 x8 x9 x10 xs0)]
  unfold kernelRun0_B
  dsimp only
  try sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S512x1536) hz, View.ld_unit_zero (S := S1536x1024) hz, View.ld_unit_zero (S := S1024x1024) hz, View.ld_unit_zero (S := S512x1024) hz, View.ld_unit_zero (S := S1x128) hz]

end Cert.Kernel3Ideal.Vals

end
-- ==== Proof.OutP.Entry.lean ====
module

public import proofs.«01_k».proof.Proof.Gen.Kernel3Ideal.Frame
public import proofs.«01_k».proof.Proof.OutP.Spec
public import Idealize.ShloMosaic.Lib.Claim
public import Idealize.ShloMosaic.Lib.Pipeline.ValueKit

@[expose] public section

set_option maxRecDepth 16384

noncomputable section

/-! The arrays that the output projection reads, as the host leaves them, and the blocks of them at a grid point. -/

namespace Cert.Kernel3Ideal.Vals

open Cert.Kernel3Ideal Cert.Kernel3Ideal.Gen
open Idealize.ShloMosaic Idealize.ShloMosaic.TcCoe Cert.OutP

variable (m : (ℓ : Loc nD τ sig) → Buf (Elt Ideal) ℓ) (c : Dev nD)

/-- The arguments, as arrays. -/
def aOm : Vec Ideal S16384x1536 .bf16 := m ((c.tc : Thread nD τ).loc main_arg0)
def aOg : Vec Ideal S16384x1536 .bf16 := m ((c.tc : Thread nD τ).loc main_arg1)
def aF : Vec Ideal S16384x1024 .f32 := m ((c.tc : Thread nD τ).loc main_arg2)
def aB : Vec Ideal S16384x1024 .f32 := m ((c.tc : Thread nD τ).loc main_arg3)
def aU : Vec Ideal S16384x8192 .f32 := m ((c.tc : Thread nD τ).loc main_arg4)
def aG : Vec Ideal S128 .f32 := m ((c.tc : Thread nD τ).loc main_arg5)
def aW : Vec Ideal S4096x4096 .f32 := m ((c.tc : Thread nD τ).loc main_arg6)
def aX : Vec Ideal S16384x4096 .f32 := m ((c.tc : Thread nD τ).loc main_arg7)
def aM : Vec Ideal S8x24576 .f32 := m ((c.tc : Thread nD τ).loc main_arg8)

theorem entry_0 : V m c main_arg0 = aOm m c := V_main_arg0 m c

theorem entry_1 : V m c main_arg1 = aOg m c := V_main_arg1 m c

theorem entry_2 : V m c main_arg2 = aF m c := V_main_arg2 m c

theorem entry_3 : V m c main_arg3 = aB m c := V_main_arg3 m c

theorem entry_4 : V m c main_arg4 = aU m c := V_main_arg4 m c

theorem entry_7 : V m c main_arg7 = aX m c := V_main_arg7 m c

theorem entry_m (b : Fin 8) (k : Fin 6) (e : Fin 4096) :
    (V m c main_v1 : Vec Ideal S8x6x4096 .f32) (ix3 b k e) = aM m c (ix2 b ⟨k.val * 4096 + e.val, by omega⟩) := by
  show V m c main_v1 (ix3 b k e) = _
  entry_read
  pointwise [aM]
  try rfl

theorem entry_g (e : Fin 128) : (V m c main_v2 : Vec Ideal S1x128 .f32) (ix2 0 e) = aG m c (ix1 e) := by
  show V m c main_v2 (ix2 0 e) = _
  entry_read
  pointwise [aG]
  try rfl

theorem entry_w (e j : Fin 4096) : (V m c main_v0 : Vec Ideal S4096x4096 .bf16) (ix2 e j) = aW m c (ix2 e j) := by
  show V m c main_v0 (ix2 e j) = _
  entry_read
  pointwise [aW]
  try rfl

/-! The blocks at a grid point: their rows and columns in the arrays. -/

theorem idx0 : ∀ t : Fin cfg0.N, win0_0.index t = ![t.val / 4, 0] := by
  decide +kernel
theorem idx1 : ∀ t : Fin cfg0.N, win0_1.index t = ![t.val / 4, 0] := by
  decide +kernel
theorem idx2 : ∀ t : Fin cfg0.N, win0_2.index t = ![t.val / 4, 0] := by
  decide +kernel
theorem idx3 : ∀ t : Fin cfg0.N, win0_3.index t = ![t.val / 4, 0] := by
  decide +kernel
theorem idx4 : ∀ t : Fin cfg0.N, win0_4.index t = ![t.val / 4, 3] := by
  decide +kernel
theorem idx5 : ∀ t : Fin cfg0.N, win0_5.index t = ![0, 0] := by
  decide +kernel
theorem idx6 : ∀ t : Fin cfg0.N, win0_6.index t = ![0, t.val % 4] := by
  decide +kernel
theorem idx7 : ∀ t : Fin cfg0.N, win0_7.index t = ![1, t.val % 4] := by
  decide +kernel
theorem idx8 : ∀ t : Fin cfg0.N, win0_8.index t = ![3, t.val % 4] := by
  decide +kernel
theorem idx9 : ∀ t : Fin cfg0.N, win0_9.index t = ![t.val / 4, t.val % 4] := by
  decide +kernel
theorem idx10 : ∀ t : Fin cfg0.N, win0_10.index t = ![if t.val / 4 < 16 then 0 else 1 + (t.val / 4 - 16) / 8, 0, t.val % 4] := by
  decide +kernel

theorem iblk_0 (t : Fin cfg0.N) (y : S512x1536.Idx) : ∃ i : S16384x1536.Idx,
    (i 0).val = t.val / 4 * 512 + (y 0).val ∧ (i 1).val = (y 1).val ∧ iblk m c 0 t y = V m c main_arg0 i := by
  refine ⟨(win0_0.blk t).view.emb y, ?_, ?_, rfl⟩
  · blk_simp [idx0]
  · blk_simp [idx0]

theorem iblk_1 (t : Fin cfg0.N) (y : S512x1536.Idx) : ∃ i : S16384x1536.Idx,
    (i 0).val = t.val / 4 * 512 + (y 0).val ∧ (i 1).val = (y 1).val ∧ iblk m c 1 t y = V m c main_arg1 i := by
  refine ⟨(win0_1.blk t).view.emb y, ?_, ?_, rfl⟩
  · blk_simp [idx1]
  · blk_simp [idx1]

theorem iblk_2 (t : Fin cfg0.N) (y : S512x1024.Idx) : ∃ i : S16384x1024.Idx,
    (i 0).val = t.val / 4 * 512 + (y 0).val ∧ (i 1).val = (y 1).val ∧ iblk m c 2 t y = V m c main_arg2 i := by
  refine ⟨(win0_2.blk t).view.emb y, ?_, ?_, rfl⟩
  · blk_simp [idx2]
  · blk_simp [idx2]

theorem iblk_3 (t : Fin cfg0.N) (y : S512x1024.Idx) : ∃ i : S16384x1024.Idx,
    (i 0).val = t.val / 4 * 512 + (y 0).val ∧ (i 1).val = (y 1).val ∧ iblk m c 3 t y = V m c main_arg3 i := by
  refine ⟨(win0_3.blk t).view.emb y, ?_, ?_, rfl⟩
  · blk_simp [idx3]
  · blk_simp [idx3]

theorem iblk_4 (t : Fin cfg0.N) (y : S512x1024.Idx) : ∃ i : S16384x8192.Idx,
    (i 0).val = t.val / 4 * 512 + (y 0).val ∧ (i 1).val = 3072 + (y 1).val ∧ iblk m c 4 t y = V m c main_arg4 i := by
  refine ⟨(win0_4.blk t).view.emb y, ?_, ?_, rfl⟩
  · blk_simp [idx4]
  · blk_simp [idx4]

theorem iblk_5 (t : Fin cfg0.N) (y : S1x128.Idx) : ∃ i : S1x128.Idx,
    (i 0).val = (y 0).val ∧ (i 1).val = (y 1).val ∧ iblk m c 5 t y = V m c main_v2 i := by
  refine ⟨(win0_5.blk t).view.emb y, ?_, ?_, rfl⟩
  · blk_simp [idx5]
  · blk_simp [idx5]

theorem iblk_6 (t : Fin cfg0.N) (y : S1536x1024.Idx) : ∃ i : S4096x4096.Idx,
    (i 0).val = (y 0).val ∧ (i 1).val = t.val % 4 * 1024 + (y 1).val ∧ (X0_6 m c t : Vec Ideal S1536x1024 .bf16) y = V m c main_v0 i := by
  unfold X0_6 Pipeline.Window.fill
  rw [dif_pos (moved0_6 t y)]
  refine ⟨(win0_6.blk t).view.emb _, ?_, ?_, rfl⟩
  · blk_simp [idx6]
  · blk_simp [idx6]

theorem iblk_7 (t : Fin cfg0.N) (y : S1536x1024.Idx) : ∃ i : S4096x4096.Idx,
    (i 0).val = 1536 + (y 0).val ∧ (i 1).val = t.val % 4 * 1024 + (y 1).val ∧ (X0_7 m c t : Vec Ideal S1536x1024 .bf16) y = V m c main_v0 i := by
  unfold X0_7 Pipeline.Window.fill
  rw [dif_pos (moved0_7 t y)]
  refine ⟨(win0_7.blk t).view.emb _, ?_, ?_, rfl⟩
  · blk_simp [idx7]
  · blk_simp [idx7]

theorem iblk_8 (t : Fin cfg0.N) (y : S1024x1024.Idx) : ∃ i : S4096x4096.Idx,
    (i 0).val = 3072 + (y 0).val ∧ (i 1).val = t.val % 4 * 1024 + (y 1).val ∧ iblk m c 8 t y = V m c main_v0 i := by
  refine ⟨(win0_8.blk t).view.emb y, ?_, ?_, rfl⟩
  · blk_simp [idx8]
  · blk_simp [idx8]

theorem iblk_9 (t : Fin cfg0.N) (y : S512x1024.Idx) : ∃ i : S16384x4096.Idx,
    (i 0).val = t.val / 4 * 512 + (y 0).val ∧ (i 1).val = t.val % 4 * 1024 + (y 1).val ∧ iblk m c 9 t y = V m c main_arg7 i := by
  refine ⟨(win0_9.blk t).view.emb y, ?_, ?_, rfl⟩
  · blk_simp [idx9]
  · blk_simp [idx9]

theorem iblk_10 (t : Fin cfg0.N) (y : S1x6x1024.Idx) : ∃ i : S8x6x4096.Idx,
    (i 0).val = (if t.val / 4 < 16 then 0 else 1 + (t.val / 4 - 16) / 8) + (y 0).val ∧ (i 1).val = (y 1).val ∧ (i 2).val = t.val % 4 * 1024 + (y 2).val
      ∧ iblk m c 10 t y = V m c main_v1 i := by
  refine ⟨(win0_10.blk t).view.emb y, ?_, ?_, ?_, rfl⟩
  · blk_simp [idx10]
  · blk_simp [idx10]
  · blk_simp [idx10]

end Cert.Kernel3Ideal.Vals

end
-- ==== Proof.OutP.Sweep.lean ====
module

public import proofs.«01_k».proof.Proof.OutP.Case
public import proofs.«01_k».proof.Proof.OutP.Pay
public import proofs.«01_k».proof.Proof.OutP.Entry
public import proofs.«01_k».proof.Proof.Gen.Kernel3Ideal.Value

@[expose] public section

set_option maxRecDepth 16384

noncomputable section

/-! The scratch holds the heads of the point's row block, so the output block is the three products with the point's columns, gated and added. -/

namespace Cert.Kernel3Ideal.Vals

open Cert.Kernel3Ideal Cert.Kernel3Ideal.Gen
open Idealize.ShloMosaic Idealize.ShloMosaic.TcCoe Idealize.SL.Sem Cert.OutP

variable (m : (ℓ : Loc nD τ sig) → Buf (Elt Ideal) ℓ) (c : Dev nD)

theorem lt_N (t : Fin cfg0.N) : t.val < 128 := by
  have h := t.isLt
  have hN : cfg0.N = 128 := N_0
  omega

/-- The row of the input at row `r` of the row block of point `n`. -/
def rowOf (n : ℕ) (hn : n < 128) (r : Fin 512) : Fin 16384 := ⟨n / 4 * 512 + r.val, by omega⟩

/-- The column of the output at column `j` of the column block of point `n`. -/
def colOf (n : ℕ) (j : Fin 1024) : Fin 4096 := ⟨n % 4 * 1024 + j.val, by omega⟩

theorem ix3_eq {a b d : ℕ} (i : Shape.Idx ⟨3, ![a, b, d]⟩) (x : Fin a) (y : Fin b) (z : Fin d) (h0 : (i 0).val = x.val) (h1 : (i 1).val = y.val)
    (h2 : (i 2).val = z.val) : i = ix3 x y z := by
  funext k
  match k with
  | 0 => exact Fin.ext h0
  | 1 => exact Fin.ext h1
  | 2 => exact Fin.ext h2

theorem ix2_eq {a b : ℕ} (i : Shape.Idx ⟨2, ![a, b]⟩) (x : Fin a) (y : Fin b) (h0 : (i 0).val = x.val) (h1 : (i 1).val = y.val) : i = ix2 x y := by
  funext k
  match k with
  | 0 => exact Fin.ext h0
  | 1 => exact Fin.ext h1

theorem blk_0 (t : Fin cfg0.N) (r : Fin 512) (e : Fin 1536) :
    (iblk m c 0 t : Vec Ideal S512x1536 .bf16) (ix2 r e) = aOm m c (ix2 (rowOf t.val (lt_N t) r) e) := by
  obtain ⟨i, h0, h1, hi⟩ := iblk_0 m c t (ix2 r e)
  exact hi.trans ((congrFun (entry_0 m c) i).trans (congrArg (aOm m c) (ix2_eq i _ _ h0 h1)))

theorem blk_1 (t : Fin cfg0.N) (r : Fin 512) (e : Fin 1536) :
    (iblk m c 1 t : Vec Ideal S512x1536 .bf16) (ix2 r e) = aOg m c (ix2 (rowOf t.val (lt_N t) r) e) := by
  obtain ⟨i, h0, h1, hi⟩ := iblk_1 m c t (ix2 r e)
  exact hi.trans ((congrFun (entry_1 m c) i).trans (congrArg (aOg m c) (ix2_eq i _ _ h0 h1)))

theorem blk_2 (t : Fin cfg0.N) (r : Fin 512) (e : Fin 1024) :
    (iblk m c 2 t : Vec Ideal S512x1024 .f32) (ix2 r e) = aF m c (ix2 (rowOf t.val (lt_N t) r) e) := by
  obtain ⟨i, h0, h1, hi⟩ := iblk_2 m c t (ix2 r e)
  exact hi.trans ((congrFun (entry_2 m c) i).trans (congrArg (aF m c) (ix2_eq i _ _ h0 h1)))

theorem blk_3 (t : Fin cfg0.N) (r : Fin 512) (e : Fin 1024) :
    (iblk m c 3 t : Vec Ideal S512x1024 .f32) (ix2 r e) = aB m c (ix2 (rowOf t.val (lt_N t) r) e) := by
  obtain ⟨i, h0, h1, hi⟩ := iblk_3 m c t (ix2 r e)
  exact hi.trans ((congrFun (entry_3 m c) i).trans (congrArg (aB m c) (ix2_eq i _ _ h0 h1)))

theorem blk_4 (t : Fin cfg0.N) (r : Fin 512) (e : Fin 1024) :
    (iblk m c 4 t : Vec Ideal S512x1024 .f32) (ix2 r e) = aU m c (ix2 (rowOf t.val (lt_N t) r) ⟨3072 + e.val, by omega⟩) := by
  obtain ⟨i, h0, h1, hi⟩ := iblk_4 m c t (ix2 r e)
  exact hi.trans ((congrFun (entry_4 m c) i).trans (congrArg (aU m c) (ix2_eq i _ _ h0 h1)))

theorem blk_9 (t : Fin cfg0.N) (r : Fin 512) (e : Fin 1024) :
    (iblk m c 9 t : Vec Ideal S512x1024 .f32) (ix2 r e) = aX m c (ix2 (rowOf t.val (lt_N t) r) (colOf t.val e)) := by
  obtain ⟨i, h0, h1, hi⟩ := iblk_9 m c t (ix2 r e)
  exact hi.trans ((congrFun (entry_7 m c) i).trans (congrArg (aX m c) (ix2_eq i _ _ h0 h1)))

theorem blk_5 (t : Fin cfg0.N) (e : Fin 128) : (iblk m c 5 t : Vec Ideal S1x128 .f32) (ix2 0 e) = aG m c (ix1 e) := by
  obtain ⟨i, h0, h1, hi⟩ := iblk_5 m c t (ix2 0 e)
  exact hi.trans ((congrArg (V m c main_v2) (ix2_eq i 0 e h0 h1)).trans (entry_g m c e))

theorem blk_6 (t : Fin cfg0.N) (e : Fin 1536) (j : Fin 1024) :
    (X0_6 m c t : Vec Ideal S1536x1024 .bf16) (ix2 e j) = aW m c (ix2 ⟨e.val, by omega⟩ (colOf t.val j)) := by
  obtain ⟨i, h0, h1, hi⟩ := iblk_6 m c t (ix2 e j)
  exact hi.trans ((congrArg (V m c main_v0) (ix2_eq i ⟨e.val, by omega⟩ (colOf t.val j) h0 h1)).trans (entry_w m c _ _))

theorem blk_7 (t : Fin cfg0.N) (e : Fin 1536) (j : Fin 1024) :
    (X0_7 m c t : Vec Ideal S1536x1024 .bf16) (ix2 e j) = aW m c (ix2 ⟨1536 + e.val, by omega⟩ (colOf t.val j)) := by
  obtain ⟨i, h0, h1, hi⟩ := iblk_7 m c t (ix2 e j)
  exact hi.trans ((congrArg (V m c main_v0) (ix2_eq i ⟨1536 + e.val, by omega⟩ (colOf t.val j) h0 h1)).trans (entry_w m c _ _))

theorem blk_8 (t : Fin cfg0.N) (e : Fin 1024) (j : Fin 1024) :
    (iblk m c 8 t : Vec Ideal S1024x1024 .bf16) (ix2 e j) = aW m c (ix2 ⟨3072 + e.val, by omega⟩ (colOf t.val j)) := by
  obtain ⟨i, h0, h1, hi⟩ := iblk_8 m c t (ix2 e j)
  exact hi.trans ((congrArg (V m c main_v0) (ix2_eq i ⟨3072 + e.val, by omega⟩ (colOf t.val j) h0 h1)).trans (entry_w m c _ _))

theorem blk_10 (t : Fin cfg0.N) (r : Fin 512) (k : Fin 6) (j : Fin 1024) :
    (iblk m c 10 t : Vec Ideal S1x6x1024 .f32) (ix3 0 k j)
      = aM m c (ix2 (group (rowOf t.val (lt_N t) r)) ⟨k.val * 4096 + (colOf t.val j).val, by omega⟩) := by
  obtain ⟨i, h0, h1, h2, hi⟩ := iblk_10 m c t (ix3 0 k j)
  have hg : (i 0).val = (group (rowOf t.val (lt_N t) r)).val := by
    refine h0.trans ?_
    have ht := lt_N t
    show (if t.val / 4 < 16 then 0 else 1 + (t.val / 4 - 16) / 8) + 0
      = if t.val / 4 * 512 + r.val < 8192 then 0 else 1 + (t.val / 4 * 512 + r.val - 8192) / 4096
    by_cases h : t.val / 4 < 16
    · rw [if_pos h, if_pos (by omega)]
    · rw [if_neg h, if_neg (by omega)]
      omega
  exact hi.trans ((congrArg (V m c main_v1) (ix3_eq i _ k (colOf t.val j) hg h1 h2)).trans (entry_m m c _ k _))

theorem gateRow_apply (x10 : Vec Ideal S1x6x1024 .f32) (j : Fin 1024) : gateRow x10 (ix3 0 0 j) = x10 (ix3 0 2 j) := by
  show x10 _ = x10 _
  refine congrArg x10 (ix3_eq _ _ _ _ rfl rfl ?_)
  first
    | exact Nat.zero_add _
    | (show 0 + 1 * j.val = j.val; omega)
    | simp [Rect.unit, Rect.idx]

theorem heads_congr {f f' b b' z z' : Fin 1024 → EReal} {g g' : Fin 128 → EReal} (hf : ∀ k, f k = f' k) (hb : ∀ k, b k = b' k) (hz : ∀ k, z k = z' k)
    (hg : ∀ k, g k = g' k) (e : Fin 1024) : heads f b z g e = heads f' b' z' g' e := by
  rw [show f = f' from funext hf, show b = b' from funext hb, show z = z' from funext hz, show g = g' from funext hg]

/-- What the first column block of a row block stores in the scratch. -/
theorem stored (t : Fin cfg0.N) (r : Fin 512) (e : Fin 1024) :
    (block (iblk m c 2 t : Vec Ideal S512x1024 .f32) (iblk m c 3 t : Vec Ideal S512x1024 .f32) (iblk m c 4 t : Vec Ideal S512x1024 .f32)
        (iblk m c 5 t : Vec Ideal S1x128 .f32) (ix2 r e) : EReal)
      = od (aF m c) (aB m c) (aU m c) (aG m c) (rowOf t.val (lt_N t) r) e :=
  heads_congr (fun k => blk_2 m c t r k) (fun k => blk_3 m c t r k) (fun k => blk_4 m c t r k) (fun k => blk_5 m c t k) e

theorem scratch (n : ℕ) : ∀ (hn : n < cfg0.N) (r : Fin 512) (e : Fin 1024),
    (((outsAt0 m c n hn).2 : Vec Ideal S512x1024 .bf16) (ix2 r e) : EReal) = od (aF m c) (aB m c) (aU m c) (aG m c) (rowOf n (lt_N ⟨n, hn⟩) r) e := by
  induction n with
  | zero =>
    intro hn r e
    rw [outsAt0_A m c ⟨0, hn⟩ rfl]
    dsimp only
    rw [sout_A]
    exact stored m c ⟨0, hn⟩ r e
  | succ n ih =>
    intro hn r e
    by_cases h0 : (n + 1) % 4 = 0
    · rw [outsAt0_A m c ⟨n + 1, hn⟩ h0]
      dsimp only
      rw [sout_A]
      exact stored m c ⟨n + 1, hn⟩ r e
    · rw [outsAt0_B m c ⟨n + 1, hn⟩ h0]
      dsimp only
      rw [sout_B]
      refine (ih (Nat.lt_of_succ_lt hn) r e).trans ?_
      refine congrArg (fun R => od (aF m c) (aB m c) (aU m c) (aG m c) R e) (Fin.ext ?_)
      show n / 4 * 512 + r.val = (n + 1) / 4 * 512 + r.val
      omega

/-- The stored block, from the heads in the scratch. -/
theorem made (t : Fin cfg0.N) (s : Vec Ideal S512x1024 .bf16) (r : Fin 512) (j : Fin 1024)
    (hs : ∀ e : Fin 1024, (s (ix2 r e) : EReal) = od (aF m c) (aB m c) (aU m c) (aG m c) (rowOf t.val (lt_N t) r) e) :
    (k0_pay2 (iblk m c 0 t : Vec Ideal S512x1536 .bf16) (X0_6 m c t : Vec Ideal S1536x1024 .bf16) (iblk m c 1 t : Vec Ideal S512x1536 .bf16)
        (X0_7 m c t : Vec Ideal S1536x1024 .bf16) s (iblk m c 8 t : Vec Ideal S1024x1024 .bf16) (iblk m c 9 t : Vec Ideal S512x1024 .f32)
        (gateRow (iblk m c 10 t : Vec Ideal S1x6x1024 .f32)) (ix2 r j) : EReal)
      = out (aOm m c) (aOg m c) (aF m c) (aB m c) (aU m c) (aG m c) (aW m c) (aX m c) (aM m c) (rowOf t.val (lt_N t) r) (colOf t.val j) := by
  refine (out_apply _ _ _ _ _ _ _ _ r j).trans ?_
  unfold out mix
  refine congrArg₂ (· + ·) (blk_9 m c t r j) (congrArg₂ (· * ·) ?_ (congrArg₂ (· + ·) (congrArg₂ (· + ·) ?_ ?_) ?_))
  · refine (gateRow_apply _ j).trans ((blk_10 m c t r 2 j).trans ?_)
    exact congrArg (fun q => aM m c (ix2 (group (rowOf t.val (lt_N t) r)) q)) (Fin.ext (by show 2 * 4096 + (colOf t.val j).val = 8192 + (colOf t.val j).val; omega))
  · exact Finset.sum_congr rfl fun e _ => congrArg₂ (· * ·) (blk_0 m c t r e) (blk_6 m c t e j)
  · exact Finset.sum_congr rfl fun e _ => congrArg₂ (· * ·) (blk_1 m c t r e) (blk_7 m c t e j)
  · exact Finset.sum_congr rfl fun e _ => congrArg₂ (· * ·) (hs e) (blk_8 m c t e j)

theorem made_at (t : Fin cfg0.N) (r : Fin 512) (j : Fin 1024) :
    (((outsAt0 m c t.val t.isLt).1 : Vec Ideal S512x1024 .f32) (ix2 r j) : EReal)
      = out (aOm m c) (aOg m c) (aF m c) (aB m c) (aU m c) (aG m c) (aW m c) (aX m c) (aM m c) (rowOf t.val (lt_N t) r) (colOf t.val j) := by
  have hs := scratch m c t.val t.isLt r
  by_cases h0 : t.val % 4 = 0
  · rw [outsAt0_A m c t h0] at hs ⊢
    dsimp only at hs ⊢
    rw [sout_A] at hs
    rw [out_A]
    exact made m c t _ r j hs
  · rw [outsAt0_B m c t h0] at hs ⊢
    dsimp only at hs ⊢
    rw [sout_B] at hs
    rw [out_B]
    exact made m c t _ r j hs

/-- The array the call leaves. -/
theorem G11_apply (i : S16384x4096.Idx) : (Value.G11 m c : Vec Ideal S16384x4096 .f32) i
    = out (aOm m c) (aOg m c) (aF m c) (aB m c) (aU m c) (aG m c) (aW m c) (aX m c) (aM m c) (i 0) (i 1) := by
  have i0 : (i 0).val < 16384 := (i 0).isLt
  have i1 : (i 1).val < 4096 := (i 1).isLt
  have hp : Value.pt11Of i = 4 * ((i 0).val / 512) + (i 1).val / 1024 := by
    unfold Value.pt11Of Value.run11Of
    simp
  have hN : cfg0.N = 128 := N_0
  have ht : Value.pt11Of i < cfg0.N := by omega
  unfold Value.G11
  rw [dif_pos ht, ← Value.outsAt0_sweep m c (Value.pt11Of i) ht]
  have e := made_at m c ⟨Value.pt11Of i, ht⟩ ⟨(i 0).val % 512, Nat.mod_lt _ (by decide)⟩ ⟨(i 1).val % 1024, Nat.mod_lt _ (by decide)⟩
  refine Eq.trans (congrArg _ (ix2_eq _ _ _ ?_ ?_)) (e.trans (congrArg₂ (out _ _ _ _ _ _ _ _ _) (Fin.ext ?_) (Fin.ext ?_)))
  · rfl
  · rfl
  · show Value.pt11Of i / 4 * 512 + (i 0).val % 512 = (i 0).val
    omega
  · show Value.pt11Of i % 4 * 1024 + (i 1).val % 1024 = (i 1).val
    omega

end Cert.Kernel3Ideal.Vals

end
-- ==== Proof.OutP.Reference.lean ====
module

public import proofs.«01_k».proof.Proof.Gen.Reference3Ideal.Run
public import proofs.«01_k».proof.Proof.OutP.Spec
public import Idealize.ShloMosaic.Lib.Claim
public import Idealize.ShloMosaic.Lib.IdealHost

@[expose] public section

set_option maxRecDepth 16384

noncomputable section

/-! The output projection's reference, element by element. -/

namespace Cert.Reference3Ideal.Vals

open Cert.Reference3Ideal Cert.Reference3Ideal.Gen Cert.Reference3Ideal.Value
open Idealize.ShloMosaic Idealize.ShloMosaic.TcCoe Cert.OutP

variable (m : (ℓ : Loc nD τ sig) → Buf (Elt Ideal) ℓ) (c : Dev nD)

/-- The heads, normalised and gated, side by side. -/
def heads3 : FVec Ideal S16384x1024 .f32 :=
  (shapeCast _ (mulf (mulf (mulf (shapeCast _ (addf (m ((c.tc : Thread nD τ).loc main_arg2)) (m ((c.tc : Thread nD τ).loc main_arg3))) shapeCasts_S16384x1024_S16384x8x128) (broadcastInDim S16384x8x128 ![0, 1, 2] bcast_S16384x8x1_S16384x8x128_0_1_2 (Host.rsqrt (addf (Host.divf (broadcastInDim S16384x8x1 ![0, 1] bcast_S16384x8_S16384x8x1_0_1 (Host.reduceAdd (mulf (shapeCast _ (addf (m ((c.tc : Thread nD τ).loc main_arg2)) (m ((c.tc : Thread nD τ).loc main_arg3))) shapeCasts_S16384x1024_S16384x8x128) (shapeCast _ (addf (m ((c.tc : Thread nD τ).loc main_arg2)) (m ((c.tc : Thread nD τ).loc main_arg3))) shapeCasts_S16384x1024_S16384x8x128)) (constant (F := Ideal) S_ .f32 0x00000000#32) reducesTo_S16384x8x128_S16384x8_d2 h_S_)) (broadcastInDim S16384x8x1 ![] bcast_S_S16384x8x1 (constant (F := Ideal) S_ .f32 0x43000000#32))) (broadcastInDim S16384x8x1 ![] bcast_S_S16384x8x1 (constant (F := Ideal) S_ .f32 0x358637BD#32)))))) (broadcastInDim S16384x8x128 ![0, 1, 2] bcast_S1x1x128_S16384x8x128_0_1_2 (broadcastInDim S1x1x128 ![2] bcast_S128_S1x1x128_2 (m ((c.tc : Thread nD τ).loc main_arg5))))) (mulf (shapeCast _ (extractStridedSlice S16384x1024 ![0, 3072] (m ((c.tc : Thread nD τ).loc main_arg4)) slices_S16384x8192_S16384x1024_0_3072) shapeCasts_S16384x1024_S16384x8x128) (Host.divf (broadcastInDim S16384x8x128 ![] bcast_S_S16384x8x128 (constant (F := Ideal) S_ .f32 0x3F800000#32)) (addf (broadcastInDim S16384x8x128 ![] bcast_S_S16384x8x128 (constant (F := Ideal) S_ .f32 0x3F800000#32)) (Host.exp (Host.negf (shapeCast _ (extractStridedSlice S16384x1024 ![0, 3072] (m ((c.tc : Thread nD τ).loc main_arg4)) slices_S16384x8192_S16384x1024_0_3072) shapeCasts_S16384x1024_S16384x8x128))))))) shapeCasts_S16384x8x128_S16384x1024)

/-- The three outputs side by side. -/
def joined : FVec Ideal S16384x4096 .f32 :=
  ((concatenate S16384x4096 1 [⟨S16384x1536, ((extf .f32 (m ((c.tc : Thread nD τ).loc main_arg0) : FVec Ideal S16384x1536 .bf16) bitsLt_bf16_f32) : FVec Ideal S16384x1536 .f32)⟩, ⟨S16384x1536, ((extf .f32 (m ((c.tc : Thread nD τ).loc main_arg1) : FVec Ideal S16384x1536 .bf16) bitsLt_bf16_f32) : FVec Ideal S16384x1536 .f32)⟩, ⟨S16384x1024, ((heads3 m c) : (⟨S16384x1024, .f32⟩ : BufTy).Contents (Elt Ideal))⟩] concatenates_S16384x1536_S16384x1536_S16384x1024_S16384x4096_d1 : (⟨S16384x4096, .f32⟩ : BufTy).Contents (Elt Ideal)))

/-- The product. -/
def prod : FVec Ideal S16384x4096 .f32 :=
  (Host.dotGeneral (φ₁ := .f32) (φ₂ := .f32) dot_S16384x4096_S4096x4096_S16384x4096_1_0_0_1_n_n none (joined m c) (m ((c.tc : Thread nD τ).loc main_arg6)))

/-- The context rows. -/
def ctx (D : FVec Ideal S16384x4096 .f32) : FVec Ideal S1x8192x4096 .f32 :=
  (addf (shapeCast _ (extractStridedSlice S8192x4096 ![0, 0] (m ((c.tc : Thread nD τ).loc main_arg7)) slices_S16384x4096_S8192x4096_0_0) shapeCasts_S8192x4096_S1x8192x4096) (mulf (broadcastInDim S1x8192x4096 ![0, 1, 2] bcast_S1x1x4096_S1x8192x4096_0_1_2 (broadcastInDim S1x1x4096 ![0, 2] bcast_S1x4096_S1x1x4096_0_2 (extractStridedSlice S1x4096 ![0, 8192] (extractStridedSlice S1x24576 ![0, 0] (m ((c.tc : Thread nD τ).loc main_arg8)) slices_S8x24576_S1x24576_0_0) slices_S1x24576_S1x4096_0_8192))) (shapeCast _ (extractStridedSlice S8192x4096 ![0, 0] D slices_S16384x4096_S8192x4096_0_0) shapeCasts_S8192x4096_S1x8192x4096)))

/-- The images' rows. -/
def lat (D : FVec Ideal S16384x4096 .f32) : FVec Ideal S2x4096x4096 .f32 :=
  (addf (shapeCast _ (extractStridedSlice S8192x4096 ![8192, 0] (m ((c.tc : Thread nD τ).loc main_arg7)) slices_S16384x4096_S8192x4096_8192_0) shapeCasts_S8192x4096_S2x4096x4096) (mulf (broadcastInDim S2x4096x4096 ![0, 1, 2] bcast_S2x1x4096_S2x4096x4096_0_1_2 (broadcastInDim S2x1x4096 ![0, 2] bcast_S2x4096_S2x1x4096_0_2 (extractStridedSlice S2x4096 ![0, 8192] (extractStridedSlice S2x24576 ![1, 0] (m ((c.tc : Thread nD τ).loc main_arg8)) slices_S8x24576_S2x24576_1_0) slices_S2x24576_S2x4096_0_8192))) (shapeCast _ (extractStridedSlice S8192x4096 ![8192, 0] D slices_S16384x4096_S8192x4096_8192_0) shapeCasts_S8192x4096_S2x4096x4096)))

/-- The context rows above the images'. -/
def rows (D : FVec Ideal S16384x4096 .f32) : FVec Ideal S16384x4096 .f32 :=
  concatenate S16384x4096 0 [⟨S8192x4096, (shapeCast _ (ctx m c D) shapeCasts_S1x8192x4096_S8192x4096)⟩, ⟨S8192x4096, (shapeCast _ (lat m c D) shapeCasts_S2x4096x4096_S8192x4096)⟩] concatenates_S8192x4096_S8192x4096_S16384x4096_d0

theorem res_eq : res_main_v46 m c = rows m c (prod m c) := by
  unfold res_main_v46 rows prod joined heads3 ctx lat; rfl

theorem heads_apply (R : Fin 16384) (e : Fin 1024) : heads3 m c (ix2 R e)
    = od (m ((c.tc : Thread nD τ).loc main_arg2) : Vec Ideal S16384x1024 .f32) (m ((c.tc : Thread nD τ).loc main_arg3) : Vec Ideal S16384x1024 .f32) (m ((c.tc : Thread nD τ).loc main_arg4) : Vec Ideal S16384x8192 .f32) (m ((c.tc : Thread nD τ).loc main_arg5) : Vec Ideal S128 .f32) R e := by
  pointwise [heads3, od, heads, head, inHead]
  have he : e.val / 128 * 128 + e.val % 128 = e.val := Nat.div_add_mod' e.val 128
  simp only [he]
  rfl

theorem joined_apply (R : Fin 16384) (e : Fin 4096) : joined m c (ix2 R e)
    = if h : e.val < 1536 then (m ((c.tc : Thread nD τ).loc main_arg0) : Vec Ideal S16384x1536 .bf16) (ix2 R ⟨e.val, h⟩)
      else if h' : e.val - 1536 < 1536 then (m ((c.tc : Thread nD τ).loc main_arg1) : Vec Ideal S16384x1536 .bf16) (ix2 R ⟨e.val - 1536, h'⟩)
      else heads3 m c (ix2 R ⟨e.val - 1536 - 1536, by omega⟩) := by
  pointwise [joined]

theorem prod_apply (R : Fin 16384) (j : Fin 4096) : prod m c (ix2 R j)
    = ∑ e : Fin 4096, (joined m c (ix2 R e) : EReal) * (m ((c.tc : Thread nD τ).loc main_arg6) : Vec Ideal S4096x4096 .f32) (ix2 e j) := by
  pointwise [prod]

/-- A gated element added to the input's. -/
def gated (x g p : EReal) : EReal := x + g * p

theorem ctx_apply (D : FVec Ideal S16384x4096 .f32) (r : Fin 8192) (j : Fin 4096) : ctx m c D (ix3 0 r j)
    = gated ((m ((c.tc : Thread nD τ).loc main_arg7) : Vec Ideal S16384x4096 .f32) (ix2 ⟨r.val, by omega⟩ j)) ((m ((c.tc : Thread nD τ).loc main_arg8) : Vec Ideal S8x24576 .f32) (ix2 0 ⟨8192 + j.val, by omega⟩)) (D (ix2 ⟨r.val, by omega⟩ j)) := by
  pointwise [ctx, gated]

theorem lat_apply (D : FVec Ideal S16384x4096 .f32) (b : Fin 2) (r : Fin 4096) (j : Fin 4096) : lat m c D (ix3 b r j)
    = gated ((m ((c.tc : Thread nD τ).loc main_arg7) : Vec Ideal S16384x4096 .f32) (ix2 ⟨8192 + (b.val * 4096 + r.val), by omega⟩ j))
        ((m ((c.tc : Thread nD τ).loc main_arg8) : Vec Ideal S8x24576 .f32) (ix2 ⟨1 + b.val, by omega⟩ ⟨8192 + j.val, by omega⟩)) (D (ix2 ⟨8192 + (b.val * 4096 + r.val), by omega⟩ j)) := by
  pointwise [lat, gated]

theorem rows_apply (D : FVec Ideal S16384x4096 .f32) (R : Fin 16384) (j : Fin 4096) : rows m c D (ix2 R j)
    = if h : R.val < 8192 then ctx m c D (ix3 0 ⟨R.val, h⟩ j)
      else lat m c D (ix3 ⟨(R.val - 8192) / 4096, by omega⟩ ⟨(R.val - 8192) % 4096, Nat.mod_lt _ (by decide)⟩ j) := by
  pointwise [rows]

theorem prod_mix (R : Fin 16384) (j : Fin 4096) : (prod m c (ix2 R j) : EReal)
    = mix (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) R j := by
  rw [prod_apply, sum_parts (a := 1536) (b := 1536) (d := 1024) rfl]
  unfold mix
  refine congrArg₂ (· + ·) (congrArg₂ (· + ·) ?_ ?_) ?_
  · refine Finset.sum_congr rfl fun e _ => congrArg (· * _) ?_
    rw [joined_apply, dif_pos e.isLt]
  · refine Finset.sum_congr rfl fun e _ => congrArg (· * _) ?_
    rw [joined_apply, dif_neg (show ¬ 1536 + e.val < 1536 by omega), dif_pos (show 1536 + e.val - 1536 < 1536 by omega)]
    exact congrArg (fun q => (m ((c.tc : Thread nD τ).loc main_arg1) : Vec Ideal S16384x1536 .bf16) (ix2 R q)) (Fin.ext (by dsimp only; omega))
  · refine Finset.sum_congr rfl fun e _ => congrArg (· * _) ?_
    rw [joined_apply, dif_neg (show ¬ 1536 + 1536 + e.val < 1536 by omega), dif_neg (show ¬ 1536 + 1536 + e.val - 1536 < 1536 by omega), heads_apply]
    exact congrArg (od _ _ _ _ R) (Fin.ext (by dsimp only; omega))

theorem res_apply (R : Fin 16384) (j : Fin 4096) : (res_main_v46 m c (ix2 R j) : EReal)
    = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) R j := by
  rw [res_eq, rows_apply]
  unfold out
  by_cases h : R.val < 8192
  · rw [dif_pos h, ctx_apply]
    have hg : group R = 0 := Fin.ext (by unfold group; simp only [if_pos h]; rfl)
    rw [hg]
    exact congrArg (gated _ _) (prod_mix m c R j)
  · rw [dif_neg h, lat_apply]
    have hg : group R = ⟨1 + (R.val - 8192) / 4096, by omega⟩ := Fin.ext (by unfold group; simp only [if_neg h])
    have hr : (⟨8192 + ((R.val - 8192) / 4096 * 4096 + (R.val - 8192) % 4096), by omega⟩ : Fin 16384) = R := Fin.ext (by dsimp only; omega)
    rw [hg]
    dsimp only
    rw [hr]
    exact congrArg (gated _ _) (prod_mix m c R j)

end Cert.Reference3Ideal.Vals

end
-- ==== Proof.OutP.Final.lean ====
module

public import proofs.«01_k».proof.Defs
public import proofs.«01_k».proof.Proof.OutP.Sweep
public import proofs.«01_k».proof.Proof.OutP.Reference

@[expose] public section

set_option maxRecDepth 16384

noncomputable section

/-! The output projection and its reference leave the same array. -/

namespace Cert.OutP

open Idealize.ShloMosaic Idealize.ShloMosaic.TcCoe Idealize.SL.Sem
open Cert.Kernel3Ideal.Vals

variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ)

theorem reference_result (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (h5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5))
    (h6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6))
    (h7 : m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7))
    (h8 : m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) :
    Cert.Reference3Ideal.Value.res_main_v46 m' c = Cert.Kernel3Ideal.Value.G11 m c := by
  have e0 : (m' ((c.tc : Thread Cert.Reference3Ideal.nD Cert.Reference3Ideal.τ).loc Cert.Reference3Ideal.main_arg0) : Vec Ideal ⟨2, ![16384, 1536]⟩ .bf16) = aOm m c := h0
  have e1 : (m' ((c.tc : Thread Cert.Reference3Ideal.nD Cert.Reference3Ideal.τ).loc Cert.Reference3Ideal.main_arg1) : Vec Ideal ⟨2, ![16384, 1536]⟩ .bf16) = aOg m c := h1
  have e2 : (m' ((c.tc : Thread Cert.Reference3Ideal.nD Cert.Reference3Ideal.τ).loc Cert.Reference3Ideal.main_arg2) : Vec Ideal ⟨2, ![16384, 1024]⟩ .f32) = aF m c := h2
  have e3 : (m' ((c.tc : Thread Cert.Reference3Ideal.nD Cert.Reference3Ideal.τ).loc Cert.Reference3Ideal.main_arg3) : Vec Ideal ⟨2, ![16384, 1024]⟩ .f32) = aB m c := h3
  have e4 : (m' ((c.tc : Thread Cert.Reference3Ideal.nD Cert.Reference3Ideal.τ).loc Cert.Reference3Ideal.main_arg4) : Vec Ideal ⟨2, ![16384, 8192]⟩ .f32) = aU m c := h4
  have e5 : (m' ((c.tc : Thread Cert.Reference3Ideal.nD Cert.Reference3Ideal.τ).loc Cert.Reference3Ideal.main_arg5) : Vec Ideal ⟨1, ![128]⟩ .f32) = aG m c := h5
  have e6 : (m' ((c.tc : Thread Cert.Reference3Ideal.nD Cert.Reference3Ideal.τ).loc Cert.Reference3Ideal.main_arg6) : Vec Ideal ⟨2, ![4096, 4096]⟩ .f32) = aW m c := h6
  have e7 : (m' ((c.tc : Thread Cert.Reference3Ideal.nD Cert.Reference3Ideal.τ).loc Cert.Reference3Ideal.main_arg7) : Vec Ideal ⟨2, ![16384, 4096]⟩ .f32) = aX m c := h7
  have e8 : (m' ((c.tc : Thread Cert.Reference3Ideal.nD Cert.Reference3Ideal.τ).loc Cert.Reference3Ideal.main_arg8) : Vec Ideal ⟨2, ![8, 24576]⟩ .f32) = aM m c := h8
  funext i
  refine (congrArg (Cert.Reference3Ideal.Value.res_main_v46 m' c) (ix2_eq i (i 0) (i 1) rfl rfl)).trans ?_
  refine (Cert.Reference3Ideal.Vals.res_apply m' c (i 0) (i 1)).trans ?_
  rw [e0, e1, e2, e3, e4, e5, e6, e7, e8]
  exact (G11_apply m c i).symm

theorem algebraic : Cert.algebraic_Kernel3Ideal_Reference3Ideal := by
  intro m g m' g' _ hm
  refine ⟨fun c => Cert.Kernel3Ideal.Value.G11 m c, Cert.Kernel3Ideal.Value.run m g, ?_⟩
  refine (θ_run Cert.Reference3Ideal.defs _ _).mono (fun r h c => ⟨(h c).1.trans ?_, (h c).2⟩) (Cert.Reference3Ideal.Value.run (F := Ideal) m' g')
  obtain ⟨h0, h1, h2, h3, h4, h5, h6, h7, h8⟩ := hm c
  exact reference_result m m' c h0 h1 h2 h3 h4 h5 h6 h7 h8

end Cert.OutP

end
-- ==== Proof.Mla.Chunks.lean ====
module

public import proofs.«01_k».proof.Proof.Gen.Kernel4Ideal.Skeleton
public import Idealize.ShloMosaic.Lib.Exec
public import Idealize.ShloMosaic.Lib.Tactic
public import Idealize.ShloMosaic.Lib.Pipeline.Kit

@[expose] public section

set_option maxRecDepth 8192

noncomputable section

/-! What the two passes of the attention block compute, chunk by chunk. -/

namespace Cert.Kernel4Ideal.Mla

open Cert.Kernel4Ideal Cert.Kernel4Ideal.Gen
open Idealize.ShloMosaic

variable {F : FTy → Type} [FloatOps F]

/-- A block of keys: block 0 is the context's, block `j + 1` the `j`-th 256 rows of the latent's. -/
def chunk (X0 : Vec F S256x256 .bf16) (X : Vec F S4096x256 .bf16) (j : ℕ) : Vec F S256x256 .bf16 :=
  if j = 0 then X0 else fun x => X fun a =>
    ⟨((![256 * (j - 1), 0] : Fin 2 → ℕ) a + (x a).val) % S4096x256.size a,
      Nat.mod_lt _ (by match a with | 0 => decide | 1 => decide)⟩

/-- A block of values: block 0 is the context's, block `j + 1` the `j`-th 256 rows of the latent's. -/
def vchunk (X0 : Vec F S256x128 .bf16) (X : Vec F S4096x128 .bf16) (j : ℕ) : Vec F S256x128 .bf16 :=
  if j = 0 then X0 else fun x => X fun a =>
    ⟨((![256 * (j - 1), 0] : Fin 2 → ℕ) a + (x a).val) % S4096x128.size a,
      Nat.mod_lt _ (by match a with | 0 => decide | 1 => decide)⟩

/-- The scores of block `j`. -/
def sc (Q : Vec F S512x256 .bf16) (X0 : Vec F S256x256 .bf16) (X : Vec F S4096x256 .bf16) (j : ℕ) :
    Vec F S1x512x256 .f32 := k0_pay3 Q (chunk X0 X j)

/-- The running lane maximum after `j` blocks. -/
def mx (Q : Vec F S512x256 .bf16) (X0 : Vec F S256x256 .bf16) (X : Vec F S4096x256 .bf16) : ℕ → Vec F S512x128 .f32
  | 0 => k0_pay51
  | j + 1 => k0_pay4 Q (chunk X0 X j) (mx Q X0 X j)

/-- The lane sums of the exponentials after `j` blocks, for scores `s` and row maximum `M`. -/
def lsum (M : Vec F S512x128 .f32) (s : ℕ → Vec F S1x512x256 .f32) : ℕ → Vec F S512x128 .f32
  | 0 => k0_pay61 k0_pay60
  | j + 1 => k0_pay24 M (s j) (lsum M s j)

/-- The weighted sum of the values after `j` blocks. -/
def acc (M : Vec F S512x128 .f32) (s : ℕ → Vec F S1x512x256 .f32) (v : ℕ → Vec F S256x128 .bf16) : ℕ → Vec F S512x128 .f32
  | 0 => k0_pay62
  | j + 1 => k0_pay25 M (s j) (acc M s v j) (v j)

/-- All the scores, block by block, as the scratch holds them. -/
def scAll (Q : Vec F S512x256 .bf16) (X0 : Vec F S256x256 .bf16) (X : Vec F S4096x256 .bf16) : Vec F S17x512x256 .f32 :=
  fun y => sc Q X0 X (y 0).val fun a => match a with | 0 => ⟨0, by decide⟩ | 1 => y 1 | 2 => y 2

theorem off1_eq (k : Fin k0_t1_loop.trips) (u : Fin 8) :
    k0_off1 k (BitVec.ofNat 32 u.val) = ![256 * (8 * k.val + u.val), 0] := by
  revert u; revert k; decide +kernel

theorem off2_eq (k : Fin k0_t1_loop.trips) (u : Fin 8) :
    k0_off2 k (BitVec.ofNat 32 u.val) = ![1 + 8 * k.val + u.val, 0, 0] := by
  revert u; revert k; decide +kernel

theorem off3_eq (k : Fin k0_t2_loop.trips) (u : Fin 8) :
    k0_off3 k (BitVec.ofNat 32 u.val) = ![1 + 8 * k.val + u.val, 0, 0] := by
  revert u; revert k; decide +kernel

theorem off4_eq (k : Fin k0_t2_loop.trips) (u : Fin 8) :
    k0_off4 k (BitVec.ofNat 32 u.val) = ![256 * (8 * k.val + u.val), 0] := by
  revert u; revert k; decide +kernel

/-- A read of 256 rows of the latent keys is a block of them. -/
theorem readAt_chunk (v : View sig .tc .vmem S4096x256 .bf16) (f : v.ref.ty.shape.Idx → Elt F v.ref.ty.elt) (X0 : Vec F S256x256 .bf16) (off : Fin 2 → ℕ) (j : ℕ)
    (h : off = ![256 * j, 0]) (hj : j < 16) (inb) :
    v.readAt (Elt F) (Rect.unit (s := S4096x256) off S256x256.size inb).toLoadRect f
      = chunk X0 (v.read (Elt F) f) (j + 1) := by
  subst h
  funext x
  have h0 : (x 0).val < 256 := (x 0).isLt
  have h1 : (x 1).val < 256 := (x 1).isLt
  unfold chunk
  rw [if_neg (by omega), View.readAt_apply]
  congr 1
  funext a
  apply Fin.ext
  match a with
  | 0 => show 256 * j + 1 * (x 0).val = (256 * (j + 1 - 1) + (x 0).val) % 4096; omega
  | 1 => show 0 + 1 * (x 1).val = (0 + (x 1).val) % 256; omega

/-- A read of 256 rows of the latent values is a block of them. -/
theorem readAt_vchunk (v : View sig .tc .vmem S4096x128 .bf16) (f : v.ref.ty.shape.Idx → Elt F v.ref.ty.elt) (X0 : Vec F S256x128 .bf16) (off : Fin 2 → ℕ) (j : ℕ)
    (h : off = ![256 * j, 0]) (hj : j < 16) (inb) :
    v.readAt (Elt F) (Rect.unit (s := S4096x128) off S256x128.size inb).toLoadRect f
      = vchunk X0 (v.read (Elt F) f) (j + 1) := by
  subst h
  funext x
  have h0 : (x 0).val < 256 := (x 0).isLt
  have h1 : (x 1).val < 128 := (x 1).isLt
  unfold vchunk
  rw [if_neg (by omega), View.readAt_apply]
  congr 1
  funext a
  apply Fin.ext
  match a with
  | 0 => show 256 * j + 1 * (x 0).val = (256 * (j + 1 - 1) + (x 0).val) % 4096; omega
  | 1 => show 0 + 1 * (x 1).val = (0 + (x 1).val) % 128; omega

/-- The score slab agrees with block `j` on slot `j`. -/
theorem scAll_emb (Q : Vec F S512x256 .bf16) (X0 : Vec F S256x256 .bf16) (X : Vec F S4096x256 .bf16) (off : Fin 3 → ℕ) (j : ℕ)
    (h : off = ![j, 0, 0]) (inb) (x : S1x512x256.Idx) :
    scAll Q X0 X ((Rect.unit (s := S17x512x256) off S1x512x256.size inb).emb x) = sc Q X0 X j x := by
  subst h
  have h0 : (x 0).val < 1 := (x 0).isLt
  unfold scAll
  have e0 : ((Rect.unit (s := S17x512x256) ![j, 0, 0] S1x512x256.size inb).emb x 0).val = j := by
    show j + 1 * (x 0).val = j; omega
  rw [e0]
  congr 1
  funext a
  apply Fin.ext
  match a with
  | 0 => show 0 = (x 0).val; omega
  | 1 => show 0 + 1 * (x 1).val = _; omega
  | 2 => show 0 + 1 * (x 2).val = _; omega

/-- What slot `j` of a scratch that holds the scores reads. -/
theorem readAt_slot (v : View sig .tc .vmem S17x512x256 .f32) (f : v.ref.ty.shape.Idx → Elt F v.ref.ty.elt) (Q : Vec F S512x256 .bf16) (X0 : Vec F S256x256 .bf16)
    (X : Vec F S4096x256 .bf16) (off : Fin 3 → ℕ) (j : ℕ) (h : off = ![j, 0, 0]) (n : ℕ) (hj : j < n)
    (hf : ∀ y : S17x512x256.Idx, (y 0).val < n → v.read (Elt F) f y = scAll Q X0 X y) (inb) :
    v.readAt (Elt F) (Rect.unit (s := S17x512x256) off S1x512x256.size inb).toLoadRect f = sc Q X0 X j := by
  funext x
  rw [View.readAt_apply]
  refine (hf _ ?_).trans (scAll_emb Q X0 X off j h inb x)
  subst h
  have h0 : (x 0).val < 1 := (x 0).isLt
  show j + 1 * (x 0).val < n
  omega

/-- A scratch read after a write of the whole of it. -/
theorem read_top {s : Shape} {e : EltTy} (v : View sig .tc .vmem s e) (f : v.ref.ty.shape.Idx → Elt F v.ref.ty.elt) (off : Fin s.rank → ℕ)
    (h : off = fun _ => 0) (inb) (w : s.Idx → Elt F e) (L) :
    v.read (Elt F) (v.writes (Elt F) f (⟨Rect.unit (s := s) off s.size inb, w⟩ :: L)) = w := by
  subst h
  funext y
  refine View.read_writes_cons_hit v f (Rect.unit (s := s) (fun _ => 0) s.size inb) w L y y ?_
  funext a
  apply Fin.ext
  show 0 + 1 * (y a).val = _
  omega

/-- A load of the whole of a scratch reads its contents. -/
theorem readAt_full {s : Shape} {e : EltTy} (v : View sig .tc .vmem s e) (f : v.ref.ty.shape.Idx → Elt F v.ref.ty.elt) (off' : Fin s.rank → ℕ)
    (h' : off' = fun _ => 0) (inb') :
    v.readAt (Elt F) (Rect.unit (s := s) off' s.size inb').toLoadRect f = v.read (Elt F) f := by
  subst h'
  funext y
  rw [View.readAt_apply]
  congr 1
  funext a
  apply Fin.ext
  show 0 + 1 * (y a).val = _
  omega

/-- `read_top` for a load of the whole. -/
theorem readAt_top {s : Shape} {e : EltTy} (v : View sig .tc .vmem s e) (f : v.ref.ty.shape.Idx → Elt F v.ref.ty.elt) (off off' : Fin s.rank → ℕ)
    (h : off = fun _ => 0) (h' : off' = fun _ => 0) (inb inb') (w : s.Idx → Elt F e) (L) :
    v.readAt (Elt F) (Rect.unit (s := s) off' s.size inb').toLoadRect (v.writes (Elt F) f (⟨Rect.unit (s := s) off s.size inb, w⟩ :: L)) = w := by
  rw [readAt_full v _ off' h' inb', read_top v f off h inb w L]

/-- `readAt_top` where what lay below the write is not known. -/
theorem readCov_top {s : Shape} {e : EltTy} (v : View sig .tc .vmem s e) (off off' : Fin s.rank → ℕ)
    (h : off = fun _ => 0) (h' : off' = fun _ => 0) (inb inb') (w : s.Idx → Elt F e) (L) :
    v.readCov (⟨Rect.unit (s := s) off s.size inb, w⟩ :: L) (Rect.unit (s := s) off' s.size inb').toLoadRect = w := by
  unfold View.readCov
  exact readAt_top v _ off off' h h' inb inb' w L

/-- Adding eight slots to a scratch that holds the scores of the first `n` blocks. -/
theorem slots_step (v : View sig .tc .vmem S17x512x256 .f32) (f : v.ref.ty.shape.Idx → Elt F v.ref.ty.elt) (Q : Vec F S512x256 .bf16) (X0 : Vec F S256x256 .bf16)
    (X : Vec F S4096x256 .bf16) (n m : ℕ) (L : List (View.Piece (Elt F) S17x512x256 .f32))
    (hf : ∀ y : S17x512x256.Idx, (y 0).val < n → v.read (Elt F) f y = scAll Q X0 X y)
    (hL : ∀ p ∈ L, ∀ x : p.1.shape.Idx, p.2 x = scAll Q X0 X (p.1.emb x))
    (hc : ∀ y : S17x512x256.Idx, n ≤ (y 0).val → (y 0).val < m → ∃ p ∈ L, y ∈ p.1.set) :
    ∀ y : S17x512x256.Idx, (y 0).val < m → v.read (Elt F) (v.writes (Elt F) f L) y = scAll Q X0 X y := by
  intro y hy
  by_cases h : ∃ p ∈ L, y ∈ p.1.set
  · exact View.read_writes_apply_of_pieces v f _ L hL y h
  · have hn : (y 0).val < n := by
      by_contra hn
      exact h (hc y (by omega) hy)
    rw [← hf y hn]
    clear hc hL
    induction L with
    | nil => rfl
    | cons p L ih =>
      rw [View.read_writes_cons_miss v f p L y (fun hp => h ⟨p, List.mem_cons_self, hp⟩)]
      exact ih fun ⟨q, hq, hq'⟩ => h ⟨q, List.mem_cons_of_mem _ hq, hq'⟩

/-- Slot `j` of the scratch, as the set of its elements. -/
theorem mem_slot (off : Fin 3 → ℕ) (j : ℕ) (h : off = ![j, 0, 0]) (inb) (y : S17x512x256.Idx) (hy : (y 0).val = j) :
    y ∈ (Rect.unit (s := S17x512x256) off S1x512x256.size inb).set := by
  subst h
  rw [Rect.mem_set_unit]
  intro a
  match a with
  | 0 => exact ⟨by show j ≤ _; omega, by show _ < j + 1; omega⟩
  | 1 => exact ⟨Nat.zero_le _, by show (y 1).val < 0 + 512; have := (y 1).isLt; simpa using this⟩
  | 2 => exact ⟨Nat.zero_le _, by show (y 2).val < 0 + 256; have := (y 2).isLt; simpa using this⟩

theorem zero2 : (![0, 0] : Fin 2 → ℕ) = fun _ => 0 := by decide

/-- A slot of the scores, written from a block of keys. -/
theorem slot_written (v : View sig .tc .vmem S4096x256 .bf16) (f : v.ref.ty.shape.Idx → Elt F v.ref.ty.elt) (Q : Vec F S512x256 .bf16) (X0 : Vec F S256x256 .bf16)
    (k : Fin k0_t1_loop.trips) (u : Fin 8) (hk : k.val < 2) (inb inb') (x : S1x512x256.Idx) :
    k0_pay3 Q (v.readAt (Elt F) (Rect.unit (s := S4096x256) (k0_off1 k (BitVec.ofNat 32 u.val)) S256x256.size inb).toLoadRect f) x
      = scAll Q X0 (v.read (Elt F) f) ((Rect.unit (s := S17x512x256) (k0_off2 k (BitVec.ofNat 32 u.val)) S1x512x256.size inb').emb x) := by
  rw [scAll_emb Q X0 _ _ _ (off2_eq k u), readAt_chunk v f X0 _ _ (off1_eq k u) (by omega)]
  unfold sc
  rw [show 8 * k.val + u.val + 1 = 1 + 8 * k.val + u.val by omega]

/-- The running maximum, one block on. -/
theorem mx_written (v : View sig .tc .vmem S4096x256 .bf16) (f : v.ref.ty.shape.Idx → Elt F v.ref.ty.elt) (Q : Vec F S512x256 .bf16) (X0 : Vec F S256x256 .bf16)
    (k : Fin k0_t1_loop.trips) (u : Fin 8) (hk : k.val < 2) (inb) (w : Vec F S512x128 .f32)
    (hw : w = mx Q X0 (v.read (Elt F) f) (1 + 8 * k.val + u.val)) :
    k0_pay4 Q (v.readAt (Elt F) (Rect.unit (s := S4096x256) (k0_off1 k (BitVec.ofNat 32 u.val)) S256x256.size inb).toLoadRect f) w
      = mx Q X0 (v.read (Elt F) f) (1 + 8 * k.val + (u.val + 1)) := by
  rw [hw, readAt_chunk v f X0 _ _ (off1_eq k u) (by omega), show 8 * k.val + u.val + 1 = 1 + 8 * k.val + u.val by omega]
  rfl

theorem pay6_eq (Q : Vec F S512x256 .bf16) (a : Vec F S256x256 .bf16) : k0_pay6 Q a = k0_pay3 Q a := rfl

theorem pay9_eq (Q : Vec F S512x256 .bf16) (a : Vec F S256x256 .bf16) : k0_pay9 Q a = k0_pay3 Q a := rfl

theorem pay12_eq (Q : Vec F S512x256 .bf16) (a : Vec F S256x256 .bf16) : k0_pay12 (k0_pay11 Q a) = k0_pay3 Q a := rfl

theorem pay15_eq (Q : Vec F S512x256 .bf16) (a : Vec F S256x256 .bf16) : k0_pay15 Q a = k0_pay3 Q a := rfl

theorem pay18_eq (Q : Vec F S512x256 .bf16) (a : Vec F S256x256 .bf16) : k0_pay18 Q a = k0_pay3 Q a := rfl

theorem pay21_eq (Q : Vec F S512x256 .bf16) (a : Vec F S256x256 .bf16) : k0_pay21 Q a = k0_pay3 Q a := rfl

theorem pay57_eq (Q : Vec F S512x256 .bf16) (a : Vec F S256x256 .bf16) : k0_pay57 Q a = k0_pay3 (k0_pay50 Q) a := rfl

theorem pay53_eq (Q : Vec F S512x256 .bf16) (a : Vec F S256x256 .bf16) : k0_pay53 Q a = k0_pay3 (k0_pay50 Q) a := rfl

theorem pay7_eq (Q : Vec F S512x256 .bf16) (a : Vec F S256x256 .bf16) (w : Vec F S512x128 .f32) : k0_pay7 (k0_pay5 Q a) w = k0_pay4 Q a w := rfl

theorem pay10_eq (Q : Vec F S512x256 .bf16) (a : Vec F S256x256 .bf16) (w : Vec F S512x128 .f32) : k0_pay10 Q a w = k0_pay4 Q a w := rfl

theorem pay13_eq (Q : Vec F S512x256 .bf16) (a : Vec F S256x256 .bf16) (w : Vec F S512x128 .f32) : k0_pay13 (k0_pay11 Q a) w = k0_pay4 Q a w := rfl

theorem pay16_eq (Q : Vec F S512x256 .bf16) (a : Vec F S256x256 .bf16) (w : Vec F S512x128 .f32) : k0_pay16 Q a w = k0_pay4 Q a w := rfl

theorem pay19_eq (Q : Vec F S512x256 .bf16) (a : Vec F S256x256 .bf16) (w : Vec F S512x128 .f32) : k0_pay19 Q a w = k0_pay4 Q a w := rfl

theorem pay55_eq (Q : Vec F S512x256 .bf16) (a : Vec F S256x256 .bf16) (w : Vec F S512x128 .f32) : k0_pay55 (k0_pay22 Q a w) = k0_pay4 Q a w := rfl

theorem pay58_eq (Q : Vec F S512x256 .bf16) (a : Vec F S256x256 .bf16) (w : Vec F S512x128 .f32) : k0_pay58 Q a w = k0_pay4 (k0_pay50 Q) a w := rfl

theorem pay54_eq (Q : Vec F S512x256 .bf16) (a : Vec F S256x256 .bf16) (w : Vec F S512x128 .f32) : k0_pay54 Q a w = k0_pay4 (k0_pay50 Q) a w := rfl

theorem pay27_eq (M w : Vec F S512x128 .f32) (S : Vec F S1x512x256 .f32) : k0_pay27 M S w = k0_pay24 M S w := rfl

theorem pay33_eq (M w : Vec F S512x128 .f32) (S : Vec F S1x512x256 .f32) : k0_pay33 (k0_pay30 M S) (k0_pay31 M S) w = k0_pay24 M S w := rfl

theorem pay37_eq (M w : Vec F S512x128 .f32) (S : Vec F S1x512x256 .f32) : k0_pay37 (k0_pay36 M S w) = k0_pay24 M S w := rfl

theorem pay40_eq (M w : Vec F S512x128 .f32) (S : Vec F S1x512x256 .f32) : k0_pay40 M S w = k0_pay24 M S w := rfl

theorem pay44_eq (M w : Vec F S512x128 .f32) (S : Vec F S1x512x256 .f32) : k0_pay44 M S w = k0_pay24 M S w := rfl

theorem pay48_eq (M w : Vec F S512x128 .f32) (S : Vec F S1x512x256 .f32) : k0_pay48 M S w = k0_pay24 M S w := rfl

theorem pay67_eq (M w : Vec F S512x128 .f32) (S : Vec F S1x512x256 .f32) : k0_pay67 M S w = k0_pay24 M S w := rfl

theorem pay64_eq (M w : Vec F S512x128 .f32) (S : Vec F S1x512x256 .f32) : k0_pay64 M S w = k0_pay24 M S w := rfl

theorem pay28_eq (M w : Vec F S512x128 .f32) (S : Vec F S1x512x256 .f32) (a : Vec F S256x128 .bf16) : k0_pay28 M S w a = k0_pay25 M S w a := rfl

theorem pay34_eq (M w : Vec F S512x128 .f32) (S : Vec F S1x512x256 .f32) (a : Vec F S256x128 .bf16) : k0_pay34 (k0_pay30 M S) (k0_pay31 M S) w a = k0_pay25 M S w a := rfl

theorem pay38_eq (M w : Vec F S512x128 .f32) (S : Vec F S1x512x256 .f32) (a : Vec F S256x128 .bf16) : k0_pay38 (k0_pay35 M S) w a = k0_pay25 M S w a := rfl

theorem pay42_eq (M w : Vec F S512x128 .f32) (S : Vec F S1x512x256 .f32) (a : Vec F S256x128 .bf16) : k0_pay42 w (k0_pay41 M S) a = k0_pay25 M S w a := rfl

theorem pay46_eq (M w : Vec F S512x128 .f32) (S : Vec F S1x512x256 .f32) (a : Vec F S256x128 .bf16) : k0_pay46 w (k0_pay45 M S a) = k0_pay25 M S w a := rfl

theorem pay49_eq (M w : Vec F S512x128 .f32) (S : Vec F S1x512x256 .f32) (a : Vec F S256x128 .bf16) : k0_pay49 M S w a = k0_pay25 M S w a := rfl

theorem pay68_eq (M w : Vec F S512x128 .f32) (S : Vec F S1x512x256 .f32) (a : Vec F S256x128 .bf16) : k0_pay68 M S w a = k0_pay25 M S w a := rfl

theorem pay65_eq (M w : Vec F S512x128 .f32) (S : Vec F S1x512x256 .f32) (a : Vec F S256x128 .bf16) : k0_pay65 M S w a = k0_pay25 M S w a := rfl

/-- The lane sums, one block on. -/
theorem lsum_written (v : View sig .tc .vmem S17x512x256 .f32) (f : v.ref.ty.shape.Idx → Elt F v.ref.ty.elt) (M : Vec F S512x128 .f32)
    (s : ℕ → Vec F S1x512x256 .f32)
    (hs : ∀ (off : Fin 3 → ℕ) (j : ℕ) (h : off = ![j, 0, 0]) (hj : j < 17) (inb),
      v.readAt (Elt F) (Rect.unit (s := S17x512x256) off S1x512x256.size inb).toLoadRect f = s j)
    (k : Fin k0_t2_loop.trips) (u : Fin 8) (hk : k.val < 2) (inb) (w : Vec F S512x128 .f32)
    (hw : w = lsum M s (1 + 8 * k.val + u.val)) :
    k0_pay24 M (v.readAt (Elt F) (Rect.unit (s := S17x512x256) (k0_off3 k (BitVec.ofNat 32 u.val)) S1x512x256.size inb).toLoadRect f) w
      = lsum M s (1 + 8 * k.val + (u.val + 1)) := by
  rw [hw, hs _ _ (off3_eq k u) (by omega)]
  rfl

/-- The weighted sum, one block on. -/
theorem acc_written (v : View sig .tc .vmem S17x512x256 .f32) (f : v.ref.ty.shape.Idx → Elt F v.ref.ty.elt) (M : Vec F S512x128 .f32)
    (s : ℕ → Vec F S1x512x256 .f32)
    (hs : ∀ (off : Fin 3 → ℕ) (j : ℕ) (h : off = ![j, 0, 0]) (hj : j < 17) (inb),
      v.readAt (Elt F) (Rect.unit (s := S17x512x256) off S1x512x256.size inb).toLoadRect f = s j)
    (v' : View sig .tc .vmem S4096x128 .bf16) (f' : v'.ref.ty.shape.Idx → Elt F v'.ref.ty.elt) (X0 : Vec F S256x128 .bf16)
    (k : Fin k0_t2_loop.trips) (u : Fin 8) (hk : k.val < 2) (inb inb') (w : Vec F S512x128 .f32)
    (hw : w = acc M s (vchunk X0 (v'.read (Elt F) f')) (1 + 8 * k.val + u.val)) :
    k0_pay25 M (v.readAt (Elt F) (Rect.unit (s := S17x512x256) (k0_off3 k (BitVec.ofNat 32 u.val)) S1x512x256.size inb).toLoadRect f) w
        (v'.readAt (Elt F) (Rect.unit (s := S4096x128) (k0_off4 k (BitVec.ofNat 32 u.val)) S256x128.size inb').toLoadRect f')
      = acc M s (vchunk X0 (v'.read (Elt F) f')) (1 + 8 * k.val + (u.val + 1)) := by
  rw [hw, hs _ _ (off3_eq k u) (by omega), readAt_vchunk v' f' X0 _ _ (off4_eq k u) (by omega),
    show 8 * k.val + u.val + 1 = 1 + 8 * k.val + u.val by omega]
  rfl

end Cert.Kernel4Ideal.Mla

end
-- ==== Proof.Mla.Trip1.lean ====
module

public import proofs.«01_k».proof.Proof.Mla.Chunks

@[expose] public section

set_option maxRecDepth 8192
set_option maxHeartbeats 4000000

noncomputable section

/-! One trip of the pass that computes the scores. -/

namespace Cert.Kernel4Ideal.Mla

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (𝒱 : Variants) (c : Dev nD) (bd : Option 𝒱.V)

/-- The pass over the keys after `k` trips: the scores of the first `1 + 8 k` blocks are in the slab, their running maximum in `arg11`. -/
def inv1 (arg6 : Memref sig .tc .vmem S4096x256 .bf16) (arg10 : Memref sig .tc .vmem S17x512x256 .f32) (arg11 : Memref sig .tc .vmem S512x128 .f32)
    (Q : Vec F S512x256 .bf16) (X0 : Vec F S256x256 .bf16) (X_arg6 : BufTy.Contents (Elt F) arg6.view.ty) (n : ℕ) : sProp 𝕄G :=
  iprop((arg6.view.loc (c : Thread nD τ) ↦[arg6.view.set]{fullShare} X_arg6) ∗
    (∃ g10, ∃ g11, (arg10.view.loc (c : Thread nD τ) ↦[arg10.view.set]{fullShare} g10) ∗
      (arg11.view.loc (c : Thread nD τ) ↦[arg11.view.set]{fullShare} g11) ∗
      ⌜(∀ y : S17x512x256.Idx, (y 0).val < 1 + 8 * n → arg10.view.read (Elt F) g10 y = scAll Q X0 (arg6.view.read (Elt F) X_arg6) y) ∧
        arg11.view.read (Elt F) g11 = mx Q X0 (arg6.view.read (Elt F) X_arg6) (1 + 8 * n)⌝))

theorem trip1 (i : grid0.Coords) (arg3 : Memref sig .tc .vmem S512x256 .bf16) (harg3 : arg3.IsWhole) (arg4 : Memref sig .tc .vmem S256x256 .bf16) (harg4 : arg4.IsWhole) (arg5 : Memref sig .tc .vmem S256x128 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .hbm S16384x1536 .bf16) (harg8 : arg8.IsWhole) (arg9 : Memref sig .tc .vmem S512x128 .bf16) (harg9 : arg9.IsWhole) (arg10 : Memref sig .tc .vmem S17x512x256 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (v0 : Vec F S512x256 .bf16)
    (X0 : Vec F S256x256 .bf16) (X_arg6 : BufTy.Contents (Elt F) arg6.view.ty) (k : Fin k0_t1_loop.trips) (E : Set ℕ) :
    inv1 c arg6 arg10 arg11 (k0_pay50 v0) X0 X_arg6 k.val
      ⊢ (wp frame (wpE (defs₀ (F := F)) 𝒱 (c : Thread nD τ) bd) E
        (k0_t1_body (F := F) i arg3 harg3 arg4 harg4 arg5 harg5 arg6 harg6 arg7 harg7 arg8 harg8 arg9 harg9 arg10 harg10 arg11 harg11 arg12 harg12 arg13 harg13 v0 k PUnit.unit)
        (fun _ => inv1 c arg6 arg10 arg11 (k0_pay50 v0) X0 X_arg6 (k.val + 1)) : sProp 𝕄G) := by
  have hk : k.val < 2 := Nat.lt_of_lt_of_le k.isLt k0_t1_abs.2.1
  unfold inv1 k0_t1_body
  iintro ⟨HR_arg6, %g10, %g11, HW_arg10, HW_arg11, %hg⟩
  sl_exec
  sl_step
  isplitl [HR_arg6]
  · iexact HR_arg6
  iexists _, _
  isplitl [HW_arg10]
  · iexact HW_arg10
  isplitl [HW_arg11]
  · iexact HW_arg11
  ipureintro
  obtain ⟨h10, h11⟩ := hg
  refine ⟨?_, ?_⟩
  · delta trip1.sl.r_1
    rw [pay57_eq, pay21_eq, pay18_eq, pay15_eq, pay12_eq, pay9_eq, pay6_eq]
    refine slots_step arg10.view g10 _ X0 _ _ _ _ h10 ?_ ?_
    · refine List.forall_mem_cons.2 ⟨fun x => slot_written arg6.view X_arg6 _ X0 k 7 hk (k0_off1_inb k 7) (k0_off2_inb k 7) x, List.forall_mem_cons.2 ⟨fun x => slot_written arg6.view X_arg6 _ X0 k 6 hk (k0_off1_inb k 6) (k0_off2_inb k 6) x, List.forall_mem_cons.2 ⟨fun x => slot_written arg6.view X_arg6 _ X0 k 5 hk (k0_off1_inb k 5) (k0_off2_inb k 5) x, List.forall_mem_cons.2 ⟨fun x => slot_written arg6.view X_arg6 _ X0 k 4 hk (k0_off1_inb k 4) (k0_off2_inb k 4) x, List.forall_mem_cons.2 ⟨fun x => slot_written arg6.view X_arg6 _ X0 k 3 hk (k0_off1_inb k 3) (k0_off2_inb k 3) x, List.forall_mem_cons.2 ⟨fun x => slot_written arg6.view X_arg6 _ X0 k 2 hk (k0_off1_inb k 2) (k0_off2_inb k 2) x, List.forall_mem_cons.2 ⟨fun x => slot_written arg6.view X_arg6 _ X0 k 1 hk (k0_off1_inb k 1) (k0_off2_inb k 1) x, List.forall_mem_cons.2 ⟨fun x => slot_written arg6.view X_arg6 _ X0 k 0 hk (k0_off1_inb k 0) (k0_off2_inb k 0) x, fun _ h => absurd h List.not_mem_nil⟩⟩⟩⟩⟩⟩⟩⟩
    · intro y h1 h2
      obtain h | h | h | h | h | h | h | h : (y 0).val = 1 + 8 * k.val + 0 ∨ (y 0).val = 1 + 8 * k.val + 1 ∨ (y 0).val = 1 + 8 * k.val + 2 ∨
        (y 0).val = 1 + 8 * k.val + 3 ∨ (y 0).val = 1 + 8 * k.val + 4 ∨ (y 0).val = 1 + 8 * k.val + 5 ∨ (y 0).val = 1 + 8 * k.val + 6 ∨
        (y 0).val = 1 + 8 * k.val + 7 := by omega
      · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
        exact mem_slot _ _ (off2_eq k 0) (k0_off2_inb k 0) y h
      · refine ⟨_, List.mem_cons_of_mem _ (List.mem_cons_of_mem _ (List.mem_cons_of_mem _ (List.mem_cons_of_mem _ (List.mem_cons_of_mem _ (List.mem_cons_of_mem _ (List.mem_cons_self)))))), ?_⟩
        exact mem_slot _ _ (off2_eq k 1) (k0_off2_inb k 1) y h
      · refine ⟨_, List.mem_cons_of_mem _ (List.mem_cons_of_mem _ (List.mem_cons_of_mem _ (List.mem_cons_of_mem _ (List.mem_cons_of_mem _ (List.mem_cons_self))))), ?_⟩
        exact mem_slot _ _ (off2_eq k 2) (k0_off2_inb k 2) y h
      · refine ⟨_, List.mem_cons_of_mem _ (List.mem_cons_of_mem _ (List.mem_cons_of_mem _ (List.mem_cons_of_mem _ (List.mem_cons_self)))), ?_⟩
        exact mem_slot _ _ (off2_eq k 3) (k0_off2_inb k 3) y h
      · refine ⟨_, List.mem_cons_of_mem _ (List.mem_cons_of_mem _ (List.mem_cons_of_mem _ (List.mem_cons_self))), ?_⟩
        exact mem_slot _ _ (off2_eq k 4) (k0_off2_inb k 4) y h
      · refine ⟨_, List.mem_cons_of_mem _ (List.mem_cons_of_mem _ (List.mem_cons_self)), ?_⟩
        exact mem_slot _ _ (off2_eq k 5) (k0_off2_inb k 5) y h
      · refine ⟨_, List.mem_cons_of_mem _ (List.mem_cons_self), ?_⟩
        exact mem_slot _ _ (off2_eq k 6) (k0_off2_inb k 6) y h
      · refine ⟨_, List.mem_cons_self, ?_⟩
        exact mem_slot _ _ (off2_eq k 7) (k0_off2_inb k 7) y h

  · rw [read_top _ _ _ zero2, show 1 + 8 * (k.val + 1) = 1 + 8 * k.val + (7 + 1) by omega]
    delta trip1.sl.v229 trip1.sl.HW_arg11_7
    rw [readCov_top _ _ _ zero2 zero2]
    delta trip1.sl.r_2 trip1.sl.v208 trip1.sl.HW_arg11_6
    rw [readCov_top _ _ _ zero2 zero2]
    delta trip1.sl.v187 trip1.sl.HW_arg11_5
    rw [readCov_top _ _ _ zero2 zero2]
    delta trip1.sl.v166 trip1.sl.HW_arg11_4
    rw [readCov_top _ _ _ zero2 zero2]
    delta trip1.sl.r_1 trip1.sl.v145 trip1.sl.HW_arg11_3
    rw [readCov_top _ _ _ zero2 zero2]
    delta trip1.sl.v124 trip1.sl.HW_arg11_2
    rw [readCov_top _ _ _ zero2 zero2]
    delta trip1.sl.r trip1.sl.v103 trip1.sl.HW_arg11_1
    rw [readCov_top _ _ _ zero2 zero2, pay58_eq, pay55_eq, pay19_eq, pay16_eq, pay13_eq, pay10_eq, pay7_eq]
    refine mx_written arg6.view X_arg6 _ X0 k 7 hk _ _ ?_
    refine mx_written arg6.view X_arg6 _ X0 k 6 hk _ _ ?_
    refine mx_written arg6.view X_arg6 _ X0 k 5 hk _ _ ?_
    refine mx_written arg6.view X_arg6 _ X0 k 4 hk _ _ ?_
    refine mx_written arg6.view X_arg6 _ X0 k 3 hk _ _ ?_
    refine mx_written arg6.view X_arg6 _ X0 k 2 hk _ _ ?_
    refine mx_written arg6.view X_arg6 _ X0 k 1 hk _ _ ?_
    refine mx_written arg6.view X_arg6 _ X0 k 0 hk _ _ ?_
    rw [readAt_full _ _ _ zero2]
    exact h11

end Cert.Kernel4Ideal.Mla

end
-- ==== Proof.Mla.Trip2.lean ====
module

public import proofs.«01_k».proof.Proof.Mla.Chunks

@[expose] public section

set_option maxRecDepth 8192
set_option maxHeartbeats 4000000

noncomputable section

/-! One trip of the pass that weights the values. -/

namespace Cert.Kernel4Ideal.Mla

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (𝒱 : Variants) (c : Dev nD) (bd : Option 𝒱.V)

/-- The pass over the values after `k` trips: the lane sums and the weighted sum of the first `1 + 8 k` blocks. -/
def inv2 (arg7 : Memref sig .tc .vmem S4096x128 .bf16) (arg10 : Memref sig .tc .vmem S17x512x256 .f32) (arg12 : Memref sig .tc .vmem S512x128 .f32)
    (arg13 : Memref sig .tc .vmem S512x128 .f32) (M : Vec F S512x128 .f32) (s : ℕ → Vec F S1x512x256 .f32) (X0 : Vec F S256x128 .bf16)
    (X_arg7 : BufTy.Contents (Elt F) arg7.view.ty) (X_arg10 : BufTy.Contents (Elt F) arg10.view.ty) (n : ℕ) : sProp 𝕄G :=
  iprop((arg7.view.loc (c : Thread nD τ) ↦[arg7.view.set]{fullShare} X_arg7) ∗
    (arg10.view.loc (c : Thread nD τ) ↦[arg10.view.set]{fullShare} X_arg10) ∗
    (∃ g12, ∃ g13, (arg12.view.loc (c : Thread nD τ) ↦[arg12.view.set]{fullShare} g12) ∗
      (arg13.view.loc (c : Thread nD τ) ↦[arg13.view.set]{fullShare} g13) ∗
      ⌜arg12.view.read (Elt F) g12 = lsum M s (1 + 8 * n) ∧
        arg13.view.read (Elt F) g13 = acc M s (vchunk X0 (arg7.view.read (Elt F) X_arg7)) (1 + 8 * n)⌝))

theorem trip2 (i : grid0.Coords) (arg3 : Memref sig .tc .vmem S512x256 .bf16) (harg3 : arg3.IsWhole) (arg4 : Memref sig .tc .vmem S256x256 .bf16) (harg4 : arg4.IsWhole) (arg5 : Memref sig .tc .vmem S256x128 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .hbm S16384x1536 .bf16) (harg8 : arg8.IsWhole) (arg9 : Memref sig .tc .vmem S512x128 .bf16) (harg9 : arg9.IsWhole) (arg10 : Memref sig .tc .vmem S17x512x256 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (v25 v26 : FVec F S512x128 .f32) (v27 : Vec F S512x128 .f32)
    (s : ℕ → Vec F S1x512x256 .f32) (X0 : Vec F S256x128 .bf16) (X_arg7 : BufTy.Contents (Elt F) arg7.view.ty)
    (X_arg10 : BufTy.Contents (Elt F) arg10.view.ty)
    (hs : ∀ (off : Fin 3 → ℕ) (j : ℕ) (h : off = ![j, 0, 0]) (hj : j < 17) (inb),
      arg10.view.readAt (Elt F) (Rect.unit (s := S17x512x256) off S1x512x256.size inb).toLoadRect X_arg10 = s j)
    (k : Fin k0_t2_loop.trips) (E : Set ℕ) :
    inv2 c arg7 arg10 arg12 arg13 v25 s X0 X_arg7 X_arg10 k.val
      ⊢ (wp frame (wpE (defs₀ (F := F)) 𝒱 (c : Thread nD τ) bd) E
        (k0_t2_body (F := F) i arg3 harg3 arg4 harg4 arg5 harg5 arg6 harg6 arg7 harg7 arg8 harg8 arg9 harg9 arg10 harg10 arg11 harg11 arg12 harg12 arg13 harg13 v25 v26 v27 k PUnit.unit)
        (fun _ => inv2 c arg7 arg10 arg12 arg13 v25 s X0 X_arg7 X_arg10 (k.val + 1)) : sProp 𝕄G) := by
  have hk : k.val < 2 := Nat.lt_of_lt_of_le k.isLt k0_t2_abs.2.1
  unfold inv2 k0_t2_body
  iintro ⟨HR_arg7, HR_arg10, %g12, %g13, HW_arg12, HW_arg13, %hg⟩
  sl_exec
  sl_step
  isplitl [HR_arg7]
  · iexact HR_arg7
  isplitl [HR_arg10]
  · iexact HR_arg10
  iexists _, _
  isplitl [HW_arg12]
  · iexact HW_arg12
  isplitl [HW_arg13]
  · iexact HW_arg13
  ipureintro
  obtain ⟨h12, h13⟩ := hg
  refine ⟨?_, ?_⟩
  · rw [read_top _ _ _ zero2, show 1 + 8 * (k.val + 1) = 1 + 8 * k.val + (7 + 1) by omega]
    delta  trip2.sl.v313 trip2.sl.HW_arg12_7
    rw [readCov_top _ _ _ zero2 zero2]
    delta  trip2.sl.v280 trip2.sl.HW_arg12_6
    rw [readCov_top _ _ _ zero2 zero2]
    delta  trip2.sl.v247 trip2.sl.HW_arg12_5
    rw [readCov_top _ _ _ zero2 zero2]
    delta  trip2.sl.v214 trip2.sl.HW_arg12_4
    rw [readCov_top _ _ _ zero2 zero2]
    delta trip2.sl.r_3 trip2.sl.v181 trip2.sl.HW_arg12_3
    rw [readCov_top _ _ _ zero2 zero2]
    delta  trip2.sl.v148 trip2.sl.HW_arg12_2
    rw [readCov_top _ _ _ zero2 zero2]
    delta  trip2.sl.v115 trip2.sl.HW_arg12_1
    rw [readCov_top _ _ _ zero2 zero2]
    delta trip2.sl.r trip2.sl.r_1
    rw [pay67_eq, pay48_eq, pay44_eq, pay40_eq, pay37_eq, pay33_eq, pay27_eq]
    refine lsum_written arg10.view X_arg10 _ s hs k 7 hk _ _ ?_
    refine lsum_written arg10.view X_arg10 _ s hs k 6 hk _ _ ?_
    refine lsum_written arg10.view X_arg10 _ s hs k 5 hk _ _ ?_
    refine lsum_written arg10.view X_arg10 _ s hs k 4 hk _ _ ?_
    refine lsum_written arg10.view X_arg10 _ s hs k 3 hk _ _ ?_
    refine lsum_written arg10.view X_arg10 _ s hs k 2 hk _ _ ?_
    refine lsum_written arg10.view X_arg10 _ s hs k 1 hk _ _ ?_
    refine lsum_written arg10.view X_arg10 _ s hs k 0 hk _ _ ?_
    rw [readAt_full _ _ _ zero2]
    exact h12
  · rw [read_top _ _ _ zero2, show 1 + 8 * (k.val + 1) = 1 + 8 * k.val + (7 + 1) by omega]
    delta  trip2.sl.v321 trip2.sl.HW_arg13_7
    rw [readCov_top _ _ _ zero2 zero2]
    delta  trip2.sl.v288 trip2.sl.HW_arg13_6
    rw [readCov_top _ _ _ zero2 zero2]
    delta  trip2.sl.v255 trip2.sl.HW_arg13_5
    rw [readCov_top _ _ _ zero2 zero2]
    delta  trip2.sl.v222 trip2.sl.HW_arg13_4
    rw [readCov_top _ _ _ zero2 zero2]
    delta  trip2.sl.v189 trip2.sl.HW_arg13_3
    rw [readCov_top _ _ _ zero2 zero2]
    delta  trip2.sl.v156 trip2.sl.HW_arg13_2
    rw [readCov_top _ _ _ zero2 zero2]
    delta  trip2.sl.v123 trip2.sl.HW_arg13_1
    rw [readCov_top _ _ _ zero2 zero2]
    delta trip2.sl.r trip2.sl.r_1 trip2.sl.r_2 trip2.sl.r_4 trip2.sl.r_5
    rw [pay68_eq, pay49_eq, pay46_eq, pay42_eq, pay38_eq, pay34_eq, pay28_eq]
    refine acc_written arg10.view X_arg10 _ s hs arg7.view X_arg7 X0 k 7 hk _ _ _ ?_
    refine acc_written arg10.view X_arg10 _ s hs arg7.view X_arg7 X0 k 6 hk _ _ _ ?_
    refine acc_written arg10.view X_arg10 _ s hs arg7.view X_arg7 X0 k 5 hk _ _ _ ?_
    refine acc_written arg10.view X_arg10 _ s hs arg7.view X_arg7 X0 k 4 hk _ _ _ ?_
    refine acc_written arg10.view X_arg10 _ s hs arg7.view X_arg7 X0 k 3 hk _ _ _ ?_
    refine acc_written arg10.view X_arg10 _ s hs arg7.view X_arg7 X0 k 2 hk _ _ _ ?_
    refine acc_written arg10.view X_arg10 _ s hs arg7.view X_arg7 X0 k 1 hk _ _ _ ?_
    refine acc_written arg10.view X_arg10 _ s hs arg7.view X_arg7 X0 k 0 hk _ _ _ ?_
    rw [readAt_full _ _ _ zero2]
    exact h13

end Cert.Kernel4Ideal.Mla

end
-- ==== Proof.Mla.Body.lean ====
module

public import proofs.«01_k».proof.Proof.Mla.Trip1
public import proofs.«01_k».proof.Proof.Mla.Trip2
public import Idealize.ShloMosaic.Lib.Pipeline.Value

@[expose] public section

set_option maxRecDepth 8192
set_option maxHeartbeats 4000000

noncomputable section

/-! The attention block of one grid point, as one function of its five input blocks. -/

namespace Cert.Kernel4Ideal.Mla

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The query block, as the kernel reads it. -/
def qOf (x0 : Vec F S512x256 .bf16) : Vec F S512x256 .bf16 := k0_pay50 x0

/-- The row maximum of all the scores, on every lane. -/
def mxOf (x0 : Vec F S512x256 .bf16) (x1 : Vec F S256x256 .bf16) (x3 : Vec F S4096x256 .bf16) : Vec F S512x128 .f32 :=
  k0_pay59 (mx (qOf x0) x1 x3 17)

/-- The lane sums of the exponentials over all the blocks. -/
def lsOf (x0 : Vec F S512x256 .bf16) (x1 : Vec F S256x256 .bf16) (x3 : Vec F S4096x256 .bf16) : Vec F S512x128 .f32 :=
  lsum (mxOf x0 x1 x3) (sc (qOf x0) x1 x3) 17

/-- The weighted sum of the values over all the blocks. -/
def accOf (x0 : Vec F S512x256 .bf16) (x1 : Vec F S256x256 .bf16) (x2 : Vec F S256x128 .bf16) (x3 : Vec F S4096x256 .bf16) (x4 : Vec F S4096x128 .bf16) : Vec F S512x128 .f32 :=
  acc (mxOf x0 x1 x3) (sc (qOf x0) x1 x3) (vchunk x2 x4) 17

/-- The output block. -/
def outOf (x0 : Vec F S512x256 .bf16) (x1 : Vec F S256x256 .bf16) (x2 : Vec F S256x128 .bf16) (x3 : Vec F S4096x256 .bf16) (x4 : Vec F S4096x128 .bf16) : Vec F S512x128 .bf16 :=
  k0_pay1 (accOf x0 x1 x2 x3 x4) (lsOf x0 x1 x3)

theorem body_run (c : Dev nD) (i : grid0.Coords) (arg3 : Memref sig .tc .vmem S512x256 .bf16) (harg3 : arg3.IsWhole) (arg4 : Memref sig .tc .vmem S256x256 .bf16) (harg4 : arg4.IsWhole) (arg5 : Memref sig .tc .vmem S256x128 .bf16) (harg5 : arg5.IsWhole) (arg6 : Memref sig .tc .vmem S4096x256 .bf16) (harg6 : arg6.IsWhole) (arg7 : Memref sig .tc .vmem S4096x128 .bf16) (harg7 : arg7.IsWhole) (arg9 : Memref sig .tc .vmem S512x128 .bf16) (harg9 : arg9.IsWhole) (arg10 : Memref sig .tc .vmem S17x512x256 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole)
    (x0 : Vec F S512x256 .bf16) (x1 : Vec F S256x256 .bf16) (x2 : Vec F S256x128 .bf16) (x3 : Vec F S4096x256 .bf16) (x4 : Vec F S4096x128 .bf16) :
      ∀ (E : Set ℕ) (K : PUnit → sProp 𝕄G),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg9 fullShare (outOf x0 x1 x2 x3 x4) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_mla_attn_lat i arg3 harg3 arg4 harg4 arg5 harg5 arg6 harg6 arg7 harg7 (Memref.whole main_arg5) (Memref.isWhole_whole _) arg9 harg9 arg10 harg10 arg11 harg11 arg12 harg12 arg13 harg13) K := by
    intro E K
    simp only [cc0_mla_attn_lat_eq_skeleton]; unfold cc0_mla_attn_lat_skel
    simp only [k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec
    have hq : k0_pay50 (arg3.view.readAt (Elt F) (Rect.unit (s := S512x256) ![0, 0] S512x256.size inb_S512x256_S512x256_0_0).toLoadRect (harg3.unread x0)) = qOf x0 := by
      unfold qOf
      rw [readAt_full _ _ _ zero2, harg3.read_unread]
    sl_for (fun n _ => inv1 c arg6 arg10 arg11 (qOf x0) x1 (harg6.unread x3) n) $$ [H3 HS0 HS1]
    case region =>
      intro k a
      have e := trip1 Variants.none c none i arg3 harg3 arg4 harg4 arg5 harg5 arg6 harg6 arg7 harg7 (Memref.whole main_arg5) (Memref.isWhole_whole _) arg9 harg9 arg10 harg10 arg11 harg11 arg12 harg12 arg13 harg13 (arg3.view.readAt (Elt F) (Rect.unit (s := S512x256) ![0, 0] S512x256.size inb_S512x256_S512x256_0_0).toLoadRect (harg3.unread x0)) x1 (harg6.unread x3) k E
      rw [hq] at e
      exact e
    · unfold inv1
      isplitl [H3]
      · iexact H3
      iexists _, _
      isplitl [HS0]
      · iexact HS0
      isplitl [HS1]
      · iexact HS1
      ipureintro
      rw [hf3]
      refine ⟨?_, ?_⟩
      · refine slots_step arg10.view fs0 _ x1 _ 0 _ _ (fun y h => absurd h (Nat.not_lt_zero _)) ?_ ?_
        · refine List.forall_mem_cons.2 ⟨fun x => ?_, fun _ h => absurd h List.not_mem_nil⟩
          refine Eq.trans ?_ (scAll_emb (qOf x0) x1 x3 ![0, 0, 0] 0 rfl inb_S17x512x256_S1x512x256_0_0_0 x).symm
          show k0_pay53 _ _ x = _
          rw [pay53_eq, hq, readAt_full _ _ _ zero2, hf1]
          rfl
        · intro y h1 h2
          refine ⟨_, List.mem_cons_self, ?_⟩
          exact mem_slot ![0, 0, 0] 0 rfl inb_S17x512x256_S1x512x256_0_0_0 y (by omega)
      · delta body_run.sl.HS1_2
        rw [read_top _ _ _ zero2]
        delta body_run.sl.v12 body_run.sl.HS1_1
        rw [readCov_top _ _ _ zero2 zero2, pay54_eq, hq, readAt_full _ _ _ zero2, hf1]
        rfl
    iintro %a HI
    unfold inv1
    icases HI with ⟨H3, %g10, %g11, HS0, HS1, %hg⟩
    sl_exec
    have htr : Scf.trips k0_t1_loop.lb k0_t1_loop.ub k0_t1_loop.st = 2 := by decide
    have htr2 : Scf.trips k0_t2_loop.lb k0_t2_loop.ub k0_t2_loop.st = 2 := by decide
    rw [htr, hf3] at hg
    obtain ⟨h10, h11⟩ := hg
    have hv26 : arg11.view.readAt (Elt F) (Rect.unit (s := S512x128) ![0, 0] S512x128.size inb_S512x128_S512x128_0_0).toLoadRect g11
        = mx (qOf x0) x1 x3 17 := by rw [readAt_full _ _ _ zero2]; exact h11
    have hM : body_run.sl.r c arg11 g11 = mxOf x0 x1 x3 := by
      delta body_run.sl.r
      unfold mxOf
      rw [hv26]
    rw [hM]
    have hs : ∀ (off : Fin 3 → ℕ) (j : ℕ) (h : off = ![j, 0, 0]) (hj : j < 17) (inb),
        arg10.view.readAt (Elt F) (Rect.unit (s := S17x512x256) off S1x512x256.size inb).toLoadRect g10 = sc (qOf x0) x1 x3 j :=
      fun off j h hj inb => readAt_slot arg10.view g10 (qOf x0) x1 x3 off j h 17 hj h10 inb
    sl_for (fun n _ => inv2 c arg7 arg10 arg12 arg13 (mxOf x0 x1 x3) (sc (qOf x0) x1 x3) x2 (harg7.unread x4) g10 n) $$ [H4 HS0 HS2 HS3]
    case region =>
      intro k a
      exact trip2 Variants.none c none i arg3 harg3 arg4 harg4 arg5 harg5 arg6 harg6 arg7 harg7 (Memref.whole main_arg5) (Memref.isWhole_whole _) arg9 harg9 arg10 harg10 arg11 harg11 arg12 harg12 arg13 harg13 (mxOf x0 x1 x3) _ _ (sc (qOf x0) x1 x3) x2 (harg7.unread x4) g10 hs k E
    · unfold inv2
      isplitl [H4]
      · iexact H4
      isplitl [HS0]
      · iexact HS0
      iexists _, _
      isplitl [HS2]
      · iexact HS2
      isplitl [HS3]
      · iexact HS3
      ipureintro
      rw [hf4]
      refine ⟨?_, ?_⟩
      · delta body_run.sl.HS2_2
        rw [read_top _ _ _ zero2]
        delta body_run.sl.v43 body_run.sl.HS2_1
        rw [readCov_top _ _ _ zero2 zero2, pay64_eq, hM, hs _ 0 rfl (by omega)]
        rfl
      · delta body_run.sl.HS3_2
        rw [read_top _ _ _ zero2]
        delta body_run.sl.v51 body_run.sl.HS3_1
        rw [readCov_top _ _ _ zero2 zero2, pay65_eq, hM, hs _ 0 rfl (by omega), readAt_full _ _ _ zero2, hf2]
        rfl
    iintro %a HI
    unfold inv2
    icases HI with ⟨H4, HS0, %g12, %g13, HS2, HS3, %hg⟩
    rw [htr2, hf4] at hg
    obtain ⟨h12, h13⟩ := hg
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      rw [readAt_full _ _ _ zero2, readAt_full _ _ _ zero2, h12, h13]
      exact read_top _ _ _ zero2 _ _ _
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel4Ideal.Mla

end
-- ==== Proof.Mla.Run.lean ====
module

public import proofs.«01_k».proof.Proof.Mla.Body
public import proofs.«01_k».proof.Proof.Gen.Kernel4Ideal.Frame
public import Idealize.ShloMosaic.Lib.Claim

@[expose] public section

-- membership in a rectangle of production extents (`View.cover_of_tiled`): the elaborator's structural look
-- recurses once per coordinate of the long axes
set_option maxRecDepth 16384

noncomputable section

/-! The attention call's run: the proof data of its pipeline, the body at every grid point, and the launch. -/

namespace Cert.Kernel4Ideal.Mla

open Cert.Kernel4Ideal Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Each window's current staging memref at point `t`, spelled as the pipeline passes it (`bodyAt0`), and its wholeness. -/
abbrev ms0_0 (t : Fin cfg0.N) : Memref sig .tc .vmem S512x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S17x512x256 .f32 := Memref.whole cc0_scratch0
abbrev scM0_1 : Memref sig .tc .vmem S512x128 .f32 := Memref.whole cc0_scratch1
abbrev scM0_2 : Memref sig .tc .vmem S512x128 .f32 := Memref.whole cc0_scratch2
abbrev scM0_3 : Memref sig .tc .vmem S512x128 .f32 := Memref.whole cc0_scratch3

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outOf (iblk m c 0 t) (iblk m c 1 t) (iblk m c 2 t) (iblk m c 3 t) (iblk m c 4 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outOf (iblk m c 0 t) (iblk m c 1 t) (iblk m c 2 t) (iblk m c 3 t) (iblk m c 4 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
  iapply ((body_run c (grid0.coords t) _ _ _ _ _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! The run and the frame. -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel4Ideal.Mla

end
-- ==== Proof.KFrame4.Frame.lean ====
module

public import proofs.«01_k».proof.Proof.Gen.Kernel4.Frame
public import proofs.«01_k».proof.Proof.Gen.Kernel4.Skeleton
public import proofs.«01_k».proof.Proof.Gen.Kernel4.Loops
public import Idealize.ShloMosaic.Lib.Claim

@[expose] public section

-- membership in a rectangle of production extents (`View.cover_of_tiled`): the elaborator's structural look
-- recurses once per coordinate of the long axes
set_option maxRecDepth 16384

noncomputable section

/-! The frame of the kernel as written: its pipeline's proof data with the output forgotten, the body's triple, and the launch. -/

namespace Cert.Kernel4.Frame

open Cert.Kernel4 Cert.Kernel4.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-- Each window's current staging memref at point `t`, spelled as the pipeline passes it (`bodyAt0`), and its wholeness. -/
abbrev ms0_0 (t : Fin cfg0.N) : Memref sig .tc .vmem S512x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S17x512x256 .f32 := Memref.whole cc0_scratch0
abbrev scM0_1 : Memref sig .tc .vmem S512x128 .f32 := Memref.whole cc0_scratch1
abbrev scM0_2 : Memref sig .tc .vmem S512x128 .f32 := Memref.whole cc0_scratch2
abbrev scM0_3 : Memref sig .tc .vmem S512x128 .f32 := Memref.whole cc0_scratch3

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

-- (the run's proof term is large: checking it walks past the default budget)
set_option maxHeartbeats 1000000 in

theorem kernelRun0_A (c : Dev nD) (i : grid0.Coords) (arg3 : Memref sig .tc .vmem S512x256 .bf16) (harg3 : arg3.IsWhole) (arg4 : Memref sig .tc .vmem S256x256 .bf16) (harg4 : arg4.IsWhole) (arg5 : Memref sig .tc .vmem S256x128 .bf16) (harg5 : arg5.IsWhole) (arg6 : Memref sig .tc .vmem S4096x256 .bf16) (harg6 : arg6.IsWhole) (arg7 : Memref sig .tc .vmem S4096x128 .bf16) (harg7 : arg7.IsWhole) (arg9 : Memref sig .tc .vmem S512x128 .bf16) (harg9 : arg9.IsWhole) (arg10 : Memref sig .tc .vmem S17x512x256 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole)
    (x0 : Vec F S512x256 .bf16) (x1 : Vec F S256x256 .bf16) (x2 : Vec F S256x128 .bf16) (x3 : Vec F S4096x256 .bf16) (x4 : Vec F S4096x128 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_mla_attn_lat i arg3 harg3 arg4 harg4 arg5 harg5 arg6 harg6 arg7 harg7 (Memref.whole main_arg5) (Memref.isWhole_whole _) arg9 harg9 arg10 harg10 arg11 harg11 arg12 harg12 arg13 harg13) K := by
    intro E K
    simp only [cc0_mla_attn_lat_eq_skeleton]; unfold cc0_mla_attn_lat_skel
    simp only [k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

/-! ## The pipeline's proof data -/

def forgets0 : Fin 6 → Bool := fun w => w.val == 5

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel4.Frame

end
-- ==== Proof.Mvals.Block.lean ====
module

public import proofs.«01_k».proof.Proof.Mla.Chunks
public import Idealize.ShloMosaic.Lib.Pointwise

@[expose] public section

set_option maxRecDepth 16384

noncomputable section

/-! The two passes of the attention block over the extended reals, read element by element. -/

namespace Cert.Kernel4Ideal.Vals

open Cert.Kernel4Ideal Cert.Kernel4Ideal.Gen Cert.Kernel4Ideal.Mla
open Idealize.ShloMosaic

variable (Q : Vec Ideal S512x256 .bf16) (X0 : Vec Ideal S256x256 .bf16) (X : Vec Ideal S4096x256 .bf16)

/-- The score of query row `R` and key `x` of block `j`. -/
def s (R : Fin 512) (j : ℕ) (x : Fin 256) : EReal := ∑ e : Fin 256, Q (ix2 R e) * chunk X0 X j (ix2 x e)

theorem sc_apply (j : ℕ) (R : Fin 512) (x : Fin 256) : sc Q X0 X j (ix3 0 R x) = s Q X0 X R j x := by
  pointwise [sc, s, k0_pay3, k0_pay2]

theorem ofBits_bot : Ideal.ofBits .f32 0xFF800000#32 = ⊥ := by
  simp [Ideal.ofBits, Ideal.ieee]

theorem mx_apply (n : ℕ) (R : Fin 512) (l : Fin 128) :
    mx Q X0 X n (ix2 R l) = (Finset.range n).sup fun j =>
      max (s Q X0 X R j ⟨l.val, by omega⟩) (s Q X0 X R j ⟨128 + l.val, by omega⟩) := by
  induction n with
  | zero => pointwise [mx, k0_pay51]; exact ofBits_bot
  | succ n ih =>
    rw [Finset.range_add_one, Finset.sup_insert, ← ih]
    pointwise [mx, k0_pay4, k0_pay2, s]
    rw [max_assoc, max_comm]

theorem pay59_apply (V : Vec Ideal S512x128 .f32) (R : Fin 512) (l : Fin 128) :
    k0_pay59 V (ix2 R l) = Finset.univ.sup fun l' : Fin 128 => (V (ix2 R l') : EReal) := by
  pointwise [k0_pay59]
  rw [ofBits_bot]
  rfl

/-- The exponential of a score less the row's maximum. -/
def p (M : Vec Ideal S512x128 .f32) (R : Fin 512) (j : ℕ) (x : Fin 256) : EReal :=
  Ideal.exp2 (s Q X0 X R j x - M (ix2 R 0))

theorem pay23_apply (M : Vec Ideal S512x128 .f32) (hM : ∀ R l, M (ix2 R l) = M (ix2 R 0)) (j : ℕ) (R : Fin 512) (x : Fin 256) :
    k0_pay23 M (sc Q X0 X j) (ix2 R x) = p Q X0 X M R j x := by
  pointwise [k0_pay23, p]
  split
  · next h =>
    rw [hM, sc_apply]; rfl
  · next h =>
    rw [hM, sc_apply]
    have e : (⟨128 + (x.val - 128), by omega⟩ : Fin 256) = x := Fin.ext (by show 128 + (x.val - 128) = x.val; omega)
    rw [e]; rfl

theorem lsum_apply (M : Vec Ideal S512x128 .f32) (hM : ∀ R l, M (ix2 R l) = M (ix2 R 0)) (n : ℕ) (R : Fin 512) (l : Fin 128) :
    lsum M (sc Q X0 X) n (ix2 R l) = ∑ j ∈ Finset.range n,
      (p Q X0 X M R j ⟨l.val, by omega⟩ + p Q X0 X M R j ⟨128 + l.val, by omega⟩) := by
  induction n with
  | zero => pointwise [lsum, k0_pay61, k0_pay60]; exact (Finset.sum_range_zero _).symm
  | succ n ih =>
    rw [Finset.sum_range_succ, ← ih, ← pay23_apply Q X0 X M hM, ← pay23_apply Q X0 X M hM]
    pointwise [lsum, k0_pay24]
    rw [add_assoc]

theorem acc_apply (M : Vec Ideal S512x128 .f32) (hM : ∀ R l, M (ix2 R l) = M (ix2 R 0)) (v : ℕ → Vec Ideal S256x128 .bf16)
    (n : ℕ) (R : Fin 512) (d : Fin 128) :
    acc M (sc Q X0 X) v n (ix2 R d) = ∑ j ∈ Finset.range n, ∑ x : Fin 256, p Q X0 X M R j x * v j (ix2 x d) := by
  induction n with
  | zero => pointwise [acc, k0_pay62]; exact (Finset.sum_range_zero _).symm
  | succ n ih =>
    rw [Finset.sum_range_succ, ← ih]
    simp only [← pay23_apply Q X0 X M hM]
    pointwise [acc, k0_pay25]

theorem pay1_apply (A L : Vec Ideal S512x128 .f32) (R : Fin 512) (d : Fin 128) :
    k0_pay1 A L (ix2 R d) = Ideal.div (A (ix2 R d)) (∑ l : Fin 128, L (ix2 R l)) := by
  pointwise [k0_pay1]

/-- The largest score of row `R`, as the kernel leaves it in every lane. -/
def M : Vec Ideal S512x128 .f32 := k0_pay59 (mx Q X0 X 17)

theorem M_lane (R : Fin 512) (l : Fin 128) : M Q X0 X (ix2 R l) = M Q X0 X (ix2 R 0) := by
  unfold M; rw [pay59_apply, pay59_apply]

/-- Every score of the row is at most the row's maximum. -/
theorem le_M (R : Fin 512) (j : ℕ) (hj : j < 17) (x : Fin 256) : s Q X0 X R j x ≤ M Q X0 X (ix2 R 0) := by
  unfold M; rw [pay59_apply]
  by_cases h : x.val < 128
  · refine le_trans ?_ (Finset.le_sup (Finset.mem_univ (⟨x.val, h⟩ : Fin 128)))
    rw [mx_apply]
    exact le_trans (le_max_left _ _) (Finset.le_sup (f := fun j => max (s Q X0 X R j ⟨x.val, _⟩) (s Q X0 X R j ⟨128 + x.val, by omega⟩)) (Finset.mem_range.2 hj))
  · refine le_trans ?_ (Finset.le_sup (Finset.mem_univ (⟨x.val - 128, by omega⟩ : Fin 128)))
    rw [mx_apply]
    have e : x = (⟨128 + (x.val - 128), by omega⟩ : Fin 256) := Fin.ext (by show x.val = 128 + (x.val - 128); omega)
    refine le_trans ?_ (Finset.le_sup (f := fun j => max (s Q X0 X R j ⟨x.val - 128, by omega⟩) (s Q X0 X R j ⟨128 + (x.val - 128), by omega⟩)) (Finset.mem_range.2 hj))
    exact le_trans (le_of_eq (congrArg _ e)) (le_max_right _ _)

/-- A bound of every score of the row bounds the row's maximum. -/
theorem M_le (R : Fin 512) (b : EReal) (h : ∀ j < 17, ∀ x, s Q X0 X R j x ≤ b) : M Q X0 X (ix2 R 0) ≤ b := by
  unfold M; rw [pay59_apply]
  refine Finset.sup_le fun l _ => ?_
  rw [mx_apply]
  exact Finset.sup_le fun j hj => max_le (h j (Finset.mem_range.1 hj) _) (h j (Finset.mem_range.1 hj) _)

/-- One element of the attention block: the weighted sum of the values over the sum of the weights, block by block of the keys. -/
theorem block_apply (v : ℕ → Vec Ideal S256x128 .bf16) (R : Fin 512) (d : Fin 128) :
    k0_pay1 (acc (M Q X0 X) (sc Q X0 X) v 17) (lsum (M Q X0 X) (sc Q X0 X) 17) (ix2 R d)
      = Ideal.div (∑ j ∈ Finset.range 17, ∑ x : Fin 256, p Q X0 X (M Q X0 X) R j x * v j (ix2 x d))
          (∑ j ∈ Finset.range 17, ∑ x : Fin 256, p Q X0 X (M Q X0 X) R j x) := by
  rw [pay1_apply, acc_apply Q X0 X _ (M_lane Q X0 X)]
  congr 1
  simp only [lsum_apply Q X0 X _ (M_lane Q X0 X)]
  rw [Finset.sum_comm]
  refine Finset.sum_congr rfl fun j _ => ?_
  rw [Finset.sum_add_distrib]
  exact (Fin.sum_univ_add (a := 128) (b := 128) fun x => p Q X0 X (M Q X0 X) R j x).symm

end Cert.Kernel4Ideal.Vals

end
-- ==== Proof.Mvals.Row.lean ====
module

public import Idealize.ShloMosaic.PureOps.Ideal
public import proofs.«01_k».proof.Proof.Vals.Row

@[expose] public section

noncomputable section

/-! One row of the attention over the extended reals: the kernel's two passes, with powers of two and one division at
the end, are the softmax of the scaled scores applied to the values. -/

namespace Cert.Row4

open Idealize.ShloMosaic
open Cert.Row (coe_sum sum_mul)

variable {ι : Type} [Fintype ι]

/-- The scale that the kernel multiplies the queries by. -/
def c : ℝ := (1 : ℝ) / (Real.sqrt 192 * Real.log 2)

theorem sqrt_pos : 0 < Real.sqrt 192 := Real.sqrt_pos.2 (by norm_num)
theorem log_pos : 0 < Real.log 2 := Real.log_pos (by norm_num)
theorem c_pos : 0 < c := div_pos one_pos (mul_pos sqrt_pos log_pos)

/-- A power of two of the kernel's score is the exponential of the reference's. -/
theorem exp2_eq (a b : ℝ) :
    Ideal.exp2 (((c * a : ℝ) : EReal) - ((c * b : ℝ) : EReal))
      = ((Real.exp ((a - b) / Real.sqrt 192) : ℝ) : EReal) := by
  rw [← EReal.coe_sub, Ideal.exp2_coe]
  congr 1
  show (2 : ℝ) ^ (c * a - c * b) = _
  rw [Real.rpow_def_of_pos (by norm_num)]
  congr 1
  unfold c
  have h1 := sqrt_pos.ne'
  have h2 := log_pos.ne'
  field_simp

/-- The reference's weight before it is divided by the sum. -/
theorem exp_eq (a b : ℝ) :
    Ideal.exp (Ideal.div (a : EReal) ((Real.sqrt 192 : ℝ) : EReal) - Ideal.div (b : EReal) ((Real.sqrt 192 : ℝ) : EReal))
      = ((Real.exp ((a - b) / Real.sqrt 192) : ℝ) : EReal) := by
  have h1 := sqrt_pos.ne'
  have h : ∀ x : ℝ, Ideal.div (x : EReal) ((Real.sqrt 192 : ℝ) : EReal) = ((x / Real.sqrt 192 : ℝ) : EReal) := by
    intro x
    unfold Ideal.div
    rw [if_neg (by exact_mod_cast h1), ← EReal.coe_inv, ← EReal.coe_mul, div_eq_mul_inv]
  rw [h, h, ← EReal.coe_sub, Ideal.exp_coe, sub_div]

/-- The row: `z` the products of the query with the keys, `w` a column of the values, `M` and `M'` the kernel's and the
reference's maximum of the scaled scores. -/
theorem row [Nonempty ι] (z : ι → ℝ) (w : ι → EReal) (M M' : EReal)
    (hM : ∀ i, ((c * z i : ℝ) : EReal) ≤ M) (hM1 : ∀ b, (∀ i, ((c * z i : ℝ) : EReal) ≤ b) → M ≤ b)
    (hM' : ∀ i, Ideal.div (z i : EReal) ((Real.sqrt 192 : ℝ) : EReal) ≤ M')
    (hM1' : ∀ b, (∀ i, Ideal.div (z i : EReal) ((Real.sqrt 192 : ℝ) : EReal) ≤ b) → M' ≤ b) :
    Ideal.div (∑ i, Ideal.exp2 (((c * z i : ℝ) : EReal) - M) * w i) (∑ i, Ideal.exp2 (((c * z i : ℝ) : EReal) - M))
      = ∑ i, w i * Ideal.div (Ideal.exp (Ideal.div (z i : EReal) ((Real.sqrt 192 : ℝ) : EReal) - M'))
          (∑ i, Ideal.exp (Ideal.div (z i : EReal) ((Real.sqrt 192 : ℝ) : EReal) - M')) := by
  obtain ⟨i0, h0⟩ := Finite.exists_max z
  have h1 := sqrt_pos.ne'
  have hd : ∀ x : ℝ, Ideal.div (x : EReal) ((Real.sqrt 192 : ℝ) : EReal) = ((x / Real.sqrt 192 : ℝ) : EReal) := by
    intro x
    unfold Ideal.div
    rw [if_neg (by exact_mod_cast h1), ← EReal.coe_inv, ← EReal.coe_mul, div_eq_mul_inv]
  have e1 : M = ((c * z i0 : ℝ) : EReal) :=
    le_antisymm (hM1 _ fun i => by exact_mod_cast mul_le_mul_of_nonneg_left (h0 i) c_pos.le) (hM i0)
  have e2 : M' = Ideal.div (z i0 : EReal) ((Real.sqrt 192 : ℝ) : EReal) :=
    le_antisymm (hM1' _ fun i => by
      rw [hd, hd]; exact_mod_cast div_le_div_of_nonneg_right (h0 i) sqrt_pos.le) (hM' i0)
  subst e1 e2
  simp only [exp2_eq, exp_eq]
  rw [← coe_sum]
  have hL : 0 < ∑ i, Real.exp ((z i - z i0) / Real.sqrt 192) :=
    Finset.sum_pos (fun i _ => Real.exp_pos _) Finset.univ_nonempty
  generalize (∑ i, Real.exp ((z i - z i0) / Real.sqrt 192)) = L at hL
  have hdL : ∀ x : EReal, Ideal.div x (L : EReal) = x * ((L⁻¹ : ℝ) : EReal) := by
    intro x
    unfold Ideal.div
    rw [if_neg (by exact_mod_cast hL.ne'), ← EReal.coe_inv]
  simp only [hdL]
  rw [sum_mul _ _ (inv_nonneg.2 hL.le)]
  refine Finset.sum_congr rfl fun i _ => ?_
  rw [mul_comm (w i), mul_assoc, mul_assoc, mul_comm (w i)]

end Cert.Row4

end
-- ==== Proof.Mvals.Out.lean ====
module

public import proofs.«01_k».proof.Proof.Mvals.Block
public import proofs.«01_k».proof.Proof.Mvals.Row
public import proofs.«01_k».proof.Proof.Mla.Body

@[expose] public section

set_option maxRecDepth 16384

noncomputable section

/-! The output block of one grid point is the softmax attention of its query block, element by element. -/

namespace Cert.Kernel4Ideal.Vals

open Cert.Kernel4Ideal Cert.Kernel4Ideal.Gen Cert.Kernel4Ideal.Mla
open Idealize.ShloMosaic

theorem qOf_apply (x0 : Vec Ideal S512x256 .bf16) (a : Fin 512) (e : Fin 256) : qOf x0 (ix2 a e) = x0 (ix2 a e) := by
  pointwise [qOf, k0_pay50]

/-- A sum over the seventeen blocks of 256 keys is the sum over the 4352 keys. -/
theorem sum_blocks (f : ℕ → Fin 256 → EReal) (F : Fin 4352 → EReal)
    (h : ∀ (j : Fin 17) (x : Fin 256), f j.val x = F ⟨256 * j.val + x.val, by omega⟩) :
    ∑ j ∈ Finset.range 17, ∑ x, f j x = ∑ n, F n := by
  rw [Finset.sum_range, ← Fintype.sum_prod_type' (f := fun (j : Fin 17) (x : Fin 256) => f j.val x)]
  let e : Fin 17 × Fin 256 ≃ Fin 4352 :=
    { toFun := fun y => ⟨256 * y.1.val + y.2.val, by omega⟩
      invFun := fun n => (⟨n.val / 256, by omega⟩, ⟨n.val % 256, Nat.mod_lt _ (by decide)⟩)
      left_inv := fun y => Prod.ext (Fin.ext (by show (256 * y.1.val + y.2.val) / 256 = y.1.val; omega))
        (Fin.ext (by show (256 * y.1.val + y.2.val) % 256 = y.2.val; omega))
      right_inv := fun n => Fin.ext (by show 256 * (n.val / 256) + n.val % 256 = n.val; omega) }
  exact Fintype.sum_equiv e _ _ fun y => h y.1 y.2

/-- One element of the output block, where the query row and the keys are real numbers: the softmax of the row's scores, over all
the keys, applied to the values. -/
theorem out_row (x0 : Vec Ideal S512x256 .bf16) (x1 : Vec Ideal S256x256 .bf16) (x2 : Vec Ideal S256x128 .bf16) (x3 : Vec Ideal S4096x256 .bf16) (x4 : Vec Ideal S4096x128 .bf16)
    (a : Fin 512) (d : Fin 128) (q : Fin 256 → ℝ) (k : Fin 4352 → Fin 256 → ℝ) (w : Fin 4352 → EReal) (M' : EReal)
    (hq : ∀ e : Fin 256, x0 (ix2 a e) = ((q e * Row4.c : ℝ) : EReal))
    (hk : ∀ (j : Fin 17) (x : Fin 256) (e : Fin 256), chunk x1 x3 j.val (ix2 x e) = (k ⟨256 * j.val + x.val, by omega⟩ e : EReal))
    (hw : ∀ (j : Fin 17) (x : Fin 256), vchunk x2 x4 j.val (ix2 x d) = w ⟨256 * j.val + x.val, by omega⟩)
    (hM' : ∀ n, Ideal.div ((∑ e, q e * k n e : ℝ) : EReal) ((Real.sqrt 192 : ℝ) : EReal) ≤ M')
    (hM1' : ∀ b, (∀ n, Ideal.div ((∑ e, q e * k n e : ℝ) : EReal) ((Real.sqrt 192 : ℝ) : EReal) ≤ b) → M' ≤ b) :
    outOf x0 x1 x2 x3 x4 (ix2 a d)
      = ∑ n, w n * Ideal.div (Ideal.exp (Ideal.div ((∑ e, q e * k n e : ℝ) : EReal) ((Real.sqrt 192 : ℝ) : EReal) - M'))
          (∑ n, Ideal.exp (Ideal.div ((∑ e, q e * k n e : ℝ) : EReal) ((Real.sqrt 192 : ℝ) : EReal) - M')) := by
  unfold outOf accOf lsOf
  have hs : ∀ (j : Fin 17) (x : Fin 256), s (qOf x0) x1 x3 a j.val x
      = ((Row4.c * ∑ e, q e * k ⟨256 * j.val + x.val, by omega⟩ e : ℝ) : EReal) := by
    intro j x
    unfold s
    rw [Finset.mul_sum, Row.coe_sum]
    refine Finset.sum_congr rfl fun e _ => ?_
    rw [qOf_apply, hq, hk, ← EReal.coe_mul]
    congr 1; ring
  have hn : ∀ n : Fin 4352, ∃ (j : Fin 17) (x : Fin 256), n = ⟨256 * j.val + x.val, by omega⟩ := fun n =>
    ⟨⟨n.val / 256, by omega⟩, ⟨n.val % 256, Nat.mod_lt _ (by decide)⟩, Fin.ext (by show n.val = 256 * (n.val / 256) + n.val % 256; omega)⟩
  refine (block_apply (qOf x0) x1 x3 (vchunk x2 x4) a d).trans ?_
  rw [← Row4.row (ι := Fin 4352) (fun n => ∑ e, q e * k n e) w (M (qOf x0) x1 x3 (ix2 a 0)) M' ?_ ?_ hM' hM1']
  · refine congrArg₂ Ideal.div (sum_blocks _ _ fun j x => ?_) (sum_blocks _ _ fun j x => ?_)
    · unfold p
      rw [hs, hw]
    · unfold p
      rw [hs]
  · intro n
    obtain ⟨j, x, rfl⟩ := hn n
    rw [← hs]
    exact le_M _ _ _ _ _ j.isLt _
  · intro b hb
    refine M_le _ _ _ _ b fun j hj x => ?_
    exact (hs ⟨j, hj⟩ x).trans_le (hb _)

end Cert.Kernel4Ideal.Vals

end
-- ==== Proof.Mvals.Entry.lean ====
module

public import proofs.«01_k».proof.Proof.Mvals.Out
public import proofs.«01_k».proof.Proof.Mla.Run
public import Idealize.ShloMosaic.Lib.Claim
public import Idealize.ShloMosaic.Lib.Pipeline.ValueKit

@[expose] public section

set_option maxRecDepth 16384

noncomputable section

/-! The arrays that the attention call reads, as the host leaves them, and the blocks of them at a grid point. -/

namespace Cert.Kernel4Ideal.Vals

open Cert.Kernel4Ideal Cert.Kernel4Ideal.Gen Cert.Kernel4Ideal.Mla
open Idealize.ShloMosaic Idealize.ShloMosaic.TcCoe

variable (m : (ℓ : Loc nD τ sig) → Buf (Elt Ideal) ℓ) (c : Dev nD)

/-- The arguments, as arrays. -/
def aQ : Vec Ideal S16384x12x192 .f32 := m ((c.tc : Thread nD τ).loc main_arg0)
def aK : Vec Ideal S16384x12x192 .f32 := m ((c.tc : Thread nD τ).loc main_arg1)
def aV : Vec Ideal S16384x12x128 .f32 := m ((c.tc : Thread nD τ).loc main_arg2)
def aCK : Vec Ideal S2x256x12x192 .f32 := m ((c.tc : Thread nD τ).loc main_arg3)
def aCV : Vec Ideal S2x256x12x128 .f32 := m ((c.tc : Thread nD τ).loc main_arg4)

/-- The scale, as the host computes it. -/
def scale : EReal :=
  Ideal.div (Ideal.ofBits .f32 0x3F800000#32) (Ideal.sqrt (Ideal.ofBits .f32 0x43400000#32) * Ideal.log (Ideal.ofBits .f32 0x40000000#32))

theorem scale_eq : scale = ((Row4.c : ℝ) : EReal) := by
  have h1 : Ideal.ofBits .f32 0x3F800000#32 = ((1 : ℝ) : EReal) := by
    simp [Ideal.ofBits, Ideal.ieee]
    rw [← EReal.coe_mul]
    norm_num
  have h2 : Ideal.ofBits .f32 0x43400000#32 = ((192 : ℝ) : EReal) := by
    simp [Ideal.ofBits, Ideal.ieee]
    rw [← EReal.coe_mul]
    norm_num
  have h3 : Ideal.ofBits .f32 0x40000000#32 = ((2 : ℝ) : EReal) := by
    simp [Ideal.ofBits, Ideal.ieee]
    rw [← EReal.coe_mul]
    norm_num
  have h4 : (Real.sqrt 192 * Real.log 2) ≠ 0 := (mul_pos Row4.sqrt_pos Row4.log_pos).ne'
  unfold scale
  rw [h1, h2, h3, Ideal.sqrt_coe, Ideal.log_coe, if_neg (by norm_num), if_neg (by norm_num), ← EReal.coe_mul]
  unfold Ideal.div
  rw [if_neg (by exact_mod_cast h4), ← EReal.coe_inv, ← EReal.coe_mul]
  unfold Row4.c
  rw [one_mul, one_div]

/-- The columns that the host pads with zeros. -/
theorem pad_rows {n : ℕ} (x : FVec Ideal ⟨3, ![n, 12, 192]⟩ .f32)
    (h : Shape.Pads ⟨3, ![n, 12, 192]⟩ (![0, 0, 0] : Fin 3 → Nat) ![0, 0, 64] ![0, 0, 0] ⟨3, ![n, 12, 256]⟩) (hu : 0 < S_.numel)
    (a : Fin n) (b : Fin 12) (e : Fin 256) :
    pad ⟨3, ![n, 12, 256]⟩ ![0, 0, 0] ![0, 0, 64] ![0, 0, 0] x (sitofp (F := Ideal) .f32 (constantI S_ 32 0#32)) h hu (ix3 a b e)
      = if he : e.val < 192 then x (ix3 a b ⟨e.val, he⟩) else (0 : EReal) := by
  pointwise []
  split
  · next he =>
    refine congrArg x (funext fun k => Fin.ext ?_)
    match k with
    | 0 => show (a.val - 0) / (0 + 1) = a.val; omega
    | 1 => show (b.val - 0) / (0 + 1) = b.val; omega
    | 2 => show (e.val - 0) / (0 + 1) = e.val; omega
  · show ((((0#32 : BitVec 32).toInt : ℝ)) : EReal) = 0
    simp

theorem entry_q (i : S16384x3072.Idx) :
    (V m c main_v8 : Vec Ideal S16384x3072 .bf16) i
      = (if h : (i 1).val % 256 < 192 then (aQ m c (ix3 (i 0) ⟨(i 1).val / 256, by have : (i 1).val < 3072 := (i 1).isLt; omega⟩ ⟨(i 1).val % 256, h⟩) : EReal) else 0) * scale := by
  show V m c main_v8 i = _
  simp only [V, hostOps0, hostOps0_1, hostOps0_2, hostOps0_3, hostOps0_4, hostOps0_5, hostOps0_6, List.flatten_cons, List.flatten_nil, List.append_nil, List.cons_append, List.nil_append]
  entry_read
  pointwise [aQ, scale]
  exact congrArg₂ (fun a b : EReal => a * b) (pad_rows (aQ m c) pads_S16384x12x192_S16384x12x256_000_000_0640 h_S_ (i 0) ⟨(i 1).val / 256, by have : (i 1).val < 3072 := (i 1).isLt; omega⟩ ⟨(i 1).val % 256, Nat.mod_lt _ (by decide)⟩) rfl

theorem entry_ck (i : S512x3072.Idx) :
    (V m c main_v12 : Vec Ideal S512x3072 .bf16) i
      = if h : (i 1).val % 256 < 192 then aCK m c (ix4 ⟨(i 0).val / 256, by have : (i 0).val < 512 := (i 0).isLt; omega⟩ ⟨(i 0).val % 256, Nat.mod_lt _ (by decide)⟩
         ⟨(i 1).val / 256, by have : (i 1).val < 3072 := (i 1).isLt; omega⟩ ⟨(i 1).val % 256, h⟩) else (0 : EReal) := by
  show V m c main_v12 i = _
  simp only [V, hostOps0, hostOps0_1, hostOps0_2, hostOps0_3, hostOps0_4, hostOps0_5, hostOps0_6, List.flatten_cons, List.flatten_nil, List.append_nil, List.cons_append, List.nil_append]
  entry_read
  pointwise [aCK]
  exact pad_rows (fun j : S512x12x192.Idx => aCK m c (ix4 ⟨(j 0).val / 256, by have : (j 0).val < 512 := (j 0).isLt; omega⟩ ⟨(j 0).val % 256, Nat.mod_lt _ (by decide)⟩ (j 1) (j 2)))
    pads_S512x12x192_S512x12x256_000_000_0640 h_S_ (i 0) ⟨(i 1).val / 256, by have : (i 1).val < 3072 := (i 1).isLt; omega⟩ ⟨(i 1).val % 256, Nat.mod_lt _ (by decide)⟩

theorem entry_cv (i : S512x1536.Idx) :
    (V m c main_v14 : Vec Ideal S512x1536 .bf16) i
      = aCV m c (ix4 ⟨(i 0).val / 256, by have : (i 0).val < 512 := (i 0).isLt; omega⟩ ⟨(i 0).val % 256, Nat.mod_lt _ (by decide)⟩
         ⟨(i 1).val / 128, by have : (i 1).val < 1536 := (i 1).isLt; omega⟩ ⟨(i 1).val % 128, Nat.mod_lt _ (by decide)⟩) := by
  show V m c main_v14 i = _
  simp only [V, hostOps0, hostOps0_1, hostOps0_2, hostOps0_3, hostOps0_4, hostOps0_5, hostOps0_6, List.flatten_cons, List.flatten_nil, List.append_nil, List.cons_append, List.nil_append]
  entry_read
  pointwise [aCV]
  try rfl

theorem entry_k (i : S16384x3072.Idx) :
    (V m c main_v17 : Vec Ideal S16384x3072 .bf16) i
      = if h : (i 1).val % 256 < 192 then aK m c (ix3 (i 0) ⟨(i 1).val / 256, by have : (i 1).val < 3072 := (i 1).isLt; omega⟩ ⟨(i 1).val % 256, h⟩) else (0 : EReal) := by
  show V m c main_v17 i = _
  simp only [V, hostOps0, hostOps0_1, hostOps0_2, hostOps0_3, hostOps0_4, hostOps0_5, hostOps0_6, List.flatten_cons, List.flatten_nil, List.append_nil, List.cons_append, List.nil_append]
  entry_read
  pointwise [aK]
  exact pad_rows (aK m c) pads_S16384x12x192_S16384x12x256_000_000_0640 h_S_ (i 0) ⟨(i 1).val / 256, by have : (i 1).val < 3072 := (i 1).isLt; omega⟩ ⟨(i 1).val % 256, Nat.mod_lt _ (by decide)⟩

theorem entry_v (i : S16384x1536.Idx) :
    (V m c main_v19 : Vec Ideal S16384x1536 .bf16) i
      = aV m c (ix3 (i 0) ⟨(i 1).val / 128, by have : (i 1).val < 1536 := (i 1).isLt; omega⟩ ⟨(i 1).val % 128, Nat.mod_lt _ (by decide)⟩) := by
  show V m c main_v19 i = _
  simp only [V, hostOps0, hostOps0_1, hostOps0_2, hostOps0_3, hostOps0_4, hostOps0_5, hostOps0_6, List.flatten_cons, List.flatten_nil, List.append_nil, List.cons_append, List.nil_append]
  entry_read
  pointwise [aV]
  try rfl

theorem entry_o : V m c main_v20 = m ((c.tc : Thread nD τ).loc main_arg5) := by
  simp only [V, hostOps0, hostOps0_1, hostOps0_2, hostOps0_3, hostOps0_4, hostOps0_5, hostOps0_6, List.flatten_cons, List.flatten_nil, List.append_nil, List.cons_append, List.nil_append]
  entry_read
  rfl

/-! The blocks at a grid point: their rows and columns in the arrays. -/

theorem idx0 : ∀ t : Fin cfg0.N, win0_0.index t = ![16 + 8 * (grid0.coords t 0).val + (grid0.coords t 2).val, (grid0.coords t 1).val] := by
  decide +kernel
theorem idx1 : ∀ t : Fin cfg0.N, win0_1.index t = ![(grid0.coords t 0).val, (grid0.coords t 1).val] := by
  decide +kernel
theorem idx2 : ∀ t : Fin cfg0.N, win0_2.index t = ![(grid0.coords t 0).val, (grid0.coords t 1).val] := by
  decide +kernel
theorem idx3 : ∀ t : Fin cfg0.N, win0_3.index t = ![2 + (grid0.coords t 0).val, (grid0.coords t 1).val] := by
  decide +kernel
theorem idx4 : ∀ t : Fin cfg0.N, win0_4.index t = ![2 + (grid0.coords t 0).val, (grid0.coords t 1).val] := by
  decide +kernel
theorem idx5 : ∀ t : Fin cfg0.N, win0_5.index t = ![16 + 8 * (grid0.coords t 0).val + (grid0.coords t 2).val, (grid0.coords t 1).val] := by
  decide +kernel

theorem iblk_q (t : Fin cfg0.N) (y : S512x256.Idx) : ∃ i : S16384x3072.Idx,
    (i 0).val = (16 + 8 * (grid0.coords t 0).val + (grid0.coords t 2).val) * 512 + (y 0).val ∧
    (i 1).val = (grid0.coords t 1).val * 256 + (y 1).val ∧ iblk m c 0 t y = V m c main_v8 i := by
  refine ⟨(win0_0.blk t).view.emb y, ?_, ?_, rfl⟩
  · blk_simp [idx0]
  · blk_simp [idx0]

theorem iblk_ck (t : Fin cfg0.N) (y : S256x256.Idx) : ∃ i : S512x3072.Idx,
    (i 0).val = (grid0.coords t 0).val * 256 + (y 0).val ∧
    (i 1).val = (grid0.coords t 1).val * 256 + (y 1).val ∧ iblk m c 1 t y = V m c main_v12 i := by
  refine ⟨(win0_1.blk t).view.emb y, ?_, ?_, rfl⟩
  · blk_simp [idx1]
  · blk_simp [idx1]

theorem iblk_cv (t : Fin cfg0.N) (y : S256x128.Idx) : ∃ i : S512x1536.Idx,
    (i 0).val = (grid0.coords t 0).val * 256 + (y 0).val ∧
    (i 1).val = (grid0.coords t 1).val * 128 + (y 1).val ∧ iblk m c 2 t y = V m c main_v14 i := by
  refine ⟨(win0_2.blk t).view.emb y, ?_, ?_, rfl⟩
  · blk_simp [idx2]
  · blk_simp [idx2]

theorem iblk_k (t : Fin cfg0.N) (y : S4096x256.Idx) : ∃ i : S16384x3072.Idx,
    (i 0).val = (2 + (grid0.coords t 0).val) * 4096 + (y 0).val ∧
    (i 1).val = (grid0.coords t 1).val * 256 + (y 1).val ∧ iblk m c 3 t y = V m c main_v17 i := by
  refine ⟨(win0_3.blk t).view.emb y, ?_, ?_, rfl⟩
  · blk_simp [idx3]
  · blk_simp [idx3]

theorem iblk_v (t : Fin cfg0.N) (y : S4096x128.Idx) : ∃ i : S16384x1536.Idx,
    (i 0).val = (2 + (grid0.coords t 0).val) * 4096 + (y 0).val ∧
    (i 1).val = (grid0.coords t 1).val * 128 + (y 1).val ∧ iblk m c 4 t y = V m c main_v19 i := by
  refine ⟨(win0_4.blk t).view.emb y, ?_, ?_, rfl⟩
  · blk_simp [idx4]
  · blk_simp [idx4]

end Cert.Kernel4Ideal.Vals

end
-- ==== Proof.Mvals.Spec.lean ====
module

public import Idealize.ShloMosaic.PureOps.Ideal
public import Idealize.ShloMosaic.Lib.Pointwise
public import proofs.«01_k».proof.Proof.Mvals.Row

@[expose] public section

set_option maxRecDepth 16384

noncomputable section

/-! The attention of a query over the context and the latent keys, over the extended reals. -/

namespace Cert.Spec4

open Idealize.ShloMosaic

variable (Q K : FVec Ideal ⟨3, ![16384, 12, 192]⟩ .f32) (V : FVec Ideal ⟨3, ![16384, 12, 128]⟩ .f32)
  (CK : FVec Ideal ⟨4, ![2, 256, 12, 192]⟩ .f32) (CV : FVec Ideal ⟨4, ![2, 256, 12, 128]⟩ .f32) (b : Fin 2) (h : Fin 12) (i : Fin 4096)

/-- Row `n` of the 4352 keys of image `b` and head `h`: the context's 256, then the latent's 4096. -/
def row (n : Fin 4352) (e : Fin 192) : EReal :=
  if hn : n.val < 256 then CK (ix4 b ⟨n.val, hn⟩ h e) else K (ix3 ⟨8192 + (b.val * 4096 + (n.val - 256)), by omega⟩ h e)

/-- Row `n` of the 4352 values of image `b` and head `h`: the context's 256, then the latent's 4096. -/
def vrow (n : Fin 4352) (d : Fin 128) : EReal :=
  if hn : n.val < 256 then CV (ix4 b ⟨n.val, hn⟩ h d) else V (ix3 ⟨8192 + (b.val * 4096 + (n.val - 256)), by omega⟩ h d)

/-- The scaled score of a query and key `n`. -/
def score (n : Fin 4352) : EReal :=
  Ideal.div (∑ e : Fin 192, row K CK b h n e * (Q (ix3 ⟨8192 + (b.val * 4096 + i.val), by omega⟩ h e) : EReal))
    ((Real.sqrt 192 : ℝ) : EReal)

/-- The exponential of a score less the largest. -/
def weight (n : Fin 4352) : EReal :=
  Ideal.exp (score Q K CK b h i n - Finset.univ.sup fun n => score Q K CK b h i n)

/-- The softmax of the scores, applied to the values. -/
def att (d : Fin 128) : EReal :=
  ∑ n : Fin 4352, vrow V CV b h n d * Ideal.div (weight Q K CK b h i n) (∑ n : Fin 4352, weight Q K CK b h i n)

end Cert.Spec4

end
-- ==== Proof.Mvals.Array.lean ====
module

public import proofs.«01_k».proof.Proof.Mvals.Entry
public import proofs.«01_k».proof.Proof.Mvals.Spec

@[expose] public section

set_option maxRecDepth 16384

noncomputable section

/-! The array the attention call leaves: the attention on the latent rows, the old contents on the others. -/

namespace Cert.Kernel4Ideal.Vals

open Cert.Kernel4Ideal Cert.Kernel4Ideal.Gen Cert.Kernel4Ideal.Mla
open Idealize.ShloMosaic Idealize.ShloMosaic.TcCoe

variable (m : (ℓ : Loc nD τ sig) → Buf (Elt Ideal) ℓ) (c : Dev nD)

/-- The image, the head and the query block of a grid point. -/
def pb (t : Fin cfg0.N) : Fin 2 := ⟨(grid0.coords t 0).val, (grid0.coords t 0).isLt⟩
def ph (t : Fin cfg0.N) : Fin 12 := ⟨(grid0.coords t 1).val, (grid0.coords t 1).isLt⟩
def pi (t : Fin cfg0.N) : Fin 8 := ⟨(grid0.coords t 2).val, (grid0.coords t 2).isLt⟩

theorem blk_q (t : Fin cfg0.N) (a : Fin 512) (e : Fin 256) :
    (iblk m c 0 t : Vec Ideal S512x256 .bf16) (ix2 a e)
      = (if he : e.val < 192 then (aQ m c (ix3 ⟨8192 + ((pb t).val * 4096 + ((pi t).val * 512 + a.val)), by omega⟩ (ph t) ⟨e.val, he⟩) : EReal) else 0) * scale := by
  obtain ⟨i, h0, h1, hi⟩ := iblk_q m c t (ix2 a e)
  have h0' : (i 0).val = (16 + 8 * (pb t).val + (pi t).val) * 512 + a.val := h0
  have h1' : (i 1).val = (ph t).val * 256 + e.val := h1
  have hm : (i 1).val % 256 = e.val := by omega
  refine hi.trans ((entry_q m c i).trans ?_)
  refine congrArg (fun z : EReal => z * scale) ?_
  by_cases he : e.val < 192
  · rw [dif_pos he, dif_pos (by omega)]
    refine congrArg (aQ m c) (congr (congrArg₂ ix3 (Fin.ext ?_) (Fin.ext ?_)) (Fin.ext hm))
    · show (i 0).val = 8192 + ((pb t).val * 4096 + ((pi t).val * 512 + a.val)); omega
    · show (i 1).val / 256 = (ph t).val; omega
  · rw [dif_neg he, dif_neg (by omega)]

theorem chunk_k (t : Fin cfg0.N) (j : Fin 17) (x e : Fin 256) :
    chunk (iblk m c 1 t : Vec Ideal S256x256 .bf16) (iblk m c 3 t : Vec Ideal S4096x256 .bf16) j.val (ix2 x e)
      = if he : e.val < 192 then Spec4.row (aK m c) (aCK m c) (pb t) (ph t) ⟨256 * j.val + x.val, by omega⟩ ⟨e.val, he⟩ else (0 : EReal) := by
  unfold chunk Spec4.row
  by_cases hj : j.val = 0
  · rw [if_pos hj]
    obtain ⟨i, h0, h1, hi⟩ := iblk_ck m c t (ix2 x e)
    have h0' : (i 0).val = (pb t).val * 256 + x.val := h0
    have h1' : (i 1).val = (ph t).val * 256 + e.val := h1
    have hm : (i 1).val % 256 = e.val := by omega
    refine hi.trans ((entry_ck m c i).trans ?_)
    by_cases he : e.val < 192
    · rw [dif_pos he, dif_pos (by omega), dif_pos (by show 256 * j.val + x.val < 256; omega)]
      refine congrArg (aCK m c) (congr (congr (congrArg₂ ix4 (Fin.ext ?_) (Fin.ext ?_)) (Fin.ext ?_)) (Fin.ext hm))
      · show (i 0).val / 256 = (pb t).val; omega
      · show (i 0).val % 256 = 256 * j.val + x.val; omega
      · show (i 1).val / 256 = (ph t).val; omega
    · rw [dif_neg he, dif_neg (by omega)]
  · rw [if_neg hj]
    obtain ⟨i, h0, h1, hi⟩ := iblk_k m c t (fun a => ⟨((![256 * (j.val - 1), 0] : Fin 2 → ℕ) a + (ix2 x e a).val) % S4096x256.size a,
      Nat.mod_lt _ (by match a with | 0 => decide | 1 => decide)⟩)
    have h0' : (i 0).val = (2 + (pb t).val) * 4096 + (256 * (j.val - 1) + x.val) % 4096 := h0
    have h1' : (i 1).val = (ph t).val * 256 + (0 + e.val) % 256 := h1
    have hm : (i 1).val % 256 = e.val := by omega
    refine hi.trans ((entry_k m c i).trans ?_)
    by_cases he : e.val < 192
    · rw [dif_pos he, dif_pos (by omega), dif_neg (by show ¬ 256 * j.val + x.val < 256; omega)]
      refine congrArg (aK m c) (congr (congrArg₂ ix3 (Fin.ext ?_) (Fin.ext ?_)) (Fin.ext hm))
      · show (i 0).val = 8192 + ((pb t).val * 4096 + (256 * j.val + x.val - 256)); omega
      · show (i 1).val / 256 = (ph t).val; omega
    · rw [dif_neg he, dif_neg (by omega)]

theorem chunk_v (t : Fin cfg0.N) (j : Fin 17) (x : Fin 256) (e : Fin 128) :
    vchunk (iblk m c 2 t : Vec Ideal S256x128 .bf16) (iblk m c 4 t : Vec Ideal S4096x128 .bf16) j.val (ix2 x e)
      = Spec4.vrow (aV m c) (aCV m c) (pb t) (ph t) ⟨256 * j.val + x.val, by omega⟩ e := by
  unfold vchunk Spec4.vrow
  by_cases hj : j.val = 0
  · rw [if_pos hj, dif_pos (by show 256 * j.val + x.val < 256; omega)]
    obtain ⟨i, h0, h1, hi⟩ := iblk_cv m c t (ix2 x e)
    have h0' : (i 0).val = (pb t).val * 256 + x.val := h0
    have h1' : (i 1).val = (ph t).val * 128 + e.val := h1
    refine hi.trans ((entry_cv m c i).trans ?_)
    refine congrArg (aCV m c) (congr (congr (congrArg₂ ix4 (Fin.ext ?_) (Fin.ext ?_)) (Fin.ext ?_)) (Fin.ext ?_))
    · show (i 0).val / 256 = (pb t).val; omega
    · show (i 0).val % 256 = 256 * j.val + x.val; omega
    · show (i 1).val / 128 = (ph t).val; omega
    · show (i 1).val % 128 = e.val; omega
  · rw [if_neg hj, dif_neg (by show ¬ 256 * j.val + x.val < 256; omega)]
    obtain ⟨i, h0, h1, hi⟩ := iblk_v m c t (fun a => ⟨((![256 * (j.val - 1), 0] : Fin 2 → ℕ) a + (ix2 x e a).val) % S4096x128.size a,
      Nat.mod_lt _ (by match a with | 0 => decide | 1 => decide)⟩)
    have h0' : (i 0).val = (2 + (pb t).val) * 4096 + (256 * (j.val - 1) + x.val) % 4096 := h0
    have h1' : (i 1).val = (ph t).val * 128 + (0 + e.val) % 128 := h1
    refine hi.trans ((entry_v m c i).trans ?_)
    refine congrArg (aV m c) (congr (congrArg₂ ix3 (Fin.ext ?_) (Fin.ext ?_)) (Fin.ext ?_))
    · show (i 0).val = 8192 + ((pb t).val * 4096 + (256 * j.val + x.val - 256)); omega
    · show (i 1).val / 128 = (ph t).val; omega
    · show (i 1).val % 128 = e.val; omega

/-- The queries and the keys are real numbers. -/
def AllReal : Prop := (∀ i, ∃ r : ℝ, (aQ m c i : EReal) = r) ∧ (∀ i, ∃ r : ℝ, (aK m c i : EReal) = r) ∧ (∀ i, ∃ r : ℝ, (aCK m c i : EReal) = r)

theorem row_real (hf : AllReal m c) (b : Fin 2) (h : Fin 12) (n : Fin 4352) (e : Fin 192) : ∃ r : ℝ, Spec4.row (aK m c) (aCK m c) b h n e = r := by
  unfold Spec4.row
  split
  · exact hf.2.2 _
  · exact hf.2.1 _

/-- A row of 192 numbers, followed by 64 zeros. -/
def wide (f : Fin 192 → ℝ) (e : Fin 256) : ℝ := if he : e.val < 192 then f ⟨e.val, he⟩ else 0

theorem wide_sum (f k : Fin 192 → ℝ) : ∑ e, wide f e * wide k e = ∑ e, f e * k e := by
  rw [Fin.sum_univ_add (a := 192) (b := 64) fun e : Fin 256 => wide f e * wide k e]
  have h2 : ∑ i : Fin 64, wide f (Fin.natAdd 192 i) * wide k (Fin.natAdd 192 i) = 0 := by
    refine Finset.sum_eq_zero fun i _ => ?_
    unfold wide
    rw [dif_neg (by show ¬ 192 + i.val < 192; omega), zero_mul]
  rw [h2, add_zero]
  refine Finset.sum_congr rfl fun e _ => ?_
  unfold wide
  rw [dif_pos (show (Fin.castAdd 64 e).val < 192 from e.isLt), dif_pos (show (Fin.castAdd 64 e).val < 192 from e.isLt)]
  rfl

/-- The output block of a grid point is the attention of its queries. -/
theorem out_point (hf : AllReal m c) (t : Fin cfg0.N) (a : Fin 512) (d : Fin 128) :
    outOf (iblk m c 0 t : Vec Ideal S512x256 .bf16) (iblk m c 1 t : Vec Ideal S256x256 .bf16) (iblk m c 2 t : Vec Ideal S256x128 .bf16)
        (iblk m c 3 t : Vec Ideal S4096x256 .bf16) (iblk m c 4 t : Vec Ideal S4096x128 .bf16) (ix2 a d)
      = Spec4.att (aQ m c) (aK m c) (aV m c) (aCK m c) (aCV m c) (pb t) (ph t) ⟨(pi t).val * 512 + a.val, by omega⟩ d := by
  choose q hq using fun e : Fin 192 => hf.1 (ix3 ⟨8192 + ((pb t).val * 4096 + ((pi t).val * 512 + a.val)), by omega⟩ (ph t) e)
  choose k hk using fun (n : Fin 4352) (e : Fin 192) => row_real m c hf (pb t) (ph t) n e
  have hs : ∀ n, Spec4.score (aQ m c) (aK m c) (aCK m c) (pb t) (ph t) ⟨(pi t).val * 512 + a.val, by omega⟩ n
      = Ideal.div ((∑ e, q e * k n e : ℝ) : EReal) ((Real.sqrt 192 : ℝ) : EReal) := by
    intro n
    unfold Spec4.score
    rw [Row.coe_sum]
    refine congrArg (Ideal.div · _) (Finset.sum_congr rfl fun e _ => ?_)
    rw [hk, hq, ← EReal.coe_mul, mul_comm]
  have hw : ∀ n, ∑ e, q e * k n e = ∑ e, wide q e * wide (k n) e := fun n => (wide_sum q (k n)).symm
  simp only [hw] at hs
  rw [out_row _ _ _ _ _ a d (wide q) (fun n => wide (k n)) (fun n => Spec4.vrow (aV m c) (aCV m c) (pb t) (ph t) n d)
    (Finset.univ.sup fun n => Spec4.score (aQ m c) (aK m c) (aCK m c) (pb t) (ph t) ⟨(pi t).val * 512 + a.val, by omega⟩ n)
    (fun e => by
      rw [blk_q, scale_eq]; unfold wide; split
      · rw [hq, ← EReal.coe_mul]
      · simp) (fun j x e => by
      rw [chunk_k]; unfold wide; split
      · rw [hk]
      · simp) (fun j x => chunk_v m c t j x d)
    (fun n => by rw [← hs]; exact Finset.le_sup (f := fun n => Spec4.score (aQ m c) (aK m c) (aCK m c) (pb t) (ph t) ⟨(pi t).val * 512 + a.val, by omega⟩ n) (Finset.mem_univ n))
    (fun b hb => Finset.sup_le fun n _ => by rw [hs]; exact hb n)]
  unfold Spec4.att Spec4.weight
  simp only [← hs]

/-- The attention, by its place in the array. -/
def attArr : Vec Ideal S16384x1536 .bf16 := fun i =>
  Spec4.att (aQ m c) (aK m c) (aV m c) (aCK m c) (aCV m c)
    ⟨((i 0).val - 8192) / 4096, by have : (i 0).val < 16384 := (i 0).isLt; omega⟩
    ⟨(i 1).val / 128, by have : (i 1).val < 1536 := (i 1).isLt; omega⟩
    ⟨((i 0).val - 8192) % 4096, Nat.mod_lt _ (by decide)⟩
    ⟨(i 1).val % 128, Nat.mod_lt _ (by decide)⟩

theorem att_congr {b b' : Fin 2} {h h' : Fin 12} {i i' : Fin 4096} {d d' : Fin 128} (e1 : b.val = b'.val) (e2 : h.val = h'.val)
    (e4 : i.val = i'.val) (e5 : d.val = d'.val) :
    Spec4.att (aQ m c) (aK m c) (aV m c) (aCK m c) (aCV m c) b h i d = Spec4.att (aQ m c) (aK m c) (aV m c) (aCK m c) (aCV m c) b' h' i' d' := by
  obtain rfl := Fin.ext e1; obtain rfl := Fin.ext e2; obtain rfl := Fin.ext e4; obtain rfl := Fin.ext e5
  rfl

theorem out_block (hf : AllReal m c) (t : Fin cfg0.N) (y : S512x128.Idx) (i : S16384x1536.Idx)
    (h0 : (i 0).val = (16 + 8 * (pb t).val + (pi t).val) * 512 + (y 0).val) (h1 : (i 1).val = (ph t).val * 128 + (y 1).val) :
    outOf (iblk m c 0 t : Vec Ideal S512x256 .bf16) (iblk m c 1 t : Vec Ideal S256x256 .bf16) (iblk m c 2 t : Vec Ideal S256x128 .bf16)
        (iblk m c 3 t : Vec Ideal S4096x256 .bf16) (iblk m c 4 t : Vec Ideal S4096x128 .bf16) y = attArr m c i := by
  have y0 : (y 0).val < 512 := (y 0).isLt
  have y1 : (y 1).val < 128 := (y 1).isLt
  have ey : y = ix2 (⟨(y 0).val, y0⟩ : Fin 512) (⟨(y 1).val, y1⟩ : Fin 128) := by
    funext a
    match a with
    | 0 => rfl
    | 1 => rfl
  rw [ey, out_point m c hf]
  unfold attArr
  refine att_congr m c ?_ ?_ ?_ ?_
  · show (pb t).val = ((i 0).val - 8192) / 4096; omega
  · show (ph t).val = (i 1).val / 128; omega
  · show (pi t).val * 512 + (y 0).val = ((i 0).val - 8192) % 4096; omega
  · show (y 1).val = (i 1).val % 128; omega

/-- The array after the run. -/
theorem final (hf : AllReal m c) : (dats m 0 c).arrAt 5 cfg0.N
    = fun i => if 16 ≤ ((i 0 : ℕ)) / 512 then attArr m c i else V m c main_v20 i := by
  refine (dats m 0 c).arrAt_eq_of_coversWhere 5 (attArr m c) (fun β => 16 ≤ β (0 : Fin _)) (by decide +kernel) (fun t hf' y => ?_) (fun j => Iff.rfl)
  rw [after0_5]
  refine out_block m c hf t y ((win0_5.blk t).view.emb y) ?_ ?_
  · blk_simp [idx5]; rfl
  · blk_simp [idx5]; rfl

end Cert.Kernel4Ideal.Vals

end
-- ==== Proof.Mvals.Pre.lean ====
module

public import proofs.«01_k».proof.Proof.Mvals.Array
public import proofs.«01_k».proof.Defs
public import Idealize.ShloMosaic.Lib.ReduceAll
public import Idealize.ShloMosaic.Lib.IdealHost

@[expose] public section

set_option maxRecDepth 16384

noncomputable section

/-! What the precondition says: every query and every key is a real number. -/

namespace Cert.Pre_finite_latent_scores.Shapes

open Idealize.ShloMosaic

/-- The shape relations the predicate states. -/
instance facts : Cert.Pre_finite_latent_scores.Facts where
  bcast_S_S16384x12x192 := by decide
  reducesTo_S16384x12x192_S_d0_1_2 := by decide
  h_S_ := by decide
  bcast_S_S2x256x12x192 := by decide
  reducesTo_S2x256x12x192_S_d0_1_2_3 := by decide

instance : Subsingleton S_.Idx := ⟨fun a b => funext fun i => i.elim0⟩

theorem ofBits_top : Ideal.ofBits .f32 0x7F800000#32 = ⊤ := by
  simp [Ideal.ofBits, Ideal.ieee]

/-- A number whose size is below infinity is real. -/
theorem real_of_lt (x : EReal) (h : Ideal.cmp .olt (max x (-x)) ⊤ = 1#1) : ∃ r : ℝ, x = r := by
  induction x with
  | bot => simp [Ideal.cmp] at h
  | top => simp [Ideal.cmp] at h
  | coe r => exact ⟨r, rfl⟩

/-- One conjunct of the predicate, read at an index. -/
theorem real_of_all {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant S_ .f32 0x7F800000#32))) (constantI S_ 1 1#1) hr hu = fun _ => 1#1)
    (i : s.Idx) : ∃ r : ℝ, (x i : EReal) = r := by
  have e := Host.reduce_andi_all _ _ hr hu (Shape.Idx.first hu) (congrFun h _) i
  have e' : Ideal.cmp .olt (max (x i : EReal) (-(x i : EReal))) (broadcastInDim s ![] hb (constant S_ .f32 0x7F800000#32 : FVec Ideal S_ .f32) i) = 1#1 := e
  rw [ValueIdx.broadcastInDim_scalar_apply] at e'
  have e'' : Ideal.cmp .olt (max (x i : EReal) (-(x i : EReal))) (Ideal.ofBits .f32 0x7F800000#32) = 1#1 := e'
  rw [ofBits_top] at e''
  exact real_of_lt _ e''

end Cert.Pre_finite_latent_scores.Shapes

namespace Cert.Kernel4Ideal.Vals

open Cert.Kernel4Ideal Cert.Kernel4Ideal.Gen
open Idealize.ShloMosaic Idealize.ShloMosaic.TcCoe
open Cert.Pre_finite_latent_scores.Shapes

theorem allReal (m : (ℓ : Loc nD τ sig) → Buf (Elt Ideal) ℓ) (hp : Cert.Pre_Kernel4Ideal_finite_latent_scores m) (c : Dev nD) : AllReal m c := by
  obtain ⟨h0, h1, h2⟩ := hp c
  dsimp only [Cert.Pre_finite_latent_scores.fn] at h0 h1 h2
  exact ⟨real_of_all (aQ m c) _ _ _ h0, real_of_all (aK m c) _ _ _ h1, real_of_all (aCK m c) _ _ _ h2⟩

end Cert.Kernel4Ideal.Vals

end
-- ==== Proof.Mvals.Reference.lean ====
module

public import proofs.«01_k».proof.Proof.Gen.Reference4Ideal.Run
public import Idealize.ShloMosaic.Lib.Pointwise
public import Idealize.ShloMosaic.Lib.Claim
public import Idealize.ShloMosaic.Lib.IdealHost

@[expose] public section

set_option maxRecDepth 16384

noncomputable section

/-! The reference's result, element by element. -/

namespace Cert.Reference4Ideal.Vals

open Cert.Reference4Ideal Cert.Reference4Ideal.Gen Cert.Reference4Ideal.Value
open Idealize.ShloMosaic Idealize.ShloMosaic.TcCoe

variable (m : (ℓ : Loc nD τ sig) → Buf (Elt Ideal) ℓ) (c : Dev nD)

/-- The context keys and the latent keys, one after the other. -/
def keys : FVec Ideal S2x4352x12x192 .f32 :=
  concatenate S2x4352x12x192 1 [⟨S2x256x12x192, (m ((c.tc : Thread nD τ).loc main_arg3))⟩, ⟨S2x4096x12x192, (shapeCast _ (extractStridedSlice S8192x12x192 ![8192, 0, 0] (m ((c.tc : Thread nD τ).loc main_arg1)) slices_S16384x12x192_S8192x12x192_8192_0_0) shapeCasts_S8192x12x192_S2x4096x12x192)⟩] concatenates_S2x256x12x192_S2x4096x12x192_S2x4352x12x192_d1

/-- The context values and the latent values, one after the other. -/
def vals : FVec Ideal S2x4352x12x128 .f32 :=
  concatenate S2x4352x12x128 1 [⟨S2x256x12x128, (m ((c.tc : Thread nD τ).loc main_arg4))⟩, ⟨S2x4096x12x128, (shapeCast _ (extractStridedSlice S8192x12x128 ![8192, 0, 0] (m ((c.tc : Thread nD τ).loc main_arg2)) slices_S16384x12x128_S8192x12x128_8192_0_0) shapeCasts_S8192x12x128_S2x4096x12x128)⟩] concatenates_S2x256x12x128_S2x4096x12x128_S2x4352x12x128_d1

/-- The scaled scores. -/
def scores : FVec Ideal S2x12x1x4096x4352 .f32 :=
  Host.divf (transpose S2x12x1x4096x4352 [0, 1, 4, 3, 2] (Host.dotGeneral (φ₁ := .f32) (φ₂ := .f32) dot_S2x4352x12x192_S2x4096x12x1x192_S2x12x4352x4096x1_3_4_1_13_02_02 none (keys m c) (shapeCast _ (extractStridedSlice S8192x12x192 ![8192, 0, 0] (m ((c.tc : Thread nD τ).loc main_arg0)) slices_S16384x12x192_S8192x12x192_8192_0_0) shapeCasts_S8192x12x192_S2x4096x12x1x192)) transposes_S2x12x4352x4096x1_S2x12x1x4096x4352_0_1_4_3_2) (broadcastInDim S2x12x1x4096x4352 ![] bcast_S_S2x12x1x4096x4352 (Host.sqrt (constant S_ .f32 0x43400000#32)))

/-- The largest score of every row. -/
def rowMax : FVec Ideal S2x12x1x4096 .f32 :=
  maximumf (broadcastInDim S2x12x1x4096 ![] bcast_S_S2x12x1x4096 (constant S_ .f32 0xFF800000#32)) (Host.reduce FloatOps.maximumf (scores m c) (constant S_ .f32 0xFF800000#32) reducesTo_S2x12x1x4096x4352_S2x12x1x4096_d4 h_S_)

/-- The exponentials of the scores less the row maximum. -/
def weights : FVec Ideal S2x12x1x4096x4352 .f32 :=
  Host.exp (subf (scores m c) (broadcastInDim S2x12x1x4096x4352 ![0, 1, 2, 3, 4] bcast_S2x12x1x4096x1_S2x12x1x4096x4352_0_1_2_3_4 (broadcastInDim S2x12x1x4096x1 ![0, 1, 2, 3] bcast_S2x12x1x4096_S2x12x1x4096x1_0_1_2_3 (rowMax m c))))

/-- The sum of the exponentials of every row. -/
def total : FVec Ideal S2x12x1x4096 .f32 :=
  Host.reduceAdd (weights m c) (constant S_ .f32 0x00000000#32) reducesTo_S2x12x1x4096x4352_S2x12x1x4096_d4 h_S_

/-- The weighted sum of the values. -/
def attn : FVec Ideal S2x4096x12x1x128 .f32 :=
  transpose S2x4096x12x1x128 [0, 4, 1, 3, 2] (Host.dotGeneral (φ₁ := .f32) (φ₂ := .f32) dot_S2x4352x12x128_S2x12x1x4096x4352_S2x12x128x1x4096_1_4_3_23_02_01 none (vals m c) (Host.divf (weights m c) (broadcastInDim S2x12x1x4096x4352 ![0, 1, 2, 3, 4] bcast_S2x12x1x4096x1_S2x12x1x4096x4352_0_1_2_3_4 (broadcastInDim S2x12x1x4096x1 ![0, 1, 2, 3] bcast_S2x12x1x4096_S2x12x1x4096x1_0_1_2_3 (total m c))))) transposes_S2x12x128x1x4096_S2x4096x12x1x128_0_4_1_3_2

theorem res_eq : res_main_v30 m c = truncf .bf16 (concatenate S16384x1536 0 [⟨S8192x1536, (extractStridedSlice S8192x1536 ![0, 0] (extf .f32 (m ((c.tc : Thread nD τ).loc main_arg5)) bitsLt_bf16_f32) slices_S16384x1536_S8192x1536_0_0)⟩, ⟨S8192x1536, (shapeCast _ (attn m c) shapeCasts_S2x4096x12x1x128_S8192x1536)⟩] concatenates_S8192x1536_S8192x1536_S16384x1536_d0) bitsLt_bf16_f32 := by
  unfold res_main_v30 attn total weights rowMax scores vals keys; rfl

variable (b : Fin 2) (h : Fin 12) (i : Fin 4096)

theorem ofBits_bot : Ideal.ofBits .f32 0xFF800000#32 = ⊥ := by
  simp [Ideal.ofBits, Ideal.ieee]

theorem ofBits_192 : Ideal.ofBits .f32 0x43400000#32 = ((192 : ℝ) : EReal) := by
  simp [Ideal.ofBits, Ideal.ieee]
  rw [← EReal.coe_mul]
  norm_num

theorem fold_max {ι : Type} (t : Finset ι) (f : ι → EReal) : t.fold max ⊥ f = t.sup f := rfl

theorem keys_apply (n : Fin 4352) (e : Fin 192) : keys m c (ix4 b n h e)
    = if hn : n.val < 256 then (m ((c.tc : Thread nD τ).loc main_arg3) : Vec Ideal S2x256x12x192 .f32) (ix4 b ⟨n.val, hn⟩ h e)
      else (m ((c.tc : Thread nD τ).loc main_arg1) : Vec Ideal S16384x12x192 .f32) (ix3 ⟨8192 + (b.val * 4096 + (n.val - 256)), by omega⟩ h e) := by
  pointwise [keys]

theorem vals_apply (n : Fin 4352) (e : Fin 128) : vals m c (ix4 b n h e)
    = if hn : n.val < 256 then (m ((c.tc : Thread nD τ).loc main_arg4) : Vec Ideal S2x256x12x128 .f32) (ix4 b ⟨n.val, hn⟩ h e)
      else (m ((c.tc : Thread nD τ).loc main_arg2) : Vec Ideal S16384x12x128 .f32) (ix3 ⟨8192 + (b.val * 4096 + (n.val - 256)), by omega⟩ h e) := by
  pointwise [vals]

theorem scores_apply (n : Fin 4352) : scores m c (ix5 b h 0 i n)
    = Ideal.div (∑ e : Fin 192, keys m c (ix4 b n h e) *
        (m ((c.tc : Thread nD τ).loc main_arg0) : Vec Ideal S16384x12x192 .f32) (ix3 ⟨8192 + (b.val * 4096 + i.val), by omega⟩ h e))
        ((Real.sqrt 192 : ℝ) : EReal) := by
  pointwise [scores]
  rw [ofBits_192, Ideal.sqrt_coe, if_neg (by norm_num)]

/-- A maximum over the last of five axes. -/
theorem reduce_max {n0 n1 n2 n3 n4 : ℕ} (x : FVec Ideal ⟨5, ![n0, n1, n2, n3, n4]⟩ .f32)
    (hr : Shape.ReducesTo ⟨5, ![n0, n1, n2, n3, n4]⟩ [4] ⟨4, ![n0, n1, n2, n3]⟩) (hu : 0 < S_.numel)
    (i0 : Fin n0) (i1 : Fin n1) (i2 : Fin n2) (i3 : Fin n3) :
    Host.reduce FloatOps.maximumf x (constant S_ .f32 0xFF800000#32) hr hu (ix4 i0 i1 i2 i3)
      = Finset.univ.sup fun n : Fin n4 => (x (ix5 i0 i1 i2 i3 n) : EReal) := by
  pointwise []
  rw [ofBits_bot, fold_max]

theorem reduce_apply : Host.reduce FloatOps.maximumf (scores m c) (constant S_ .f32 0xFF800000#32) reducesTo_S2x12x1x4096x4352_S2x12x1x4096_d4 h_S_ (ix4 b h 0 i)
      = Finset.univ.sup fun n : Fin 4352 => (scores m c (ix5 b h 0 i n) : EReal) :=
  reduce_max _ _ _ _ _ _ _

theorem max_apply {t : Shape} (x y : FVec Ideal t .f32) (j : t.Idx) : maximumf x y j = max (x j : EReal) (y j) := rfl

theorem splat_apply {t : Shape} (v : BitVec 32) (hb : S_.BroadcastsInDim t ![]) (j : t.Idx) :
    broadcastInDim t ![] hb (constant S_ .f32 v : FVec Ideal S_ .f32) j = Ideal.ofBits .f32 v := by
  rw [ValueIdx.broadcastInDim_scalar_apply]
  rfl

theorem rowMax_apply : rowMax m c (ix4 b h 0 i) = Finset.univ.sup fun n : Fin 4352 => (scores m c (ix5 b h 0 i n) : EReal) := by
  unfold rowMax
  rw [max_apply, splat_apply, reduce_apply, ofBits_bot]
  exact max_eq_right bot_le

theorem weights_apply (n : Fin 4352) : weights m c (ix5 b h 0 i n) = Ideal.exp (scores m c (ix5 b h 0 i n) - rowMax m c (ix4 b h 0 i)) := by
  pointwise [weights]

theorem total_apply : total m c (ix4 b h 0 i) = ∑ n : Fin 4352, weights m c (ix5 b h 0 i n) := by
  pointwise [total]

theorem attn_apply (d : Fin 128) : attn m c (ix5 b i h 0 d)
    = ∑ n : Fin 4352, vals m c (ix4 b n h d) * Ideal.div (weights m c (ix5 b h 0 i n)) (total m c (ix4 b h 0 i)) := by
  pointwise [attn]

theorem res_top (r : Fin 16384) (hr : r.val < 8192) (cc : Fin 1536) :
    res_main_v30 m c (ix2 r cc) = m ((c.tc : Thread nD τ).loc main_arg5) (ix2 r cc) := by
  rw [res_eq]
  pointwise []
  rw [dif_pos hr]

theorem res_bot (d : Fin 128) :
    res_main_v30 m c (ix2 ⟨8192 + 4096 * b.val + i.val, by omega⟩ ⟨128 * h.val + d.val, by omega⟩) = attn m c (ix5 b i h 0 d) := by
  rw [res_eq]
  pointwise []
  rw [dif_neg (by omega)]
  exact congrArg₂ (fun b i => attn m c (ix5 b i h 0 d)) (Fin.ext (by show (8192 + 4096 * b.val + i.val - 8192) / 4096 = b.val; omega))
    (Fin.ext (by show (8192 + 4096 * b.val + i.val - 8192) % 4096 = i.val; omega))

end Cert.Reference4Ideal.Vals

end
-- ==== Proof.Mvals.Final.lean ====
module

public import proofs.«01_k».proof.Proof.Mvals.Pre
public import proofs.«01_k».proof.Proof.Mvals.Reference
public import proofs.«01_k».proof.Proof.Mla.Run
public import Idealize.ShloMosaic.Lib.Claim

@[expose] public section

set_option maxRecDepth 16384

noncomputable section

/-! The kernel and the reference leave the same array. -/

namespace Cert.Same4

open Idealize.ShloMosaic Idealize.ShloMosaic.TcCoe Idealize.SL.Sem
open Cert.Kernel4Ideal.Vals

variable (m : (ℓ : Loc Cert.Kernel4Ideal.nD Cert.Kernel4Ideal.τ Cert.Kernel4Ideal.sig) → Buf (Elt Ideal) ℓ)
  (m' : (ℓ : Loc Cert.Reference4Ideal.nD Cert.Reference4Ideal.τ Cert.Reference4Ideal.sig) → Buf (Elt Ideal) ℓ)

/-- The result: the attention on the latent rows, the array given on the context's. -/
def result (c : Dev Cert.Kernel4Ideal.nD) : Vec Ideal Cert.Kernel4Ideal.S16384x1536 .bf16 :=
  fun i => if 16 ≤ ((i 0 : ℕ)) / 512 then attArr m c i else m ((c.tc : Thread Cert.Kernel4Ideal.nD Cert.Kernel4Ideal.τ).loc Cert.Kernel4Ideal.main_arg5) i

section Reference
open Cert.Reference4Ideal.Vals

variable (c : Dev Cert.Reference4Ideal.nD) (b : Fin 2) (h : Fin 12) (i : Fin 4096)

abbrev rQ : FVec Ideal ⟨3, ![16384, 12, 192]⟩ .f32 := m' ((c.tc : Thread Cert.Reference4Ideal.nD Cert.Reference4Ideal.τ).loc Cert.Reference4Ideal.main_arg0)
abbrev rK : FVec Ideal ⟨3, ![16384, 12, 192]⟩ .f32 := m' ((c.tc : Thread Cert.Reference4Ideal.nD Cert.Reference4Ideal.τ).loc Cert.Reference4Ideal.main_arg1)
abbrev rV : FVec Ideal ⟨3, ![16384, 12, 128]⟩ .f32 := m' ((c.tc : Thread Cert.Reference4Ideal.nD Cert.Reference4Ideal.τ).loc Cert.Reference4Ideal.main_arg2)
abbrev rCK : FVec Ideal ⟨4, ![2, 256, 12, 192]⟩ .f32 := m' ((c.tc : Thread Cert.Reference4Ideal.nD Cert.Reference4Ideal.τ).loc Cert.Reference4Ideal.main_arg3)
abbrev rCV : FVec Ideal ⟨4, ![2, 256, 12, 128]⟩ .f32 := m' ((c.tc : Thread Cert.Reference4Ideal.nD Cert.Reference4Ideal.τ).loc Cert.Reference4Ideal.main_arg4)

theorem keys_row (n : Fin 4352) (e : Fin 192) : (keys m' c (ix4 b n h e) : EReal) = Spec4.row (rK m' c) (rCK m' c) b h n e := keys_apply m' c b h n e

theorem vals_row (n : Fin 4352) (e : Fin 128) : (vals m' c (ix4 b n h e) : EReal) = Spec4.vrow (rV m' c) (rCV m' c) b h n e := vals_apply m' c b h n e

theorem scores_row (n : Fin 4352) : (scores m' c (ix5 b h 0 i n) : EReal) = Spec4.score (rQ m' c) (rK m' c) (rCK m' c) b h i n := by
  refine (scores_apply m' c b h i n).trans ?_
  unfold Spec4.score
  refine congrArg (Ideal.div · _) (Finset.sum_congr rfl fun e _ => ?_)
  rw [keys_row]

theorem weights_row (n : Fin 4352) : (weights m' c (ix5 b h 0 i n) : EReal) = Spec4.weight (rQ m' c) (rK m' c) (rCK m' c) b h i n := by
  refine (weights_apply m' c b h i n).trans ?_
  unfold Spec4.weight
  rw [rowMax_apply, scores_row]
  refine congrArg (fun z => Ideal.exp (_ - z)) (Finset.sup_congr rfl fun n _ => ?_)
  exact scores_row m' c b h i n

theorem attn_row (d : Fin 128) : (attn m' c (ix5 b i h 0 d) : EReal) = Spec4.att (rQ m' c) (rK m' c) (rV m' c) (rCK m' c) (rCV m' c) b h i d := by
  refine (attn_apply m' c b h i d).trans ?_
  unfold Spec4.att
  refine Finset.sum_congr rfl fun n _ => ?_
  rw [vals_row, weights_row, total_apply]
  refine congrArg (fun z => _ * Ideal.div _ z) (Finset.sum_congr rfl fun n _ => ?_)
  exact weights_row m' c b h i n

end Reference

/-- The reference's array is the result. -/
theorem reference_result (c : Dev Cert.Kernel4Ideal.nD)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3))
    (h4 : m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4))
    (h5 : m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) :
    Cert.Reference4Ideal.Value.res_main_v30 m' c = result m c := by
  funext i
  have i0 : (i 0).val < 16384 := (i 0).isLt
  have i1 : (i 1).val < 1536 := (i 1).isLt
  unfold result
  by_cases hi : 16 ≤ (i 0).val / 512
  · rw [if_pos hi]
    have ei : i = ix2 (⟨8192 + 4096 * (⟨((i 0).val - 8192) / 4096, by omega⟩ : Fin 2).val + (⟨((i 0).val - 8192) % 4096, Nat.mod_lt _ (by decide)⟩ : Fin 4096).val,
          by show 8192 + 4096 * (((i 0).val - 8192) / 4096) + ((i 0).val - 8192) % 4096 < 16384; omega⟩ : Fin 16384)
        (⟨128 * (⟨(i 1).val / 128, by omega⟩ : Fin 12).val + (⟨(i 1).val % 128, Nat.mod_lt _ (by decide)⟩ : Fin 128).val,
          by show 128 * ((i 1).val / 128) + (i 1).val % 128 < 1536; omega⟩ : Fin 1536) := by
      funext a
      apply Fin.ext
      match a with
      | 0 => show (i 0).val = 8192 + 4096 * (((i 0).val - 8192) / 4096) + ((i 0).val - 8192) % 4096; omega
      | 1 => show (i 1).val = 128 * ((i 1).val / 128) + (i 1).val % 128; omega
    refine (congrArg (Cert.Reference4Ideal.Value.res_main_v30 m' c) ei).trans ?_
    refine (Cert.Reference4Ideal.Vals.res_bot m' c _ _ _ _).trans ((attn_row m' c _ _ _ _).trans ?_)
    have e0 : rQ m' c = aQ m c := h0
    have e1 : rK m' c = aK m c := h1
    have e2 : rV m' c = aV m c := h2
    have e3 : rCK m' c = aCK m c := h3
    have e4 : rCV m' c = aCV m c := h4
    rw [e0, e1, e2, e3, e4]
    rfl
  · rw [if_neg hi]
    have ei : i = ix2 (⟨(i 0).val, i0⟩ : Fin 16384) (⟨(i 1).val, i1⟩ : Fin 1536) := by
      funext a
      match a with
      | 0 => rfl
      | 1 => rfl
    refine (congrArg (Cert.Reference4Ideal.Value.res_main_v30 m' c) ei).trans ?_
    refine (Cert.Reference4Ideal.Vals.res_top m' c ⟨(i 0).val, i0⟩ (by show (i 0).val < 8192; omega) ⟨(i 1).val, i1⟩).trans ?_
    rw [← ei]
    exact congrFun h5 i

open Cert.Kernel4Ideal Cert.Kernel4Ideal.Gen in
/-- The kernel runs to the result. -/
theorem kernel_result (g : Dev Cert.Kernel4Ideal.nD → PrngReg) (hp : ∀ c, AllReal m c) :
    θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
      r.2.mem ((c.tc : Thread Cert.Kernel4Ideal.nD Cert.Kernel4Ideal.τ).loc Cert.Kernel4Ideal.main_v20) = result m c) := by
  refine (θ_run Cert.Kernel4Ideal.defs _ _).mono (fun r h c => ?_) (Cert.Kernel4Ideal.Mla.run_main m g)
  refine ((h c).1 5).trans ((final m c (hp c)).trans ?_)
  funext i
  unfold result
  rw [entry_o]

theorem algebraic : Cert.algebraic_Kernel4Ideal_Reference4Ideal_pre_finite_latent_scores := by
  intro m g m' g' hp hm
  refine ⟨fun c => result m c, ?_, ?_⟩
  · exact (θ_run Cert.Kernel4Ideal.defs _ _).mono (fun r h c => ⟨h.1 c, h.2 c⟩)
      (θ_run_and (kernel_result m g (allReal m hp)) (Cert.Kernel4Ideal.Mla.unchanged m g))
  · refine (θ_run Cert.Reference4Ideal.defs _ _).mono (fun r h c => ⟨(h c).1.trans ?_, (h c).2⟩) (Cert.Reference4Ideal.Value.run (F := Ideal) m' g')
    obtain ⟨h0, h1, h2, h3, h4, h5⟩ := hm c
    exact reference_result m m' c h0 h1 h2 h3 h4 h5

end Cert.Same4

end
-- ==== Proof.Latent.Spec.lean ====
module

public import Idealize.ShloMosaic.Lib.Pointwise

@[expose] public section

set_option maxRecDepth 16384

noncomputable section

/-! The normed latents of the multi-head latent attention and the values that come of them. -/

namespace Cert.Latent

open Idealize.ShloMosaic

/-- An element of a normed row of 512. -/
def nrm (x : Fin 512 → EReal) (g : EReal) (e : Fin 512) : EReal :=
  x e * Ideal.rsqrt (Ideal.div (∑ k : Fin 512, x k * x k) (Ideal.ofBits .f32 0x44000000#32) + Ideal.ofBits .f32 0x358637BD#32) * g

/-- The normed latents: the row `R` of the columns 4096 to 4607. -/
def lat (u : Vec Ideal ⟨2, ![16384, 8192]⟩ .f32) (g : Vec Ideal ⟨1, ![512]⟩ .f32) (R : Fin 16384) (e : Fin 512) : EReal :=
  nrm (fun k => u (ix2 R ⟨4096 + k.val, by omega⟩)) (g (ix1 e)) e

/-- The column of the weight that gives column `j` of the values. -/
def vcol (j : Fin 1536) : Fin 3072 := ⟨j.val / 128 * 256 + 128 + j.val % 128, by omega⟩

/-- The values. -/
def vals (u : Vec Ideal ⟨2, ![16384, 8192]⟩ .f32) (g : Vec Ideal ⟨1, ![512]⟩ .f32) (w : Vec Ideal ⟨2, ![512, 3072]⟩ .f32)
    (R : Fin 16384) (j : Fin 1536) : EReal :=
  ∑ e : Fin 512, lat u g R e * w (ix2 e (vcol j))

end Cert.Latent

end
-- ==== Proof.Latent.Block.lean ====
module

public import proofs.«01_k».proof.Proof.Gen.Kernel5Ideal.Value
public import proofs.«01_k».proof.Proof.Latent.Spec
public import Idealize.ShloMosaic.Lib.Claim
public import Idealize.ShloMosaic.Lib.Pipeline.ValueKit

@[expose] public section

set_option maxRecDepth 16384

noncomputable section

/-! The arrays and blocks that the call reads, and what its body makes of them, element by element. -/

namespace Cert.Kernel5Ideal.Vals

open Cert.Kernel5Ideal Cert.Kernel5Ideal.Gen
open Idealize.ShloMosaic Idealize.ShloMosaic.TcCoe Cert.Latent

variable (m : (ℓ : Loc nD τ sig) → Buf (Elt Ideal) ℓ) (c : Dev nD)

theorem hz : (![0, 0] : Fin 2 → Nat) = fun _ => 0 := funext fun a => by fin_cases a <;> rfl

/-- The arguments, as arrays. -/
def aU : Vec Ideal S16384x8192 .f32 := m ((c.tc : Thread nD τ).loc main_arg0)
def aG : Vec Ideal S512 .f32 := m ((c.tc : Thread nD τ).loc main_arg1)
def aW : Vec Ideal S512x3072 .f32 := m ((c.tc : Thread nD τ).loc main_arg2)

theorem entry_u : V m c main_arg0 = aU m c := V_main_arg0 m c

theorem entry_g (e : Fin 512) : (V m c main_v39 : Vec Ideal S1x512 .f32) (ix2 0 e) = aG m c (ix1 e) := by
  have h : (V m c main_v39 : Vec Ideal S1x512 .f32) = shapeCast S1x512 (aG m c) shapeCasts_S512_S1x512 := rfl
  rw [h]
  pointwise []

/-- The weight's columns, the keys' before the values'. -/
def arr (w : Vec Ideal S512x3072 .f32) : Vec Ideal S512x3072 .f32 :=
  concatenate S512x3072 1
    [⟨S512x1536, shapeCast S512x1536 (extractStridedSlice S512x12x128 ![0, 0, 0] (shapeCast S512x12x256 w shapeCasts_S512x3072_S512x12x256) slices_S512x12x256_S512x12x128_0_0_0) shapeCasts_S512x12x128_S512x1536⟩,
     ⟨S512x1536, shapeCast S512x1536 (extractStridedSlice S512x12x128 ![0, 0, 128] (shapeCast S512x12x256 w shapeCasts_S512x3072_S512x12x256) slices_S512x12x256_S512x12x128_0_0_128) shapeCasts_S512x12x128_S512x1536⟩]
    concatenates_S512x1536_S512x1536_S512x3072_d1

theorem arr_val (w : Vec Ideal S512x3072 .f32) (e : Fin 512) (j : Fin 1536) : arr w (ix2 e ⟨1536 + j.val, by omega⟩) = w (ix2 e (vcol j)) := by
  pointwise [arr, vcol]
  exact congrArg (fun k => w (ix2 e k)) (Fin.ext (by dsimp only; omega))

theorem entry_arr : (V m c main_v37 : Vec Ideal S512x3072 .bf16) = (truncf .bf16 (arr (aW m c)) bitsLt_bf16_f32 : FVec Ideal S512x3072 .bf16) := by
  rfl

theorem entry_w (e : Fin 512) (j : Fin 1536) :
    (V m c main_v37 : Vec Ideal S512x3072 .bf16) (ix2 e ⟨1536 + j.val, by omega⟩) = aW m c (ix2 e (vcol j)) :=
  (congrFun (entry_arr m c) (ix2 e ⟨1536 + j.val, by omega⟩)).trans (arr_val (aW m c) e j)

theorem idx0 : ∀ t : Fin cfg0.N, win0_0.index t = ![t.val, 8] := by
  decide +kernel
theorem idx2 : ∀ t : Fin cfg0.N, win0_2.index t = ![0, 0] := by
  decide +kernel
theorem idx3 : ∀ t : Fin cfg0.N, win0_3.index t = ![0, 0] := by
  decide +kernel
theorem idx7 : ∀ t : Fin cfg0.N, win0_7.index t = ![t.val, 0] := by
  decide +kernel
theorem idx9 : ∀ t : Fin cfg0.N, win0_9.index t = ![t.val, 0] := by
  decide +kernel

theorem lt_N (t : Fin cfg0.N) : t.val < 32 := by
  have h := t.isLt
  have hN : cfg0.N = 32 := N_0
  omega

theorem ix2_eq {a b : ℕ} (i : Shape.Idx ⟨2, ![a, b]⟩) (x : Fin a) (y : Fin b) (h0 : (i 0).val = x.val) (h1 : (i 1).val = y.val) : i = ix2 x y := by
  funext k
  match k with
  | 0 => exact Fin.ext h0
  | 1 => exact Fin.ext h1

/-- The row of the arrays at row `r` of point `n`. -/
def rowOf (n : ℕ) (hn : n < 32) (r : Fin 512) : Fin 16384 := ⟨n * 512 + r.val, by omega⟩

theorem iblk_u (t : Fin cfg0.N) (y : S512x512.Idx) : ∃ i : S16384x8192.Idx,
    (i 0).val = t.val * 512 + (y 0).val ∧ (i 1).val = 4096 + (y 1).val ∧ iblk m c 0 t y = V m c main_arg0 i := by
  refine ⟨(win0_0.blk t).view.emb y, ?_, ?_, rfl⟩
  · blk_simp [idx0]
  · blk_simp [idx0]

theorem iblk_g (t : Fin cfg0.N) (y : S1x512.Idx) : ∃ i : S1x512.Idx,
    (i 0).val = (y 0).val ∧ (i 1).val = (y 1).val ∧ iblk m c 2 t y = V m c main_v39 i := by
  refine ⟨(win0_2.blk t).view.emb y, ?_, ?_, rfl⟩
  · blk_simp [idx2]
  · blk_simp [idx2]

theorem iblk_w (t : Fin cfg0.N) (y : S512x3072.Idx) : ∃ i : S512x3072.Idx,
    (i 0).val = (y 0).val ∧ (i 1).val = (y 1).val ∧ iblk m c 3 t y = V m c main_v37 i := by
  refine ⟨(win0_3.blk t).view.emb y, ?_, ?_, rfl⟩
  · blk_simp [idx3]
  · blk_simp [idx3]

theorem blk_u (t : Fin cfg0.N) (r : Fin 512) (e : Fin 512) :
    (iblk m c 0 t : Vec Ideal S512x512 .f32) (ix2 r e) = aU m c (ix2 (rowOf t.val (lt_N t) r) ⟨4096 + e.val, by omega⟩) := by
  obtain ⟨i, h0, h1, hi⟩ := iblk_u m c t (ix2 r e)
  exact hi.trans ((congrFun (entry_u m c) i).trans (congrArg (aU m c) (ix2_eq i _ _ h0 h1)))

theorem blk_g (t : Fin cfg0.N) (e : Fin 512) : (iblk m c 2 t : Vec Ideal S1x512 .f32) (ix2 0 e) = aG m c (ix1 e) := by
  obtain ⟨i, h0, h1, hi⟩ := iblk_g m c t (ix2 0 e)
  exact hi.trans ((congrArg (V m c main_v39) (ix2_eq i 0 e h0 h1)).trans (entry_g m c e))

theorem blk_w (t : Fin cfg0.N) (e : Fin 512) (j : Fin 1536) :
    (iblk m c 3 t : Vec Ideal S512x3072 .bf16) (ix2 e ⟨1536 + j.val, by omega⟩) = aW m c (ix2 e (vcol j)) := by
  obtain ⟨i, h0, h1, hi⟩ := iblk_w m c t (ix2 e ⟨1536 + j.val, by omega⟩)
  exact hi.trans ((congrArg (V m c main_v37) (ix2_eq i e ⟨1536 + j.val, by omega⟩ h0 h1)).trans (entry_w m c e j))

theorem pay3_apply (x : Vec Ideal S512x512 .f32) (g : Vec Ideal S1x512 .f32) (r : Fin 512) (e : Fin 512) :
    k0_pay3 x g (ix2 r e) = nrm (fun k => x (ix2 r k)) (g (ix2 0 e)) e := by
  pointwise [k0_pay3, nrm]

theorem pay4_apply (x : Vec Ideal S512x512 .f32) (g : Vec Ideal S1x512 .f32) (w : Vec Ideal S512x3072 .bf16) (r : Fin 512) (j : Fin 3072) :
    k0_pay4 x g w (ix2 r j) = ∑ e : Fin 512, (k0_pay3 x g (ix2 r e) : EReal) * w (ix2 e j) := by
  pointwise [k0_pay4]

theorem pay2_apply (x : Vec Ideal S512x3072 .f32) (r : Fin 512) (j : Fin 1536) :
    (k0_pay2 (F := Ideal) x : FVec Ideal S512x1536 .bf16) (ix2 r j) = x (ix2 r ⟨1536 + j.val, by omega⟩) := by
  pointwise [k0_pay2]
  try exact congrArg x (ix2_eq _ _ _ rfl (by first | rfl | (dsimp only; omega)))

/-- What a point leaves in the latents' block. -/
theorem left_lat (t : Fin cfg0.N) (r e : Fin 512) :
    (out0_7 (iblk m c 0 t) (iblk m c 1 t) (iblk m c 2 t) (iblk m c 3 t) (iblk m c 4 t) (iblk m c 5 t) (iblk m c 6 t) : Vec Ideal S512x512 .f32) (ix2 r e)
      = lat (aU m c) (aG m c) (rowOf t.val (lt_N t) r) e := by
  unfold out0_7
  rw [View.canon_unit_zero hz, View.ld_unit_zero (S := S512x512) hz, View.ld_unit_zero (S := S1x512) hz, pay3_apply, blk_g]
  unfold lat
  refine congrArg (fun x => nrm x (aG m c (ix1 e)) e) (funext fun k => blk_u m c t r k)

theorem left_vals (t : Fin cfg0.N) (r : Fin 512) (j : Fin 1536) :
    (out0_9 (iblk m c 0 t) (iblk m c 1 t) (iblk m c 2 t) (iblk m c 3 t) (iblk m c 4 t) (iblk m c 5 t) (iblk m c 6 t) : Vec Ideal S512x1536 .bf16) (ix2 r j)
      = vals (aU m c) (aG m c) (aW m c) (rowOf t.val (lt_N t) r) j := by
  unfold out0_9 k0_pay62
  rw [View.canon_unit_zero hz, View.ld_unit_zero (S := S512x512) hz, View.ld_unit_zero (S := S1x512) hz, View.ld_unit_zero (S := S512x3072) hz]
  refine (pay2_apply _ r j).trans ((pay4_apply _ _ _ r _).trans (Finset.sum_congr rfl fun e _ => ?_))
  rw [pay3_apply, blk_g, blk_w]
  unfold lat
  refine congrArg (fun x => nrm x (aG m c (ix1 e)) e * aW m c (ix2 e (vcol j))) (funext fun k => blk_u m c t r k)

/-- The latents, as an array. -/
def G7 : Vec Ideal S16384x512 .f32 := fun i => lat (aU m c) (aG m c) (i 0) (i 1)

/-- The values, as an array. -/
def G9 : Vec Ideal S16384x1536 .bf16 := fun i => vals (aU m c) (aG m c) (aW m c) (i 0) (i 1)

theorem mem7 (t : Fin cfg0.N) (i : S16384x512.Idx) :
    i ∈ ((cfg0.win 7).blk t).view.set ↔ ∀ a : Fin 2, win0_7.index t a * S512x512.size a ≤ (i a).val ∧ (i a).val < win0_7.index t a * S512x512.size a + S512x512.size a := by
  show i ∈ ((View.whole main_v41_0).slice (win0_7.rect t)).set ↔ _
  rw [View.set_slice_whole, Rect.mem_set_unit]
  exact Iff.rfl

theorem mem9 (t : Fin cfg0.N) (i : S16384x1536.Idx) :
    i ∈ ((cfg0.win 9).blk t).view.set ↔ ∀ a : Fin 2, win0_9.index t a * S512x1536.size a ≤ (i a).val ∧ (i a).val < win0_9.index t a * S512x1536.size a + S512x1536.size a := by
  show i ∈ ((View.whole main_v41_2).slice (win0_9.rect t)).set ↔ _
  rw [View.set_slice_whole, Rect.mem_set_unit]
  exact Iff.rfl

theorem flush7 : ∀ t : Fin cfg0.N, (cfg0.win 7).flush t = true := by
  decide +kernel
theorem flush9 : ∀ t : Fin cfg0.N, (cfg0.win 9).flush t = true := by
  decide +kernel

theorem final7 : ((dats m 0 c).arrAt 7 cfg0.N : Vec Ideal S16384x512 .f32) = G7 m c := by
  refine (dats m 0 c).arrAt_eq_of_cover 7 _ (fun t _ => ?_) (fun i => ?_)
  · rw [Value.flushed7]
    funext y
    have hb0 : (((cfg0.win 7).blk t).view.emb y 0).val = win0_7.index t (0 : Fin 2) * 512 + 1 * (y 0).val := rfl
    have hb1 : (((cfg0.win 7).blk t).view.emb y 1).val = win0_7.index t (1 : Fin 2) * 512 + 1 * (y 1).val := rfl
    rw [idx7] at hb0 hb1
    have e0 : rowOf t.val (lt_N t) (y 0) = ((cfg0.win 7).blk t).view.emb y 0 := Fin.ext (by
      rw [hb0]; show t.val * 512 + (y 0).val = t.val * 512 + 1 * (y 0).val; omega)
    have e1 : (y 1 : Fin 512) = ((cfg0.win 7).blk t).view.emb y 1 := Fin.ext (by
      rw [hb1]; show (y 1).val = 0 * 512 + 1 * (y 1).val; omega)
    refine Eq.trans (congrArg _ (ix2_eq (a := 512) (b := 512) _ (y 0) (y 1) rfl rfl)) ((left_lat m c t (y 0) (y 1)).trans ?_)
    exact congrArg₂ (lat (aU m c) (aG m c)) e0 e1
  · have h0 : (i 0).val < 16384 := (i 0).isLt
    have h1 : (i 1).val < 512 := (i 1).isLt
    have hN : cfg0.N = 32 := N_0
    refine ⟨⟨(i 0).val / 512, by omega⟩, flush7 _, ?_⟩
    rw [mem7]
    intro a
    rw [idx7]
    match a with
    | ⟨0, _⟩ => show (i 0).val / 512 * 512 ≤ (i 0).val ∧ (i 0).val < (i 0).val / 512 * 512 + 512; omega
    | ⟨1, _⟩ => show 0 * 512 ≤ (i 1).val ∧ (i 1).val < 0 * 512 + 512; omega

theorem final9 : ((dats m 0 c).arrAt 9 cfg0.N : Vec Ideal S16384x1536 .bf16) = G9 m c := by
  refine (dats m 0 c).arrAt_eq_of_cover 9 _ (fun t _ => ?_) (fun i => ?_)
  · rw [Value.flushed9]
    funext y
    have hb0 : (((cfg0.win 9).blk t).view.emb y 0).val = win0_9.index t (0 : Fin 2) * 512 + 1 * (y 0).val := rfl
    have hb1 : (((cfg0.win 9).blk t).view.emb y 1).val = win0_9.index t (1 : Fin 2) * 1536 + 1 * (y 1).val := rfl
    rw [idx9] at hb0 hb1
    have e0 : rowOf t.val (lt_N t) (y 0) = ((cfg0.win 9).blk t).view.emb y 0 := Fin.ext (by
      rw [hb0]; show t.val * 512 + (y 0).val = t.val * 512 + 1 * (y 0).val; omega)
    have e1 : (y 1 : Fin 1536) = ((cfg0.win 9).blk t).view.emb y 1 := Fin.ext (by
      rw [hb1]; show (y 1).val = 0 * 1536 + 1 * (y 1).val; omega)
    refine Eq.trans (congrArg _ (ix2_eq (a := 512) (b := 1536) _ (y 0) (y 1) rfl rfl)) ((left_vals m c t (y 0) (y 1)).trans ?_)
    exact congrArg₂ (vals (aU m c) (aG m c) (aW m c)) e0 e1
  · have h0 : (i 0).val < 16384 := (i 0).isLt
    have h1 : (i 1).val < 1536 := (i 1).isLt
    have hN : cfg0.N = 32 := N_0
    refine ⟨⟨(i 0).val / 512, by omega⟩, flush9 _, ?_⟩
    rw [mem9]
    intro a
    rw [idx9]
    match a with
    | ⟨0, _⟩ => show (i 0).val / 512 * 512 ≤ (i 0).val ∧ (i 0).val < (i 0).val / 512 * 512 + 512; omega
    | ⟨1, _⟩ => show 0 * 1536 ≤ (i 1).val ∧ (i 1).val < 0 * 1536 + 1536; omega

end Cert.Kernel5Ideal.Vals

end
-- ==== Proof.Latent.Final.lean ====
module

public import proofs.«01_k».proof.Defs
public import proofs.«01_k».proof.Proof.Latent.Block
public import proofs.«01_k».proof.Proof.Gen.Reference5Ideal.Run

@[expose] public section

set_option maxRecDepth 16384

noncomputable section

/-! The reference's latents and values, and that the call leaves the same. -/

namespace Cert.Latent

open Idealize.ShloMosaic Idealize.ShloMosaic.TcCoe Idealize.SL.Sem
open Cert.Reference5Ideal Cert.Reference5Ideal.Gen

/-- The reference's latents. -/
def rlat (u : Vec Ideal S16384x8192 .f32) (g : Vec Ideal S512 .f32) : Vec Ideal S16384x512 .f32 :=
  let x : FVec Ideal S16384x512 .f32 := extractStridedSlice S16384x512 ![0, 4096] u slices_S16384x8192_S16384x512_0_4096
  mulf (mulf x (broadcastInDim S16384x512 ![0, 1] bcast_S16384x1_S16384x512_0_1 (Host.rsqrt (addf
    (Host.divf (broadcastInDim S16384x1 ![0] bcast_S16384_S16384x1_0 (Host.reduceAdd (mulf x x) (constant S_ .f32 0x00000000#32) reducesTo_S16384x512_S16384_d1 h_S_))
      (broadcastInDim S16384x1 ![] bcast_S_S16384x1 (constant S_ .f32 0x44000000#32)))
    (broadcastInDim S16384x1 ![] bcast_S_S16384x1 (constant S_ .f32 0x358637BD#32))))))
    (broadcastInDim S16384x512 ![0, 1] bcast_S1x512_S16384x512_0_1 (broadcastInDim S1x512 ![1] bcast_S512_S1x512_1 g))

/-- The reference's values. -/
def rvals (x : Vec Ideal S16384x512 .f32) (w : Vec Ideal S512x3072 .f32) : Vec Ideal S16384x1536 .bf16 :=
  (truncf .bf16 (shapeCast S16384x1536 (extractStridedSlice S16384x12x128 ![0, 0, 128]
    (shapeCast S16384x12x256 (Host.dotGeneral (φ₁ := .f32) (φ₂ := .f32) dot_S16384x512_S512x3072_S16384x3072_1_0_0_1_n_n none x w) shapeCasts_S16384x3072_S16384x12x256)
    slices_S16384x12x256_S16384x12x128_0_0_128) shapeCasts_S16384x12x128_S16384x1536) bitsLt_bf16_f32 : FVec Ideal S16384x1536 .bf16)

theorem rlat_apply (u : Vec Ideal S16384x8192 .f32) (g : Vec Ideal S512 .f32) (R : Fin 16384) (e : Fin 512) :
    rlat u g (ix2 R e) = lat u g R e := by
  pointwise [rlat, lat, nrm]

theorem rvals_apply (x : Vec Ideal S16384x512 .f32) (w : Vec Ideal S512x3072 .f32) (R : Fin 16384) (j : Fin 1536) :
    rvals x w (ix2 R j) = ∑ e : Fin 512, (x (ix2 R e) : EReal) * w (ix2 e (vcol j)) := by
  pointwise [rvals, vcol]
  try refine Finset.sum_congr rfl fun e _ => congrArg (fun k => x (ix2 R e) * w (ix2 e k)) (Fin.ext (by dsimp only; omega))

theorem algebraic : Cert.algebraic_Kernel5Ideal_Reference5Ideal := by
  intro m g m' g' _ hm
  refine ⟨fun c => Cert.Kernel5Ideal.Vals.G7 m c, fun c => Cert.Kernel5Ideal.Vals.G9 m c, ?_, ?_⟩
  · refine (θ_run Cert.Kernel5Ideal.defs _ _).mono (fun r h c => ?_) (Cert.Kernel5Ideal.Value.run_blocks m g)
    obtain ⟨h7, _, h9, hr⟩ := h c
    exact ⟨h7.trans (Cert.Kernel5Ideal.Vals.final7 m c), h9.trans (Cert.Kernel5Ideal.Vals.final9 m c), hr⟩
  · refine (θ_run Cert.Reference5Ideal.defs _ _).mono (fun r h c => ?_) (Cert.Reference5Ideal.Value.run (F := Ideal) m' g')
    obtain ⟨h7, h9, hr⟩ := h c
    obtain ⟨h0, h1, h2, h3⟩ := hm c
    have e0 : (m' ((c.tc : Thread Cert.Reference5Ideal.nD Cert.Reference5Ideal.τ).loc Cert.Reference5Ideal.main_arg0) : Vec Ideal S16384x8192 .f32) = Cert.Kernel5Ideal.Vals.aU m c := h0
    have e1 : (m' ((c.tc : Thread Cert.Reference5Ideal.nD Cert.Reference5Ideal.τ).loc Cert.Reference5Ideal.main_arg1) : Vec Ideal S512 .f32) = Cert.Kernel5Ideal.Vals.aG m c := h1
    have e2 : (m' ((c.tc : Thread Cert.Reference5Ideal.nD Cert.Reference5Ideal.τ).loc Cert.Reference5Ideal.main_arg2) : Vec Ideal S512x3072 .f32) = Cert.Kernel5Ideal.Vals.aW m c := h2
    refine ⟨h7.trans ?_, h9.trans ?_, hr⟩
    · refine Eq.trans (b := rlat (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1))) rfl ?_
      rw [e0, e1]
      funext i
      exact (congrArg _ (Cert.Kernel5Ideal.Vals.ix2_eq (a := 16384) (b := 512) i (i 0) (i 1) rfl rfl)).trans (rlat_apply _ _ (i 0) (i 1))
    · refine Eq.trans (b := rvals (rlat (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)))
        (m' ((c.tc : Thread Cert.Reference5Ideal.nD Cert.Reference5Ideal.τ).loc Cert.Reference5Ideal.main_arg2))) rfl ?_
      rw [e0, e1, e2]
      funext i
      have hs : ∀ (R : Fin 16384) (j : Fin 1536), (∑ e : Fin 512, rlat (Cert.Kernel5Ideal.Vals.aU m c) (Cert.Kernel5Ideal.Vals.aG m c) (ix2 R e) * Cert.Kernel5Ideal.Vals.aW m c (ix2 e (vcol j)))
          = vals (Cert.Kernel5Ideal.Vals.aU m c) (Cert.Kernel5Ideal.Vals.aG m c) (Cert.Kernel5Ideal.Vals.aW m c) R j :=
        fun R j => Finset.sum_congr rfl fun e _ => by rw [rlat_apply]
      exact (congrArg _ (Cert.Kernel5Ideal.Vals.ix2_eq (a := 16384) (b := 1536) i (i 0) (i 1) rfl rfl)).trans ((rvals_apply _ _ (i 0) (i 1)).trans (hs (i 0) (i 1)))

end Cert.Latent

end
-- ==== Proof.Heads.Spec.lean ====
module

public import Idealize.ShloMosaic.Lib.Pointwise

@[expose] public section

set_option maxRecDepth 16384

noncomputable section

/-! The normed key heads of the grouped-query attention. -/

namespace Cert.Heads

open Idealize.ShloMosaic

/-- An element of a normed head of 128. -/
def nrm (x : Fin 128 → EReal) (g : EReal) (e : Fin 128) : EReal :=
  x e * Ideal.rsqrt (Ideal.div (∑ k : Fin 128, x k * x k) (Ideal.ofBits .f32 0x43000000#32) + Ideal.ofBits .f32 0x358637BD#32) * g

/-- Column `k` of the head of column `j`. -/
def inHead (j : Fin 512) (k : Fin 128) : Fin 512 := ⟨j.val / 128 * 128 + k.val, by omega⟩

/-- The place of column `j` in its head. -/
def place (j : Fin 512) : Fin 128 := ⟨j.val % 128, Nat.mod_lt _ (by decide)⟩

/-- An element of a row of four normed heads. -/
def row (x : Fin 512 → EReal) (g : Fin 128 → EReal) (j : Fin 512) : EReal :=
  nrm (fun k => x (inHead j k)) (g (place j)) (place j)

/-- The normed keys: the columns 7168 to 7679. -/
def keys (u : Vec Ideal ⟨2, ![16384, 8192]⟩ .f32) (g : Vec Ideal ⟨1, ![128]⟩ .f32) (R : Fin 16384) (j : Fin 512) : EReal :=
  row (fun k => u (ix2 R ⟨7168 + k.val, by omega⟩)) (fun k => g (ix1 k)) j

/-- An element of a head after its rotation: the lane times `c` and its partner times `s`. -/
def spin (y : Fin 128 → EReal) (c s : EReal) (e : Fin 128) : EReal :=
  y e * c + (if e.val % 64 < 32 then y ⟨(e.val + 32) % 128, Nat.mod_lt _ (by decide)⟩ else y ⟨(e.val + 96) % 128, Nat.mod_lt _ (by decide)⟩) * s

/-- A frequency: 10000 to the power of minus a 32nd of its number. -/
def freq (l : Fin 32) : EReal :=
  Ideal.pow (Ideal.ofBits .f32 0x461C4000#32) (Ideal.div (-FloatOps.sitofp (F := Ideal) .f32 (BitVec.ofNat 32 l.val)) (Ideal.ofBits .f32 0x42000000#32))

/-- The angle of a place at a frequency. -/
def angle (n : ℕ) (l : Fin 32) : EReal := FloatOps.sitofp (F := Ideal) .f32 (BitVec.ofNat 32 n) * freq l

/-- The angle of a lane at a position of the grid: by its row for the first half of the lanes, by its column for the second. -/
def ang (p : ℕ) (e : Fin 128) : EReal := angle (if e.val < 64 then p / 64 else p % 64) ⟨e.val % 32, Nat.mod_lt _ (by decide)⟩

/-- The sine with the sign that the lane's partner takes. -/
def sgn (p : ℕ) (e : Fin 128) : EReal := if e.val % 64 < 32 then -Ideal.sin (ang p e) else Ideal.sin (ang p e)

/-- The two tables: the context's rows are not rotated. -/
def cosT (R : Fin 16384) (e : Fin 128) : EReal := if R.val < 8192 then Ideal.ofBits .f32 0x3F800000#32 else Ideal.cos (ang ((R.val - 8192) % 4096) e)
def sinT (R : Fin 16384) (e : Fin 128) : EReal := if R.val < 8192 then Ideal.ofBits .f32 0x00000000#32 else sgn ((R.val - 8192) % 4096) e

/-- The rotated keys. -/
def rotated (u : Vec Ideal ⟨2, ![16384, 8192]⟩ .f32) (g : Vec Ideal ⟨1, ![128]⟩ .f32) (R : Fin 16384) (j : Fin 512) : EReal :=
  spin (fun k => keys u g R (inHead j k)) (cosT R (place j)) (sinT R (place j)) (place j)

end Cert.Heads

end
-- ==== Proof.Heads.Case.lean ====
module

public import proofs.«01_k».proof.Proof.Gen.Kernel6Ideal.Frame
public import proofs.«01_k».proof.Proof.Heads.Spec
public import Idealize.ShloMosaic.Lib.Pipeline.Value
public import Idealize.ShloMosaic.Lib.Tactic

@[expose] public section

set_option maxRecDepth 16384

noncomputable section

/-! What the body leaves in the blocks of the normed keys and of the values. -/

namespace Cert.Kernel6Ideal.Vals

open Cert.Kernel6Ideal Cert.Kernel6Ideal.Gen
open Idealize.ShloMosaic Idealize.ShloMosaic.TcCoe Cert.Heads

theorem hz : (![0, 0] : Fin 2 → Nat) = fun _ => 0 := funext fun a => by fin_cases a <;> rfl

theorem key0_apply (x : Vec Ideal S512x128 .f32) (g : Vec Ideal S1x128 .f32) (r : Fin 512) (e : Fin 128) :
    k0_pay32 x g (ix2 r e) = nrm (fun k => x (ix2 r k)) (g (ix2 0 e)) e := by
  pointwise [k0_pay32, nrm]

theorem key1_apply (x : Vec Ideal S512x128 .f32) (g : Vec Ideal S1x128 .f32) (r : Fin 512) (e : Fin 128) :
    k0_pay34 x g (ix2 r e) = nrm (fun k => x (ix2 r k)) (g (ix2 0 e)) e := by
  pointwise [k0_pay34, nrm]

theorem key2_apply (x : Vec Ideal S512x128 .f32) (g : Vec Ideal S1x128 .f32) (r : Fin 512) (e : Fin 128) :
    k0_pay38 x (k0_pay36 g) (k0_pay37 x) (ix2 r e) = nrm (fun k => x (ix2 r k)) (g (ix2 0 e)) e := by
  pointwise [k0_pay38, k0_pay36, k0_pay37, nrm]

theorem key3_apply (x : Vec Ideal S512x128 .f32) (g : Vec Ideal S1x128 .f32) (r : Fin 512) (e : Fin 128) :
    k0_pay40 x g (ix2 r e) = nrm (fun k => x (ix2 r k)) (g (ix2 0 e)) e := by
  pointwise [k0_pay40, nrm]

/-- The normed heads of a row block. -/
def block (x : Vec Ideal S512x512 .f32) (g : Vec Ideal S1x128 .f32) : Vec Ideal S512x512 .f32 :=
  fun y => row (fun k => x (ix2 (y 0) k)) (fun k => g (ix2 0 k)) (y 1)

theorem ix2_eta {a b : ℕ} (i : Shape.Idx ⟨2, ![a, b]⟩) : i = ix2 (i 0) (i 1) := by
  funext k
  match k with
  | 0 => rfl
  | 1 => rfl

theorem ld_cols (X : Vec Ideal S512x512 .f32) (o : ℕ) (inb : ∀ a, (![0, o] : Fin 2 → ℕ) a + S512x128.size a ≤ S512x512.size a) (ho : o + 128 ≤ 512)
    (r : Fin 512) (k : Fin 128) : View.ld X (Rect.unit (s := S512x512) ![0, o] S512x128.size inb) (ix2 r k) = X (ix2 r ⟨o + k.val, by omega⟩) := by
  refine congrArg X (funext fun a => ?_)
  match a with
  | 0 => exact Fin.ext (by show 0 + 1 * r.val = r.val; omega)
  | 1 => exact Fin.ext (by show o + 1 * k.val = o + k.val; omega)

theorem block_cols (x : Vec Ideal S512x512 .f32) (g : Vec Ideal S1x128 .f32) (h : ℕ) (hh : h < 4)
    (inb : ∀ a, (![0, 128 * h] : Fin 2 → ℕ) a + S512x128.size a ≤ S512x512.size a) (r : Fin 512) (e : Fin 128) :
    nrm (fun k => View.ld x (Rect.unit (s := S512x512) ![0, 128 * h] S512x128.size inb) (ix2 r k)) (g (ix2 0 e)) e
      = block x g ((Rect.unit (s := S512x512) ![0, 128 * h] S512x128.size inb).emb (ix2 r e)) := by
  have ee : (Rect.unit (s := S512x512) ![0, 128 * h] S512x128.size inb).emb (ix2 r e) = ix2 r (⟨128 * h + e.val, by omega⟩ : Fin 512) := by
    funext a
    match a with
    | 0 => exact Fin.ext (by show 0 + 1 * r.val = r.val; omega)
    | 1 => exact Fin.ext (by show 128 * h + 1 * e.val = 128 * h + e.val; omega)
  rw [ee]
  show _ = row (fun k => x (ix2 r k)) (fun k => g (ix2 0 k)) (⟨128 * h + e.val, by omega⟩ : Fin 512)
  unfold row
  have hk : ∀ k : Fin 128, inHead ⟨128 * h + e.val, by omega⟩ k = ⟨128 * h + k.val, by omega⟩ := fun k =>
    Fin.ext (by show (128 * h + e.val) / 128 * 128 + k.val = 128 * h + k.val; omega)
  have he : place ⟨128 * h + e.val, by omega⟩ = e := Fin.ext (by show (128 * h + e.val) % 128 = e.val; omega)
  simp only [hk]
  rw [he]
  exact congrArg (fun f => nrm f (g (ix2 0 e)) e) (funext fun k => ld_cols x _ inb (by omega) r k)

set_option maxHeartbeats 1000000 in
theorem pieces9 (c : Dev nD) (i : grid0.Coords) (arg1 : Memref sig .tc .vmem S512x1536 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .bf16) (harg11 : arg11.IsWhole)
    (x0 : Vec Ideal S512x1536 .f32) (x1 : Vec Ideal S512x512 .f32) (x2 : Vec Ideal S512x512 .f32) (x3 : Vec Ideal S1x128 .f32) (x4 : Vec Ideal S1x128 .f32) (x5 : Vec Ideal S512x128 .f32) (x6 : Vec Ideal S512x128 .f32) :
    ∀ p ∈ (kernelRun0_A c i arg1 harg1 arg2 harg2 arg3 harg3 arg4 harg4 arg5 harg5 arg6 harg6 arg7 harg7 arg8 harg8 arg9 harg9 arg10 harg10 arg11 harg11 x0 x1 x2 x3 x4 x5 x6).2.2.1, ∀ y, p.2 y = block x1 x4 (p.1.emb y) := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x128) hz]
  simp only [List.forall_mem_cons]
  refine ⟨?_, ?_, ?_, ?_, fun p hp => absurd hp List.not_mem_nil⟩
  · intro y
    refine (congrArg _ (ix2_eta y)).trans ((key3_apply _ _ (y 0) (y 1)).trans ((block_cols x1 x4 3 (by decide) inb_S512x512_S512x128_0_384 (y 0) (y 1)).trans ?_))
    exact congrArg (fun q => block x1 x4 ((Rect.unit (s := S512x512) ![0, 384] S512x128.size inb_S512x512_S512x128_0_384).emb q)) (ix2_eta y).symm
  · intro y
    refine (congrArg _ (ix2_eta y)).trans ((key2_apply _ _ (y 0) (y 1)).trans ((block_cols x1 x4 2 (by decide) inb_S512x512_S512x128_0_256 (y 0) (y 1)).trans ?_))
    exact congrArg (fun q => block x1 x4 ((Rect.unit (s := S512x512) ![0, 256] S512x128.size inb_S512x512_S512x128_0_256).emb q)) (ix2_eta y).symm
  · intro y
    refine (congrArg _ (ix2_eta y)).trans ((key1_apply _ _ (y 0) (y 1)).trans ((block_cols x1 x4 1 (by decide) inb_S512x512_S512x128_0_128 (y 0) (y 1)).trans ?_))
    exact congrArg (fun q => block x1 x4 ((Rect.unit (s := S512x512) ![0, 128] S512x128.size inb_S512x512_S512x128_0_128).emb q)) (ix2_eta y).symm
  · intro y
    refine (congrArg _ (ix2_eta y)).trans ((key0_apply _ _ (y 0) (y 1)).trans ((block_cols x1 x4 0 (by decide) inb_S512x512_S512x128_0_0 (y 0) (y 1)).trans ?_))
    exact congrArg (fun q => block x1 x4 ((Rect.unit (s := S512x512) ![0, 0] S512x128.size inb_S512x512_S512x128_0_0).emb q)) (ix2_eta y).symm

theorem left9 (c : Dev nD) (i : grid0.Coords) (arg1 : Memref sig .tc .vmem S512x1536 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .bf16) (harg11 : arg11.IsWhole)
    (x0 : Vec Ideal S512x1536 .f32) (x1 : Vec Ideal S512x512 .f32) (x2 : Vec Ideal S512x512 .f32) (x3 : Vec Ideal S1x128 .f32) (x4 : Vec Ideal S1x128 .f32) (x5 : Vec Ideal S512x128 .f32) (x6 : Vec Ideal S512x128 .f32) :
    out0_A_9 c i arg1 harg1 arg2 harg2 arg3 harg3 arg4 harg4 arg5 harg5 arg6 harg6 arg7 harg7 arg8 harg8 arg9 harg9 arg10 harg10 arg11 harg11 x0 x1 x2 x3 x4 x5 x6 = block x1 x4 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6)]
  exact funext fun y => View.canon_apply_of_pieces _ _ (pieces9 c i arg1 harg1 arg2 harg2 arg3 harg3 arg4 harg4 arg5 harg5 arg6 harg6 arg7 harg7 arg8 harg8 arg9 harg9 arg10 harg10 arg11 harg11 x0 x1 x2 x3 x4 x5 x6) y (cover0_A_9 c i arg1 harg1 arg2 harg2 arg3 harg3 arg4 harg4 arg5 harg5 arg6 harg6 arg7 harg7 arg8 harg8 arg9 harg9 arg10 harg10 arg11 harg11 x0 x1 x2 x3 x4 x5 x6 y)

set_option maxHeartbeats 1000000 in
theorem left10 (c : Dev nD) (i : grid0.Coords) (arg1 : Memref sig .tc .vmem S512x1536 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .bf16) (harg11 : arg11.IsWhole)
    (x0 : Vec Ideal S512x1536 .f32) (x1 : Vec Ideal S512x512 .f32) (x2 : Vec Ideal S512x512 .f32) (x3 : Vec Ideal S1x128 .f32) (x4 : Vec Ideal S1x128 .f32) (x5 : Vec Ideal S512x128 .f32) (x6 : Vec Ideal S512x128 .f32) :
    out0_A_10 c i arg1 harg1 arg2 harg2 arg3 harg3 arg4 harg4 arg5 harg5 arg6 harg6 arg7 harg7 arg8 harg8 arg9 harg9 arg10 harg10 arg11 harg11 x0 x1 x2 x3 x4 x5 x6 = k0_pay2 x2 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 x0 x1 x2 x3 x4 x5 x6)]
  unfold kernelRun0_A
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S512x512) hz]

end Cert.Kernel6Ideal.Vals

end
-- ==== Proof.Heads.Rot.lean ====
module

public import proofs.«01_k».proof.Proof.Heads.Case

@[expose] public section

set_option maxRecDepth 16384

noncomputable section

/-! What the body leaves in the block of the rotated keys. -/

namespace Cert.Kernel6Ideal.Vals

open Cert.Kernel6Ideal Cert.Kernel6Ideal.Gen
open Idealize.ShloMosaic Idealize.ShloMosaic.TcCoe Cert.Heads

/-- The lanes that take their partner from the right. -/
theorem mask_apply (r : Fin 512) (e : Fin 128) : k0_pay41 (ix2 r e) = if e.val % 64 < 32 then 1#1 else 0#1 := by
  have h : ∀ e : Fin 128, IntOp.cmpi .slt (IntOp.andi (BitVec.ofNat 32 e.val) 63#32) 32#32 = if e.val % 64 < 32 then 1#1 else 0#1 := by decide
  refine Eq.trans ?_ (h e)
  pointwise [k0_pay41]

theorem rot_apply (C S y : FVec Ideal S512x128 .f32) (r : Fin 512) (e : Fin 128) :
    (k0_pay1 C S y k0_pay41 : FVec Ideal S512x128 .bf16) (ix2 r e) = spin (fun k => y (ix2 r k)) (C (ix2 r e)) (S (ix2 r e)) e := by
  have hm := mask_apply r e
  pointwise [k0_pay1, spin]
  rw [hm]
  by_cases h : e.val % 64 < 32
  · simp only [if_pos h]
    rfl
  · simp only [if_neg h]
    rfl

theorem rot0_eq (C S x : FVec Ideal S512x128 .f32) (g : FVec Ideal S1x128 .f32) : k0_pay33 C S x g = k0_pay1 C S (k0_pay32 x g) k0_pay41 := rfl
theorem rot1_eq (C S x : FVec Ideal S512x128 .f32) (g : FVec Ideal S1x128 .f32) : k0_pay35 C S x g = k0_pay1 C S (k0_pay34 x g) k0_pay41 := rfl
theorem rot2_eq (C S x : FVec Ideal S512x128 .f32) (g : FVec Ideal S1x128 .f32) (z : FVec Ideal S512x128 .f32) : k0_pay39 C S x g z = k0_pay1 C S (k0_pay38 x g z) k0_pay41 := rfl

theorem pay3_eq (x : Vec Ideal S512x128 .f32) : k0_pay3 x = x := by
  funext y
  pointwise [k0_pay3]

theorem pay4_eq (x : Vec Ideal S512x128 .f32) : k0_pay4 x = x := by
  funext y
  pointwise [k0_pay4]

/-- The rotated heads of a row block. -/
def spun (x : Vec Ideal S512x512 .f32) (g : Vec Ideal S1x128 .f32) (C S : Vec Ideal S512x128 .f32) : Vec Ideal S512x512 .bf16 :=
  fun y => spin (fun k => row (fun k => x (ix2 (y 0) k)) (fun k => g (ix2 0 k)) (inHead (y 1) k)) (C (ix2 (y 0) (place (y 1)))) (S (ix2 (y 0) (place (y 1)))) (place (y 1))

theorem spun_cols (x : Vec Ideal S512x512 .f32) (g : Vec Ideal S1x128 .f32) (C S : Vec Ideal S512x128 .f32) (Y : FVec Ideal S512x128 .f32) (h : ℕ) (hh : h < 4)
    (inb : ∀ a, (![0, 128 * h] : Fin 2 → ℕ) a + S512x128.size a ≤ S512x512.size a) {r : Fin 512}
    (hY : ∀ k : Fin 128, Y (ix2 r k) = nrm (fun k => View.ld x (Rect.unit (s := S512x512) ![0, 128 * h] S512x128.size inb) (ix2 r k)) (g (ix2 0 k)) k) (e : Fin 128) :
    spin (fun k => Y (ix2 r k)) (C (ix2 r e)) (S (ix2 r e)) e
      = spun x g C S ((Rect.unit (s := S512x512) ![0, 128 * h] S512x128.size inb).emb (ix2 r e)) := by
  have ee : ∀ e : Fin 128, (Rect.unit (s := S512x512) ![0, 128 * h] S512x128.size inb).emb (ix2 r e) = ix2 r (⟨128 * h + e.val, by omega⟩ : Fin 512) := fun e => by
    funext a
    match a with
    | 0 => exact Fin.ext (by show 0 + 1 * r.val = r.val; omega)
    | 1 => exact Fin.ext (by show 128 * h + 1 * e.val = 128 * h + e.val; omega)
  have he : place ⟨128 * h + e.val, by omega⟩ = e := Fin.ext (by show (128 * h + e.val) % 128 = e.val; omega)
  have hk : ∀ k : Fin 128, inHead ⟨128 * h + e.val, by omega⟩ k = ⟨128 * h + k.val, by omega⟩ := fun k =>
    Fin.ext (by show (128 * h + e.val) / 128 * 128 + k.val = 128 * h + k.val; omega)
  have hf : (fun k => Y (ix2 r k)) = fun k => row (fun k => x (ix2 r k)) (fun k => g (ix2 0 k)) (⟨128 * h + k.val, by omega⟩ : Fin 512) := funext fun k => by
    rw [hY k, block_cols x g h hh inb r k, ee k]
    rfl
  rw [hf, ee e]
  show _ = spin (fun k => row (fun k => x (ix2 r k)) (fun k => g (ix2 0 k)) (inHead (⟨128 * h + e.val, by omega⟩ : Fin 512) k)) (C (ix2 r (place ⟨128 * h + e.val, by omega⟩))) (S (ix2 r (place ⟨128 * h + e.val, by omega⟩))) (place ⟨128 * h + e.val, by omega⟩)
  simp only [hk]
  rw [he]

set_option maxHeartbeats 1000000 in
theorem pieces8 (c : Dev nD) (i : grid0.Coords) (arg1 : Memref sig .tc .vmem S512x1536 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .bf16) (harg11 : arg11.IsWhole)
    (x0 : Vec Ideal S512x1536 .f32) (x1 : Vec Ideal S512x512 .f32) (x2 : Vec Ideal S512x512 .f32) (x3 : Vec Ideal S1x128 .f32) (x4 : Vec Ideal S1x128 .f32) (x5 : Vec Ideal S512x128 .f32) (x6 : Vec Ideal S512x128 .f32) :
    ∀ p ∈ (kernelRun0_A c i arg1 harg1 arg2 harg2 arg3 harg3 arg4 harg4 arg5 harg5 arg6 harg6 arg7 harg7 arg8 harg8 arg9 harg9 arg10 harg10 arg11 harg11 x0 x1 x2 x3 x4 x5 x6).2.1, ∀ y, p.2 y = spun x1 x4 x5 x6 (p.1.emb y) := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x128) hz, View.ld_unit_zero (S := S512x128) hz, pay3_eq, pay4_eq]
  simp only [List.forall_mem_cons]
  refine ⟨?_, ?_, ?_, ?_, fun p hp => absurd hp List.not_mem_nil⟩
  · intro y
    refine (congrArg _ (ix2_eta y)).trans ((rot_apply _ _ _ (y 0) (y 1)).trans ((spun_cols x1 x4 x5 x6 _ 3 (by decide) inb_S512x512_S512x128_0_384 (fun k => key3_apply _ _ (y 0) k) (y 1)).trans ?_))
    exact congrArg (fun q => spun x1 x4 x5 x6 ((Rect.unit (s := S512x512) ![0, 384] S512x128.size inb_S512x512_S512x128_0_384).emb q)) (ix2_eta y).symm
  · intro y
    refine (congrArg _ (ix2_eta y)).trans (((congrFun (rot2_eq _ _ _ _ _) _).trans (rot_apply _ _ _ (y 0) (y 1))).trans ((spun_cols x1 x4 x5 x6 _ 2 (by decide) inb_S512x512_S512x128_0_256 (fun k => key2_apply _ _ (y 0) k) (y 1)).trans ?_))
    exact congrArg (fun q => spun x1 x4 x5 x6 ((Rect.unit (s := S512x512) ![0, 256] S512x128.size inb_S512x512_S512x128_0_256).emb q)) (ix2_eta y).symm
  · intro y
    refine (congrArg _ (ix2_eta y)).trans (((congrFun (rot1_eq _ _ _ _) _).trans (rot_apply _ _ _ (y 0) (y 1))).trans ((spun_cols x1 x4 x5 x6 _ 1 (by decide) inb_S512x512_S512x128_0_128 (fun k => key1_apply _ _ (y 0) k) (y 1)).trans ?_))
    exact congrArg (fun q => spun x1 x4 x5 x6 ((Rect.unit (s := S512x512) ![0, 128] S512x128.size inb_S512x512_S512x128_0_128).emb q)) (ix2_eta y).symm
  · intro y
    refine (congrArg _ (ix2_eta y)).trans (((congrFun (rot0_eq _ _ _ _) _).trans (rot_apply _ _ _ (y 0) (y 1))).trans ((spun_cols x1 x4 x5 x6 _ 0 (by decide) inb_S512x512_S512x128_0_0 (fun k => key0_apply _ _ (y 0) k) (y 1)).trans ?_))
    exact congrArg (fun q => spun x1 x4 x5 x6 ((Rect.unit (s := S512x512) ![0, 0] S512x128.size inb_S512x512_S512x128_0_0).emb q)) (ix2_eta y).symm

theorem left8 (c : Dev nD) (i : grid0.Coords) (arg1 : Memref sig .tc .vmem S512x1536 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1536 .bf16) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .bf16) (harg11 : arg11.IsWhole)
    (x0 : Vec Ideal S512x1536 .f32) (x1 : Vec Ideal S512x512 .f32) (x2 : Vec Ideal S512x512 .f32) (x3 : Vec Ideal S1x128 .f32) (x4 : Vec Ideal S1x128 .f32) (x5 : Vec Ideal S512x128 .f32) (x6 : Vec Ideal S512x128 .f32) :
    out0_A_8 c i arg1 harg1 arg2 harg2 arg3 harg3 arg4 harg4 arg5 harg5 arg6 harg6 arg7 harg7 arg8 harg8 arg9 harg9 arg10 harg10 arg11 harg11 x0 x1 x2 x3 x4 x5 x6 = spun x1 x4 x5 x6 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 x0 x1 x2 x3 x4 x5 x6)]
  exact funext fun y => View.canon_apply_of_pieces _ _ (pieces8 c i arg1 harg1 arg2 harg2 arg3 harg3 arg4 harg4 arg5 harg5 arg6 harg6 arg7 harg7 arg8 harg8 arg9 harg9 arg10 harg10 arg11 harg11 x0 x1 x2 x3 x4 x5 x6) y (cover0_A_8 c i arg1 harg1 arg2 harg2 arg3 harg3 arg4 harg4 arg5 harg5 arg6 harg6 arg7 harg7 arg8 harg8 arg9 harg9 arg10 harg10 arg11 harg11 x0 x1 x2 x3 x4 x5 x6 y)

end Cert.Kernel6Ideal.Vals

end
-- ==== Proof.Heads.Array.lean ====
module

public import proofs.«01_k».proof.Proof.Gen.Kernel6Ideal.Value
public import proofs.«01_k».proof.Proof.Heads.Case
public import Idealize.ShloMosaic.Lib.Claim
public import Idealize.ShloMosaic.Lib.Pipeline.ValueKit

@[expose] public section

set_option maxRecDepth 16384

noncomputable section

/-! The blocks that the call reads, and the arrays that it leaves. -/

namespace Cert.Kernel6Ideal.Vals

open Cert.Kernel6Ideal Cert.Kernel6Ideal.Gen
open Idealize.ShloMosaic Idealize.ShloMosaic.TcCoe Cert.Heads

variable (m : (ℓ : Loc nD τ sig) → Buf (Elt Ideal) ℓ) (c : Dev nD)

/-- The arguments, as arrays. -/
def aU : Vec Ideal S16384x8192 .f32 := m ((c.tc : Thread nD τ).loc main_arg0)
def aK : Vec Ideal S128 .f32 := m ((c.tc : Thread nD τ).loc main_arg2)

theorem entry_u : V m c main_arg0 = aU m c := V_main_arg0 m c

theorem entry_g (e : Fin 128) : (V m c main_v36 : Vec Ideal S1x128 .f32) (ix2 0 e) = aK m c (ix1 e) := by
  have h : (V m c main_v36 : Vec Ideal S1x128 .f32) = shapeCast S1x128 (aK m c) shapeCasts_S128_S1x128 := rfl
  rw [h]
  pointwise []

theorem idx1 : ∀ t : Fin cfg0.N, win0_1.index t = ![t.val, 14] := by
  decide +kernel
theorem idx2 : ∀ t : Fin cfg0.N, win0_2.index t = ![t.val, 15] := by
  decide +kernel
theorem idx4 : ∀ t : Fin cfg0.N, win0_4.index t = ![0, 0] := by
  decide +kernel
theorem idx9 : ∀ t : Fin cfg0.N, win0_9.index t = ![t.val, 0] := by
  decide +kernel
theorem idx10 : ∀ t : Fin cfg0.N, win0_10.index t = ![t.val, 0] := by
  decide +kernel

theorem lt_N (t : Fin cfg0.N) : t.val < 32 := by
  have h := t.isLt
  have hN : cfg0.N = 32 := N_0
  omega

theorem ix2_eq {a b : ℕ} (i : Shape.Idx ⟨2, ![a, b]⟩) (x : Fin a) (y : Fin b) (h0 : (i 0).val = x.val) (h1 : (i 1).val = y.val) : i = ix2 x y := by
  funext k
  match k with
  | 0 => exact Fin.ext h0
  | 1 => exact Fin.ext h1

/-- The row of the arrays at row `r` of point `n`. -/
def rowOf (n : ℕ) (hn : n < 32) (r : Fin 512) : Fin 16384 := ⟨n * 512 + r.val, by omega⟩

theorem iblk_k (t : Fin cfg0.N) (y : S512x512.Idx) : ∃ i : S16384x8192.Idx,
    (i 0).val = t.val * 512 + (y 0).val ∧ (i 1).val = 7168 + (y 1).val ∧ iblk m c 1 t y = V m c main_arg0 i := by
  refine ⟨(win0_1.blk t).view.emb y, ?_, ?_, rfl⟩
  · blk_simp [idx1]
  · blk_simp [idx1]

theorem iblk_v (t : Fin cfg0.N) (y : S512x512.Idx) : ∃ i : S16384x8192.Idx,
    (i 0).val = t.val * 512 + (y 0).val ∧ (i 1).val = 7680 + (y 1).val ∧ iblk m c 2 t y = V m c main_arg0 i := by
  refine ⟨(win0_2.blk t).view.emb y, ?_, ?_, rfl⟩
  · blk_simp [idx2]
  · blk_simp [idx2]

theorem iblk_g (t : Fin cfg0.N) (y : S1x128.Idx) : ∃ i : S1x128.Idx,
    (i 0).val = (y 0).val ∧ (i 1).val = (y 1).val ∧ iblk m c 4 t y = V m c main_v36 i := by
  refine ⟨(win0_4.blk t).view.emb y, ?_, ?_, rfl⟩
  · blk_simp [idx4]
  · blk_simp [idx4]

theorem blk_k (t : Fin cfg0.N) (r e : Fin 512) :
    (iblk m c 1 t : Vec Ideal S512x512 .f32) (ix2 r e) = aU m c (ix2 (rowOf t.val (lt_N t) r) ⟨7168 + e.val, by omega⟩) := by
  obtain ⟨i, h0, h1, hi⟩ := iblk_k m c t (ix2 r e)
  exact hi.trans ((congrFun (entry_u m c) i).trans (congrArg (aU m c) (ix2_eq i _ _ h0 h1)))

theorem blk_v (t : Fin cfg0.N) (r e : Fin 512) :
    (iblk m c 2 t : Vec Ideal S512x512 .f32) (ix2 r e) = aU m c (ix2 (rowOf t.val (lt_N t) r) ⟨7680 + e.val, by omega⟩) := by
  obtain ⟨i, h0, h1, hi⟩ := iblk_v m c t (ix2 r e)
  exact hi.trans ((congrFun (entry_u m c) i).trans (congrArg (aU m c) (ix2_eq i _ _ h0 h1)))

theorem blk_g (t : Fin cfg0.N) (e : Fin 128) : (iblk m c 4 t : Vec Ideal S1x128 .f32) (ix2 0 e) = aK m c (ix1 e) := by
  obtain ⟨i, h0, h1, hi⟩ := iblk_g m c t (ix2 0 e)
  exact hi.trans ((congrArg (V m c main_v36) (ix2_eq i 0 e h0 h1)).trans (entry_g m c e))

theorem left_keys (t : Fin cfg0.N) (r e : Fin 512) :
    block (iblk m c 1 t) (iblk m c 4 t) (ix2 r e) = keys (aU m c) (aK m c) (rowOf t.val (lt_N t) r) e := by
  show row (fun k => (iblk m c 1 t : Vec Ideal S512x512 .f32) (ix2 r k)) (fun k => (iblk m c 4 t : Vec Ideal S1x128 .f32) (ix2 0 k)) e = _
  unfold keys
  exact congrArg₂ (fun x g => row x g e) (funext fun k => blk_k m c t r k) (funext fun k => blk_g m c t k)

/-- The normed keys, as an array. -/
def G9 : Vec Ideal S16384x512 .f32 := fun i => keys (aU m c) (aK m c) (i 0) (i 1)

/-- The values, as an array: the columns 7680 to 8191. -/
def G10 : Vec Ideal S16384x512 .bf16 := fun i => aU m c (ix2 (i 0) ⟨7680 + (i 1).val, by have h : (i 1).val < 512 := (i 1).isLt; omega⟩)

theorem mem9 (t : Fin cfg0.N) (i : S16384x512.Idx) :
    i ∈ ((cfg0.win 9).blk t).view.set ↔ ∀ a : Fin 2, win0_9.index t a * S512x512.size a ≤ (i a).val ∧ (i a).val < win0_9.index t a * S512x512.size a + S512x512.size a := by
  show i ∈ ((View.whole main_v37_2).slice (win0_9.rect t)).set ↔ _
  rw [View.set_slice_whole, Rect.mem_set_unit]
  exact Iff.rfl

theorem mem10 (t : Fin cfg0.N) (i : S16384x512.Idx) :
    i ∈ ((cfg0.win 10).blk t).view.set ↔ ∀ a : Fin 2, win0_10.index t a * S512x512.size a ≤ (i a).val ∧ (i a).val < win0_10.index t a * S512x512.size a + S512x512.size a := by
  show i ∈ ((View.whole main_v37_3).slice (win0_10.rect t)).set ↔ _
  rw [View.set_slice_whole, Rect.mem_set_unit]
  exact Iff.rfl

theorem flush9 : ∀ t : Fin cfg0.N, (cfg0.win 9).flush t = true := by
  decide +kernel
theorem flush10 : ∀ t : Fin cfg0.N, (cfg0.win 10).flush t = true := by
  decide +kernel

theorem final9 : ((dats m 0 c).arrAt 9 cfg0.N : Vec Ideal S16384x512 .f32) = G9 m c := by
  refine (dats m 0 c).arrAt_eq_of_cover 9 _ (fun t _ => ?_) (fun i => ?_)
  · rw [Value.flushed9_A, left9]
    funext y
    have hb0 : (((cfg0.win 9).blk t).view.emb y 0).val = win0_9.index t (0 : Fin 2) * 512 + 1 * (y 0).val := rfl
    have hb1 : (((cfg0.win 9).blk t).view.emb y 1).val = win0_9.index t (1 : Fin 2) * 512 + 1 * (y 1).val := rfl
    rw [idx9] at hb0 hb1
    have e0 : rowOf t.val (lt_N t) (y 0) = ((cfg0.win 9).blk t).view.emb y 0 := Fin.ext (by
      rw [hb0]; show t.val * 512 + (y 0).val = t.val * 512 + 1 * (y 0).val; omega)
    have e1 : (y 1 : Fin 512) = ((cfg0.win 9).blk t).view.emb y 1 := Fin.ext (by
      rw [hb1]; show (y 1).val = 0 * 512 + 1 * (y 1).val; omega)
    refine Eq.trans (congrArg _ (ix2_eq (a := 512) (b := 512) _ (y 0) (y 1) rfl rfl)) ((left_keys m c t (y 0) (y 1)).trans ?_)
    exact congrArg₂ (keys (aU m c) (aK m c)) e0 e1
  · have h0 : (i 0).val < 16384 := (i 0).isLt
    have h1 : (i 1).val < 512 := (i 1).isLt
    have hN : cfg0.N = 32 := N_0
    refine ⟨⟨(i 0).val / 512, by omega⟩, flush9 _, ?_⟩
    rw [mem9]
    intro a
    rw [idx9]
    match a with
    | ⟨0, _⟩ => show (i 0).val / 512 * 512 ≤ (i 0).val ∧ (i 0).val < (i 0).val / 512 * 512 + 512; omega
    | ⟨1, _⟩ => show 0 * 512 ≤ (i 1).val ∧ (i 1).val < 0 * 512 + 512; omega

theorem final10 : ((dats m 0 c).arrAt 10 cfg0.N : Vec Ideal S16384x512 .bf16) = G10 m c := by
  refine (dats m 0 c).arrAt_eq_of_cover 10 _ (fun t _ => ?_) (fun i => ?_)
  · rw [Value.flushed10_A, left10]
    funext y
    have hb0 : (((cfg0.win 10).blk t).view.emb y 0).val = win0_10.index t (0 : Fin 2) * 512 + 1 * (y 0).val := rfl
    have hb1 : (((cfg0.win 10).blk t).view.emb y 1).val = win0_10.index t (1 : Fin 2) * 512 + 1 * (y 1).val := rfl
    rw [idx10] at hb0 hb1
    refine Eq.trans (congrArg _ (ix2_eq (a := 512) (b := 512) _ (y 0) (y 1) rfl rfl)) ((blk_v m c t (y 0) (y 1)).trans ?_)
    refine congrArg (aU m c) (ix2_eq _ _ _ ?_ ?_)
    · rw [hb0]; show t.val * 512 + (y 0).val = t.val * 512 + 1 * (y 0).val; omega
    · show 7680 + (y 1).val = 7680 + (((cfg0.win 10).blk t).view.emb y 1).val
      rw [hb1]; show 7680 + (y 1).val = 7680 + (0 * 512 + 1 * (y 1).val); omega
  · have h0 : (i 0).val < 16384 := (i 0).isLt
    have h1 : (i 1).val < 512 := (i 1).isLt
    have hN : cfg0.N = 32 := N_0
    refine ⟨⟨(i 0).val / 512, by omega⟩, flush10 _, ?_⟩
    rw [mem10]
    intro a
    rw [idx10]
    match a with
    | ⟨0, _⟩ => show (i 0).val / 512 * 512 ≤ (i 0).val ∧ (i 0).val < (i 0).val / 512 * 512 + 512; omega
    | ⟨1, _⟩ => show 0 * 512 ≤ (i 1).val ∧ (i 1).val < 0 * 512 + 512; omega

end Cert.Kernel6Ideal.Vals

end
-- ==== Proof.Heads.Table.lean ====
module

public import proofs.«01_k».proof.Proof.Heads.Array

@[expose] public section

set_option maxRecDepth 16384

noncomputable section

/-! The rotary tables as the host computes them. -/

namespace Cert.Kernel6Ideal.Vals

open Cert.Kernel6Ideal Cert.Kernel6Ideal.Gen
open Idealize.ShloMosaic Idealize.ShloMosaic.TcCoe Cert.Heads

variable (m : (ℓ : Loc nD τ sig) → Buf (Elt Ideal) ℓ) (c : Dev nD)

/-- The 32 frequencies. -/
def kfreq : FVec Ideal S32 .f32 :=
  Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))

/-- The angles of the 64 places of an axis. -/
def kplace : FVec Ideal S64x32 .f32 :=
  mulf (broadcastInDim S64x32 ![0, 1] bcast_S64x1_S64x32_0_1 (broadcastInDim S64x1 ![0] bcast_S64_S64x1_0 (sitofp .f32 (iotaInDim S64 32 0)))) (broadcastInDim S64x32 ![0, 1] bcast_S1x32_S64x32_0_1 (broadcastInDim S1x32 ![1] bcast_S32_S1x32_1 kfreq))

/-- The angles of the grid's positions by their row, and by their column. -/
def krow : FVec Ideal S4096x32 .f32 := shapeCast S4096x32 (broadcastInDim S64x64x32 ![0, 1, 2] bcast_S64x1x32_S64x64x32_0_1_2 (broadcastInDim S64x1x32 ![0, 2] bcast_S64x32_S64x1x32_0_2 kplace)) shapeCasts_S64x64x32_S4096x32
def kcol : FVec Ideal S4096x32 .f32 := shapeCast S4096x32 (broadcastInDim S64x64x32 ![0, 1, 2] bcast_S1x64x32_S64x64x32_0_1_2 (broadcastInDim S1x64x32 ![1, 2] bcast_S64x32_S1x64x32_1_2 kplace)) shapeCasts_S64x64x32_S4096x32

/-- Four tables side by side. -/
def kfour (a b d e : FVec Ideal S4096x32 .f32) : FVec Ideal S4096x128 .f32 :=
  concatenate S4096x128 1 [⟨S4096x32, a⟩, ⟨S4096x32, b⟩, ⟨S4096x32, d⟩, ⟨S4096x32, e⟩] concatenates_S4096x32_S4096x32_S4096x32_S4096x32_S4096x128_d1

/-- The rows of the context, then those of the two images. -/
def kall (w : BitVec 32) (x : FVec Ideal S4096x128 .f32) : FVec Ideal S16384x128 .f32 :=
  concatenate S16384x128 0 [⟨S8192x128, broadcastInDim S8192x128 ![] bcast_S_S8192x128 (constant (F := Ideal) S_ .f32 w)⟩, ⟨S4096x128, x⟩, ⟨S4096x128, x⟩] concatenates_S8192x128_S4096x128_S4096x128_S16384x128_d0

theorem entry_cos : (V m c main_v32 : Vec Ideal S16384x128 .f32) = kall 0x3F800000#32 (kfour (Host.cos krow) (Host.cos krow) (Host.cos kcol) (Host.cos kcol)) := by
  show StableHlo.after hostOps0 (fun b => m (c, b)) (Proc.devRef .tc main_v32) = _
  unfold kall kfour krow kcol kplace kfreq
  simp only [hostOps0, List.flatten_cons, List.flatten_nil, List.append_nil, List.cons_append, List.nil_append]
  after_results <;> rfl

theorem entry_sin : (V m c main_v34 : Vec Ideal S16384x128 .f32) = kall 0x00000000#32 (kfour (Host.negf (Host.sin krow)) (Host.sin krow) (Host.negf (Host.sin kcol)) (Host.sin kcol)) := by
  show StableHlo.after hostOps0 (fun b => m (c, b)) (Proc.devRef .tc main_v34) = _
  unfold kall kfour krow kcol kplace kfreq
  simp only [hostOps0, List.flatten_cons, List.flatten_nil, List.append_nil, List.cons_append, List.nil_append]
  after_results <;> rfl

theorem krow_apply (p : Fin 4096) (l : Fin 32) : krow (ix2 p l) = angle (p.val / 64) l := by
  pointwise [krow, kplace, kfreq, angle, freq]

theorem kcol_apply (p : Fin 4096) (l : Fin 32) : kcol (ix2 p l) = angle (p.val % 64) l := by
  pointwise [kcol, kplace, kfreq, angle, freq]

/-- Four tables side by side, read at a lane. -/
theorem kfour_apply (a b d e : FVec Ideal S4096x32 .f32) (p : Fin 4096) (l : Fin 128) (f : Fin 128 → EReal)
    (ha : ∀ k : Fin 32, l.val = k.val → a (ix2 p k) = f l) (hb : ∀ k : Fin 32, l.val = 32 + k.val → b (ix2 p k) = f l)
    (hd : ∀ k : Fin 32, l.val = 64 + k.val → d (ix2 p k) = f l) (he : ∀ k : Fin 32, l.val = 96 + k.val → e (ix2 p k) = f l) :
    kfour a b d e (ix2 p l) = f l := by
  pointwise [kfour]
  by_cases h1 : l.val < 32
  · rw [dif_pos h1]
    exact ha _ rfl
  rw [dif_neg h1]
  by_cases h2 : l.val - 32 < 32
  · rw [dif_pos h2]
    exact hb _ (by dsimp only; omega)
  rw [dif_neg h2]
  by_cases h3 : l.val - 32 - 32 < 32
  · rw [dif_pos h3]
    exact hd _ (by dsimp only; omega)
  rw [dif_neg h3]
  exact he _ (by dsimp only; omega)

theorem kall_apply (w : BitVec 32) (x : FVec Ideal S4096x128 .f32) (R : Fin 16384) (l : Fin 128) :
    kall w x (ix2 R l) = if R.val < 8192 then Ideal.ofBits .f32 w else x (ix2 ⟨(R.val - 8192) % 4096, Nat.mod_lt _ (by decide)⟩ l) := by
  pointwise [kall]
  by_cases h1 : R.val < 8192
  · rw [dif_pos h1, if_pos h1]
  rw [dif_neg h1, if_neg h1]
  by_cases h2 : R.val - 8192 < 4096
  · rw [dif_pos h2]
    exact congrArg (fun q => x (ix2 q l)) (Fin.ext (by dsimp only; omega))
  · rw [dif_neg h2]
    exact congrArg (fun q => x (ix2 q l)) (Fin.ext (by dsimp only; omega))

theorem ang_row (p : Fin 4096) (l : Fin 128) (k : Fin 32) (hl : l.val < 64) (hk : k.val = l.val % 32) : krow (ix2 p k) = ang p.val l := by
  rw [krow_apply]
  unfold ang
  rw [if_pos hl]
  exact congrArg (angle _) (Fin.ext hk)

theorem ang_col (p : Fin 4096) (l : Fin 128) (k : Fin 32) (hl : ¬ l.val < 64) (hk : k.val = l.val % 32) : kcol (ix2 p k) = ang p.val l := by
  rw [kcol_apply]
  unfold ang
  rw [if_neg hl]
  exact congrArg (angle _) (Fin.ext hk)

theorem cos_apply (R : Fin 16384) (l : Fin 128) : (V m c main_v32 : Vec Ideal S16384x128 .f32) (ix2 R l) = cosT R l := by
  rw [entry_cos, kall_apply]
  unfold cosT
  by_cases h : R.val < 8192
  · rw [if_pos h, if_pos h]
  rw [if_neg h, if_neg h]
  refine kfour_apply _ _ _ _ _ l (fun l => Ideal.cos (ang ((R.val - 8192) % 4096) l)) ?_ ?_ ?_ ?_
  · intro k hk
    exact congrArg Ideal.cos (ang_row _ l k (by omega) (by omega))
  · intro k hk
    exact congrArg Ideal.cos (ang_row _ l k (by omega) (by omega))
  · intro k hk
    exact congrArg Ideal.cos (ang_col _ l k (by omega) (by omega))
  · intro k hk
    exact congrArg Ideal.cos (ang_col _ l k (by omega) (by omega))

theorem sin_apply (R : Fin 16384) (l : Fin 128) : (V m c main_v34 : Vec Ideal S16384x128 .f32) (ix2 R l) = sinT R l := by
  rw [entry_sin, kall_apply]
  unfold sinT
  by_cases h : R.val < 8192
  · rw [if_pos h, if_pos h]
  rw [if_neg h, if_neg h]
  refine kfour_apply _ _ _ _ _ l (fun l => sgn ((R.val - 8192) % 4096) l) ?_ ?_ ?_ ?_
  · intro k hk
    dsimp only [sgn]
    rw [if_pos (by omega)]
    exact congrArg (fun q => -Ideal.sin q) (ang_row _ l k (by omega) (by omega))
  · intro k hk
    dsimp only [sgn]
    rw [if_neg (by omega)]
    exact congrArg Ideal.sin (ang_row _ l k (by omega) (by omega))
  · intro k hk
    dsimp only [sgn]
    rw [if_pos (by omega)]
    exact congrArg (fun q => -Ideal.sin q) (ang_col _ l k (by omega) (by omega))
  · intro k hk
    dsimp only [sgn]
    rw [if_neg (by omega)]
    exact congrArg Ideal.sin (ang_col _ l k (by omega) (by omega))

end Cert.Kernel6Ideal.Vals

end
-- ==== Proof.Heads.Turned.lean ====
module

public import proofs.«01_k».proof.Proof.Heads.Rot
public import proofs.«01_k».proof.Proof.Heads.Table

@[expose] public section

set_option maxRecDepth 16384

noncomputable section

/-! The array of the rotated keys that the call leaves. -/

namespace Cert.Kernel6Ideal.Vals

open Cert.Kernel6Ideal Cert.Kernel6Ideal.Gen
open Idealize.ShloMosaic Idealize.ShloMosaic.TcCoe Cert.Heads

variable (m : (ℓ : Loc nD τ sig) → Buf (Elt Ideal) ℓ) (c : Dev nD)

theorem idx5 : ∀ t : Fin cfg0.N, win0_5.index t = ![t.val, 0] := by
  decide +kernel
theorem idx6 : ∀ t : Fin cfg0.N, win0_6.index t = ![t.val, 0] := by
  decide +kernel
theorem idx8 : ∀ t : Fin cfg0.N, win0_8.index t = ![t.val, 0] := by
  decide +kernel

theorem iblk_cos (t : Fin cfg0.N) (y : S512x128.Idx) : ∃ i : S16384x128.Idx,
    (i 0).val = t.val * 512 + (y 0).val ∧ (i 1).val = (y 1).val ∧ iblk m c 5 t y = V m c main_v32 i := by
  refine ⟨(win0_5.blk t).view.emb y, ?_, ?_, rfl⟩
  · blk_simp [idx5]
  · blk_simp [idx5]

theorem iblk_sin (t : Fin cfg0.N) (y : S512x128.Idx) : ∃ i : S16384x128.Idx,
    (i 0).val = t.val * 512 + (y 0).val ∧ (i 1).val = (y 1).val ∧ iblk m c 6 t y = V m c main_v34 i := by
  refine ⟨(win0_6.blk t).view.emb y, ?_, ?_, rfl⟩
  · blk_simp [idx6]
  · blk_simp [idx6]

theorem blk_cos (t : Fin cfg0.N) (r : Fin 512) (e : Fin 128) :
    (iblk m c 5 t : Vec Ideal S512x128 .f32) (ix2 r e) = cosT (rowOf t.val (lt_N t) r) e := by
  obtain ⟨i, h0, h1, hi⟩ := iblk_cos m c t (ix2 r e)
  exact hi.trans ((congrArg (V m c main_v32) (ix2_eq i (rowOf t.val (lt_N t) r) e h0 h1)).trans (cos_apply m c _ e))

theorem blk_sin (t : Fin cfg0.N) (r : Fin 512) (e : Fin 128) :
    (iblk m c 6 t : Vec Ideal S512x128 .f32) (ix2 r e) = sinT (rowOf t.val (lt_N t) r) e := by
  obtain ⟨i, h0, h1, hi⟩ := iblk_sin m c t (ix2 r e)
  exact hi.trans ((congrArg (V m c main_v34) (ix2_eq i (rowOf t.val (lt_N t) r) e h0 h1)).trans (sin_apply m c _ e))

theorem left_rotated (t : Fin cfg0.N) (r e : Fin 512) :
    spun (iblk m c 1 t) (iblk m c 4 t) (iblk m c 5 t) (iblk m c 6 t) (ix2 r e) = rotated (aU m c) (aK m c) (rowOf t.val (lt_N t) r) e := by
  show spin (fun k => block (iblk m c 1 t) (iblk m c 4 t) (ix2 r (inHead e k))) ((iblk m c 5 t : Vec Ideal S512x128 .f32) (ix2 r (place e))) ((iblk m c 6 t : Vec Ideal S512x128 .f32) (ix2 r (place e))) (place e) = _
  rw [blk_cos, blk_sin]
  unfold rotated
  exact congrArg (fun f => spin f _ _ _) (funext fun k => left_keys m c t r (inHead e k))

/-- The rotated keys, as an array. -/
def G8 : Vec Ideal S16384x512 .bf16 := fun i => rotated (aU m c) (aK m c) (i 0) (i 1)

theorem mem8 (t : Fin cfg0.N) (i : S16384x512.Idx) :
    i ∈ ((cfg0.win 8).blk t).view.set ↔ ∀ a : Fin 2, win0_8.index t a * S512x512.size a ≤ (i a).val ∧ (i a).val < win0_8.index t a * S512x512.size a + S512x512.size a := by
  show i ∈ ((View.whole main_v37_1).slice (win0_8.rect t)).set ↔ _
  rw [View.set_slice_whole, Rect.mem_set_unit]
  exact Iff.rfl

theorem flush8 : ∀ t : Fin cfg0.N, (cfg0.win 8).flush t = true := by
  decide +kernel

theorem final8 : ((dats m 0 c).arrAt 8 cfg0.N : Vec Ideal S16384x512 .bf16) = G8 m c := by
  refine (dats m 0 c).arrAt_eq_of_cover 8 _ (fun t _ => ?_) (fun i => ?_)
  · rw [Value.flushed8_A, left8]
    funext y
    have hb0 : (((cfg0.win 8).blk t).view.emb y 0).val = win0_8.index t (0 : Fin 2) * 512 + 1 * (y 0).val := rfl
    have hb1 : (((cfg0.win 8).blk t).view.emb y 1).val = win0_8.index t (1 : Fin 2) * 512 + 1 * (y 1).val := rfl
    rw [idx8] at hb0 hb1
    have e0 : rowOf t.val (lt_N t) (y 0) = ((cfg0.win 8).blk t).view.emb y 0 := Fin.ext (by
      rw [hb0]; show t.val * 512 + (y 0).val = t.val * 512 + 1 * (y 0).val; omega)
    have e1 : (y 1 : Fin 512) = ((cfg0.win 8).blk t).view.emb y 1 := Fin.ext (by
      rw [hb1]; show (y 1).val = 0 * 512 + 1 * (y 1).val; omega)
    refine Eq.trans (congrArg _ (ix2_eq (a := 512) (b := 512) _ (y 0) (y 1) rfl rfl)) ((left_rotated m c t (y 0) (y 1)).trans ?_)
    exact congrArg₂ (rotated (aU m c) (aK m c)) e0 e1
  · have h0 : (i 0).val < 16384 := (i 0).isLt
    have h1 : (i 1).val < 512 := (i 1).isLt
    have hN : cfg0.N = 32 := N_0
    refine ⟨⟨(i 0).val / 512, by omega⟩, flush8 _, ?_⟩
    rw [mem8]
    intro a
    rw [idx8]
    match a with
    | ⟨0, _⟩ => show (i 0).val / 512 * 512 ≤ (i 0).val ∧ (i 0).val < (i 0).val / 512 * 512 + 512; omega
    | ⟨1, _⟩ => show 0 * 512 ≤ (i 1).val ∧ (i 1).val < 0 * 512 + 512; omega

end Cert.Kernel6Ideal.Vals

end
-- ==== Proof.Heads.Rope.lean ====
module

public import proofs.«01_k».proof.Proof.Heads.Spec
public import proofs.«01_k».proof.Proof.Gen.Reference6Ideal.Run
public import Idealize.ShloMosaic.Lib.Pointwise
public import Idealize.ShloMosaic.Lib.IdealHost

@[expose] public section

set_option maxRecDepth 16384

noncomputable section

/-! The reference's rotary embedding of the latent keys. -/

namespace Cert.Heads

open Idealize.ShloMosaic Idealize.ShloMosaic.TcCoe
open Cert.Reference6Ideal Cert.Reference6Ideal.Gen

/-- The 32 frequencies. -/
def rfreq : FVec Ideal S32 .f32 :=
  Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))

/-- The angles of 4096 positions. -/
def rang (pos : IVec S4096 32) : FVec Ideal S4096x32 .f32 :=
  mulf (broadcastInDim S4096x32 ![0, 1] bcast_S4096x1_S4096x32_0_1 (broadcastInDim S4096x1 ![0] bcast_S4096_S4096x1_0 (sitofp .f32 pos))) (broadcastInDim S4096x32 ![0, 1] bcast_S1x32_S4096x32_0_1 (broadcastInDim S1x32 ![1] bcast_S32_S1x32_1 rfreq))

/-- The rows of the grid's positions, and their columns. -/
def rrow : IVec S4096 32 := shapeCast S4096 (broadcastInDim S64x64 ![0, 1] bcast_S64x1_S64x64_0_1 (broadcastInDim S64x1 ![0] bcast_S64_S64x1_0 (iotaInDim S64 32 0))) shapeCasts_S64x64_S4096
def rcol : IVec S4096 32 := shapeCast S4096 (broadcastInDim S64x64 ![0, 1] bcast_S1x64_S64x64_0_1 (broadcastInDim S1x64 ![1] bcast_S64_S1x64_1 (iotaInDim S64 32 0))) shapeCasts_S64x64_S4096

/-- A table of the positions for every image and head. -/
def rlift (a : FVec Ideal S4096x32 .f32) : FVec Ideal S2x4096x4x32 .f32 :=
  broadcastInDim S2x4096x4x32 ![0, 1, 2, 3] bcast_S1x4096x1x32_S2x4096x4x32_0_1_2_3 (broadcastInDim S1x4096x1x32 ![1, 2, 3] bcast_S4096x1x32_S1x4096x1x32_1_2_3 (broadcastInDim S4096x1x32 ![0, 2] bcast_S4096x32_S4096x1x32_0_2 a))

/-- The rotation of half a head by its angles. -/
def rone (x : FVec Ideal S2x4096x4x64 .f32) (a : FVec Ideal S4096x32 .f32) : FVec Ideal S2x4096x4x64 .f32 :=
  concatenate S2x4096x4x64 3 [⟨S2x4096x4x32, subf (mulf (extractStridedSlice S2x4096x4x32 ![0, 0, 0, 0] x slices_S2x4096x4x64_S2x4096x4x32_0_0_0_0) (rlift (Host.cos a)))
      (mulf (extractStridedSlice S2x4096x4x32 ![0, 0, 0, 32] x slices_S2x4096x4x64_S2x4096x4x32_0_0_0_32) (rlift (Host.sin a)))⟩,
    ⟨S2x4096x4x32, addf (mulf (extractStridedSlice S2x4096x4x32 ![0, 0, 0, 0] x slices_S2x4096x4x64_S2x4096x4x32_0_0_0_0) (rlift (Host.sin a)))
      (mulf (extractStridedSlice S2x4096x4x32 ![0, 0, 0, 32] x slices_S2x4096x4x64_S2x4096x4x32_0_0_0_32) (rlift (Host.cos a)))⟩] concatenates_S2x4096x4x32_S2x4096x4x32_S2x4096x4x64_d3

/-- The rotation of a head: its first half by the row, its second by the column. -/
def rtwo (x : FVec Ideal S2x4096x4x128 .f32) : FVec Ideal S2x4096x4x128 .f32 :=
  concatenate S2x4096x4x128 3 [⟨S2x4096x4x64, rone (extractStridedSlice S2x4096x4x64 ![0, 0, 0, 0] x slices_S2x4096x4x128_S2x4096x4x64_0_0_0_0) (rang rrow)⟩,
    ⟨S2x4096x4x64, rone (extractStridedSlice S2x4096x4x64 ![0, 0, 0, 64] x slices_S2x4096x4x128_S2x4096x4x64_0_0_0_64) (rang rcol)⟩] concatenates_S2x4096x4x64_S2x4096x4x64_S2x4096x4x128_d3

/-- The context's keys as they are and the latent keys rotated. -/
def rrot (k : FVec Ideal S16384x4x128 .f32) : FVec Ideal S16384x512 .bf16 :=
  (truncf .bf16 (shapeCast S16384x512 (concatenate S16384x4x128 0 [⟨S8192x4x128, extractStridedSlice S8192x4x128 ![0, 0, 0] k slices_S16384x4x128_S8192x4x128_0_0_0⟩,
    ⟨S8192x4x128, shapeCast S8192x4x128 (rtwo (shapeCast S2x4096x4x128 (extractStridedSlice S8192x4x128 ![8192, 0, 0] k slices_S16384x4x128_S8192x4x128_8192_0_0) shapeCasts_S8192x4x128_S2x4096x4x128)) shapeCasts_S2x4096x4x128_S8192x4x128⟩]
    concatenates_S8192x4x128_S8192x4x128_S16384x4x128_d0) shapeCasts_S16384x4x128_S16384x512 : FVec Ideal S16384x512 .f32) bitsLt_bf16_f32 : FVec Ideal S16384x512 .bf16)

theorem rang_row (p : Fin 4096) (l : Fin 32) : rang rrow (ix2 p l) = angle (p.val / 64) l := by
  pointwise [rang, rrow, rfreq, angle, freq]

theorem rang_col (p : Fin 4096) (l : Fin 32) : rang rcol (ix2 p l) = angle (p.val % 64) l := by
  pointwise [rang, rcol, rfreq, angle, freq]

theorem rone_lo (x : FVec Ideal S2x4096x4x64 .f32) (a : FVec Ideal S4096x32 .f32) (b : Fin 2) (p : Fin 4096) (h : Fin 4) (e : Fin 64) (he : e.val < 32) :
    rone x a (ix4 b p h e) = x (ix4 b p h e) * Ideal.cos (a (ix2 p ⟨e.val, he⟩)) - x (ix4 b p h ⟨32 + e.val, by omega⟩) * Ideal.sin (a (ix2 p ⟨e.val, he⟩)) := by
  pointwise [rone, rlift]
  rw [dif_pos he]

theorem rone_hi (x : FVec Ideal S2x4096x4x64 .f32) (a : FVec Ideal S4096x32 .f32) (b : Fin 2) (p : Fin 4096) (h : Fin 4) (e : Fin 64) (he : ¬ e.val < 32) :
    rone x a (ix4 b p h e) = x (ix4 b p h ⟨e.val - 32, by omega⟩) * Ideal.sin (a (ix2 p ⟨e.val - 32, by omega⟩)) + x (ix4 b p h ⟨32 + (e.val - 32), by omega⟩) * Ideal.cos (a (ix2 p ⟨e.val - 32, by omega⟩)) := by
  pointwise [rone, rlift]
  rw [dif_neg he]

theorem half_lo (x : FVec Ideal S2x4096x4x128 .f32) (b : Fin 2) (p : Fin 4096) (h : Fin 4) (e : Fin 64) :
    extractStridedSlice S2x4096x4x64 ![0, 0, 0, 0] x slices_S2x4096x4x128_S2x4096x4x64_0_0_0_0 (ix4 b p h e) = x (ix4 b p h ⟨e.val, by omega⟩) := by
  pointwise []

theorem half_hi (x : FVec Ideal S2x4096x4x128 .f32) (b : Fin 2) (p : Fin 4096) (h : Fin 4) (e : Fin 64) :
    extractStridedSlice S2x4096x4x64 ![0, 0, 0, 64] x slices_S2x4096x4x128_S2x4096x4x64_0_0_0_64 (ix4 b p h e) = x (ix4 b p h ⟨64 + e.val, by omega⟩) := by
  pointwise []

/-- The first lane of a pair. -/
theorem spin_lo (y : Fin 128 → EReal) (p : ℕ) (e : Fin 128) (he : e.val % 64 < 32) :
    spin y (Ideal.cos (ang p e)) (sgn p e) e = y e * Ideal.cos (ang p e) - y ⟨e.val + 32, by omega⟩ * Ideal.sin (ang p e) := by
  unfold spin sgn
  rw [if_pos he, if_pos he]
  have h : (⟨(e.val + 32) % 128, Nat.mod_lt _ (by decide)⟩ : Fin 128) = ⟨e.val + 32, by omega⟩ := Fin.ext (by dsimp only; omega)
  rw [h, mul_neg, sub_eq_add_neg]

/-- The second lane of a pair. -/
theorem spin_hi (y : Fin 128 → EReal) (p : ℕ) (e : Fin 128) (he : ¬ e.val % 64 < 32) :
    spin y (Ideal.cos (ang p e)) (sgn p e) e = y ⟨e.val - 32, by omega⟩ * Ideal.sin (ang p e) + y e * Ideal.cos (ang p e) := by
  unfold spin sgn
  rw [if_neg he, if_neg he]
  have h : (⟨(e.val + 96) % 128, Nat.mod_lt _ (by decide)⟩ : Fin 128) = ⟨e.val - 32, by omega⟩ := Fin.ext (by dsimp only; omega)
  rw [h, add_comm]

theorem rtwo_apply (x : FVec Ideal S2x4096x4x128 .f32) (b : Fin 2) (p : Fin 4096) (h : Fin 4) (e : Fin 128) :
    rtwo x (ix4 b p h e) = spin (fun k => x (ix4 b p h k)) (Ideal.cos (ang p.val e)) (sgn p.val e) e := by
  pointwise [rtwo]
  by_cases h64 : e.val < 64
  · rw [dif_pos h64]
    have ha : ∀ l : Fin 32, l.val = e.val % 32 → rang rrow (ix2 p l) = ang p.val e := fun l hl => by
      rw [rang_row]
      unfold ang
      rw [if_pos h64]
      exact congrArg (angle _) (Fin.ext hl)
    by_cases h32 : e.val < 32
    · rw [rone_lo _ _ _ _ _ _ h32, spin_lo _ _ _ (by omega), half_lo, half_lo, ha _ (by dsimp only; omega)]
      have q : (⟨32 + e.val, by omega⟩ : Fin 128) = ⟨e.val + 32, by omega⟩ := Fin.ext (by dsimp only; omega)
      dsimp only
      rw [q]
    · rw [rone_hi _ _ _ _ _ _ h32, spin_hi _ _ _ (by omega), half_lo, half_lo, ha _ (by dsimp only; omega)]
      have q : (⟨32 + (e.val - 32), by omega⟩ : Fin 128) = e := Fin.ext (by dsimp only; omega)
      dsimp only
      rw [q]
  · rw [dif_neg h64]
    have ha : ∀ l : Fin 32, l.val = e.val % 32 → rang rcol (ix2 p l) = ang p.val e := fun l hl => by
      rw [rang_col]
      unfold ang
      rw [if_neg h64]
      exact congrArg (angle _) (Fin.ext hl)
    by_cases h32 : e.val - 64 < 32
    · rw [rone_lo _ _ _ _ _ _ h32, spin_lo _ _ _ (by omega), half_hi, half_hi, ha _ (by dsimp only; omega)]
      have q : (⟨64 + (32 + (e.val - 64)), by omega⟩ : Fin 128) = ⟨e.val + 32, by omega⟩ := Fin.ext (by dsimp only; omega)
      have q' : (⟨64 + (e.val - 64), by omega⟩ : Fin 128) = e := Fin.ext (by dsimp only; omega)
      dsimp only
      rw [q, q']
    · rw [rone_hi _ _ _ _ _ _ h32, spin_hi _ _ _ (by omega), half_hi, half_hi, ha _ (by dsimp only; omega)]
      have q : (⟨64 + (32 + (e.val - 64 - 32)), by omega⟩ : Fin 128) = e := Fin.ext (by dsimp only; omega)
      have q' : (⟨64 + (e.val - 64 - 32), by omega⟩ : Fin 128) = ⟨e.val - 32, by omega⟩ := Fin.ext (by dsimp only; omega)
      dsimp only
      rw [q, q']

theorem lat_apply (k : FVec Ideal S16384x4x128 .f32) (b : Fin 2) (p : Fin 4096) (h : Fin 4) (e : Fin 128) :
    shapeCast S2x4096x4x128 (extractStridedSlice S8192x4x128 ![8192, 0, 0] k slices_S16384x4x128_S8192x4x128_8192_0_0) shapeCasts_S8192x4x128_S2x4096x4x128 (ix4 b p h e)
      = k (ix3 ⟨8192 + (b.val * 4096 + p.val), by omega⟩ h e) := by
  pointwise []

theorem rrot_apply (k : FVec Ideal S16384x4x128 .f32) (R : Fin 16384) (j : Fin 512) :
    rrot k (ix2 R j) = spin (fun e => k (ix3 R ⟨j.val / 128, by omega⟩ e)) (cosT R (place j)) (sinT R (place j)) (place j) := by
  pointwise [rrot]
  unfold cosT sinT
  by_cases hR : R.val < 8192
  · rw [dif_pos hR, if_pos hR, if_pos hR]
    unfold spin
    rw [Ideal.ofBits_one_f32, Ideal.ofBits_zero_f32, mul_one, mul_zero, add_zero]
    rfl
  · rw [dif_neg hR, if_neg hR, if_neg hR, rtwo_apply]
    have hk : (fun e : Fin 128 => shapeCast S2x4096x4x128 (extractStridedSlice S8192x4x128 ![8192, 0, 0] k slices_S16384x4x128_S8192x4x128_8192_0_0) shapeCasts_S8192x4x128_S2x4096x4x128
        (ix4 (⟨(R.val - 8192) / 4096, by omega⟩ : Fin 2) (⟨(R.val - 8192) % 4096, by omega⟩ : Fin 4096) (⟨j.val / 128, by omega⟩ : Fin 4) e)) = fun e => k (ix3 R ⟨j.val / 128, by omega⟩ e) := funext fun e => by
      rw [lat_apply]
      have q : (⟨8192 + ((R.val - 8192) / 4096 * 4096 + (R.val - 8192) % 4096), by omega⟩ : Fin 16384) = R := Fin.ext (by dsimp only; omega)
      dsimp only
      rw [q]
    rw [hk]
    rfl

end Cert.Heads

end
-- ==== Proof.Heads.Final.lean ====
module

public import proofs.«01_k».proof.Defs
public import proofs.«01_k».proof.Proof.Heads.Turned
public import proofs.«01_k».proof.Proof.Heads.Rope

@[expose] public section

set_option maxRecDepth 16384

noncomputable section

/-! The reference's normed keys and values, and that the call leaves the same. -/

namespace Cert.Heads

open Idealize.ShloMosaic Idealize.ShloMosaic.TcCoe Idealize.SL.Sem
open Cert.Reference6Ideal Cert.Reference6Ideal.Gen

/-- The reference's normed keys, by head. -/
def rnorm (u : Vec Ideal S16384x8192 .f32) (g : Vec Ideal S128 .f32) : FVec Ideal S16384x4x128 .f32 :=
  let x : FVec Ideal S16384x4x128 .f32 := shapeCast S16384x4x128 (extractStridedSlice S16384x512 ![0, 7168] u slices_S16384x8192_S16384x512_0_7168) shapeCasts_S16384x512_S16384x4x128
  mulf (mulf x (broadcastInDim S16384x4x128 ![0, 1, 2] bcast_S16384x4x1_S16384x4x128_0_1_2 (Host.rsqrt (addf
    (Host.divf (broadcastInDim S16384x4x1 ![0, 1] bcast_S16384x4_S16384x4x1_0_1 (Host.reduceAdd (mulf x x) (constant S_ .f32 0x00000000#32) reducesTo_S16384x4x128_S16384x4_d2 h_S_))
      (broadcastInDim S16384x4x1 ![] bcast_S_S16384x4x1 (constant S_ .f32 0x43000000#32)))
    (broadcastInDim S16384x4x1 ![] bcast_S_S16384x4x1 (constant S_ .f32 0x358637BD#32))))))
    (broadcastInDim S16384x4x128 ![0, 1, 2] bcast_S1x1x128_S16384x4x128_0_1_2 (broadcastInDim S1x1x128 ![2] bcast_S128_S1x1x128_2 g))

/-- The reference's normed keys. -/
def rkeys (u : Vec Ideal S16384x8192 .f32) (g : Vec Ideal S128 .f32) : Vec Ideal S16384x512 .f32 :=
  shapeCast S16384x512 (rnorm u g) shapeCasts_S16384x4x128_S16384x512

/-- The reference's values. -/
def rvals (u : Vec Ideal S16384x8192 .f32) : Vec Ideal S16384x512 .bf16 :=
  (truncf .bf16 (extractStridedSlice S16384x512 ![0, 7680] u slices_S16384x8192_S16384x512_0_7680 : FVec Ideal S16384x512 .f32) bitsLt_bf16_f32 : FVec Ideal S16384x512 .bf16)

theorem rkeys_apply (u : Vec Ideal S16384x8192 .f32) (g : Vec Ideal S128 .f32) (R : Fin 16384) (j : Fin 512) :
    rkeys u g (ix2 R j) = keys u g R j := by
  pointwise [rkeys, rnorm, keys, row, nrm, inHead, place]
  have hj : (⟨7168 + j.val, by omega⟩ : Fin 8192) = ⟨7168 + (j.val / 128 * 128 + j.val % 128), by omega⟩ := Fin.ext (by dsimp only; omega)
  rw [hj]

theorem rnorm_apply (u : Vec Ideal S16384x8192 .f32) (g : Vec Ideal S128 .f32) (R : Fin 16384) (j : Fin 512) (e : Fin 128) :
    rnorm u g (ix3 R ⟨j.val / 128, by omega⟩ e) = keys u g R (inHead j e) := by
  refine Eq.trans ?_ (rkeys_apply u g R (inHead j e))
  pointwise [rkeys]
  have h : (⟨(inHead j e).val / 128, by have := (inHead j e).isLt; omega⟩ : Fin 4) = ⟨j.val / 128, by omega⟩ := Fin.ext (by show (j.val / 128 * 128 + e.val) / 128 = j.val / 128; omega)
  have h' : (⟨(inHead j e).val % 128, Nat.mod_lt _ (by decide)⟩ : Fin 128) = e := Fin.ext (by show (j.val / 128 * 128 + e.val) % 128 = e.val; omega)
  rw [h, h']

/-- The reference's rotated keys. -/
theorem rturn_apply (u : Vec Ideal S16384x8192 .f32) (g : Vec Ideal S128 .f32) (R : Fin 16384) (j : Fin 512) :
    rrot (rnorm u g) (ix2 R j) = rotated u g R j := by
  rw [rrot_apply]
  unfold rotated
  exact congrArg (fun f => spin f _ _ _) (funext fun e => rnorm_apply u g R j e)

theorem rvals_apply (u : Vec Ideal S16384x8192 .f32) (R : Fin 16384) (j : Fin 512) :
    rvals u (ix2 R j) = u (ix2 R ⟨7680 + j.val, by omega⟩) := by
  pointwise [rvals]

theorem algebraic : Cert.algebraic_Kernel6Ideal_Reference6Ideal := by
  intro m g m' g' _ hm
  refine ⟨fun c => Cert.Kernel6Ideal.Vals.G8 m c, fun c => Cert.Kernel6Ideal.Vals.G9 m c, fun c => Cert.Kernel6Ideal.Vals.G10 m c, ?_, ?_⟩
  · refine (θ_run Cert.Kernel6Ideal.defs _ _).mono (fun r h c => ?_) (Cert.Kernel6Ideal.Value.run_blocks m g)
    obtain ⟨_, h8, h9, h10, hr⟩ := h c
    exact ⟨h8.trans (Cert.Kernel6Ideal.Vals.final8 m c), h9.trans (Cert.Kernel6Ideal.Vals.final9 m c), h10.trans (Cert.Kernel6Ideal.Vals.final10 m c), hr⟩
  · refine (θ_run Cert.Reference6Ideal.defs _ _).mono (fun r h c => ?_) (Cert.Reference6Ideal.Value.run (F := Ideal) m' g')
    obtain ⟨h8, h9, h10, hr⟩ := h c
    obtain ⟨h0, h1, h2⟩ := hm c
    have e0 : (m' ((c.tc : Thread Cert.Reference6Ideal.nD Cert.Reference6Ideal.τ).loc Cert.Reference6Ideal.main_arg0) : Vec Ideal S16384x8192 .f32) = Cert.Kernel6Ideal.Vals.aU m c := h0
    have e2 : (m' ((c.tc : Thread Cert.Reference6Ideal.nD Cert.Reference6Ideal.τ).loc Cert.Reference6Ideal.main_arg2) : Vec Ideal S128 .f32) = Cert.Kernel6Ideal.Vals.aK m c := h2
    refine ⟨h8.trans ?_, h9.trans ?_, h10.trans ?_, hr⟩
    · refine Eq.trans (b := rrot (rnorm (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg2)))) rfl ?_
      rw [e0, e2]
      funext i
      exact (congrArg _ (Cert.Kernel6Ideal.Vals.ix2_eq (a := 16384) (b := 512) i (i 0) (i 1) rfl rfl)).trans (rturn_apply _ _ (i 0) (i 1))
    · refine Eq.trans (b := rkeys (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg2))) rfl ?_
      rw [e0, e2]
      funext i
      exact (congrArg _ (Cert.Kernel6Ideal.Vals.ix2_eq (a := 16384) (b := 512) i (i 0) (i 1) rfl rfl)).trans (rkeys_apply _ _ (i 0) (i 1))
    · refine Eq.trans (b := rvals (m' ((c.tc : Thread Cert.Reference6Ideal.nD Cert.Reference6Ideal.τ).loc Cert.Reference6Ideal.main_arg0))) rfl ?_
      rw [e0]
      funext i
      exact (congrArg _ (Cert.Kernel6Ideal.Vals.ix2_eq (a := 16384) (b := 512) i (i 0) (i 1) rfl rfl)).trans (rvals_apply _ (i 0) (i 1))

end Cert.Heads

end
-- ==== Proof.Modn.Spec.lean ====
module

public import Idealize.ShloMosaic.Lib.Pointwise

@[expose] public section

set_option maxRecDepth 16384

noncomputable section

/-! The modulations: the conditions' rows through a gate of their own, a product with the layer's weight and its bias. -/

namespace Cert.Modn

open Idealize.ShloMosaic

/-- The eight rows of conditions: the context's, the two images', and five of zeros. -/
def conds (x : Vec Ideal ⟨2, ![2, 4096]⟩ .f32) (x0 : Vec Ideal ⟨1, ![4096]⟩ .f32) (R : Fin 8) (e : Fin 4096) : EReal :=
  if R.val = 0 then x0 (ix1 e) else if h : 1 ≤ R.val ∧ R.val < 3 then x (ix2 ⟨R.val - 1, by omega⟩ e) else 0

/-- The modulations of the first layer. -/
def modn (y : Fin 8 → Fin 4096 → EReal) (w : Vec Ideal ⟨3, ![2, 4096, 24576]⟩ .f32) (b : Vec Ideal ⟨2, ![2, 24576]⟩ .f32)
    (R : Fin 8) (j : Fin 24576) : EReal :=
  (∑ e : Fin 4096, y R e * Ideal.logistic (y R e) * w (ix3 0 e j)) + b (ix2 0 j)

end Cert.Modn

end
-- ==== Proof.Modn.Block.lean ====
module

public import proofs.«01_k».proof.Proof.Gen.Kernel7Ideal.Value
public import proofs.«01_k».proof.Proof.Modn.Spec
public import Idealize.ShloMosaic.Lib.Claim
public import Idealize.ShloMosaic.Lib.Pipeline.ValueKit
public import Idealize.ShloMosaic.Lib.Routing.OpsOne

@[expose] public section

set_option maxRecDepth 16384

noncomputable section

/-! The conditions' rows, the blocks that the call reads, and what its body makes of them. -/

namespace Cert.Kernel7Ideal.Vals

open Cert.Kernel7Ideal Cert.Kernel7Ideal.Gen
open Idealize.ShloMosaic Idealize.ShloMosaic.TcCoe Cert.Modn Idealize.ShloMosaic.Routing

variable (m : (ℓ : Loc nD τ sig) → Buf (Elt Ideal) ℓ) (c : Dev nD)

theorem hz2 : (![0, 0] : Fin 2 → Nat) = fun _ => 0 := funext fun a => by fin_cases a <;> rfl
theorem hz3 : (![0, 0, 0] : Fin 3 → Nat) = fun _ => 0 := funext fun a => by fin_cases a <;> rfl

/-- The arguments, as arrays. -/
def aX : Vec Ideal S2x4096 .f32 := m ((c.tc : Thread nD τ).loc main_arg0)
def aX0 : Vec Ideal S4096 .f32 := m ((c.tc : Thread nD τ).loc main_arg1)
def aW : Vec Ideal S2x4096x24576 .f32 := m ((c.tc : Thread nD τ).loc main_arg2)
def aB : Vec Ideal S2x24576 .f32 := m ((c.tc : Thread nD τ).loc main_arg3)

/-- The first write: where an element of the context's row lands. -/
theorem lands_row (idx : IVec S1 32) (hi : (idx (ix1 0)).toInt = 0) (k : S4096.Idx) (R : Fin 8) (e : Fin 4096) :
    scatter_S8x4096_S1_S4096_0_0_0_0.resultIdx? k idx = some (ix2 R e) ↔ R.val = 0 ∧ (k 0).val = e.val := by
  have s0 : scatter_S8x4096_S1_S4096_0_0_0_0.start k idx 0 = 0 := by
    refine Eq.trans ?_ hi
    refine (dif_pos (show (0 : Fin 2) ∈ [(0 : Fin 2)] from List.mem_singleton.2 rfl)).trans (congrArg (fun q => (idx q).toInt) ?_)
    funext q
    match q with
    | ⟨0, _⟩ => exact Subsingleton.elim (α := Fin 1) _ _
  have s1 : scatter_S8x4096_S1_S4096_0_0_0_0.start k idx 1 = 0 :=
    dif_neg (show ¬ (1 : Fin 2) ∈ [(0 : Fin 2)] by decide)
  have w0 : scatter_S8x4096_S1_S4096_0_0_0_0.window k 0 = 0 := rfl
  have w1 : scatter_S8x4096_S1_S4096_0_0_0_0.window k 1 = (k 0).val := rfl
  refine (resultIdx?_ix2 _ k idx R e).trans ?_
  rw [s0, s1, w0, w1]
  omega

/-- The second write: where an element of the images' rows lands. -/
theorem lands_rows (idx : IVec S1 32) (hi : (idx (ix1 0)).toInt = 1) (k : S2x4096.Idx) (R : Fin 8) (e : Fin 4096) :
    scatter_S8x4096_S1_S2x4096_01_n_0_0.resultIdx? k idx = some (ix2 R e) ↔ R.val = 1 + (k 0).val ∧ (k 1).val = e.val := by
  have s0 : scatter_S8x4096_S1_S2x4096_01_n_0_0.start k idx 0 = 1 := by
    refine Eq.trans ?_ hi
    refine (dif_pos (show (0 : Fin 2) ∈ [(0 : Fin 2)] from List.mem_singleton.2 rfl)).trans (congrArg (fun q => (idx q).toInt) ?_)
    funext q
    match q with
    | ⟨0, _⟩ => exact Subsingleton.elim (α := Fin 1) _ _
  have s1 : scatter_S8x4096_S1_S2x4096_01_n_0_0.start k idx 1 = 0 :=
    dif_neg (show ¬ (1 : Fin 2) ∈ [(0 : Fin 2)] by decide)
  have w0 : scatter_S8x4096_S1_S2x4096_01_n_0_0.window k 0 = (k 0).val := rfl
  have w1 : scatter_S8x4096_S1_S2x4096_01_n_0_0.window k 1 = (k 1).val := rfl
  refine (resultIdx?_ix2 _ k idx R e).trans ?_
  rw [s0, s1, w0, w1]
  omega

/-- The rows of conditions as the host writes them. -/
def rows (x : Vec Ideal S2x4096 .f32) (x0 : Vec Ideal S4096 .f32) : Vec Ideal S8x4096 .f32 :=
  Host.scatter scatter_S8x4096_S1_S2x4096_01_n_0_0 (fun _ b => b)
    (Host.scatter scatter_S8x4096_S1_S4096_0_0_0_0 (fun _ b => b)
      (broadcastInDim S8x4096 ![] bcast_S_S8x4096 (constant (F := Ideal) S_ .f32 0x00000000#32))
      (broadcastInDim S1 ![] bcast_S_S1 (constantI S_ 32 0#32)) x0)
    (broadcastInDim S1 ![] bcast_S_S1 (constantI S_ 32 1#32)) x

theorem rows_apply (x : Vec Ideal S2x4096 .f32) (x0 : Vec Ideal S4096 .f32) (R : Fin 8) (e : Fin 4096) :
    rows x x0 (ix2 R e) = conds x x0 R e := by
  have i0 : ((broadcastInDim S1 ![] bcast_S_S1 (constantI S_ 32 0#32) : IVec S1 32) (ix1 0)).toInt = 0 := rfl
  have i1 : ((broadcastInDim S1 ![] bcast_S_S1 (constantI S_ 32 1#32) : IVec S1 32) (ix1 0)).toInt = 1 := rfl
  unfold rows conds
  by_cases h1 : 1 ≤ R.val ∧ R.val < 3
  · rw [if_neg (by omega), dif_pos h1]
    refine scatter_set_hit _ _ _ _ _ _ (fun k hk => ?_) (ix2 (⟨R.val - 1, by omega⟩ : Fin 2) e) ((lands_rows _ i1 _ R e).2 ⟨?_, rfl⟩)
    · obtain ⟨a, b⟩ := (lands_rows _ i1 k R e).1 hk
      refine congrArg x ?_
      funext q
      match q with
      | ⟨0, _⟩ => exact Fin.ext (show (k 0).val = R.val - 1 by omega)
      | ⟨1, _⟩ => exact Fin.ext b
    · show R.val = 1 + (R.val - 1)
      omega
  · refine (scatter_set_miss _ _ _ _ _ fun k hk => ?_).trans ?_
    · obtain ⟨a, b⟩ := (lands_rows _ i1 k R e).1 hk
      have : (k 0).val < 2 := (k 0).isLt
      omega
    by_cases h0 : R.val = 0
    · rw [if_pos h0]
      refine scatter_set_hit _ _ _ _ _ _ (fun k hk => ?_) (ix1 e) ((lands_row _ i0 _ R e).2 ⟨h0, rfl⟩)
      refine congrArg x0 ?_
      funext q
      match q with
      | ⟨0, _⟩ => exact Fin.ext ((lands_row _ i0 k R e).1 hk).2
    · rw [if_neg h0, dif_neg h1]
      refine (scatter_set_miss _ _ _ _ _ fun k hk => h0 ((lands_row _ i0 k R e).1 hk).1).trans ?_
      pointwise []

theorem entry_x : (V m c main_v4 : Vec Ideal S8x4096 .f32) = rows (aX m c) (aX0 m c) := by
  show StableHlo.after hostOps0 (fun b => m (c, b)) (Proc.devRef .tc main_v4) = _
  unfold rows aX aX0
  simp only [hostOps0, List.flatten_cons, List.flatten_nil, List.append_nil, List.cons_append, List.nil_append]
  after_results <;> rfl

theorem entry_w : V m c main_arg2 = aW m c := V_main_arg2 m c

theorem entry_b (l : Fin 2) (j : Fin 24576) : (V m c main_v5 : Vec Ideal S2x1x24576 .f32) (ix3 l 0 j) = aB m c (ix2 l j) := by
  have h : (V m c main_v5 : Vec Ideal S2x1x24576 .f32) = shapeCast S2x1x24576 (aB m c) shapeCasts_S2x24576_S2x1x24576 := rfl
  rw [h]
  pointwise []
  try exact congrArg (aB m c) (by funext q; match q with | ⟨0, _⟩ => (exact Fin.ext (by dsimp only; omega)) | ⟨1, _⟩ => (exact Fin.ext (by dsimp only; omega)))

theorem idx0 : ∀ t : Fin cfg0.N, win0_0.index t = ![0, 0] := by
  decide +kernel
theorem idx1 : ∀ t : Fin cfg0.N, win0_1.index t = ![0, 0, t.val] := by
  decide +kernel
theorem idx2 : ∀ t : Fin cfg0.N, win0_2.index t = ![0, 0, t.val] := by
  decide +kernel
theorem idx3 : ∀ t : Fin cfg0.N, win0_3.index t = ![0, t.val] := by
  decide +kernel

theorem lt_N (t : Fin cfg0.N) : t.val < 48 := by
  have h := t.isLt
  have hN : cfg0.N = 48 := N_0
  omega

theorem ix2_eq {a b : ℕ} (i : Shape.Idx ⟨2, ![a, b]⟩) (x : Fin a) (y : Fin b) (h0 : (i 0).val = x.val) (h1 : (i 1).val = y.val) : i = ix2 x y := by
  funext k
  match k with
  | 0 => exact Fin.ext h0
  | 1 => exact Fin.ext h1

theorem ix3_eq {a b d : ℕ} (i : Shape.Idx ⟨3, ![a, b, d]⟩) (x : Fin a) (y : Fin b) (z : Fin d) (h0 : (i 0).val = x.val) (h1 : (i 1).val = y.val)
    (h2 : (i 2).val = z.val) : i = ix3 x y z := by
  funext k
  match k with
  | 0 => exact Fin.ext h0
  | 1 => exact Fin.ext h1
  | 2 => exact Fin.ext h2

/-- The column of the arrays at column `j` of point `n`. -/
def colOf (n : ℕ) (hn : n < 48) (j : Fin 512) : Fin 24576 := ⟨n * 512 + j.val, by omega⟩

theorem iblk_x (t : Fin cfg0.N) (y : S8x4096.Idx) : ∃ i : S8x4096.Idx,
    (i 0).val = (y 0).val ∧ (i 1).val = (y 1).val ∧ iblk m c 0 t y = V m c main_v4 i := by
  refine ⟨(win0_0.blk t).view.emb y, ?_, ?_, rfl⟩
  · blk_simp [idx0]
  · blk_simp [idx0]

theorem iblk_w (t : Fin cfg0.N) (y : S1x4096x512.Idx) : ∃ i : S2x4096x24576.Idx,
    (i 0).val = (y 0).val ∧ (i 1).val = (y 1).val ∧ (i 2).val = t.val * 512 + (y 2).val ∧ iblk m c 1 t y = V m c main_arg2 i := by
  refine ⟨(win0_1.blk t).view.emb y, ?_, ?_, ?_, rfl⟩
  · blk_simp [idx1]
  · blk_simp [idx1]
  · blk_simp [idx1]

theorem iblk_b (t : Fin cfg0.N) (y : S1x1x512.Idx) : ∃ i : S2x1x24576.Idx,
    (i 0).val = (y 0).val ∧ (i 1).val = (y 1).val ∧ (i 2).val = t.val * 512 + (y 2).val ∧ iblk m c 2 t y = V m c main_v5 i := by
  refine ⟨(win0_2.blk t).view.emb y, ?_, ?_, ?_, rfl⟩
  · blk_simp [idx2]
  · blk_simp [idx2]
  · blk_simp [idx2]

theorem blk_x (t : Fin cfg0.N) (r : Fin 8) (e : Fin 4096) :
    (iblk m c 0 t : Vec Ideal S8x4096 .f32) (ix2 r e) = conds (aX m c) (aX0 m c) r e := by
  obtain ⟨i, h0, h1, hi⟩ := iblk_x m c t (ix2 r e)
  exact hi.trans ((congrArg (V m c main_v4) (ix2_eq i r e h0 h1)).trans ((congrFun (entry_x m c) _).trans (rows_apply _ _ r e)))

theorem blk_w (t : Fin cfg0.N) (e : Fin 4096) (j : Fin 512) :
    (iblk m c 1 t : Vec Ideal S1x4096x512 .f32) (ix3 0 e j) = aW m c (ix3 0 e (colOf t.val (lt_N t) j)) := by
  obtain ⟨i, h0, h1, h2, hi⟩ := iblk_w m c t (ix3 0 e j)
  exact hi.trans ((congrFun (entry_w m c) i).trans (congrArg (aW m c) (ix3_eq i 0 e (colOf t.val (lt_N t) j) h0 h1 h2)))

theorem blk_b (t : Fin cfg0.N) (j : Fin 512) :
    (iblk m c 2 t : Vec Ideal S1x1x512 .f32) (ix3 0 0 j) = aB m c (ix2 0 (colOf t.val (lt_N t) j)) := by
  obtain ⟨i, h0, h1, h2, hi⟩ := iblk_b m c t (ix3 0 0 j)
  exact hi.trans ((congrArg (V m c main_v5) (ix3_eq i 0 0 (colOf t.val (lt_N t) j) h0 h1 h2)).trans (entry_b m c 0 _))

theorem pay1_apply (x : Vec Ideal S8x4096 .f32) (w : Vec Ideal S1x4096x512 .f32) (b : Vec Ideal S1x1x512 .f32) (r : Fin 8) (j : Fin 512) :
    k0_pay1 x w b (ix2 r j) = (∑ e : Fin 4096, (x (ix2 r e) * Ideal.logistic (x (ix2 r e)) : EReal) * w (ix3 0 e j)) + b (ix3 0 0 j) := by
  pointwise [k0_pay1]

/-- What a point leaves in its block. -/
theorem left_mod (t : Fin cfg0.N) (r : Fin 8) (j : Fin 512) :
    (out0_3 (iblk m c 0 t) (iblk m c 1 t) (iblk m c 2 t) : Vec Ideal S8x512 .f32) (ix2 r j)
      = modn (conds (aX m c) (aX0 m c)) (aW m c) (aB m c) r (colOf t.val (lt_N t) j) := by
  unfold out0_3
  rw [View.canon_unit_zero hz2, View.ld_unit_zero (S := S8x4096) hz2, View.ld_unit_zero (S := S1x4096x512) hz3, View.ld_unit_zero (S := S1x1x512) hz3, pay1_apply, blk_b]
  unfold modn
  refine congrArg (fun q => q + aB m c (ix2 0 (colOf t.val (lt_N t) j))) (Finset.sum_congr rfl fun e _ => ?_)
  rw [blk_x, blk_w]

/-- The modulations, as an array. -/
def G3 : Vec Ideal S8x24576 .f32 := fun i => modn (conds (aX m c) (aX0 m c)) (aW m c) (aB m c) (i 0) (i 1)

theorem mem3 (t : Fin cfg0.N) (i : S8x24576.Idx) :
    i ∈ ((cfg0.win 3).blk t).view.set ↔ ∀ a : Fin 2, win0_3.index t a * S8x512.size a ≤ (i a).val ∧ (i a).val < win0_3.index t a * S8x512.size a + S8x512.size a := by
  show i ∈ ((View.whole main_v6).slice (win0_3.rect t)).set ↔ _
  rw [View.set_slice_whole, Rect.mem_set_unit]
  exact Iff.rfl

theorem flush3 : ∀ t : Fin cfg0.N, (cfg0.win 3).flush t = true := by
  decide +kernel

theorem final3 : ((dats m 0 c).arrAt 3 cfg0.N : Vec Ideal S8x24576 .f32) = G3 m c := by
  refine (dats m 0 c).arrAt_eq_of_cover 3 _ (fun t _ => ?_) (fun i => ?_)
  · rw [Value.flushed3]
    funext y
    have hb0 : (((cfg0.win 3).blk t).view.emb y 0).val = win0_3.index t (0 : Fin 2) * 8 + 1 * (y 0).val := rfl
    have hb1 : (((cfg0.win 3).blk t).view.emb y 1).val = win0_3.index t (1 : Fin 2) * 512 + 1 * (y 1).val := rfl
    rw [idx3] at hb0 hb1
    have e0 : (y 0 : Fin 8) = ((cfg0.win 3).blk t).view.emb y 0 := Fin.ext (by
      rw [hb0]; show (y 0).val = 0 * 8 + 1 * (y 0).val; omega)
    have e1 : colOf t.val (lt_N t) (y 1) = ((cfg0.win 3).blk t).view.emb y 1 := Fin.ext (by
      rw [hb1]; show t.val * 512 + (y 1).val = t.val * 512 + 1 * (y 1).val; omega)
    refine Eq.trans (congrArg _ (ix2_eq (a := 8) (b := 512) _ (y 0) (y 1) rfl rfl)) ((left_mod m c t (y 0) (y 1)).trans ?_)
    exact congrArg₂ (modn (conds (aX m c) (aX0 m c)) (aW m c) (aB m c)) e0 e1
  · have h0 : (i 0).val < 8 := (i 0).isLt
    have h1 : (i 1).val < 24576 := (i 1).isLt
    have hN : cfg0.N = 48 := N_0
    refine ⟨⟨(i 1).val / 512, by omega⟩, flush3 _, ?_⟩
    rw [mem3]
    intro a
    rw [idx3]
    match a with
    | ⟨0, _⟩ => show 0 * 8 ≤ (i 0).val ∧ (i 0).val < 0 * 8 + 8; omega
    | ⟨1, _⟩ => show (i 1).val / 512 * 512 ≤ (i 1).val ∧ (i 1).val < (i 1).val / 512 * 512 + 512; omega

end Cert.Kernel7Ideal.Vals

end
-- ==== Proof.Modn.Final.lean ====
module

public import proofs.«01_k».proof.Defs
public import proofs.«01_k».proof.Proof.Modn.Block
public import proofs.«01_k».proof.Proof.Gen.Reference7Ideal.Run

@[expose] public section

set_option maxRecDepth 16384

noncomputable section

/-! The reference's modulations, and that the call leaves the same. -/

namespace Cert.Modn

open Idealize.ShloMosaic Idealize.ShloMosaic.TcCoe Idealize.SL.Sem
open Cert.Reference7Ideal Cert.Reference7Ideal.Gen

/-- The reference's rows of conditions. -/
def rrows (x : Vec Ideal S2x4096 .f32) (x0 : Vec Ideal S4096 .f32) : FVec Ideal S8x4096 .f32 :=
  concatenate S8x4096 0 [⟨S1x4096, broadcastInDim S1x4096 ![1] bcast_S4096_S1x4096_1 x0⟩, ⟨S2x4096, x⟩,
    ⟨S5x4096, broadcastInDim S5x4096 ![] bcast_S_S5x4096 (constant (F := Ideal) S_ .f32 0x00000000#32)⟩] concatenates_S1x4096_S2x4096_S5x4096_S8x4096_d0

/-- The rows, each element times its logistic. -/
def rgate (y : FVec Ideal S8x4096 .f32) : FVec Ideal S8x4096 .f32 :=
  mulf y (Host.divf (broadcastInDim S8x4096 ![] bcast_S_S8x4096 (constant (F := Ideal) S_ .f32 0x3F800000#32))
    (addf (broadcastInDim S8x4096 ![] bcast_S_S8x4096 (constant (F := Ideal) S_ .f32 0x3F800000#32)) (Host.exp (Host.negf y))))

/-- The product with the first layer's weight, and its bias. -/
def rprod (y : FVec Ideal S8x4096 .f32) (w : Vec Ideal S2x4096x24576 .f32) (b : Vec Ideal S2x24576 .f32) : FVec Ideal S8x24576 .f32 :=
  addf (Host.dotGeneral (φ₁ := .f32) (φ₂ := .f32) dot_S8x4096_S4096x24576_S8x24576_1_0_0_1_n_n none y
      (shapeCast S4096x24576 (extractStridedSlice S1x4096x24576 ![0, 0, 0] w slices_S2x4096x24576_S1x4096x24576_0_0_0) shapeCasts_S1x4096x24576_S4096x24576))
    (broadcastInDim S8x24576 ![0, 1] bcast_S1x24576_S8x24576_0_1 (broadcastInDim S1x24576 ![1] bcast_S24576_S1x24576_1
      (shapeCast S24576 (extractStridedSlice S1x24576 ![0, 0] b slices_S2x24576_S1x24576_0_0) shapeCasts_S1x24576_S24576)))

theorem rrows_apply (x : Vec Ideal S2x4096 .f32) (x0 : Vec Ideal S4096 .f32) (R : Fin 8) (e : Fin 4096) :
    rrows x x0 (ix2 R e) = conds x x0 R e := by
  pointwise [rrows, conds]
  by_cases h0 : R.val = 0
  · rw [dif_pos (show R.val < 1 by omega), if_pos h0]
  rw [dif_neg (show ¬ R.val < 1 by omega), if_neg h0]
  by_cases h1 : R.val < 3
  · rw [dif_pos (show R.val - 1 < 2 by omega), dif_pos (show 1 ≤ R.val ∧ R.val < 3 by omega)]
  rw [dif_neg (show ¬ R.val - 1 < 2 by omega), dif_neg (show ¬ (1 ≤ R.val ∧ R.val < 3) by omega)]

theorem rgate_apply (y : FVec Ideal S8x4096 .f32) (R : Fin 8) (e : Fin 4096) :
    rgate y (ix2 R e) = y (ix2 R e) * Ideal.logistic (y (ix2 R e)) := by
  pointwise [rgate, Ideal.logistic]

theorem rprod_apply (y : FVec Ideal S8x4096 .f32) (w : Vec Ideal S2x4096x24576 .f32) (b : Vec Ideal S2x24576 .f32) (R : Fin 8) (j : Fin 24576) :
    rprod y w b (ix2 R j) = (∑ e : Fin 4096, (y (ix2 R e) : EReal) * w (ix3 0 e j)) + b (ix2 0 j) := by
  pointwise [rprod]

theorem algebraic : Cert.algebraic_Kernel7Ideal_Reference7Ideal := by
  intro m g m' g' _ hm
  refine ⟨fun c => Cert.Kernel7Ideal.Vals.G3 m c, ?_, ?_⟩
  · refine (θ_run Cert.Kernel7Ideal.defs _ _).mono (fun r h c => ?_) (Cert.Kernel7Ideal.Value.run_blocks m g)
    obtain ⟨h3, hr⟩ := h c
    exact ⟨h3.trans (Cert.Kernel7Ideal.Vals.final3 m c), hr⟩
  · refine (θ_run Cert.Reference7Ideal.defs _ _).mono (fun r h c => ?_) (Cert.Reference7Ideal.Value.run (F := Ideal) m' g')
    obtain ⟨h3, hr⟩ := h c
    obtain ⟨h0, h1, h2, h4⟩ := hm c
    have e0 : (m' ((c.tc : Thread Cert.Reference7Ideal.nD Cert.Reference7Ideal.τ).loc Cert.Reference7Ideal.main_arg0) : Vec Ideal S2x4096 .f32) = Cert.Kernel7Ideal.Vals.aX m c := h0
    have e1 : (m' ((c.tc : Thread Cert.Reference7Ideal.nD Cert.Reference7Ideal.τ).loc Cert.Reference7Ideal.main_arg1) : Vec Ideal S4096 .f32) = Cert.Kernel7Ideal.Vals.aX0 m c := h1
    have e2 : (m' ((c.tc : Thread Cert.Reference7Ideal.nD Cert.Reference7Ideal.τ).loc Cert.Reference7Ideal.main_arg2) : Vec Ideal S2x4096x24576 .f32) = Cert.Kernel7Ideal.Vals.aW m c := h2
    have e3 : (m' ((c.tc : Thread Cert.Reference7Ideal.nD Cert.Reference7Ideal.τ).loc Cert.Reference7Ideal.main_arg3) : Vec Ideal S2x24576 .f32) = Cert.Kernel7Ideal.Vals.aB m c := h4
    refine ⟨h3.trans ?_, hr⟩
    refine Eq.trans (b := rprod (rgate (rrows (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1))))
      (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3))) rfl ?_
    rw [e0, e1, e2, e3]
    funext i
    have hs : ∀ (R : Fin 8) (j : Fin 24576), rprod (rgate (rrows (Cert.Kernel7Ideal.Vals.aX m c) (Cert.Kernel7Ideal.Vals.aX0 m c))) (Cert.Kernel7Ideal.Vals.aW m c) (Cert.Kernel7Ideal.Vals.aB m c) (ix2 R j)
        = modn (conds (Cert.Kernel7Ideal.Vals.aX m c) (Cert.Kernel7Ideal.Vals.aX0 m c)) (Cert.Kernel7Ideal.Vals.aW m c) (Cert.Kernel7Ideal.Vals.aB m c) R j := fun R j => by
      rw [rprod_apply]
      unfold modn
      refine congrArg (fun q => q + Cert.Kernel7Ideal.Vals.aB m c (ix2 0 j)) (Finset.sum_congr rfl fun e _ => ?_)
      rw [rgate_apply, rrows_apply]
    exact (congrArg _ (Cert.Kernel7Ideal.Vals.ix2_eq (a := 8) (b := 24576) i (i 0) (i 1) rfl rfl)).trans (hs (i 0) (i 1))

end Cert.Modn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel4
public import proofs.«01_k».proof.Proof.Gen.Kernel4.Skeleton
public import proofs.«01_k».proof.Proof.Gen.Kernel4.Loops
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Loops
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Attn.Run
public import proofs.«01_k».proof.Proof.KFrame.Frame
public import proofs.«01_k».proof.Proof.Vals.Final
public import proofs.«01_k».proof.Proof.Proj.Final
public import proofs.«01_k».proof.Proof.OutP.Final
public import proofs.«01_k».proof.Proof.Mla.Run
public import proofs.«01_k».proof.Proof.KFrame4.Frame
public import proofs.«01_k».proof.Proof.Mvals.Final
public import proofs.«01_k».proof.Proof.Latent.Final
public import proofs.«01_k».proof.Proof.Heads.Final
public import proofs.«01_k».proof.Proof.Modn.Final
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments as they were, and has no semaphore to leave nonzero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run Cert.ReferenceIdeal.defs _ _).mono
    (fun r h => (⟨fun c => (h c).2, sem_eq_zero_of_no_sems (by decide) r.2⟩ : _ ∧ _))
    (Cert.ReferenceIdeal.Value.run (F := Ideal) m g)

/-- The projection's reference runs, leaves its arguments as they were, and has no semaphore to leave nonzero. -/
theorem frame_reference2 (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0) :=
  (θ_run Cert.Reference2Ideal.defs _ _).mono
    (fun r h => (⟨fun c => (h c).2, sem_eq_zero_of_no_sems (by decide) r.2⟩ : _ ∧ _))
    (Cert.Reference2Ideal.Value.run (F := Ideal) m g)

/-- The output projection's reference runs, leaves its arguments as they were, and has no semaphore to leave nonzero. -/
theorem frame_reference3 (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0) :=
  (θ_run Cert.Reference3Ideal.defs _ _).mono
    (fun r h => (⟨fun c => (h c).2, sem_eq_zero_of_no_sems (by decide) r.2⟩ : _ ∧ _))
    (Cert.Reference3Ideal.Value.run (F := Ideal) m g)

/-- The multi-head latent attention's reference runs, leaves its arguments as they were, and has no semaphore to leave nonzero. -/
theorem frame_reference4 (m : (ℓ : Loc Cert.Reference4Ideal.nD Cert.Reference4Ideal.τ Cert.Reference4Ideal.sig) → Buf (Elt Ideal) ℓ)
    (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0) :=
  (θ_run Cert.Reference4Ideal.defs _ _).mono
    (fun r h => (⟨fun c => (h c).2, sem_eq_zero_of_no_sems (by decide) r.2⟩ : _ ∧ _))
    (Cert.Reference4Ideal.Value.run (F := Ideal) m g)

/-- The latents' and values' reference runs, leaves its arguments as they were, and has no semaphore to leave nonzero. -/
theorem frame_reference5 (m : (ℓ : Loc Cert.Reference5Ideal.nD Cert.Reference5Ideal.τ Cert.Reference5Ideal.sig) → Buf (Elt Ideal) ℓ)
    (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0) :=
  (θ_run Cert.Reference5Ideal.defs _ _).mono
    (fun r h => (⟨fun c => (h c).2.2, sem_eq_zero_of_no_sems (by decide) r.2⟩ : _ ∧ _))
    (Cert.Reference5Ideal.Value.run (F := Ideal) m g)

/-- The normed keys' reference runs, leaves its arguments as they were, and has no semaphore to leave nonzero. -/
theorem frame_reference6 (m : (ℓ : Loc Cert.Reference6Ideal.nD Cert.Reference6Ideal.τ Cert.Reference6Ideal.sig) → Buf (Elt Ideal) ℓ)
    (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0) :=
  (θ_run Cert.Reference6Ideal.defs _ _).mono
    (fun r h => (⟨fun c => (h c).2.2.2, sem_eq_zero_of_no_sems (by decide) r.2⟩ : _ ∧ _))
    (Cert.Reference6Ideal.Value.run (F := Ideal) m g)

/-- The modulations' reference runs, leaves its arguments as they were, and has no semaphore to leave nonzero. -/
theorem frame_reference7 (m : (ℓ : Loc Cert.Reference7Ideal.nD Cert.Reference7Ideal.τ Cert.Reference7Ideal.sig) → Buf (Elt Ideal) ℓ)
    (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0) :=
  (θ_run Cert.Reference7Ideal.defs _ _).mono
    (fun r h => (⟨fun c => (h c).2, sem_eq_zero_of_no_sems (by decide) r.2⟩ : _ ∧ _))
    (Cert.Reference7Ideal.Value.run (F := Ideal) m g)

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite_scores.Shapes.facts, Cert.Pre_finite_latent_scores.Shapes.facts,
  fun m g _ => Cert.Kernel.Frame.frame (F := Bits) m g, fun m g _ => Cert.KernelIdeal.Attn.frame (F := Ideal) m g,
  fun m g _ => Cert.KernelIdeal.Attn.frame (F := Ideal) m g, fun m g _ => frame_reference m g, fun m g _ => frame_reference m g,
  fun m g _ => Cert.Kernel2.Gen.frame (F := Bits) m g, fun m g _ => Cert.Kernel2Ideal.Gen.frame (F := Ideal) m g, fun m g _ => frame_reference2 m g,
  fun m g _ => Cert.Kernel3.Gen.frame (F := Bits) m g, fun m g _ => Cert.Kernel3Ideal.Gen.frame (F := Ideal) m g, fun m g _ => frame_reference3 m g,
  fun m g _ => Cert.Kernel4.Frame.frame (F := Bits) m g, fun m g _ => Cert.Kernel4Ideal.Mla.frame (F := Ideal) m g,
  fun m g _ => Cert.Kernel4Ideal.Mla.frame (F := Ideal) m g, fun m g _ => frame_reference4 m g, fun m g _ => frame_reference4 m g,
  fun m g _ => Cert.Kernel5.Gen.frame (F := Bits) m g, fun m g _ => Cert.Kernel5Ideal.Gen.frame (F := Ideal) m g, fun m g _ => frame_reference5 m g,
  fun m g _ => Cert.Kernel6.Gen.frame (F := Bits) m g, fun m g _ => Cert.Kernel6Ideal.Gen.frame (F := Ideal) m g, fun m g _ => frame_reference6 m g,
  fun m g _ => Cert.Kernel7.Gen.frame (F := Bits) m g, fun m g _ => Cert.Kernel7Ideal.Gen.frame (F := Ideal) m g, fun m g _ => frame_reference7 m g,
  trivial, Cert.Same.algebraic, trivial, Cert.Proj.algebraic,
  trivial, Cert.OutP.algebraic, trivial, Cert.Same4.algebraic,
  trivial, Cert.Latent.algebraic, trivial, Cert.Heads.algebraic,
  trivial, Cert.Modn.algebraic⟩

end Cert.Proof

end
